-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumIdeal_cum_finite [hPre_cum_finite : Cert.Pre_cum_finite.Facts] (m : (ℓ : Loc Cert.CumIdeal.nD Cert.CumIdeal.τ Cert.CumIdeal.sig) → Buf (Elt Ideal) ℓ) : Prop :=
  ∀ c : Dev Cert.CumIdeal.nD,
    (Cert.Pre_cum_finite.fn (F := Ideal) (m ((c.tc : Thread Cert.CumIdeal.nD Cert.CumIdeal.τ).loc Cert.CumIdeal.main_arg0))) = (fun _ => 1#1)

def Pre_CumRefIdeal (m : (ℓ : Loc Cert.CumRefIdeal.nD Cert.CumRefIdeal.τ Cert.CumRefIdeal.sig) → Buf (Elt Ideal) ℓ) : Prop :=
  True

def Pre_CumRefIdeal_cum_finite [hPre_cum_finite : Cert.Pre_cum_finite.Facts] (m : (ℓ : Loc Cert.CumRefIdeal.nD Cert.CumRefIdeal.τ Cert.CumRefIdeal.sig) → Buf (Elt Ideal) ℓ) : Prop :=
  ∀ c : Dev Cert.CumRefIdeal.nD,
    (Cert.Pre_cum_finite.fn (F := Ideal) (m ((c.tc : Thread Cert.CumRefIdeal.nD Cert.CumRefIdeal.τ).loc Cert.CumRefIdeal.main_arg0))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))).2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_qk_finite [hPre_qk_finite : Cert.Pre_qk_finite.Facts] (m : (ℓ : Loc Cert.QkIdeal.nD Cert.QkIdeal.τ Cert.QkIdeal.sig) → Buf (Elt Ideal) ℓ) : Prop :=
  ∀ c : Dev Cert.QkIdeal.nD,
    (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).2.2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).2.2.2.2 = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_qk_finite [hPre_qk_finite : Cert.Pre_qk_finite.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6))).1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6))).2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6))).2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6))).2.2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6))).2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2.1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2.2 = (fun _ => 1#1)

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoIdeal_do_finite [hPre_do_finite : Cert.Pre_do_finite.Facts] (m : (ℓ : Loc Cert.DoIdeal.nD Cert.DoIdeal.τ Cert.DoIdeal.sig) → Buf (Elt Ideal) ℓ) : Prop :=
  ∀ c : Dev Cert.DoIdeal.nD,
    (Cert.Pre_do_finite.fn (F := Ideal) (m ((c.tc : Thread Cert.DoIdeal.nD Cert.DoIdeal.τ).loc Cert.DoIdeal.main_arg0)) (m ((c.tc : Thread Cert.DoIdeal.nD Cert.DoIdeal.τ).loc Cert.DoIdeal.main_arg1)) (m ((c.tc : Thread Cert.DoIdeal.nD Cert.DoIdeal.τ).loc Cert.DoIdeal.main_arg2))).1 = (fun _ => 1#1)
    ∧ (Cert.Pre_do_finite.fn (F := Ideal) (m ((c.tc : Thread Cert.DoIdeal.nD Cert.DoIdeal.τ).loc Cert.DoIdeal.main_arg0)) (m ((c.tc : Thread Cert.DoIdeal.nD Cert.DoIdeal.τ).loc Cert.DoIdeal.main_arg1)) (m ((c.tc : Thread Cert.DoIdeal.nD Cert.DoIdeal.τ).loc Cert.DoIdeal.main_arg2))).2.1 = (fun _ => 1#1)
    ∧ (Cert.Pre_do_finite.fn (F := Ideal) (m ((c.tc : Thread Cert.DoIdeal.nD Cert.DoIdeal.τ).loc Cert.DoIdeal.main_arg0)) (m ((c.tc : Thread Cert.DoIdeal.nD Cert.DoIdeal.τ).loc Cert.DoIdeal.main_arg1)) (m ((c.tc : Thread Cert.DoIdeal.nD Cert.DoIdeal.τ).loc Cert.DoIdeal.main_arg2))).2.2 = (fun _ => 1#1)

def Pre_DoRefIdeal (m : (ℓ : Loc Cert.DoRefIdeal.nD Cert.DoRefIdeal.τ Cert.DoRefIdeal.sig) → Buf (Elt Ideal) ℓ) : Prop :=
  True

def Pre_DoRefIdeal_do_finite [hPre_do_finite : Cert.Pre_do_finite.Facts] (m : (ℓ : Loc Cert.DoRefIdeal.nD Cert.DoRefIdeal.τ Cert.DoRefIdeal.sig) → Buf (Elt Ideal) ℓ) : Prop :=
  ∀ c : Dev Cert.DoRefIdeal.nD,
    (Cert.Pre_do_finite.fn (F := Ideal) (m ((c.tc : Thread Cert.DoRefIdeal.nD Cert.DoRefIdeal.τ).loc Cert.DoRefIdeal.main_arg0)) (m ((c.tc : Thread Cert.DoRefIdeal.nD Cert.DoRefIdeal.τ).loc Cert.DoRefIdeal.main_arg1)) (m ((c.tc : Thread Cert.DoRefIdeal.nD Cert.DoRefIdeal.τ).loc Cert.DoRefIdeal.main_arg2))).1 = (fun _ => 1#1)
    ∧ (Cert.Pre_do_finite.fn (F := Ideal) (m ((c.tc : Thread Cert.DoRefIdeal.nD Cert.DoRefIdeal.τ).loc Cert.DoRefIdeal.main_arg0)) (m ((c.tc : Thread Cert.DoRefIdeal.nD Cert.DoRefIdeal.τ).loc Cert.DoRefIdeal.main_arg1)) (m ((c.tc : Thread Cert.DoRefIdeal.nD Cert.DoRefIdeal.τ).loc Cert.DoRefIdeal.main_arg2))).2.1 = (fun _ => 1#1)
    ∧ (Cert.Pre_do_finite.fn (F := Ideal) (m ((c.tc : Thread Cert.DoRefIdeal.nD Cert.DoRefIdeal.τ).loc Cert.DoRefIdeal.main_arg0)) (m ((c.tc : Thread Cert.DoRefIdeal.nD Cert.DoRefIdeal.τ).loc Cert.DoRefIdeal.main_arg1)) (m ((c.tc : Thread Cert.DoRefIdeal.nD Cert.DoRefIdeal.τ).loc Cert.DoRefIdeal.main_arg2))).2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ r.2.sem = fun _ => 0)

def quiescent_CumIdeal_pre_cum_finite [hCumIdeal : Cert.CumIdeal.Facts] [hPre_cum_finite : Cert.Pre_cum_finite.Facts] : Prop :=
  ∀ (m : (ℓ : Loc Cert.CumIdeal.nD Cert.CumIdeal.τ Cert.CumIdeal.sig) → Buf (Elt Ideal) ℓ) (g : Dev Cert.CumIdeal.nD → PrngReg), Pre_CumIdeal_cum_finite m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0))
      ∧ r.2.sem = fun _ => 0)

def quiescent_CumRefIdeal_pre_cum_finite [hCumRefIdeal : Cert.CumRefIdeal.Facts] [hPre_cum_finite : Cert.Pre_cum_finite.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal_cum_finite m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5)
      ∧ r.2.mem ((c.tc : Thread Cert.Norm2.nD Cert.Norm2.τ).loc Cert.Norm2.main_arg6) = m ((c.tc : Thread Cert.Norm2.nD Cert.Norm2.τ).loc Cert.Norm2.main_arg6)
      ∧ r.2.mem ((c.tc : Thread Cert.Norm2.nD Cert.Norm2.τ).loc Cert.Norm2.main_arg7) = m ((c.tc : Thread Cert.Norm2.nD Cert.Norm2.τ).loc Cert.Norm2.main_arg7)
      ∧ r.2.mem ((c.tc : Thread Cert.Norm2.nD Cert.Norm2.τ).loc Cert.Norm2.main_arg8) = m ((c.tc : Thread Cert.Norm2.nD Cert.Norm2.τ).loc Cert.Norm2.main_arg8))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5)
      ∧ r.2.mem ((c.tc : Thread Cert.Norm2Ideal.nD Cert.Norm2Ideal.τ).loc Cert.Norm2Ideal.main_arg6) = m ((c.tc : Thread Cert.Norm2Ideal.nD Cert.Norm2Ideal.τ).loc Cert.Norm2Ideal.main_arg6)
      ∧ r.2.mem ((c.tc : Thread Cert.Norm2Ideal.nD Cert.Norm2Ideal.τ).loc Cert.Norm2Ideal.main_arg7) = m ((c.tc : Thread Cert.Norm2Ideal.nD Cert.Norm2Ideal.τ).loc Cert.Norm2Ideal.main_arg7)
      ∧ r.2.mem ((c.tc : Thread Cert.Norm2Ideal.nD Cert.Norm2Ideal.τ).loc Cert.Norm2Ideal.main_arg8) = m ((c.tc : Thread Cert.Norm2Ideal.nD Cert.Norm2Ideal.τ).loc Cert.Norm2Ideal.main_arg8))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5)
      ∧ r.2.mem ((c.tc : Thread Cert.Norm2RefIdeal.nD Cert.Norm2RefIdeal.τ).loc Cert.Norm2RefIdeal.main_arg6) = m ((c.tc : Thread Cert.Norm2RefIdeal.nD Cert.Norm2RefIdeal.τ).loc Cert.Norm2RefIdeal.main_arg6)
      ∧ r.2.mem ((c.tc : Thread Cert.Norm2RefIdeal.nD Cert.Norm2RefIdeal.τ).loc Cert.Norm2RefIdeal.main_arg7) = m ((c.tc : Thread Cert.Norm2RefIdeal.nD Cert.Norm2RefIdeal.τ).loc Cert.Norm2RefIdeal.main_arg7)
      ∧ r.2.mem ((c.tc : Thread Cert.Norm2RefIdeal.nD Cert.Norm2RefIdeal.τ).loc Cert.Norm2RefIdeal.main_arg8) = m ((c.tc : Thread Cert.Norm2RefIdeal.nD Cert.Norm2RefIdeal.τ).loc Cert.Norm2RefIdeal.main_arg8))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5)
      ∧ r.2.mem ((c.tc : Thread Cert.Norm1.nD Cert.Norm1.τ).loc Cert.Norm1.main_arg6) = m ((c.tc : Thread Cert.Norm1.nD Cert.Norm1.τ).loc Cert.Norm1.main_arg6))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkIdeal_pre_qk_finite [hQkIdeal : Cert.QkIdeal.Facts] [hPre_qk_finite : Cert.Pre_qk_finite.Facts] : Prop :=
  ∀ (m : (ℓ : Loc Cert.QkIdeal.nD Cert.QkIdeal.τ Cert.QkIdeal.sig) → Buf (Elt Ideal) ℓ) (g : Dev Cert.QkIdeal.nD → PrngReg), Pre_QkIdeal_qk_finite m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6))
      ∧ r.2.sem = fun _ => 0)

def quiescent_QkRefIdeal_pre_qk_finite [hQkRefIdeal : Cert.QkRefIdeal.Facts] [hPre_qk_finite : Cert.Pre_qk_finite.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_qk_finite m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1)
      ∧ r.2.mem ((c.tc : Thread Cert.Do.nD Cert.Do.τ).loc Cert.Do.main_arg2) = m ((c.tc : Thread Cert.Do.nD Cert.Do.τ).loc Cert.Do.main_arg2))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
      ∧ r.2.mem ((c.tc : Thread Cert.DoIdeal.nD Cert.DoIdeal.τ).loc Cert.DoIdeal.main_arg2) = m ((c.tc : Thread Cert.DoIdeal.nD Cert.DoIdeal.τ).loc Cert.DoIdeal.main_arg2))
      ∧ r.2.sem = fun _ => 0)

def quiescent_DoIdeal_pre_do_finite [hDoIdeal : Cert.DoIdeal.Facts] [hPre_do_finite : Cert.Pre_do_finite.Facts] : Prop :=
  ∀ (m : (ℓ : Loc Cert.DoIdeal.nD Cert.DoIdeal.τ Cert.DoIdeal.sig) → Buf (Elt Ideal) ℓ) (g : Dev Cert.DoIdeal.nD → PrngReg), Pre_DoIdeal_do_finite m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
      ∧ r.2.mem ((c.tc : Thread Cert.DoIdeal.nD Cert.DoIdeal.τ).loc Cert.DoIdeal.main_arg2) = m ((c.tc : Thread Cert.DoIdeal.nD Cert.DoIdeal.τ).loc Cert.DoIdeal.main_arg2))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1)
      ∧ r.2.mem ((c.tc : Thread Cert.DoRefIdeal.nD Cert.DoRefIdeal.τ).loc Cert.DoRefIdeal.main_arg2) = m ((c.tc : Thread Cert.DoRefIdeal.nD Cert.DoRefIdeal.τ).loc Cert.DoRefIdeal.main_arg2))
      ∧ r.2.sem = fun _ => 0)

def quiescent_DoRefIdeal_pre_do_finite [hDoRefIdeal : Cert.DoRefIdeal.Facts] [hPre_do_finite : Cert.Pre_do_finite.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal_do_finite m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1)
      ∧ r.2.mem ((c.tc : Thread Cert.DoRefIdeal.nD Cert.DoRefIdeal.τ).loc Cert.DoRefIdeal.main_arg2) = m ((c.tc : Thread Cert.DoRefIdeal.nD Cert.DoRefIdeal.τ).loc Cert.DoRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)) (v3 : (c : Dev Cert.MergeIdeal.nD) → Buf (Elt Ideal) ((c.tc : Thread Cert.MergeIdeal.nD Cert.MergeIdeal.τ).loc Cert.MergeIdeal.main_v9_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_v9_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v98)) (v1 : (c : Dev Cert.AttnIdeal.nD) → Buf (Elt Ideal) ((c.tc : Thread Cert.AttnIdeal.nD Cert.AttnIdeal.τ).loc Cert.AttnIdeal.main_v102)) (v2 : (c : Dev Cert.AttnIdeal.nD) → Buf (Elt Ideal) ((c.tc : Thread Cert.AttnIdeal.nD Cert.AttnIdeal.τ).loc Cert.AttnIdeal.main_v104)) (v3 : (c : Dev Cert.AttnIdeal.nD) → Buf (Elt Ideal) ((c.tc : Thread Cert.AttnIdeal.nD Cert.AttnIdeal.τ).loc Cert.AttnIdeal.main_v105)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v98) = v0 c
          ∧ r.2.mem ((c.tc : Thread Cert.AttnIdeal.nD Cert.AttnIdeal.τ).loc Cert.AttnIdeal.main_v102) = v1 c
          ∧ r.2.mem ((c.tc : Thread Cert.AttnIdeal.nD Cert.AttnIdeal.τ).loc Cert.AttnIdeal.main_v104) = v2 c
          ∧ r.2.mem ((c.tc : Thread Cert.AttnIdeal.nD Cert.AttnIdeal.τ).loc Cert.AttnIdeal.main_v105) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v81) = v0 c
          ∧ r.2.mem ((c.tc : Thread Cert.AttnRefIdeal.nD Cert.AttnRefIdeal.τ).loc Cert.AttnRefIdeal.main_v79) = v1 c
          ∧ r.2.mem ((c.tc : Thread Cert.AttnRefIdeal.nD Cert.AttnRefIdeal.τ).loc Cert.AttnRefIdeal.main_v52) = v2 c
          ∧ r.2.mem ((c.tc : Thread Cert.AttnRefIdeal.nD Cert.AttnRefIdeal.τ).loc Cert.AttnRefIdeal.main_v75) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Cum_CumIdeal : Prop :=
  True

def algebraic_CumIdeal_CumRefIdeal_pre_cum_finite [hCumIdeal : Cert.CumIdeal.Facts] [hCumRefIdeal : Cert.CumRefIdeal.Facts] [hPre_cum_finite : Cert.Pre_cum_finite.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal_cum_finite m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)) →
    ∃ (v0 : (c : Dev Cert.CumIdeal.nD) → Buf (Elt Ideal) ((c.tc : Thread Cert.CumIdeal.nD Cert.CumIdeal.τ).loc Cert.CumIdeal.main_v3)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v3) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v2) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v6)) (v1 : (c : Dev Cert.HeadIdeal.nD) → Buf (Elt Ideal) ((c.tc : Thread Cert.HeadIdeal.nD Cert.HeadIdeal.τ).loc Cert.HeadIdeal.main_v2_0)) (v2 : (c : Dev Cert.HeadIdeal.nD) → Buf (Elt Ideal) ((c.tc : Thread Cert.HeadIdeal.nD Cert.HeadIdeal.τ).loc Cert.HeadIdeal.main_v2_1)) (v3 : (c : Dev Cert.HeadIdeal.nD) → Buf (Elt Ideal) ((c.tc : Thread Cert.HeadIdeal.nD Cert.HeadIdeal.τ).loc Cert.HeadIdeal.main_v8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v6) = v0 c
          ∧ r.2.mem ((c.tc : Thread Cert.HeadIdeal.nD Cert.HeadIdeal.τ).loc Cert.HeadIdeal.main_v2_0) = v1 c
          ∧ r.2.mem ((c.tc : Thread Cert.HeadIdeal.nD Cert.HeadIdeal.τ).loc Cert.HeadIdeal.main_v2_1) = v2 c
          ∧ r.2.mem ((c.tc : Thread Cert.HeadIdeal.nD Cert.HeadIdeal.τ).loc Cert.HeadIdeal.main_v8) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v12) = v0 c
          ∧ r.2.mem ((c.tc : Thread Cert.HeadRefIdeal.nD Cert.HeadRefIdeal.τ).loc Cert.HeadRefIdeal.main_v18) = v1 c
          ∧ r.2.mem ((c.tc : Thread Cert.HeadRefIdeal.nD Cert.HeadRefIdeal.τ).loc Cert.HeadRefIdeal.main_v24) = v2 c
          ∧ r.2.mem ((c.tc : Thread Cert.HeadRefIdeal.nD Cert.HeadRefIdeal.τ).loc Cert.HeadRefIdeal.main_v23) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v6_0)) (v1 : (c : Dev Cert.ConvIdeal.nD) → Buf (Elt Ideal) ((c.tc : Thread Cert.ConvIdeal.nD Cert.ConvIdeal.τ).loc Cert.ConvIdeal.main_v7)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_0) = v0 c
          ∧ r.2.mem ((c.tc : Thread Cert.ConvIdeal.nD Cert.ConvIdeal.τ).loc Cert.ConvIdeal.main_v7) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v67) = v0 c
          ∧ r.2.mem ((c.tc : Thread Cert.ConvRefIdeal.nD Cert.ConvRefIdeal.τ).loc Cert.ConvRefIdeal.main_v59) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v28_0)) (v1 : (c : Dev Cert.FfnIdeal.nD) → Buf (Elt Ideal) ((c.tc : Thread Cert.FfnIdeal.nD Cert.FfnIdeal.τ).loc Cert.FfnIdeal.main_v28_1)) (v2 : (c : Dev Cert.FfnIdeal.nD) → Buf (Elt Ideal) ((c.tc : Thread Cert.FfnIdeal.nD Cert.FfnIdeal.τ).loc Cert.FfnIdeal.main_v30)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v28_0) = v0 c
          ∧ r.2.mem ((c.tc : Thread Cert.FfnIdeal.nD Cert.FfnIdeal.τ).loc Cert.FfnIdeal.main_v28_1) = v1 c
          ∧ r.2.mem ((c.tc : Thread Cert.FfnIdeal.nD Cert.FfnIdeal.τ).loc Cert.FfnIdeal.main_v30) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_v70) = v1 c
          ∧ r.2.mem ((c.tc : Thread Cert.FfnRefIdeal.nD Cert.FfnRefIdeal.τ).loc Cert.FfnRefIdeal.main_v62) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)
      ∧ m' ((c.tc : Thread Cert.Norm2RefIdeal.nD Cert.Norm2RefIdeal.τ).loc Cert.Norm2RefIdeal.main_arg6) = m ((c.tc : Thread Cert.Norm2Ideal.nD Cert.Norm2Ideal.τ).loc Cert.Norm2Ideal.main_arg6)
      ∧ m' ((c.tc : Thread Cert.Norm2RefIdeal.nD Cert.Norm2RefIdeal.τ).loc Cert.Norm2RefIdeal.main_arg7) = m ((c.tc : Thread Cert.Norm2Ideal.nD Cert.Norm2Ideal.τ).loc Cert.Norm2Ideal.main_arg7)
      ∧ m' ((c.tc : Thread Cert.Norm2RefIdeal.nD Cert.Norm2RefIdeal.τ).loc Cert.Norm2RefIdeal.main_arg8) = m ((c.tc : Thread Cert.Norm2Ideal.nD Cert.Norm2Ideal.τ).loc Cert.Norm2Ideal.main_arg8)) →
    ∃ (v0 : (c : Dev Cert.Norm2Ideal.nD) → Buf (Elt Ideal) ((c.tc : Thread Cert.Norm2Ideal.nD Cert.Norm2Ideal.τ).loc Cert.Norm2Ideal.main_v8_0)) (v1 : (c : Dev Cert.Norm2Ideal.nD) → Buf (Elt Ideal) ((c.tc : Thread Cert.Norm2Ideal.nD Cert.Norm2Ideal.τ).loc Cert.Norm2Ideal.main_v10)) (v2 : (c : Dev Cert.Norm2Ideal.nD) → Buf (Elt Ideal) ((c.tc : Thread Cert.Norm2Ideal.nD Cert.Norm2Ideal.τ).loc Cert.Norm2Ideal.main_v8_4)) (v3 : (c : Dev Cert.Norm2Ideal.nD) → Buf (Elt Ideal) ((c.tc : Thread Cert.Norm2Ideal.nD Cert.Norm2Ideal.τ).loc Cert.Norm2Ideal.main_v12)) (v4 : (c : Dev Cert.Norm2Ideal.nD) → Buf (Elt Ideal) ((c.tc : Thread Cert.Norm2Ideal.nD Cert.Norm2Ideal.τ).loc Cert.Norm2Ideal.main_v14)) (v5 : (c : Dev Cert.Norm2Ideal.nD) → Buf (Elt Ideal) ((c.tc : Thread Cert.Norm2Ideal.nD Cert.Norm2Ideal.τ).loc Cert.Norm2Ideal.main_v16)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v8_0) = v0 c
          ∧ r.2.mem ((c.tc : Thread Cert.Norm2Ideal.nD Cert.Norm2Ideal.τ).loc Cert.Norm2Ideal.main_v10) = v1 c
          ∧ r.2.mem ((c.tc : Thread Cert.Norm2Ideal.nD Cert.Norm2Ideal.τ).loc Cert.Norm2Ideal.main_v8_4) = v2 c
          ∧ r.2.mem ((c.tc : Thread Cert.Norm2Ideal.nD Cert.Norm2Ideal.τ).loc Cert.Norm2Ideal.main_v12) = v3 c
          ∧ r.2.mem ((c.tc : Thread Cert.Norm2Ideal.nD Cert.Norm2Ideal.τ).loc Cert.Norm2Ideal.main_v14) = v4 c
          ∧ r.2.mem ((c.tc : Thread Cert.Norm2Ideal.nD Cert.Norm2Ideal.τ).loc Cert.Norm2Ideal.main_v16) = v5 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5)
          ∧ r.2.mem ((c.tc : Thread Cert.Norm2Ideal.nD Cert.Norm2Ideal.τ).loc Cert.Norm2Ideal.main_arg6) = m ((c.tc : Thread Cert.Norm2Ideal.nD Cert.Norm2Ideal.τ).loc Cert.Norm2Ideal.main_arg6)
          ∧ r.2.mem ((c.tc : Thread Cert.Norm2Ideal.nD Cert.Norm2Ideal.τ).loc Cert.Norm2Ideal.main_arg7) = m ((c.tc : Thread Cert.Norm2Ideal.nD Cert.Norm2Ideal.τ).loc Cert.Norm2Ideal.main_arg7)
          ∧ r.2.mem ((c.tc : Thread Cert.Norm2Ideal.nD Cert.Norm2Ideal.τ).loc Cert.Norm2Ideal.main_arg8) = m ((c.tc : Thread Cert.Norm2Ideal.nD Cert.Norm2Ideal.τ).loc Cert.Norm2Ideal.main_arg8))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v52) = v0 c
          ∧ r.2.mem ((c.tc : Thread Cert.Norm2RefIdeal.nD Cert.Norm2RefIdeal.τ).loc Cert.Norm2RefIdeal.main_v58) = v1 c
          ∧ r.2.mem ((c.tc : Thread Cert.Norm2RefIdeal.nD Cert.Norm2RefIdeal.τ).loc Cert.Norm2RefIdeal.main_v59) = v2 c
          ∧ r.2.mem ((c.tc : Thread Cert.Norm2RefIdeal.nD Cert.Norm2RefIdeal.τ).loc Cert.Norm2RefIdeal.main_v35) = v3 c
          ∧ r.2.mem ((c.tc : Thread Cert.Norm2RefIdeal.nD Cert.Norm2RefIdeal.τ).loc Cert.Norm2RefIdeal.main_v30) = v4 c
          ∧ r.2.mem ((c.tc : Thread Cert.Norm2RefIdeal.nD Cert.Norm2RefIdeal.τ).loc Cert.Norm2RefIdeal.main_v27) = v5 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5)
          ∧ r.2.mem ((c.tc : Thread Cert.Norm2RefIdeal.nD Cert.Norm2RefIdeal.τ).loc Cert.Norm2RefIdeal.main_arg6) = m' ((c.tc : Thread Cert.Norm2RefIdeal.nD Cert.Norm2RefIdeal.τ).loc Cert.Norm2RefIdeal.main_arg6)
          ∧ r.2.mem ((c.tc : Thread Cert.Norm2RefIdeal.nD Cert.Norm2RefIdeal.τ).loc Cert.Norm2RefIdeal.main_arg7) = m' ((c.tc : Thread Cert.Norm2RefIdeal.nD Cert.Norm2RefIdeal.τ).loc Cert.Norm2RefIdeal.main_arg7)
          ∧ r.2.mem ((c.tc : Thread Cert.Norm2RefIdeal.nD Cert.Norm2RefIdeal.τ).loc Cert.Norm2RefIdeal.main_arg8) = m' ((c.tc : Thread Cert.Norm2RefIdeal.nD Cert.Norm2RefIdeal.τ).loc Cert.Norm2RefIdeal.main_arg8))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)
      ∧ m' ((c.tc : Thread Cert.Norm1RefIdeal.nD Cert.Norm1RefIdeal.τ).loc Cert.Norm1RefIdeal.main_arg6) = m ((c.tc : Thread Cert.Norm1Ideal.nD Cert.Norm1Ideal.τ).loc Cert.Norm1Ideal.main_arg6)) →
    ∃ (v0 : (c : Dev Cert.Norm1Ideal.nD) → Buf (Elt Ideal) ((c.tc : Thread Cert.Norm1Ideal.nD Cert.Norm1Ideal.τ).loc Cert.Norm1Ideal.main_v18_0)) (v1 : (c : Dev Cert.Norm1Ideal.nD) → Buf (Elt Ideal) ((c.tc : Thread Cert.Norm1Ideal.nD Cert.Norm1Ideal.τ).loc Cert.Norm1Ideal.main_v20)) (v2 : (c : Dev Cert.Norm1Ideal.nD) → Buf (Elt Ideal) ((c.tc : Thread Cert.Norm1Ideal.nD Cert.Norm1Ideal.τ).loc Cert.Norm1Ideal.main_v22)) (v3 : (c : Dev Cert.Norm1Ideal.nD) → Buf (Elt Ideal) ((c.tc : Thread Cert.Norm1Ideal.nD Cert.Norm1Ideal.τ).loc Cert.Norm1Ideal.main_v24)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v18_0) = v0 c
          ∧ r.2.mem ((c.tc : Thread Cert.Norm1Ideal.nD Cert.Norm1Ideal.τ).loc Cert.Norm1Ideal.main_v20) = v1 c
          ∧ r.2.mem ((c.tc : Thread Cert.Norm1Ideal.nD Cert.Norm1Ideal.τ).loc Cert.Norm1Ideal.main_v22) = v2 c
          ∧ r.2.mem ((c.tc : Thread Cert.Norm1Ideal.nD Cert.Norm1Ideal.τ).loc Cert.Norm1Ideal.main_v24) = v3 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
          ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v49) = v0 c
          ∧ r.2.mem ((c.tc : Thread Cert.Norm1RefIdeal.nD Cert.Norm1RefIdeal.τ).loc Cert.Norm1RefIdeal.main_v32) = v1 c
          ∧ r.2.mem ((c.tc : Thread Cert.Norm1RefIdeal.nD Cert.Norm1RefIdeal.τ).loc Cert.Norm1RefIdeal.main_v27) = v2 c
          ∧ r.2.mem ((c.tc : Thread Cert.Norm1RefIdeal.nD Cert.Norm1RefIdeal.τ).loc Cert.Norm1RefIdeal.main_v24) = v3 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5)
          ∧ r.2.mem ((c.tc : Thread Cert.Norm1RefIdeal.nD Cert.Norm1RefIdeal.τ).loc Cert.Norm1RefIdeal.main_arg6) = m' ((c.tc : Thread Cert.Norm1RefIdeal.nD Cert.Norm1RefIdeal.τ).loc Cert.Norm1RefIdeal.main_arg6))

def preserves_Qk_QkIdeal : Prop :=
  IdealRules.named_const.Statement Cert.QkIdeal.κ "ln2" .f32 0x3F317218#32 ((Real.log 2 : ℝ) : EReal)

def algebraic_QkIdeal_QkRefIdeal_pre_qk_finite [hQkIdeal : Cert.QkIdeal.Facts] [hQkRefIdeal : Cert.QkRefIdeal.Facts] [hPre_qk_finite : Cert.Pre_qk_finite.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal_qk_finite m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)
      ∧ m' ((c.tc : Thread Cert.QkRefIdeal.nD Cert.QkRefIdeal.τ).loc Cert.QkRefIdeal.main_arg5) = m ((c.tc : Thread Cert.QkIdeal.nD Cert.QkIdeal.τ).loc Cert.QkIdeal.main_arg5)
      ∧ m' ((c.tc : Thread Cert.QkRefIdeal.nD Cert.QkRefIdeal.τ).loc Cert.QkRefIdeal.main_arg6) = m ((c.tc : Thread Cert.QkIdeal.nD Cert.QkIdeal.τ).loc Cert.QkIdeal.main_arg6)) →
    ∃ (v0 : (c : Dev Cert.QkIdeal.nD) → Buf (Elt Ideal) ((c.tc : Thread Cert.QkIdeal.nD Cert.QkIdeal.τ).loc Cert.QkIdeal.main_v26_0)) (v1 : (c : Dev Cert.QkIdeal.nD) → Buf (Elt Ideal) ((c.tc : Thread Cert.QkIdeal.nD Cert.QkIdeal.τ).loc Cert.QkIdeal.main_v27)) (v2 : (c : Dev Cert.QkIdeal.nD) → Buf (Elt Ideal) ((c.tc : Thread Cert.QkIdeal.nD Cert.QkIdeal.τ).loc Cert.QkIdeal.main_v32)) (v3 : (c : Dev Cert.QkIdeal.nD) → Buf (Elt Ideal) ((c.tc : Thread Cert.QkIdeal.nD Cert.QkIdeal.τ).loc Cert.QkIdeal.main_v37)) (v4 : (c : Dev Cert.QkIdeal.nD) → Buf (Elt Ideal) ((c.tc : Thread Cert.QkIdeal.nD Cert.QkIdeal.τ).loc Cert.QkIdeal.main_v40)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v26_0) = v0 c
          ∧ r.2.mem ((c.tc : Thread Cert.QkIdeal.nD Cert.QkIdeal.τ).loc Cert.QkIdeal.main_v27) = v1 c
          ∧ r.2.mem ((c.tc : Thread Cert.QkIdeal.nD Cert.QkIdeal.τ).loc Cert.QkIdeal.main_v32) = v2 c
          ∧ r.2.mem ((c.tc : Thread Cert.QkIdeal.nD Cert.QkIdeal.τ).loc Cert.QkIdeal.main_v37) = v3 c
          ∧ r.2.mem ((c.tc : Thread Cert.QkIdeal.nD Cert.QkIdeal.τ).loc Cert.QkIdeal.main_v40) = v4 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v97) = v0 c
          ∧ r.2.mem ((c.tc : Thread Cert.QkRefIdeal.nD Cert.QkRefIdeal.τ).loc Cert.QkRefIdeal.main_v98) = v1 c
          ∧ r.2.mem ((c.tc : Thread Cert.QkRefIdeal.nD Cert.QkRefIdeal.τ).loc Cert.QkRefIdeal.main_v80) = v2 c
          ∧ r.2.mem ((c.tc : Thread Cert.QkRefIdeal.nD Cert.QkRefIdeal.τ).loc Cert.QkRefIdeal.main_v56) = v3 c
          ∧ r.2.mem ((c.tc : Thread Cert.QkRefIdeal.nD Cert.QkRefIdeal.τ).loc Cert.QkRefIdeal.main_v47) = v4 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5)
          ∧ r.2.mem ((c.tc : Thread Cert.QkRefIdeal.nD Cert.QkRefIdeal.τ).loc Cert.QkRefIdeal.main_arg6) = m' ((c.tc : Thread Cert.QkRefIdeal.nD Cert.QkRefIdeal.τ).loc Cert.QkRefIdeal.main_arg6))

def preserves_Fwd_FwdIdeal : Prop :=
  IdealRules.named_const.Statement Cert.FwdIdeal.κ "mask" .f32 0xF149F2CA#32 ⊥
  ∧ IdealRules.named_const.Statement Cert.FwdIdeal.κ "log2e" .f32 0x3FB8AA3B#32 (((Real.log 2)⁻¹ : ℝ) : EReal)

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v48)) (v1 : (c : Dev Cert.FwdIdeal.nD) → Buf (Elt Ideal) ((c.tc : Thread Cert.FwdIdeal.nD Cert.FwdIdeal.τ).loc Cert.FwdIdeal.main_v46)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v48) = v0 c
          ∧ r.2.mem ((c.tc : Thread Cert.FwdIdeal.nD Cert.FwdIdeal.τ).loc Cert.FwdIdeal.main_v46) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v32) = v0 c
          ∧ r.2.mem ((c.tc : Thread Cert.FwdRefIdeal.nD Cert.FwdRefIdeal.τ).loc Cert.FwdRefIdeal.main_v39) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Do_DoIdeal : Prop :=
  True

def algebraic_DoIdeal_DoRefIdeal_pre_do_finite [hDoIdeal : Cert.DoIdeal.Facts] [hDoRefIdeal : Cert.DoRefIdeal.Facts] [hPre_do_finite : Cert.Pre_do_finite.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal_do_finite m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)
      ∧ m' ((c.tc : Thread Cert.DoRefIdeal.nD Cert.DoRefIdeal.τ).loc Cert.DoRefIdeal.main_arg2) = m ((c.tc : Thread Cert.DoIdeal.nD Cert.DoIdeal.τ).loc Cert.DoIdeal.main_arg2)) →
    ∃ (v0 : (c : Dev Cert.DoIdeal.nD) → Buf (Elt Ideal) ((c.tc : Thread Cert.DoIdeal.nD Cert.DoIdeal.τ).loc Cert.DoIdeal.main_v12)) (v1 : (c : Dev Cert.DoIdeal.nD) → Buf (Elt Ideal) ((c.tc : Thread Cert.DoIdeal.nD Cert.DoIdeal.τ).loc Cert.DoIdeal.main_v25)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v12) = v0 c
          ∧ r.2.mem ((c.tc : Thread Cert.DoIdeal.nD Cert.DoIdeal.τ).loc Cert.DoIdeal.main_v25) = v1 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
          ∧ r.2.mem ((c.tc : Thread Cert.DoIdeal.nD Cert.DoIdeal.τ).loc Cert.DoIdeal.main_arg2) = m ((c.tc : Thread Cert.DoIdeal.nD Cert.DoIdeal.τ).loc Cert.DoIdeal.main_arg2))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v2) = v0 c
          ∧ r.2.mem ((c.tc : Thread Cert.DoRefIdeal.nD Cert.DoRefIdeal.τ).loc Cert.DoRefIdeal.main_v5) = v1 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1)
          ∧ r.2.mem ((c.tc : Thread Cert.DoRefIdeal.nD Cert.DoRefIdeal.τ).loc Cert.DoRefIdeal.main_arg2) = m' ((c.tc : Thread Cert.DoRefIdeal.nD Cert.DoRefIdeal.τ).loc Cert.DoRefIdeal.main_arg2))

def Claim : Prop :=
  ∃ (hMerge : Cert.Merge.Facts) (hMergeIdeal : Cert.MergeIdeal.Facts) (hMergeRefIdeal : Cert.MergeRefIdeal.Facts) (hAttn : Cert.Attn.Facts) (hAttnIdeal : Cert.AttnIdeal.Facts) (hAttnRefIdeal : Cert.AttnRefIdeal.Facts) (hCum : Cert.Cum.Facts) (hCumIdeal : Cert.CumIdeal.Facts) (hCumRefIdeal : Cert.CumRefIdeal.Facts) (hAda : Cert.Ada.Facts) (hAdaIdeal : Cert.AdaIdeal.Facts) (hAdaRefIdeal : Cert.AdaRefIdeal.Facts) (hHead : Cert.Head.Facts) (hHeadIdeal : Cert.HeadIdeal.Facts) (hHeadRefIdeal : Cert.HeadRefIdeal.Facts) (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hNorm2 : Cert.Norm2.Facts) (hNorm2Ideal : Cert.Norm2Ideal.Facts) (hNorm2RefIdeal : Cert.Norm2RefIdeal.Facts) (hNorm1 : Cert.Norm1.Facts) (hNorm1Ideal : Cert.Norm1Ideal.Facts) (hNorm1RefIdeal : Cert.Norm1RefIdeal.Facts) (hQk : Cert.Qk.Facts) (hQkIdeal : Cert.QkIdeal.Facts) (hQkRefIdeal : Cert.QkRefIdeal.Facts) (hFwd : Cert.Fwd.Facts) (hFwdIdeal : Cert.FwdIdeal.Facts) (hFwdRefIdeal : Cert.FwdRefIdeal.Facts) (hDo : Cert.Do.Facts) (hDoIdeal : Cert.DoIdeal.Facts) (hDoRefIdeal : Cert.DoRefIdeal.Facts) (hPre_attn_finite : Cert.Pre_attn_finite.Facts) (hPre_cum_finite : Cert.Pre_cum_finite.Facts) (hPre_ffn_finite : Cert.Pre_ffn_finite.Facts) (hPre_qk_finite : Cert.Pre_qk_finite.Facts) (hPre_fwd_finite : Cert.Pre_fwd_finite.Facts) (hPre_do_finite : Cert.Pre_do_finite.Facts),
    quiescent_Merge (hMerge := hMerge)
    ∧ quiescent_MergeIdeal (hMergeIdeal := hMergeIdeal)
    ∧ quiescent_MergeRefIdeal (hMergeRefIdeal := hMergeRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Cum (hCum := hCum)
    ∧ quiescent_CumIdeal (hCumIdeal := hCumIdeal)
    ∧ quiescent_CumIdeal_pre_cum_finite (hCumIdeal := hCumIdeal) (hPre_cum_finite := hPre_cum_finite)
    ∧ quiescent_CumRefIdeal (hCumRefIdeal := hCumRefIdeal)
    ∧ quiescent_CumRefIdeal_pre_cum_finite (hCumRefIdeal := hCumRefIdeal) (hPre_cum_finite := hPre_cum_finite)
    ∧ quiescent_Ada (hAda := hAda)
    ∧ quiescent_AdaIdeal (hAdaIdeal := hAdaIdeal)
    ∧ quiescent_AdaRefIdeal (hAdaRefIdeal := hAdaRefIdeal)
    ∧ quiescent_Head (hHead := hHead)
    ∧ quiescent_HeadIdeal (hHeadIdeal := hHeadIdeal)
    ∧ quiescent_HeadRefIdeal (hHeadRefIdeal := hHeadRefIdeal)
    ∧ quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Qk (hQk := hQk)
    ∧ quiescent_QkIdeal (hQkIdeal := hQkIdeal)
    ∧ quiescent_QkIdeal_pre_qk_finite (hQkIdeal := hQkIdeal) (hPre_qk_finite := hPre_qk_finite)
    ∧ quiescent_QkRefIdeal (hQkRefIdeal := hQkRefIdeal)
    ∧ quiescent_QkRefIdeal_pre_qk_finite (hQkRefIdeal := hQkRefIdeal) (hPre_qk_finite := hPre_qk_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Do (hDo := hDo)
    ∧ quiescent_DoIdeal (hDoIdeal := hDoIdeal)
    ∧ quiescent_DoIdeal_pre_do_finite (hDoIdeal := hDoIdeal) (hPre_do_finite := hPre_do_finite)
    ∧ quiescent_DoRefIdeal (hDoRefIdeal := hDoRefIdeal)
    ∧ quiescent_DoRefIdeal_pre_do_finite (hDoRefIdeal := hDoRefIdeal) (hPre_do_finite := hPre_do_finite)
    ∧ preserves_Merge_MergeIdeal
    ∧ algebraic_MergeIdeal_MergeRefIdeal (hMergeIdeal := hMergeIdeal) (hMergeRefIdeal := hMergeRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Cum_CumIdeal
    ∧ algebraic_CumIdeal_CumRefIdeal_pre_cum_finite (hCumIdeal := hCumIdeal) (hCumRefIdeal := hCumRefIdeal) (hPre_cum_finite := hPre_cum_finite)
    ∧ preserves_Ada_AdaIdeal
    ∧ algebraic_AdaIdeal_AdaRefIdeal (hAdaIdeal := hAdaIdeal) (hAdaRefIdeal := hAdaRefIdeal)
    ∧ preserves_Head_HeadIdeal
    ∧ algebraic_HeadIdeal_HeadRefIdeal (hHeadIdeal := hHeadIdeal) (hHeadRefIdeal := hHeadRefIdeal)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Norm2_Norm2Ideal
    ∧ algebraic_Norm2Ideal_Norm2RefIdeal (hNorm2Ideal := hNorm2Ideal) (hNorm2RefIdeal := hNorm2RefIdeal)
    ∧ preserves_Norm1_Norm1Ideal
    ∧ algebraic_Norm1Ideal_Norm1RefIdeal (hNorm1Ideal := hNorm1Ideal) (hNorm1RefIdeal := hNorm1RefIdeal)
    ∧ preserves_Qk_QkIdeal
    ∧ algebraic_QkIdeal_QkRefIdeal_pre_qk_finite (hQkIdeal := hQkIdeal) (hQkRefIdeal := hQkRefIdeal) (hPre_qk_finite := hPre_qk_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Do_DoIdeal
    ∧ algebraic_DoIdeal_DoRefIdeal_pre_do_finite (hDoIdeal := hDoIdeal) (hDoRefIdeal := hDoRefIdeal) (hPre_do_finite := hPre_do_finite)
-- ==== Pre_attn_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S8192x8x64 1 × IVec S8192x8x64 1 × IVec S8192x8x64 1 × IVec S8192x8 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Pre_cum_finite.lean ====
abbrev S8192x8 : Shape := ⟨2, ![8192, 8]⟩
abbrev S_ : Shape := ⟨0, ![]⟩

class Facts : Prop where
  bcast_S_S8192x8 : S_.BroadcastsInDim S8192x8 (![] : Fin 0 → Fin S8192x8.rank)

variable [Facts]

def fn {F : FTy → Type} [FloatOps F] (main_arg0 : FVec F S8192x8 .f32) : IVec S8192x8 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  main_v2
-- ==== Pre_do_finite.lean ====
abbrev S8192x512 : Shape := ⟨2, ![8192, 512]⟩
abbrev S512x1024 : Shape := ⟨2, ![512, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S512x1024 : S_.BroadcastsInDim S512x1024 (![] : Fin 0 → Fin S512x1024.rank)
  bcast_S_S8192x1024 : S_.BroadcastsInDim S8192x1024 (![] : Fin 0 → Fin S8192x1024.rank)

variable [Facts]

def fn {F : FTy → Type} [FloatOps F] (main_arg0 : FVec F S8192x512 .f32) (main_arg1 : FVec F S512x1024 .f32) (main_arg2 : FVec F S8192x1024 .f32) : IVec S8192x512 1 × IVec S512x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_ffn_finite.lean ====
abbrev S8192x5632 : Shape := ⟨2, ![8192, 5632]⟩
abbrev S3x5632 : Shape := ⟨2, ![3, 5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S8192x2816 : S_.BroadcastsInDim S8192x2816 (![] : Fin 0 → Fin S8192x2816.rank)

variable [Facts]

def fn {F : FTy → Type} [FloatOps F] (main_arg0 : FVec F S8192x5632 .f32) (main_arg1 : FVec F S3x5632 .f32) (main_arg2 : FVec F S8192x2816 .f32) : IVec S8192x5632 1 × IVec S3x5632 1 × IVec S8192x2816 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S8192x2816 .f32 := Host.absf main_arg2
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  (main_v2, main_v5, main_v8)
-- ==== Pre_fwd_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) : IVec S8192x8x64 1 × IVec S8192x8x64 1 × IVec S8192x8x64 1 × IVec S8192x8 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  (main_v2, main_v5, main_v8, main_v11)
-- ==== Pre_qk_finite.lean ====
abbrev S8192x5128 : Shape := ⟨2, ![8192, 5128]⟩
abbrev S1x64 : Shape := ⟨2, ![1, 64]⟩
abbrev S1x8 : Shape := ⟨2, ![1, 8]⟩
abbrev S8192x512 : Shape := ⟨2, ![8192, 512]⟩
abbrev S8192x8 : Shape := ⟨2, ![8192, 8]⟩
abbrev S_ : Shape := ⟨0, ![]⟩

class Facts : Prop where
  bcast_S_S8192x5128 : S_.BroadcastsInDim S8192x5128 (![] : Fin 0 → Fin S8192x5128.rank)
  bcast_S_S1x64 : S_.BroadcastsInDim S1x64 (![] : Fin 0 → Fin S1x64.rank)
  bcast_S_S8192x512 : S_.BroadcastsInDim S8192x512 (![] : Fin 0 → Fin S8192x512.rank)

variable [Facts]

def fn {F : FTy → Type} [FloatOps F] (main_arg0 : FVec F S8192x5128 .f32) (main_arg1 : FVec F S1x64 .f32) (main_arg2 : FVec F S1x64 .f32) (main_arg3 : FVec F S1x8 .f32) (main_arg4 : FVec F S8192x512 .f32) (main_arg5 : FVec F S8192x512 .f32) (main_arg6 : FVec F S8192x8 .f32) : IVec S8192x5128 1 × IVec S1x64 1 × IVec S1x64 1 × IVec S8192x512 1 × IVec S8192x512 1 :=
  let main_v0 : FVec F S8192x5128 .f32 := Host.absf main_arg0
  let main_cst : FVec F S_ .f32 := constant S_ .f32 0x7F800000#32
  let main_v1 : FVec F S8192x5128 .f32 := broadcastInDim S8192x5128 ![] bcast_S_S8192x5128 main_cst
  let main_v2 : IVec S8192x5128 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg5
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Merge.lean ====
abbrev S8192x1024 : Shape := ⟨2, ![8192, 1024]⟩
abbrev S8192x5128 : Shape := ⟨2, ![8192, 5128]⟩
abbrev S1024x1024 : Shape := ⟨2, ![1024, 1024]⟩
abbrev S8192x3072 : Shape := ⟨2, ![8192, 3072]⟩
abbrev S8192x2048 : Shape := ⟨2, ![8192, 2048]⟩
abbrev S8192x8 : Shape := ⟨2, ![8192, 8]⟩
abbrev S_ : Shape := ⟨0, ![]⟩
abbrev S8192x248 : Shape := ⟨2, ![8192, 248]⟩
abbrev S8192x5376 : Shape := ⟨2, ![8192, 5376]⟩
abbrev S512x1024 : Shape := ⟨2, ![512, 1024]⟩

abbrev nBuf : Space → Nat
  | .hbm => 19
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5128, .f32⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x3072, .f32⟩
  | .hbm, ⟨10, _⟩ => ⟨S8192x2048, .f32⟩
  | .hbm, ⟨11, _⟩ => ⟨S8192x8, .f32⟩
  | .hbm, ⟨12, _⟩ => ⟨S_, .f32⟩
  | .hbm, ⟨13, _⟩ => ⟨S8192x248, .f32⟩
  | .hbm, ⟨14, _⟩ => ⟨S8192x5376, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8192x1024 : Shape := ⟨2, ![8192, 1024]⟩
abbrev S8192x5128 : Shape := ⟨2, ![8192, 5128]⟩
abbrev S1024x1024 : Shape := ⟨2, ![1024, 1024]⟩
abbrev S8192x512 : Shape := ⟨2, ![8192, 512]⟩
abbrev S8192x8 : Shape := ⟨2, ![8192, 8]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5128, .f32⟩
  | .hbm, ⟨3, _⟩ => ⟨S1024x1024, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x8, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Attn.lean ====
abbrev S8192x8x64 : Shape := ⟨3, ![8192, 8, 64]⟩
abbrev S8192x8 : Shape := ⟨2, ![8192, 8]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x64 : Shape := ⟨3, ![8, 8192, 64]⟩
abbrev S8x8192x3 : Shape := ⟨3, ![8, 8192, 3]⟩
abbrev S8x8192x74 : Shape := ⟨3, ![8, 8192, 74]⟩
abbrev S8x8192x128 : Shape := ⟨3, ![8, 8192, 128]⟩
abbrev S8x8192x73 : Shape := ⟨3, ![8, 8192, 73]⟩
abbrev S8x8192x67 : Shape := ⟨3, ![8, 8192, 67]⟩
abbrev S1x8192x128 : Shape := ⟨3, ![1, 8192, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 136
  | .vmem => 14
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S_, .f32⟩
  | 6 => ⟨S_, .f32⟩
  | 7 => ⟨S8192x8, .f32⟩
  | 8 => ⟨S8x8192x8192, .f32⟩
  | 9 => ⟨S_, .f32⟩
  | 10 => ⟨S8x8192x8192, .f32⟩
  | 11 => ⟨S8x8192x8192, .f32⟩
  | 12 => ⟨S8x8192, .f32⟩
  | 13 => ⟨S8x8192x1, .f32⟩
  | 14 => ⟨S8x8192, .f32⟩
  | 15 => ⟨S8x1x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8192, .i32⟩
  | 21 => ⟨S1x8192, .i32⟩
  | 22 => ⟨S8192x1, .i32⟩
  | 23 => ⟨S8192x8192, .i32⟩
  | 24 => ⟨S8192x8192, .i32⟩
  | 25 => ⟨S8192x8192, .i1⟩
  | 26 => ⟨S_, .f32⟩
  | 27 => ⟨S_, .f32⟩
  | 28 => ⟨S8x8192x8192, .i1⟩
  | 29 => ⟨S8x8192x8192, .f32⟩
  | 30 => ⟨S8x8192x8192, .f32⟩
  | 31 => ⟨S_, .f32⟩
  | 32 => ⟨S8x8192, .f32⟩
  | 33 => ⟨S8x8192x1, .f32⟩
  | 34 => ⟨S8x8192x8192, .f32⟩
  | 35 => ⟨S8x8192x8192, .f32⟩
  | 36 => ⟨S8x8192x8192, .f32⟩
  | 37 => ⟨S_, .f32⟩
  | 38 => ⟨S8x8192, .f32⟩
  | 39 => ⟨S8x8192x1, .f32⟩
  | 40 => ⟨S_, .f32⟩
  | 41 => ⟨S_, .f32⟩
  | 42 => ⟨S_, .f32⟩
  | 43 => ⟨S_, .f32⟩
  | 44 => ⟨S8x8192x1, .f32⟩
  | 45 => ⟨S8x8192x1, .f32⟩
  | 46 => ⟨S8x8192x1, .f32⟩
  | 47 => ⟨S8x8192x1, .f32⟩
  | 48 => ⟨S8x8192x8192, .f32⟩
  | 49 => ⟨S8x8192x8192, .f32⟩
  | 50 => ⟨S8x8192x64, .f32⟩
  | 51 => ⟨S8x8192x64, .f32⟩
  | 52 => ⟨S8x8192x64, .f32⟩
  | 53 => ⟨S_, .f32⟩
  | 54 => ⟨S8x8192, .f32⟩
  | 55 => ⟨S8x8192x1, .f32⟩
  | 56 => ⟨S8x8192, .f32⟩
  | 57 => ⟨S8x8192, .f32⟩
  | 58 => ⟨S8x8192, .f32⟩
  | 59 => ⟨S8x8192, .bf16⟩
  | 60 => ⟨S8x8192, .f32⟩
  | 61 => ⟨S8x8192, .f32⟩
  | 62 => ⟨S8x8192, .bf16⟩
  | 63 => ⟨S8x8192, .f32⟩
  | 64 => ⟨S8x8192, .f32⟩
  | 65 => ⟨S8x8192x1, .f32⟩
  | 66 => ⟨S8x8192x1, .f32⟩
  | 67 => ⟨S8x8192x1, .f32⟩
  | 68 => ⟨S8x8192x3, .f32⟩
  | 69 => ⟨S_, .f32⟩
  | 70 => ⟨S8x8192x3, .f32⟩
  | 71 => ⟨S8x8192x64, .f32⟩
  | 72 => ⟨S_, .f32⟩
  | 73 => ⟨S_, .f32⟩
  | 74 => ⟨S8x8192x64, .f32⟩
  | 75 => ⟨S8x8192x64, .f32⟩
  | 76 => ⟨S8x8192x1, .bf16⟩
  | 77 => ⟨S8x8192x1, .f32⟩
  | 78 => ⟨S8x8192x1, .f32⟩
  | 79 => ⟨S8x8192x1, .bf16⟩
  | 80 => ⟨S8x8192x1, .f32⟩
  | 81 => ⟨S8x8192x1, .f32⟩
  | 82 => ⟨S8x8192x3, .f32⟩
  | 83 => ⟨S8x8192x3, .f32⟩
  | 84 => ⟨S8x8192x1, .f32⟩
  | 85 => ⟨S8x8192x74, .f32⟩
  | 86 => ⟨S_, .i32⟩
  | 87 => ⟨S_, .f32⟩
  | 88 => ⟨S8x8192x128, .f32⟩
  | 89 => ⟨S8x8192x128, .bf16⟩
  | 90 => ⟨S8x8192x64, .f32⟩
  | 91 => ⟨S8x8192x3, .f32⟩
  | 92 => ⟨S8x8192x73, .f32⟩
  | 93 => ⟨S_, .i32⟩
  | 94 => ⟨S_, .f32⟩
  | 95 => ⟨S8x8192x128, .f32⟩
  | 96 => ⟨S8x8192x128, .bf16⟩
  | 97 => ⟨S8x8192x64, .f32⟩
  | 98 => ⟨S8x8192x67, .f32⟩
  | 99 => ⟨S_, .i32⟩
  | 100 => ⟨S_, .f32⟩
  | 101 => ⟨S8x8192x128, .f32⟩
  | 102 => ⟨S8x8192x128, .bf16⟩
  | 103 => ⟨S8x8192x1, .bf16⟩
  | 104 => ⟨S8x8192x1, .f32⟩
  | 105 => ⟨S8x8192x1, .f32⟩
  | 106 => ⟨S8x8192x1, .bf16⟩
  | 107 => ⟨S8x8192x1, .f32⟩
  | 108 => ⟨S8x8192x1, .f32⟩
  | 109 => ⟨S8x8192x3, .f32⟩
  | 110 => ⟨S8x8192x3, .f32⟩
  | 111 => ⟨S8x8192x67, .f32⟩
  | 112 => ⟨S_, .i32⟩
  | 113 => ⟨S_, .f32⟩
  | 114 => ⟨S8x8192x128, .f32⟩
  | 115 => ⟨S8x8192x128, .bf16⟩
  | 116 => ⟨S8x8192x128, .f32⟩
  | 117 => ⟨S8x8192x128, .f32⟩
  | 118 => ⟨S8x8192x128, .f32⟩
  | 119 => ⟨S8x8192x1, .f32⟩
  | 120 => ⟨S8x8192, .f32⟩
  | 121 => ⟨S8x8192x1, .f32⟩
  | 122 => ⟨S8x8192, .f32⟩
  | 123 => ⟨S8x8192, .f32⟩
  | 124 => ⟨S8x8192x64, .f32⟩
  | 125 => ⟨S8192x8x64, .f32⟩
  | 126 => ⟨S_, .f32⟩
  | 127 => ⟨S8192x8x64, .f32⟩
  | _ => ⟨S8192x8x64, .f32⟩

abbrev hbmTy0_1 (i : Nat) : BufTy := match i % 128 with
  | 0 => ⟨S8192x8x64, .f32⟩
  | 1 => ⟨S8x8192x64, .f32⟩
  | 2 => ⟨S8192x8x64, .f32⟩
  | 3 => ⟨S8192x8x64, .f32⟩
  | 4 => ⟨S8192x8x64, .f32⟩
  | 5 => ⟨S8x8192x64, .f32⟩
  | 6 => ⟨S8192x8x64, .f32⟩
  | 7 => ⟨S8192x8, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x8192x128, .f32⟩
  | .local _ .vmem, ⟨9, _⟩ => ⟨S1x8192x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_call2_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_call3_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_9 : Ref sig .tc := ⟨.hbm, 99, rfl⟩
abbrev main_call4_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_10 : Ref sig .tc := ⟨.hbm, 112, rfl⟩
abbrev main_call5_v0 : Ref sig .tc := ⟨.hbm, 113, rfl⟩
abbrev main_v87 : Ref sig .tc := ⟨.hbm, 114, rfl⟩
abbrev main_v88 : Ref sig .tc := ⟨.hbm, 115, rfl⟩
abbrev main_v89_0 : Ref sig .tc := ⟨.hbm, 116, rfl⟩
abbrev main_v89_1 : Ref sig .tc := ⟨.hbm, 117, rfl⟩
abbrev main_v89_2 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_11 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_7 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_8 : Index := 0#32
  ![0, v11.toNat, 0]
@[reducible] def k0_t1_loop (i : grid0.Coords) : Scf.Loop 32 :=
  let c0_i32_27 : BitVec 32 := 0#32
  let c16_i32 : BitVec 32 := 16#32
  let arg1 : BitVec 32 := BitVec.ofNat 32 (i 1).val
  let c1_i32 : BitVec 32 := 1#32
  let v41 : BitVec 32 := Scalar.addi arg1 c1_i32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_29 : BitVec 32 := 1#32
  ⟨c0_i32_27, v64, c1_i32_29⟩
def k0_mult2 (i : grid0.Coords) (k0_t1 : Fin (k0_t1_loop i).trips) : BitVec 32 :=
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c1_i32_29 : BitVec 32 := 1#32
  let arg9 : BitVec 32 := Scf.iv c0_i32_27 c1_i32_29 k0_t1
  let v100 : BitVec 32 := Scalar.muli c2_i32_50 arg9
  let v101 : BitVec 32 := Scalar.addi v41 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off2 (i : grid0.Coords) (k0_t1 : Fin (k0_t1_loop i).trips) (c0_i32_51 : BitVec 32) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c1_i32_29 : BitVec 32 := 1#32
  let arg9 : BitVec 32 := Scf.iv c0_i32_27 c1_i32_29 k0_t1
  let v100 : BitVec 32 := Scalar.muli c2_i32_50 arg9
  let v101 : BitVec 32 := Scalar.addi v41 v100
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def k0_mult3 (i : grid0.Coords) (k0_t1 : Fin (k0_t1_loop i).trips) : BitVec 32 :=
  let arg1 : BitVec 32 := BitVec.ofNat 32 (i 1).val
  let c1_i32 : BitVec 32 := 1#32
  let v41 : BitVec 32 := Scalar.addi arg1 c1_i32
  let c2_i32_66 : BitVec 32 := 2#32
  let c0_i32_27 : BitVec 32 := 0#32
  let c1_i32_29 : BitVec 32 := 1#32
  let arg9 : BitVec 32 := Scf.iv c0_i32_27 c1_i32_29 k0_t1
  let v130 : BitVec 32 := Scalar.muli c2_i32_66 arg9
  let v131 : BitVec 32 := Scalar.addi v41 v130
  let c1_i32_67 : BitVec 32 := 1#32
  let v132 : BitVec 32 := Scalar.addi v131 c1_i32_67
  let c512_i32_68 : BitVec 32 := 512#32
  let v133 : BitVec 32 := Scalar.muli v132 c512_i32_68
  v133
@[reducible] def k0_t2_loop (i : grid0.Coords) : Scf.Loop 32 :=
  let c0_i32_27 : BitVec 32 := 0#32
  let c16_i32 : BitVec 32 := 16#32
  let arg1 : BitVec 32 := BitVec.ofNat 32 (i 1).val
  let c1_i32 : BitVec 32 := 1#32
  let v41 : BitVec 32 := Scalar.addi arg1 c1_i32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let v61 : BitVec 32 := Scalar.addi c0_i32_27 v60
  let c1_i32_30 : BitVec 32 := 1#32
  ⟨v64, v61, c1_i32_30⟩
def k0_mult4 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v100 : BitVec 32 := Scalar.muli c2_i32_50 arg9
  let v101 : BitVec 32 := Scalar.addi v41 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off3 (i : grid0.Coords) (k0_t2 : Fin (k0_t2_loop i).trips) (c0_i32_51 : BitVec 32) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v100 : BitVec 32 := Scalar.muli c2_i32_50 arg9
  let v101 : BitVec 32 := Scalar.addi v41 v100
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def k0_mult5 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let c2_i32_66 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v130 : BitVec 32 := Scalar.muli c2_i32_66 arg9
  let v131 : BitVec 32 := Scalar.addi v41 v130
  let c1_i32_67 : BitVec 32 := 1#32
  let v132 : BitVec 32 := Scalar.addi v131 c1_i32_67
  let c512_i32_68 : BitVec 32 := 512#32
  let v133 : BitVec 32 := Scalar.muli v132 c512_i32_68
  v133
@[reducible] def k0_t3_loop (i : grid0.Coords) : Scf.Loop 32 :=
  let c0_i32_40 : BitVec 32 := 0#32
  let c16_i32_32 : BitVec 32 := 16#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_42 : BitVec 32 := 1#32
  ⟨c0_i32_40, v91, c1_i32_42⟩
def k0_mult6 (i : grid0.Coords) (k0_t3 : Fin (k0_t3_loop i).trips) : BitVec 32 :=
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c1_i32_42 : BitVec 32 := 1#32
  let arg9 : BitVec 32 := Scf.iv c0_i32_40 c1_i32_42 k0_t3
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off4 (i : grid0.Coords) (k0_t3 : Fin (k0_t3_loop i).trips) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c1_i32_42 : BitVec 32 := 1#32
  let arg9 : BitVec 32 := Scf.iv c0_i32_40 c1_i32_42 k0_t3
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
@[reducible] def k0_t4_loop (i : grid0.Coords) : Scf.Loop 32 :=
  let c0_i32_40 : BitVec 32 := 0#32
  let c16_i32_32 : BitVec 32 := 16#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let v88 : BitVec 32 := Scalar.addi c0_i32_40 v87
  let c1_i32_43 : BitVec 32 := 1#32
  ⟨v91, v88, c1_i32_43⟩
def k0_mult7 (i : grid0.Coords) (k0_t4 : Fin (k0_t4_loop i).trips) : BitVec 32 :=
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c16_i32_32 : BitVec 32 := 16#32
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg9 : BitVec 32 := Scf.iv v91 c1_i32_43 k0_t4
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off5 (i : grid0.Coords) (k0_t4 : Fin (k0_t4_loop i).trips) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c16_i32_32 : BitVec 32 := 16#32
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg9 : BitVec 32 := Scf.iv v91 c1_i32_43 k0_t4
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8192x8x64 : Shape := ⟨3, ![8192, 8, 64]⟩
abbrev S8192x8 : Shape := ⟨2, ![8192, 8]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 115
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S_, .f32⟩
  | .hbm, ⟨6, _⟩ => ⟨S_, .f32⟩
  | .hbm, ⟨7, _⟩ => ⟨S8192x8, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x8192x1, .f32⟩
  | .hbm, ⟨14, _⟩ => ⟨S8x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .i1⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .i1⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S8x8192, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x64x8192, .f32⟩
  | .hbm, ⟨72, _⟩ => ⟨S8192x8x64, .f32⟩
  | .hbm, ⟨73, _⟩ => ⟨S8x64x8192, .f32⟩
  | .hbm, ⟨74, _⟩ => ⟨S8x8192x8192, .f32⟩
  | .hbm, ⟨75, _⟩ => ⟨S8x64x8192, .f32⟩
  | .hbm, ⟨76, _⟩ => ⟨S8192x8x64, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S8x8192x1, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192, .f32⟩
  | .hbm, ⟨96, _⟩ => ⟨S8x8192x1, .f32⟩
  | .hbm, ⟨97, _⟩ => ⟨S8x8192x8192, .f32⟩
  | .hbm, ⟨98, _⟩ => ⟨S_, .f32⟩
  | .hbm, ⟨99, _⟩ => ⟨S8x8192, .f32⟩
  | .hbm, ⟨100, _⟩ => ⟨S8x1x8192, .f32⟩
  | .hbm, ⟨101, _⟩ => ⟨S_, .f32⟩
  | .hbm, ⟨102, _⟩ => ⟨S8x8192, .f32⟩
  | .hbm, ⟨103, _⟩ => ⟨S8192x8, .f32⟩
  | .hbm, ⟨104, _⟩ => ⟨S_, .f32⟩
  | .hbm, ⟨105, _⟩ => ⟨S8x8192, .f32⟩
  | .hbm, ⟨106, _⟩ => ⟨S8192x8, .f32⟩
  | .hbm, ⟨107, _⟩ => ⟨S8192x8, .f32⟩
  | .hbm, ⟨108, _⟩ => ⟨S_, .f32⟩
  | .hbm, ⟨109, _⟩ => ⟨S8x8192x8192, .f32⟩
  | .hbm, ⟨110, _⟩ => ⟨S8x8192x8192, .f32⟩
  | .hbm, ⟨111, _⟩ => ⟨S8x8192x64, .f32⟩
  | .hbm, ⟨112, _⟩ => ⟨S8192x8x64, .f32⟩
  | .hbm, ⟨113, _⟩ => ⟨S8x8192x64, .f32⟩
  | .hbm, ⟨114, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_v18_1 : Ref sig .tc := ⟨.hbm, 28, rfl⟩
abbrev main_call1_v2 : Ref sig .tc := ⟨.hbm, 29, rfl⟩
abbrev main_v18_0 : Ref sig .tc := ⟨.hbm, 30, rfl⟩
abbrev main_call1_cst : Ref sig .tc := ⟨.hbm, 31, rfl⟩
abbrev main_v18_2 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]
-- ==== Cum.lean ====
abbrev S8192x8 : Shape := ⟨2, ![8192, 8]⟩
abbrev S_ : Shape := ⟨0, ![]⟩
abbrev S8192x128 : Shape := ⟨2, ![8192, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x8, .f32⟩
  | .hbm, ⟨1, _⟩ => ⟨S_, .i32⟩
  | .hbm, ⟨2, _⟩ => ⟨S_, .f32⟩
  | .hbm, ⟨3, _⟩ => ⟨S8192x128, .f32⟩
  | .hbm, ⟨4, _⟩ => ⟨S_, .f32⟩
  | .hbm, ⟨5, _⟩ => ⟨S1x128, .f32⟩
  | .hbm, ⟨6, _⟩ => ⟨S8192x128, .f32⟩
  | .hbm, ⟨7, _⟩ => ⟨S8192x8, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S8x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumRefIdeal.lean ====
abbrev S8192x8 : Shape := ⟨2, ![8192, 8]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S_, .f32⟩
  | .hbm, ⟨2, _⟩ => ⟨S8192x8, .f32⟩
  | .hbm, ⟨3, _⟩ => ⟨S_, .f32⟩
  | .hbm, ⟨4, _⟩ => ⟨S_, .f32⟩
  | .hbm, ⟨5, _⟩ => ⟨S8192x8, .f32⟩
  | .hbm, ⟨6, _⟩ => ⟨S_, .f32⟩
  | .hbm, ⟨7, _⟩ => ⟨S_, .f32⟩
  | .hbm, ⟨8, _⟩ => ⟨S8192x8, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_call1_call0_cst : Ref sig .tc := ⟨.hbm, 6, rfl⟩
abbrev main_call1_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Ada.lean ====
abbrev S8x1024 : Shape := ⟨2, ![8, 1024]⟩
abbrev S8x768 : Shape := ⟨2, ![8, 768]⟩
abbrev S1024x8 : Shape := ⟨2, ![1024, 8]⟩
abbrev S_ : Shape := ⟨0, ![]⟩
abbrev S1024x128 : Shape := ⟨2, ![1024, 128]⟩
abbrev S128x768 : Shape := ⟨2, ![128, 768]⟩
abbrev S1024x768 : Shape := ⟨2, ![1024, 768]⟩

abbrev nBuf : Space → Nat
  | .hbm => 10
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S_, .i32⟩
  | .hbm, ⟨7, _⟩ => ⟨S_, .f32⟩
  | .hbm, ⟨8, _⟩ => ⟨S128x768, .f32⟩
  | .hbm, ⟨9, _⟩ => ⟨S1024x768, .f32⟩
  | .local _ .vmem, ⟨0, _⟩ => ⟨S1024x128, .f32⟩
  | .local _ .vmem, ⟨1, _⟩ => ⟨S128x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AdaRefIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Head.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S8x1024 : Shape := ⟨2, ![8, 1024]⟩
abbrev S512x1024 : Shape := ⟨2, ![512, 1024]⟩
abbrev S512x2816 : Shape := ⟨2, ![512, 2816]⟩
abbrev S64x8x1024 : Shape := ⟨3, ![64, 8, 1024]⟩
abbrev S_ : Shape := ⟨0, ![]⟩
abbrev S1x1 : Shape := ⟨2, ![1, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HeadRefIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S1024 : Shape := ⟨1, ![1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Conv.lean ====
abbrev S8192x5128 : Shape := ⟨2, ![8192, 5128]⟩
abbrev S3x512 : Shape := ⟨2, ![3, 512]⟩
abbrev S8192x512 : Shape := ⟨2, ![8192, 512]⟩
abbrev S8192x3072 : Shape := ⟨2, ![8192, 3072]⟩
abbrev S8192x2048 : Shape := ⟨2, ![8192, 2048]⟩
abbrev S8192x8 : Shape := ⟨2, ![8192, 8]⟩
abbrev S_ : Shape := ⟨0, ![]⟩
abbrev S8192x248 : Shape := ⟨2, ![8192, 248]⟩
abbrev S8192x5376 : Shape := ⟨2, ![8192, 5376]⟩
abbrev S8x512 : Shape := ⟨2, ![8, 512]⟩
abbrev S8192x1536 : Shape := ⟨2, ![8192, 1536]⟩
abbrev S256x512 : Shape := ⟨2, ![256, 512]⟩
abbrev S256x1536 : Shape := ⟨2, ![256, 1536]⟩
abbrev S272x512 : Shape := ⟨2, ![272, 512]⟩
abbrev S1x512 : Shape := ⟨2, ![1, 512]⟩
abbrev S512 : Shape := ⟨1, ![512]⟩
abbrev S5x512 : Shape := ⟨2, ![5, 512]⟩

abbrev nBuf : Space → Nat
  | .hbm => 15
  | .vmem => 24
  | .smem => 0
  | _ => 0

abbrev bufTy : (tb : Table) → Fin (tcTables nBuf tb) → BufTy
  | .hbm, ⟨0, _⟩ => ⟨S8192x5128, .f32⟩
  | .hbm, ⟨1, _⟩ => ⟨S3x512, .f32⟩
  | .hbm, ⟨2, _⟩ => ⟨S8192x512, .f32⟩
  | .hbm, ⟨3, _⟩ => ⟨S8192x3072, .f32⟩
  | .hbm, ⟨4, _⟩ => ⟨S8192x2048, .f32⟩
  | .hbm, ⟨5, _⟩ => ⟨S8192x8, .f32⟩
  | .hbm, ⟨6, _⟩ => ⟨S_, .f32⟩
  | .hbm, ⟨7, _⟩ => ⟨S8192x248, .f32⟩
  | .hbm, ⟨8, _⟩ => ⟨S8192x5376, .f32⟩
  | .hbm, ⟨9, _⟩ => ⟨S_, .i32⟩
  | .hbm, ⟨10, _⟩ => ⟨S_, .f32⟩
  | .hbm, ⟨11, _⟩ => ⟨S8x512, .f32⟩
  | .hbm, ⟨12, _⟩ => ⟨S8192x1536, .bf16⟩
  | .hbm, ⟨13, _⟩ => ⟨S8x512, .f32⟩
  | .hbm, ⟨14, _⟩ => ⟨S3x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S256x1536, .bf16⟩
  | .local _ .vmem, ⟨22, _⟩ => ⟨S256x1536, .bf16⟩
  | .local _ .vmem, ⟨23, _⟩ => ⟨S8x512, .f32⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x5128 : Shape := ⟨2, ![8192, 5128]⟩
abbrev S3x512 : Shape := ⟨2, ![3, 512]⟩
abbrev S8192x512 : Shape := ⟨2, ![8192, 512]⟩
abbrev S8192x1536 : Shape := ⟨2, ![8192, 1536]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 85
  | .vmem => 0
  | .smem => 0
  | _ => 0

abbrev bufTy : (tb : Table) → Fin (tcTables nBuf tb) → BufTy
  | .hbm, ⟨0, _⟩ => ⟨S8192x5128, .f32⟩
  | .hbm, ⟨1, _⟩ => ⟨S3x512, .f32⟩
  | .hbm, ⟨2, _⟩ => ⟨S8192x512, .f32⟩
  | .hbm, ⟨3, _⟩ => ⟨S8192x1536, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S2x512, .f32⟩
  | .hbm, ⟨10, _⟩ => ⟨S8194x512, .f32⟩
  | .hbm, ⟨11, _⟩ => ⟨S_, .f32⟩
  | .hbm, ⟨12, _⟩ => ⟨S2x512, .f32⟩
  | .hbm, ⟨13, _⟩ => ⟨S8192x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S8194x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S8194x512, .f32⟩
  | .hbm, ⟨63, _⟩ => ⟨S8194x512, .f32⟩
  | .hbm, ⟨64, _⟩ => ⟨S8192x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S8194x512, .f32⟩
  | .hbm, ⟨78, _⟩ => ⟨S8194x512, .f32⟩
  | .hbm, ⟨79, _⟩ => ⟨S2x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x1536, .f32⟩
  | .hbm, ⟨84, _⟩ => ⟨S8192x1536, .bf16⟩
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Ffn.lean ====
abbrev S8192x5632 : Shape := ⟨2, ![8192, 5632]⟩
abbrev S3x5632 : Shape := ⟨2, ![3, 5632]⟩
abbrev S8192x2816 : Shape := ⟨2, ![8192, 2816]⟩
abbrev S_ : Shape := ⟨0, ![]⟩
abbrev S8x5632 : Shape := ⟨2, ![8, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8x2816 : Shape := ⟨2, ![8, 2816]⟩
abbrev S256x1408 : Shape := ⟨2, ![256, 1408]⟩
abbrev S16x1408 : Shape := ⟨2, ![16, 1408]⟩
abbrev S8x1408 : Shape := ⟨2, ![8, 1408]⟩
abbrev S272x1408 : Shape := ⟨2, ![272, 1408]⟩
abbrev S1x1408 : Shape := ⟨2, ![1, 1408]⟩
abbrev S1408 : Shape := ⟨1, ![1408]⟩
abbrev S5x1408 : Shape := ⟨2, ![5, 1408]⟩

abbrev nBuf : Space → Nat
  | .hbm => 40
  | .vmem => 28
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .f32⟩
  | .hbm, ⟨3, _⟩ => ⟨S_, .i32⟩
  | .hbm, ⟨4, _⟩ => ⟨S_, .f32⟩
  | .hbm, ⟨5, _⟩ => ⟨S8x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .bf16⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S8192x2816, .bf16⟩
  | .hbm, ⟨35, _⟩ => ⟨S8192x2816, .bf16⟩
  | .hbm, ⟨36, _⟩ => ⟨S8x2816, .f32⟩
  | .hbm, ⟨37, _⟩ => ⟨S8x2816, .f32⟩
  | .hbm, ⟨38, _⟩ => ⟨S8x5632, .f32⟩
  | .hbm, ⟨39, _⟩ => ⟨S3x5632, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S16x1408, .bf16⟩
  | .local _ .vmem, ⟨9, _⟩ => ⟨S16x1408, .bf16⟩
  | .local _ .vmem, ⟨10, _⟩ => ⟨S16x1408, .bf16⟩
  | .local _ .vmem, ⟨11, _⟩ => ⟨S16x1408, .bf16⟩
  | .local _ .vmem, ⟨12, _⟩ => ⟨S256x1408, .bf16⟩
  | .local _ .vmem, ⟨13, _⟩ => ⟨S256x1408, .bf16⟩
  | .local _ .vmem, ⟨14, _⟩ => ⟨S16x1408, .bf16⟩
  | .local _ .vmem, ⟨15, _⟩ => ⟨S16x1408, .bf16⟩
  | .local _ .vmem, ⟨16, _⟩ => ⟨S8x1408, .f32⟩
  | .local _ .vmem, ⟨17, _⟩ => ⟨S8x1408, .f32⟩
  | .local _ .vmem, ⟨18, _⟩ => ⟨S8x1408, .f32⟩
  | .local _ .vmem, ⟨19, _⟩ => ⟨S8x1408, .f32⟩
  | .local _ .vmem, ⟨20, _⟩ => ⟨S256x1408, .bf16⟩
  | .local _ .vmem, ⟨21, _⟩ => ⟨S256x1408, .bf16⟩
  | .local _ .vmem, ⟨22, _⟩ => ⟨S256x1408, .bf16⟩
  | .local _ .vmem, ⟨23, _⟩ => ⟨S256x1408, .bf16⟩
  | .local _ .vmem, ⟨24, _⟩ => ⟨S8x1408, .f32⟩
  | .local _ .vmem, ⟨25, _⟩ => ⟨S8x1408, .f32⟩
  | .local _ .vmem, ⟨26, _⟩ => ⟨S8x1408, .f32⟩
  | .local _ .vmem, ⟨27, _⟩ => ⟨S8x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev main_v28_3 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S8192x5632 : Shape := ⟨2, ![8192, 5632]⟩
abbrev S3x5632 : Shape := ⟨2, ![3, 5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 103
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S_, .f32⟩
  | .hbm, ⟨10, _⟩ => ⟨S2x5632, .f32⟩
  | .hbm, ⟨11, _⟩ => ⟨S8192x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x5632, .f32⟩
  | .hbm, ⟨54, _⟩ => ⟨S8192x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S3x5632, .f32⟩
  | .hbm, ⟨65, _⟩ => ⟨S_, .f32⟩
  | .hbm, ⟨66, _⟩ => ⟨S8194x5632, .f32⟩
  | .hbm, ⟨67, _⟩ => ⟨S8192x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S8192x5632, .f32⟩
  | .hbm, ⟨72, _⟩ => ⟨S8192x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S3x5632, .f32⟩
  | .hbm, ⟨79, _⟩ => ⟨S_, .f32⟩
  | .hbm, ⟨80, _⟩ => ⟨S8194x5632, .f32⟩
  | .hbm, ⟨81, _⟩ => ⟨S8194x5632, .f32⟩
  | .hbm, ⟨82, _⟩ => ⟨S8192x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S8192x5632, .f32⟩
  | .hbm, ⟨87, _⟩ => ⟨S8192x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S_, .f32⟩
  | .hbm, ⟨95, _⟩ => ⟨S8194x5632, .f32⟩
  | .hbm, ⟨96, _⟩ => ⟨S8194x5632, .f32⟩
  | .hbm, ⟨97, _⟩ => ⟨S2x5632, .f32⟩
  | .hbm, ⟨98, _⟩ => ⟨S8192x5632, .f32⟩
  | .hbm, ⟨99, _⟩ => ⟨S8192x2816, .f32⟩
  | .hbm, ⟨100, _⟩ => ⟨S8192x2816, .f32⟩
  | .hbm, ⟨101, _⟩ => ⟨S8192x2816, .bf16⟩
  | .hbm, ⟨102, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v28_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v28_1 : Ref sig .tc := ⟨.hbm, 44, rfl⟩
abbrev main_v28_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Norm2.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2816 : Shape := ⟨2, ![8192, 2816]⟩
abbrev S8x1024 : Shape := ⟨2, ![8, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 35
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x2816, .f32⟩
  | .hbm, ⟨13, _⟩ => ⟨S8192x2816, .bf16⟩
  | .hbm, ⟨14, _⟩ => ⟨S8192x2816, .f32⟩
  | .hbm, ⟨15, _⟩ => ⟨S8192x2816, .bf16⟩
  | .hbm, ⟨16, _⟩ => ⟨S1024x5632, .bf16⟩
  | .hbm, ⟨17, _⟩ => ⟨S8192x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8192x1024, .bf16⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S1024, .f32⟩
  | .hbm, ⟨34, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Norm2RefIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x5632, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Norm1.lean ====
abbrev S8192x1024 : Shape := ⟨2, ![8192, 1024]⟩
abbrev S1x1024 : Shape := ⟨2, ![1, 1024]⟩
abbrev S1024x5128 : Shape := ⟨2, ![1024, 5128]⟩
abbrev S8192x5128 : Shape := ⟨2, ![8192, 5128]⟩
abbrev S8192x3072 : Shape := ⟨2, ![8192, 3072]⟩
abbrev S8192x2048 : Shape := ⟨2, ![8192, 2048]⟩
abbrev S8192x8 : Shape := ⟨2, ![8192, 8]⟩
abbrev S_ : Shape := ⟨0, ![]⟩
abbrev S8192x248 : Shape := ⟨2, ![8192, 248]⟩
abbrev S8192x5376 : Shape := ⟨2, ![8192, 5376]⟩
abbrev S8192x1536 : Shape := ⟨2, ![8192, 1536]⟩
abbrev S8192x512 : Shape := ⟨2, ![8192, 512]⟩
abbrev S8192x128 : Shape := ⟨2, ![8192, 128]⟩
abbrev S1024x3072 : Shape := ⟨2, ![1024, 3072]⟩
abbrev S1024x2048 : Shape := ⟨2, ![1024, 2048]⟩
abbrev S1024x8 : Shape := ⟨2, ![1024, 8]⟩
abbrev S1024x248 : Shape := ⟨2, ![1024, 248]⟩
abbrev S1024x5376 : Shape := ⟨2, ![1024, 5376]⟩
abbrev S8x1024 : Shape := ⟨2, ![8, 1024]⟩
abbrev S512x1536 : Shape := ⟨2, ![512, 1536]⟩
abbrev S512x1024 : Shape := ⟨2, ![512, 1024]⟩
abbrev S512x512 : Shape := ⟨2, ![512, 512]⟩
abbrev S512x128 : Shape := ⟨2, ![512, 128]⟩
abbrev S1024x1536 : Shape := ⟨2, ![1024, 1536]⟩
abbrev S1024x1024 : Shape := ⟨2, ![1024, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S8192x5128, .f32⟩
  | .hbm, ⟨7, _⟩ => ⟨S8192x3072, .f32⟩
  | .hbm, ⟨8, _⟩ => ⟨S8192x2048, .f32⟩
  | .hbm, ⟨9, _⟩ => ⟨S8192x8, .f32⟩
  | .hbm, ⟨10, _⟩ => ⟨S_, .f32⟩
  | .hbm, ⟨11, _⟩ => ⟨S8192x248, .f32⟩
  | .hbm, ⟨12, _⟩ => ⟨S8192x5376, .f32⟩
  | .hbm, ⟨13, _⟩ => ⟨S8192x5376, .bf16⟩
  | .hbm, ⟨14, _⟩ => ⟨S8192x1536, .bf16⟩
  | .hbm, ⟨15, _⟩ => ⟨S8192x1024, .bf16⟩
  | .hbm, ⟨16, _⟩ => ⟨S8192x512, .bf16⟩
  | .hbm, ⟨17, _⟩ => ⟨S8192x1024, .bf16⟩
  | .hbm, ⟨18, _⟩ => ⟨S8192x1024, .bf16⟩
  | .hbm, ⟨19, _⟩ => ⟨S8192x128, .bf16⟩
  | .hbm, ⟨20, _⟩ => ⟨S1024x3072, .f32⟩
  | .hbm, ⟨21, _⟩ => ⟨S1024x2048, .f32⟩
  | .hbm, ⟨22, _⟩ => ⟨S1024x8, .f32⟩
  | .hbm, ⟨23, _⟩ => ⟨S_, .f32⟩
  | .hbm, ⟨24, _⟩ => ⟨S1024x248, .f32⟩
  | .hbm, ⟨25, _⟩ => ⟨S1024x5376, .f32⟩
  | .hbm, ⟨26, _⟩ => ⟨S1024x5376, .bf16⟩
  | .hbm, ⟨27, _⟩ => ⟨S8192x1024, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S1024x5376, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Norm1RefIdeal.lean ====
abbrev S8192x1024 : Shape := ⟨2, ![8192, 1024]⟩
abbrev S1x1024 : Shape := ⟨2, ![1, 1024]⟩
abbrev S1024x5128 : Shape := ⟨2, ![1024, 5128]⟩
abbrev S8192x5128 : Shape := ⟨2, ![8192, 5128]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S8192x5128, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x5128, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Qk.lean ====
abbrev S8192x5128 : Shape := ⟨2, ![8192, 5128]⟩
abbrev S1x64 : Shape := ⟨2, ![1, 64]⟩
abbrev S1x8 : Shape := ⟨2, ![1, 8]⟩
abbrev S8192x512 : Shape := ⟨2, ![8192, 512]⟩
abbrev S8192x8 : Shape := ⟨2, ![8192, 8]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x128 : Shape := ⟨2, ![1, 128]⟩
abbrev S8192x3072 : Shape := ⟨2, ![8192, 3072]⟩
abbrev S8192x2048 : Shape := ⟨2, ![8192, 2048]⟩
abbrev S8192x248 : Shape := ⟨2, ![8192, 248]⟩
abbrev S8192x5376 : Shape := ⟨2, ![8192, 5376]⟩
abbrev S8192x128 : Shape := ⟨2, ![8192, 128]⟩
abbrev S512x512 : Shape := ⟨2, ![512, 512]⟩
abbrev S8192x1024 : Shape := ⟨2, ![8192, 1024]⟩
abbrev S8x512 : Shape := ⟨2, ![8, 512]⟩
abbrev S8x128 : Shape := ⟨2, ![8, 128]⟩
abbrev S512x128 : Shape := ⟨2, ![512, 128]⟩
abbrev S512x1024 : Shape := ⟨2, ![512, 1024]⟩
abbrev S64x8x512 : Shape := ⟨3, ![64, 8, 512]⟩
abbrev S64x8x128 : Shape := ⟨3, ![64, 8, 128]⟩
abbrev S512 : Shape := ⟨1, ![512]⟩
abbrev S8x64 : Shape := ⟨2, ![8, 64]⟩
abbrev S64 : Shape := ⟨1, ![64]⟩
abbrev S128 : Shape := ⟨1, ![128]⟩

abbrev nBuf : Space → Nat
  | .hbm => 102
  | .vmem => 23
  | .smem => 0
  | _ => 0

abbrev bufTy : (tb : Table) → Fin (tcTables nBuf tb) → BufTy
  | .hbm, ⟨0, _⟩ => ⟨S8192x5128, .f32⟩
  | .hbm, ⟨1, _⟩ => ⟨S1x64, .f32⟩
  | .hbm, ⟨2, _⟩ => ⟨S1x64, .f32⟩
  | .hbm, ⟨3, _⟩ => ⟨S1x8, .f32⟩
  | .hbm, ⟨4, _⟩ => ⟨S8192x512, .f32⟩
  | .hbm, ⟨5, _⟩ => ⟨S8192x512, .f32⟩
  | .hbm, ⟨6, _⟩ => ⟨S8192x8, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1x1x64, .f32⟩
  | .hbm, ⟨11, _⟩ => ⟨S1x1x8x64, .f32⟩
  | .hbm, ⟨12, _⟩ => ⟨S1x512, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x3072, .f32⟩
  | .hbm, ⟨21, _⟩ => ⟨S8192x2048, .f32⟩
  | .hbm, ⟨22, _⟩ => ⟨S8192x8, .f32⟩
  | .hbm, ⟨23, _⟩ => ⟨S_, .f32⟩
  | .hbm, ⟨24, _⟩ => ⟨S8192x248, .f32⟩
  | .hbm, ⟨25, _⟩ => ⟨S8192x5376, .f32⟩
  | .hbm, ⟨26, _⟩ => ⟨S8192x512, .bf16⟩
  | .hbm, ⟨27, _⟩ => ⟨S8192x512, .f32⟩
  | .hbm, ⟨28, _⟩ => ⟨S8192x512, .f32⟩
  | .hbm, ⟨29, _⟩ => ⟨S8192x512, .bf16⟩
  | .hbm, ⟨30, _⟩ => ⟨S_, .i32⟩
  | .hbm, ⟨31, _⟩ => ⟨S_, .f32⟩
  | .hbm, ⟨32, _⟩ => ⟨S8192x128, .f32⟩
  | .hbm, ⟨33, _⟩ => ⟨S512x512, .i32⟩
  | .hbm, ⟨34, _⟩ => ⟨S_, .i32⟩
  | .hbm, ⟨35, _⟩ => ⟨S_, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i1⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i1⟩
  | .hbm, ⟨47, _⟩ => ⟨S512x512, .i1⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S512x512, .i32⟩
  | .hbm, ⟨52, _⟩ => ⟨S512x512, .i32⟩
  | .hbm, ⟨53, _⟩ => ⟨S_, .i32⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S512x512, .i32⟩
  | .hbm, ⟨60, _⟩ => ⟨S512x512, .i1⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i1⟩
  | .hbm, ⟨66, _⟩ => ⟨S512x512, .i1⟩
  | .hbm, ⟨67, _⟩ => ⟨S_, .i32⟩
  | .hbm, ⟨68, _⟩ => ⟨S512x512, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S_, .f32⟩
  | .hbm, ⟨73, _⟩ => ⟨S_, .f32⟩
  | .hbm, ⟨74, _⟩ => ⟨S512x512, .f32⟩
  | .hbm, ⟨75, _⟩ => ⟨S512x512, .f32⟩
  | .hbm, ⟨76, _⟩ => ⟨S512x512, .f32⟩
  | .hbm, ⟨77, _⟩ => ⟨S512x512, .bf16⟩
  | .hbm, ⟨78, _⟩ => ⟨S8192x1024, .bf16⟩
  | .hbm, ⟨79, _⟩ => ⟨S8192x128, .bf16⟩
  | .hbm, ⟨80, _⟩ => ⟨S8x512, .f32⟩
  | .hbm, ⟨81, _⟩ => ⟨S8x512, .f32⟩
  | .hbm, ⟨82, _⟩ => ⟨S8x128, .f32⟩
  | .hbm, ⟨83, _⟩ => ⟨S8192x8, .bf16⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S8x64, .f32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S_, .f32⟩
  | .hbm, ⟨92, _⟩ => ⟨S512, .f32⟩
  | .hbm, ⟨93, _⟩ => ⟨S1x512, .f32⟩
  | .hbm, ⟨94, _⟩ => ⟨S8x64, .f32⟩
  | .hbm, ⟨95, _⟩ => ⟨S_, .f32⟩
  | .hbm, ⟨96, _⟩ => ⟨S64, .f32⟩
  | .hbm, ⟨97, _⟩ => ⟨S1x64, .f32⟩
  | .hbm, ⟨98, _⟩ => ⟨S_, .f32⟩
  | .hbm, ⟨99, _⟩ => ⟨S128, .f32⟩
  | .hbm, ⟨100, _⟩ => ⟨S1x128, .f32⟩
  | .hbm, ⟨101, _⟩ => ⟨S1x8, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x128, .bf16⟩
  | .local _ .vmem, ⟨19, _⟩ => ⟨S512x128, .bf16⟩
  | .local _ .vmem, ⟨20, _⟩ => ⟨S8x512, .f32⟩
  | .local _ .vmem, ⟨21, _⟩ => ⟨S8x512, .f32⟩
  | .local _ .vmem, ⟨22, _⟩ => ⟨S8x128, .f32⟩
  | _, _ => ⟨S8192x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_c : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_0 : Ref sig .tc := ⟨.hbm, 67, rfl⟩
abbrev main_call3_v12 : Ref sig .tc := ⟨.hbm, 68, rfl⟩
abbrev main_call3_v13 : Ref sig .tc := ⟨.hbm, 69, rfl⟩
abbrev main_v22 : Ref sig .tc := ⟨.hbm, 70, rfl⟩
abbrev main_v23 : Ref sig .tc := ⟨.hbm, 71, rfl⟩
abbrev main_cst_5 : Ref sig .tc := ⟨.hbm, 72, rfl⟩
abbrev main_cst_6 : Ref sig .tc := ⟨.hbm, 73, rfl⟩
abbrev main_call4_v0 : Ref sig .tc := ⟨.hbm, 74, rfl⟩
abbrev main_call4_v1 : Ref sig .tc := ⟨.hbm, 75, rfl⟩
abbrev main_v24 : Ref sig .tc := ⟨.hbm, 76, rfl⟩
abbrev main_v25 : Ref sig .tc := ⟨.hbm, 77, rfl⟩
abbrev main_v26_0 : Ref sig .tc := ⟨.hbm, 78, rfl⟩
abbrev main_v26_1 : Ref sig .tc := ⟨.hbm, 79, rfl⟩
abbrev main_v26_2 : Ref sig .tc := ⟨.hbm, 80, rfl⟩
abbrev main_v26_3 : Ref sig .tc := ⟨.hbm, 81, rfl⟩
abbrev main_v26_4 : Ref sig .tc := ⟨.hbm, 82, rfl⟩
abbrev main_v27 : Ref sig .tc := ⟨.hbm, 83, rfl⟩
abbrev main_cst_7 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_8 : Ref sig .tc := ⟨.hbm, 88, rfl⟩
abbrev main_v31 : Ref sig .tc := ⟨.hbm, 89, rfl⟩
abbrev main_v32 : Ref sig .tc := ⟨.hbm, 90, rfl⟩
abbrev main_cst_9 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_10 : Ref sig .tc := ⟨.hbm, 95, rfl⟩
abbrev main_v36 : Ref sig .tc := ⟨.hbm, 96, rfl⟩
abbrev main_v37 : Ref sig .tc := ⟨.hbm, 97, rfl⟩
abbrev main_cst_11 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkIdeal.lean ====
variable {F : FTy → Type} [FloatOps F] [Named F]
def κ : String → Option EReal := fun
  | "ln2" => some ((Real.log 2 : ℝ) : EReal)
  | _ => none
-- ==== QkRefIdeal.lean ====
abbrev S8192x5128 : Shape := ⟨2, ![8192, 5128]⟩
abbrev S1x64 : Shape := ⟨2, ![1, 64]⟩
abbrev S1x8 : Shape := ⟨2, ![1, 8]⟩
abbrev S8192x512 : Shape := ⟨2, ![8192, 512]⟩
abbrev S8192x8 : Shape := ⟨2, ![8192, 8]⟩
abbrev S8192x1024 : Shape := ⟨2, ![8192, 1024]⟩
abbrev S8192x8x64 : Shape := ⟨3, ![8192, 8, 64]⟩
abbrev S_ : Shape := ⟨0, ![]⟩
abbrev S8192x8x1 : Shape := ⟨3, ![8192, 8, 1]⟩
abbrev S1x1x64 : Shape := ⟨3, ![1, 1, 64]⟩
abbrev S8 : Shape := ⟨1, ![8]⟩
abbrev S64 : Shape := ⟨1, ![64]⟩

abbrev nBuf : Space → Nat
  | .hbm => 176
  | .vmem => 0
  | .smem => 0
  | _ => 0

abbrev hbmTy0_0 (i : Nat) : BufTy := match i % 128 with
  | 0 => ⟨S8192x5128, .f32⟩
  | 1 => ⟨S1x64, .f32⟩
  | 2 => ⟨S1x64, .f32⟩
  | 3 => ⟨S1x8, .f32⟩
  | 4 => ⟨S8192x512, .f32⟩
  | 5 => ⟨S8192x512, .f32⟩
  | 6 => ⟨S8192x8, .f32⟩
  | 7 => ⟨S8192x1024, .f32⟩
  | 8 => ⟨S8192x8, .f32⟩
  | 9 => ⟨S8192x512, .f32⟩
  | 10 => ⟨S8192x512, .f32⟩
  | 11 => ⟨S8192x8x64, .f32⟩
  | 12 => ⟨S8192x8x64, .f32⟩
  | 13 => ⟨S_, .f32⟩
  | 14 => ⟨S8192x8, .f32⟩
  | 15 => ⟨S8192x8x1, .f32⟩
  | 16 => ⟨S_, .f32⟩
  | 17 => ⟨S8192x8x1, .f32⟩
  | 18 => ⟨S8192x8x1, .f32⟩
  | 19 => ⟨S_, .f32⟩
  | 20 => ⟨S8192x8x1, .f32⟩
  | 21 => ⟨S8192x8x1, .f32⟩
  | 22 => ⟨S8192x8x1, .f32⟩
  | 23 => ⟨S8192x8x1, .f32⟩
  | 24 => ⟨S_, .f32⟩
  | 25 => ⟨S8192x8x1, .f32⟩
  | 26 => ⟨S8192x8x1, .f32⟩
  | 27 => ⟨S8192x8x64, .f32⟩
  | 28 => ⟨S8192x8x64, .f32⟩
  | 29 => ⟨S1x1x64, .f32⟩
  | 30 => ⟨S8192x8x64, .f32⟩
  | 31 => ⟨S8192x8x64, .f32⟩
  | 32 => ⟨S_, .f32⟩
  | 33 => ⟨S8192x8x64, .f32⟩
  | 34 => ⟨S8192x8x64, .f32⟩
  | 35 => ⟨S8192x8x64, .f32⟩
  | 36 => ⟨S8192x8x64, .f32⟩
  | 37 => ⟨S_, .f32⟩
  | 38 => ⟨S8192x8, .f32⟩
  | 39 => ⟨S8192x8x1, .f32⟩
  | 40 => ⟨S_, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x64, .f32⟩
  | 52 => ⟨S8192x8x64, .f32⟩
  | 53 => ⟨S1x1x64, .f32⟩
  | 54 => ⟨S8192x8x64, .f32⟩
  | 55 => ⟨S8192x8x64, .f32⟩
  | 56 => ⟨S8192x512, .f32⟩
  | 57 => ⟨S8192x512, .f32⟩
  | 58 => ⟨S8192x8, .f32⟩
  | 59 => ⟨S8192x8, .f32⟩
  | 60 => ⟨S8192x8, .f32⟩
  | 61 => ⟨S_, .f32⟩
  | 62 => ⟨S8192x8, .f32⟩
  | 63 => ⟨S8192x8, .f32⟩
  | 64 => ⟨S8192x8, .f32⟩
  | 65 => ⟨S8192x8, .f32⟩
  | 66 => ⟨S8192x8, .i1⟩
  | 67 => ⟨S8192x8, .f32⟩
  | 68 => ⟨S8192x8, .f32⟩
  | 69 => ⟨S8192x8, .f32⟩
  | 70 => ⟨S8192x8, .f32⟩
  | 71 => ⟨S8192x8, .f32⟩
  | 72 => ⟨S8192x8, .f32⟩
  | 73 => ⟨S8192x8, .f32⟩
  | 74 => ⟨S8192x8, .f32⟩
  | 75 => ⟨S_, .f32⟩
  | 76 => ⟨S8192x8, .f32⟩
  | 77 => ⟨S8192x8, .i1⟩
  | 78 => ⟨S_, .f32⟩
  | 79 => ⟨S8192x8, .f32⟩
  | 80 => ⟨S8192x8, .f32⟩
  | 81 => ⟨S_, .f32⟩
  | 82 => ⟨S8192x8, .f32⟩
  | 83 => ⟨S8192x8, .i1⟩
  | 84 => ⟨S_, .f32⟩
  | 85 => ⟨S8192x8, .f32⟩
  | 86 => ⟨S8192x8, .f32⟩
  | 87 => ⟨S8192x8, .f32⟩
  | 88 => ⟨S8192x8, .f32⟩
  | 89 => ⟨S_, .f32⟩
  | 90 => ⟨S_, .f32⟩
  | 91 => ⟨S_, .i1⟩
  | 92 => ⟨S_, .f32⟩
  | 93 => ⟨S_, .f32⟩
  | 94 => ⟨S_, .f32⟩
  | 95 => ⟨S_, .f32⟩
  | 96 => ⟨S8192x8, .f32⟩
  | 97 => ⟨S8192x8, .i1⟩
  | 98 => ⟨S_, .f32⟩
  | 99 => ⟨S8192x8, .f32⟩
  | 100 => ⟨S8192x8, .f32⟩
  | 101 => ⟨S8192x8, .f32⟩
  | 102 => ⟨S8192x8, .f32⟩
  | 103 => ⟨S8192x8, .f32⟩
  | 104 => ⟨S_, .f32⟩
  | 105 => ⟨S8192x8, .f32⟩
  | 106 => ⟨S8192x8, .f32⟩
  | 107 => ⟨S8192x8, .f32⟩
  | 108 => ⟨S8192x8, .f32⟩
  | 109 => ⟨S8192x8, .f32⟩
  | 110 => ⟨S8192x8, .f32⟩
  | 111 => ⟨S_, .f32⟩
  | 112 => ⟨S8, .f32⟩
  | 113 => ⟨S1x8, .f32⟩
  | 114 => ⟨S8192x8x64, .f32⟩
  | 115 => ⟨S8192x8x64, .f32⟩
  | 116 => ⟨S8192x8x64, .f32⟩
  | 117 => ⟨S_, .f32⟩
  | 118 => ⟨S64, .f32⟩
  | 119 => ⟨S1x1x64, .f32⟩
  | 120 => ⟨S8192x8x64, .f32⟩
  | 121 => ⟨S8192x8x64, .f32⟩
  | 122 => ⟨S_, .f32⟩
  | 123 => ⟨S64, .f32⟩
  | 124 => ⟨S1x64, .f32⟩
  | 125 => ⟨S8192x8x64, .f32⟩
  | 126 => ⟨S_, .f32⟩
  | 127 => ⟨S8192x8, .f32⟩
  | _ => ⟨S8192x5128, .f32⟩

abbrev hbmTy0_1 (i : Nat) : BufTy := match i % 128 with
  | 0 => ⟨S8192x8x1, .f32⟩
  | 1 => ⟨S8192x8x64, .f32⟩
  | 2 => ⟨S8192x8x64, .f32⟩
  | 3 => ⟨S8192x8x1, .f32⟩
  | 4 => ⟨S_, .f32⟩
  | 5 => ⟨S8192x8x1, .f32⟩
  | 6 => ⟨S8192x8x1, .f32⟩
  | 7 => ⟨S_, .f32⟩
  | 8 => ⟨S8192x8, .f32⟩
  | 9 => ⟨S8192x8x64, .f32⟩
  | 10 => ⟨S8192x8x64, .f32⟩
  | 11 => ⟨S8192x8x64, .f32⟩
  | 12 => ⟨S8192x8x64, .f32⟩
  | 13 => ⟨S8192x8x64, .f32⟩
  | 14 => ⟨S8192x512, .f32⟩
  | 15 => ⟨S_, .f32⟩
  | 16 => ⟨S8192x8x64, .f32⟩
  | 17 => ⟨S8192x8x64, .f32⟩
  | 18 => ⟨S8192x8x64, .f32⟩
  | 19 => ⟨S_, .f32⟩
  | 20 => ⟨S64, .f32⟩
  | 21 => ⟨S1x1x64, .f32⟩
  | 22 => ⟨S8192x8x64, .f32⟩
  | 23 => ⟨S8192x8x64, .f32⟩
  | 24 => ⟨S_, .f32⟩
  | 25 => ⟨S64, .f32⟩
  | 26 => ⟨S1x64, .f32⟩
  | 27 => ⟨S8192x8x64, .f32⟩
  | 28 => ⟨S_, .f32⟩
  | 29 => ⟨S8192x8, .f32⟩
  | 30 => ⟨S8192x8x1, .f32⟩
  | 31 => ⟨S8192x8x64, .f32⟩
  | 32 => ⟨S8192x8x64, .f32⟩
  | 33 => ⟨S8192x8x1, .f32⟩
  | 34 => ⟨S_, .f32⟩
  | 35 => ⟨S8192x8x1, .f32⟩
  | 36 => ⟨S8192x8x1, .f32⟩
  | 37 => ⟨S_, .f32⟩
  | 38 => ⟨S8192x8, .f32⟩
  | 39 => ⟨S8192x8x64, .f32⟩
  | 40 => ⟨S8192x8x64, .f32⟩
  | 41 => ⟨S8192x8x64, .f32⟩
  | 42 => ⟨S8192x8x64, .f32⟩
  | 43 => ⟨S8192x8x64, .f32⟩
  | 44 => ⟨S8192x512, .f32⟩
  | 45 => ⟨S8192x1024, .f32⟩
  | 46 => ⟨S8192x1024, .bf16⟩
  | 47 => ⟨S8192x8, .bf16⟩
  | _ => ⟨S8192x5128, .f32⟩

abbrev hbmTy (i : Nat) : BufTy := match i / 128 with
  | 0 => hbmTy0_0 i
  | 1 => hbmTy0_1 i
  | _ => ⟨S8192x5128, .f32⟩

abbrev bufTy : (tb : Table) → Fin (tcTables nBuf tb) → BufTy
  | .hbm, ⟨i, _⟩ => hbmTy i
  | _, _ => ⟨S8192x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1_0 : Ref sig .tc := ⟨.hbm, 74, rfl⟩
abbrev main_call0_call0_cst_0 : Ref sig .tc := ⟨.hbm, 75, rfl⟩
abbrev main_call0_call0_v13 : Ref sig .tc := ⟨.hbm, 76, rfl⟩
abbrev main_call0_call0_v14 : Ref sig .tc := ⟨.hbm, 77, rfl⟩
abbrev main_call0_call0_cst_1 : Ref sig .tc := ⟨.hbm, 78, rfl⟩
abbrev main_call0_call0_v15 : Ref sig .tc := ⟨.hbm, 79, rfl⟩
abbrev main_call0_call0_v16 : Ref sig .tc := ⟨.hbm, 80, rfl⟩
abbrev main_call0_call0_cst_2 : Ref sig .tc := ⟨.hbm, 81, rfl⟩
abbrev main_call0_call0_v17 : Ref sig .tc := ⟨.hbm, 82, rfl⟩
abbrev main_call0_call0_v18 : Ref sig .tc := ⟨.hbm, 83, rfl⟩
abbrev main_call0_call0_cst_3 : Ref sig .tc := ⟨.hbm, 84, rfl⟩
abbrev main_call0_call0_v19 : Ref sig .tc := ⟨.hbm, 85, rfl⟩
abbrev main_call0_call0_v20 : Ref sig .tc := ⟨.hbm, 86, rfl⟩
abbrev main_call0_call0_v21 : Ref sig .tc := ⟨.hbm, 87, rfl⟩
abbrev main_v44_1 : Ref sig .tc := ⟨.hbm, 88, rfl⟩
abbrev main_call0_call0_cst_4 : Ref sig .tc := ⟨.hbm, 89, rfl⟩
abbrev main_call0_call0_cst_5 : Ref sig .tc := ⟨.hbm, 90, rfl⟩
abbrev main_call0_call0_v23 : Ref sig .tc := ⟨.hbm, 91, rfl⟩
abbrev main_call0_call0_cst_6 : Ref sig .tc := ⟨.hbm, 92, rfl⟩
abbrev main_call0_call0_cst_7 : Ref sig .tc := ⟨.hbm, 93, rfl⟩
abbrev main_call0_call0_v24 : Ref sig .tc := ⟨.hbm, 94, rfl⟩
abbrev main_call0_call0_cst_8 : Ref sig .tc := ⟨.hbm, 95, rfl⟩
abbrev main_call0_call0_v25 : Ref sig .tc := ⟨.hbm, 96, rfl⟩
abbrev main_call0_call0_v26 : Ref sig .tc := ⟨.hbm, 97, rfl⟩
abbrev main_call0_call0_cst_9 : Ref sig .tc := ⟨.hbm, 98, rfl⟩
abbrev main_call0_call0_v27 : Ref sig .tc := ⟨.hbm, 99, rfl⟩
abbrev main_call0_call0_v28 : Ref sig .tc := ⟨.hbm, 100, rfl⟩
abbrev main_call0_call0_v29 : Ref sig .tc := ⟨.hbm, 101, rfl⟩
abbrev main_call0_call0_v30 : Ref sig .tc := ⟨.hbm, 102, rfl⟩
abbrev main_call0_call0_v31 : Ref sig .tc := ⟨.hbm, 103, rfl⟩
abbrev main_call0_call0_cst_10 : Ref sig .tc := ⟨.hbm, 104, rfl⟩
abbrev main_call0_call0_v32 : Ref sig .tc := ⟨.hbm, 105, rfl⟩
abbrev main_v44_2 : Ref sig .tc := ⟨.hbm, 106, rfl⟩
abbrev main_v44_0 : Ref sig .tc := ⟨.hbm, 107, rfl⟩
abbrev main_call1_v0 : Ref sig .tc := ⟨.hbm, 108, rfl⟩
abbrev main_call1_v1 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_9 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_cst_10 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_cst_11 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_cst_12 : Ref sig .tc := ⟨.hbm, 132, rfl⟩
abbrev main_v63 : Ref sig .tc := ⟨.hbm, 133, rfl⟩
abbrev main_v64 : Ref sig .tc := ⟨.hbm, 134, rfl⟩
abbrev main_cst_13 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_14 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_15 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_cst_16 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_17 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_18 : Ref sig .tc := ⟨.hbm, 162, rfl⟩
abbrev main_v87 : Ref sig .tc := ⟨.hbm, 163, rfl⟩
abbrev main_v88 : Ref sig .tc := ⟨.hbm, 164, rfl⟩
abbrev main_cst_19 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩

abbrev nD : Nat := 1
abbrev τ : Topo := Topo.v7x

variable {F : FTy → Type} [FloatOps F]
-- ==== Fwd.lean ====
abbrev S8192x8x64 : Shape := ⟨3, ![8192, 8, 64]⟩
abbrev S8192x8 : Shape := ⟨2, ![8192, 8]⟩
abbrev S_ : Shape := ⟨0, ![]⟩
abbrev S8x8192 : Shape := ⟨2, ![8, 8192]⟩
abbrev S8x8192x1 : Shape := ⟨3, ![8, 8192, 1]⟩
abbrev S8x8192x3 : Shape := ⟨3, ![8, 8192, 3]⟩
abbrev S8x8192x64 : Shape := ⟨3, ![8, 8192, 64]⟩
abbrev S8x8192x70 : Shape := ⟨3, ![8, 8192, 70]⟩
abbrev S8x8192x128 : Shape := ⟨3, ![8, 8192, 128]⟩
abbrev S8x8192x73 : Shape := ⟨3, ![8, 8192, 73]⟩
abbrev S8x8192x67 : Shape := ⟨3, ![8, 8192, 67]⟩
abbrev S1x512x128 : Shape := ⟨3, ![1, 512, 128]⟩
abbrev S1x8192x128 : Shape := ⟨3, ![1, 8192, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 64
  | .vmem => 10
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S8x8192, .bf16⟩
  | .hbm, ⟨12, _⟩ => ⟨S8x8192, .f32⟩
  | .hbm, ⟨13, _⟩ => ⟨S8x8192, .f32⟩
  | .hbm, ⟨14, _⟩ => ⟨S8x8192, .bf16⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x3, .f32⟩
  | .hbm, ⟨21, _⟩ => ⟨S_, .f32⟩
  | .hbm, ⟨22, _⟩ => ⟨S8x8192x3, .f32⟩
  | .hbm, ⟨23, _⟩ => ⟨S8x8192x64, .f32⟩
  | .hbm, ⟨24, _⟩ => ⟨S_, .f32⟩
  | .hbm, ⟨25, _⟩ => ⟨S_, .f32⟩
  | .hbm, ⟨26, _⟩ => ⟨S8x8192x64, .f32⟩
  | .hbm, ⟨27, _⟩ => ⟨S8x8192x64, .f32⟩
  | .hbm, ⟨28, _⟩ => ⟨S8x8192x70, .f32⟩
  | .hbm, ⟨29, _⟩ => ⟨S_, .i32⟩
  | .hbm, ⟨30, _⟩ => ⟨S_, .f32⟩
  | .hbm, ⟨31, _⟩ => ⟨S8x8192x128, .f32⟩
  | .hbm, ⟨32, _⟩ => ⟨S8x8192x128, .bf16⟩
  | .hbm, ⟨33, _⟩ => ⟨S8x8192x64, .f32⟩
  | .hbm, ⟨34, _⟩ => ⟨S8x8192x3, .f32⟩
  | .hbm, ⟨35, _⟩ => ⟨S8x8192x73, .f32⟩
  | .hbm, ⟨36, _⟩ => ⟨S_, .i32⟩
  | .hbm, ⟨37, _⟩ => ⟨S_, .f32⟩
  | .hbm, ⟨38, _⟩ => ⟨S8x8192x128, .f32⟩
  | .hbm, ⟨39, _⟩ => ⟨S8x8192x128, .bf16⟩
  | .hbm, ⟨40, _⟩ => ⟨S8x8192x64, .f32⟩
  | .hbm, ⟨41, _⟩ => ⟨S8x8192x67, .f32⟩
  | .hbm, ⟨42, _⟩ => ⟨S_, .i32⟩
  | .hbm, ⟨43, _⟩ => ⟨S_, .f32⟩
  | .hbm, ⟨44, _⟩ => ⟨S8x8192x128, .f32⟩
  | .hbm, ⟨45, _⟩ => ⟨S8x8192x128, .bf16⟩
  | .hbm, ⟨46, _⟩ => ⟨S8x8192x128, .bf16⟩
  | .hbm, ⟨47, _⟩ => ⟨S8x8192x128, .bf16⟩
  | .hbm, ⟨48, _⟩ => ⟨S8x8192x1, .bf16⟩
  | .hbm, ⟨49, _⟩ => ⟨S8x8192, .bf16⟩
  | .hbm, ⟨50, _⟩ => ⟨S8x8192, .f32⟩
  | .hbm, ⟨51, _⟩ => ⟨S8x8192x1, .bf16⟩
  | .hbm, ⟨52, _⟩ => ⟨S8x8192, .bf16⟩
  | .hbm, ⟨53, _⟩ => ⟨S8x8192, .f32⟩
  | .hbm, ⟨54, _⟩ => ⟨S8x8192, .f32⟩
  | .hbm, ⟨55, _⟩ => ⟨S8x8192x1, .bf16⟩
  | .hbm, ⟨56, _⟩ => ⟨S8x8192, .bf16⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S8x8192, .f32⟩
  | .hbm, ⟨61, _⟩ => ⟨S8x8192, .f32⟩
  | .hbm, ⟨62, _⟩ => ⟨S8x8192x64, .bf16⟩
  | .hbm, ⟨63, _⟩ => ⟨S8192x8x64, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_10 : BitVec 32 := 1#32
  ⟨c0_i32_8, v26, c1_i32_10⟩
def k0_mult1 (i : grid0.Coords) (k0_t1 : Fin (k0_t1_loop i).trips) : BitVec 32 :=
  let c0_i32_55 : BitVec 32 := 0#32
  let c4_i32_54 : BitVec 32 := 4#32
  let c0_i32_8 : BitVec 32 := 0#32
  let c1_i32_10 : BitVec 32 := 1#32
  let arg7 : BitVec 32 := Scf.iv c0_i32_8 c1_i32_10 k0_t1
  let v154 : BitVec 32 := Scalar.muli c4_i32_54 arg7
  let v155 : BitVec 32 := Scalar.addi c0_i32_55 v154
  let c0_i32_56 : BitVec 32 := 0#32
  let v156 : BitVec 32 := Scalar.addi v155 c0_i32_56
  let c512_i32_57 : BitVec 32 := 512#32
  let v157 : BitVec 32 := Scalar.muli v156 c512_i32_57
  v157
def k0_off1 (i : grid0.Coords) (k0_t1 : Fin (k0_t1_loop i).trips) (c0_i32_56 : BitVec 32) : Fin 3 → Nat :=
  let c0_58 : Index := 0#32
  let c0_i32_55 : BitVec 32 := 0#32
  let c4_i32_54 : BitVec 32 := 4#32
  let c0_i32_8 : BitVec 32 := 0#32
  let c1_i32_10 : BitVec 32 := 1#32
  let arg7 : BitVec 32 := Scf.iv c0_i32_8 c1_i32_10 k0_t1
  let v154 : BitVec 32 := Scalar.muli c4_i32_54 arg7
  let v155 : BitVec 32 := Scalar.addi c0_i32_55 v154
  let v156 : BitVec 32 := Scalar.addi v155 c0_i32_56
  let c512_i32_57 : BitVec 32 := 512#32
  let v157 : BitVec 32 := Scalar.muli v156 c512_i32_57
  let v158 : BitVec 32 := v157
  let v159 : Index := Scalar.indexCast v158
  let c0_59 : Index := 0#32
  ![0, v159.toNat, 0]
def k0_mult2 (i : grid0.Coords) (k0_t1 : Fin (k0_t1_loop i).trips) : BitVec 32 :=
  let c0_i32_66 : BitVec 32 := 0#32
  let c4_i32_65 : BitVec 32 := 4#32
  let c0_i32_8 : BitVec 32 := 0#32
  let c1_i32_10 : BitVec 32 := 1#32
  let arg7 : BitVec 32 := Scf.iv c0_i32_8 c1_i32_10 k0_t1
  let v179 : BitVec 32 := Scalar.muli c4_i32_65 arg7
  let v180 : BitVec 32 := Scalar.addi c0_i32_66 v179
  let c1_i32_67 : BitVec 32 := 1#32
  let v181 : BitVec 32 := Scalar.addi v180 c1_i32_67
  let c512_i32_68 : BitVec 32 := 512#32
  let v182 : BitVec 32 := Scalar.muli v181 c512_i32_68
  v182
def k0_mult3 (i : grid0.Coords) (k0_t1 : Fin (k0_t1_loop i).trips) : BitVec 32 :=
  let c0_i32_77 : BitVec 32 := 0#32
  let c4_i32_76 : BitVec 32 := 4#32
  let c0_i32_8 : BitVec 32 := 0#32
  let c1_i32_10 : BitVec 32 := 1#32
  let arg7 : BitVec 32 := Scf.iv c0_i32_8 c1_i32_10 k0_t1
  let v204 : BitVec 32 := Scalar.muli c4_i32_76 arg7
  let v205 : BitVec 32 := Scalar.addi c0_i32_77 v204
  let c2_i32_78 : BitVec 32 := 2#32
  let v206 : BitVec 32 := Scalar.addi v205 c2_i32_78
  let c512_i32_79 : BitVec 32 := 512#32
  let v207 : BitVec 32 := Scalar.muli v206 c512_i32_79
  v207
def k0_mult4 (i : grid0.Coords) (k0_t1 : Fin (k0_t1_loop i).trips) : BitVec 32 :=
  let c0_i32_88 : BitVec 32 := 0#32
  let c4_i32_87 : BitVec 32 := 4#32
  let c0_i32_8 : BitVec 32 := 0#32
  let c1_i32_10 : BitVec 32 := 1#32
  let arg7 : BitVec 32 := Scf.iv c0_i32_8 c1_i32_10 k0_t1
  let v229 : BitVec 32 := Scalar.muli c4_i32_87 arg7
  let v230 : BitVec 32 := Scalar.addi c0_i32_88 v229
  let c3_i32 : BitVec 32 := 3#32
  let v231 : BitVec 32 := Scalar.addi v230 c3_i32
  let c512_i32_89 : BitVec 32 := 512#32
  let v232 : BitVec 32 := Scalar.muli v231 c512_i32_89
  v232
@[reducible] def k0_t2_loop (i : grid0.Coords) : Scf.Loop 32 :=
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let v23 : BitVec 32 := Scalar.addi c0_i32_8 v22
  let c1_i32_11 : BitVec 32 := 1#32
  ⟨v26, v23, c1_i32_11⟩
def k0_mult5 (i : grid0.Coords) (k0_t2 : Fin (k0_t2_loop i).trips) : BitVec 32 :=
  let c0_i32_55 : BitVec 32 := 0#32
  let c4_i32_54 : BitVec 32 := 4#32
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg7 : BitVec 32 := Scf.iv v26 c1_i32_11 k0_t2
  let v154 : BitVec 32 := Scalar.muli c4_i32_54 arg7
  let v155 : BitVec 32 := Scalar.addi c0_i32_55 v154
  let c0_i32_56 : BitVec 32 := 0#32
  let v156 : BitVec 32 := Scalar.addi v155 c0_i32_56
  let c512_i32_57 : BitVec 32 := 512#32
  let v157 : BitVec 32 := Scalar.muli v156 c512_i32_57
  v157
def k0_off2 (i : grid0.Coords) (k0_t2 : Fin (k0_t2_loop i).trips) (c0_i32_56 : BitVec 32) : Fin 3 → Nat :=
  let c0_58 : Index := 0#32
  let c0_i32_55 : BitVec 32 := 0#32
  let c4_i32_54 : BitVec 32 := 4#32
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg7 : BitVec 32 := Scf.iv v26 c1_i32_11 k0_t2
  let v154 : BitVec 32 := Scalar.muli c4_i32_54 arg7
  let v155 : BitVec 32 := Scalar.addi c0_i32_55 v154
  let v156 : BitVec 32 := Scalar.addi v155 c0_i32_56
  let c512_i32_57 : BitVec 32 := 512#32
  let v157 : BitVec 32 := Scalar.muli v156 c512_i32_57
  let v158 : BitVec 32 := v157
  let v159 : Index := Scalar.indexCast v158
  let c0_59 : Index := 0#32
  ![0, v159.toNat, 0]
def k0_mult6 (i : grid0.Coords) (k0_t2 : Fin (k0_t2_loop i).trips) : BitVec 32 :=
  let c0_i32_66 : BitVec 32 := 0#32
  let c4_i32_65 : BitVec 32 := 4#32
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg7 : BitVec 32 := Scf.iv v26 c1_i32_11 k0_t2
  let v179 : BitVec 32 := Scalar.muli c4_i32_65 arg7
  let v180 : BitVec 32 := Scalar.addi c0_i32_66 v179
  let c1_i32_67 : BitVec 32 := 1#32
  let v181 : BitVec 32 := Scalar.addi v180 c1_i32_67
  let c512_i32_68 : BitVec 32 := 512#32
  let v182 : BitVec 32 := Scalar.muli v181 c512_i32_68
  v182
def k0_mult7 (i : grid0.Coords) (k0_t2 : Fin (k0_t2_loop i).trips) : BitVec 32 :=
  let c0_i32_77 : BitVec 32 := 0#32
  let c4_i32_76 : BitVec 32 := 4#32
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg7 : BitVec 32 := Scf.iv v26 c1_i32_11 k0_t2
  let v204 : BitVec 32 := Scalar.muli c4_i32_76 arg7
  let v205 : BitVec 32 := Scalar.addi c0_i32_77 v204
  let c2_i32_78 : BitVec 32 := 2#32
  let v206 : BitVec 32 := Scalar.addi v205 c2_i32_78
  let c512_i32_79 : BitVec 32 := 512#32
  let v207 : BitVec 32 := Scalar.muli v206 c512_i32_79
  v207
def k0_mult8 (i : grid0.Coords) (k0_t2 : Fin (k0_t2_loop i).trips) : BitVec 32 :=
  let c0_i32_88 : BitVec 32 := 0#32
  let c4_i32_87 : BitVec 32 := 4#32
  let c0_i32_8 : BitVec 32 := 0#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg7 : BitVec 32 := Scf.iv v26 c1_i32_11 k0_t2
  let v229 : BitVec 32 := Scalar.muli c4_i32_87 arg7
  let v230 : BitVec 32 := Scalar.addi c0_i32_88 v229
  let c3_i32 : BitVec 32 := 3#32
  let v231 : BitVec 32 := Scalar.addi v230 c3_i32
  let c512_i32_89 : BitVec 32 := 512#32
  let v232 : BitVec 32 := Scalar.muli v231 c512_i32_89
  v232
@[reducible] def k0_t3_loop (i : grid0.Coords) : Scf.Loop 32 :=
  let c0_i32_20 : BitVec 32 := 0#32
  let arg1 : BitVec 32 := BitVec.ofNat 32 (i 1).val
  let c0_i32_13 : BitVec 32 := 0#32
  let c4_i32_12 : BitVec 32 := 4#32
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_22 : BitVec 32 := 1#32
  ⟨c0_i32_20, v53, c1_i32_22⟩
def k0_mult9 (i : grid0.Coords) (k0_t3 : Fin (k0_t3_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_54 : BitVec 32 := 2#32
  let c0_i32_20 : BitVec 32 := 0#32
  let c1_i32_22 : BitVec 32 := 1#32
  let arg7 : BitVec 32 := Scf.iv c0_i32_20 c1_i32_22 k0_t3
  let v154 : BitVec 32 := Scalar.muli c2_i32_54 arg7
  let v155 : BitVec 32 := Scalar.addi v30 v154
  let c0_i32_55 : BitVec 32 := 0#32
  let v156 : BitVec 32 := Scalar.addi v155 c0_i32_55
  let c512_i32_56 : BitVec 32 := 512#32
  let v157 : BitVec 32 := Scalar.muli v156 c512_i32_56
  v157
def k0_off3 (i : grid0.Coords) (k0_t3 : Fin (k0_t3_loop i).trips) (c0_i32_55 : BitVec 32) : Fin 3 → Nat :=
  let c0_57 : Index := 0#32
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_54 : BitVec 32 := 2#32
  let c0_i32_20 : BitVec 32 := 0#32
  let c1_i32_22 : BitVec 32 := 1#32
  let arg7 : BitVec 32 := Scf.iv c0_i32_20 c1_i32_22 k0_t3
  let v154 : BitVec 32 := Scalar.muli c2_i32_54 arg7
  let v155 : BitVec 32 := Scalar.addi v30 v154
  let v156 : BitVec 32 := Scalar.addi v155 c0_i32_55
  let c512_i32_56 : BitVec 32 := 512#32
  let v157 : BitVec 32 := Scalar.muli v156 c512_i32_56
  let v158 : BitVec 32 := v157
  let v159 : Index := Scalar.indexCast v158
  let c0_58 : Index := 0#32
  ![0, v159.toNat, 0]
def k0_mult10 (i : grid0.Coords) (k0_t3 : Fin (k0_t3_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_64 : BitVec 32 := 2#32
  let c0_i32_20 : BitVec 32 := 0#32
  let c1_i32_22 : BitVec 32 := 1#32
  let arg7 : BitVec 32 := Scf.iv c0_i32_20 c1_i32_22 k0_t3
  let v179 : BitVec 32 := Scalar.muli c2_i32_64 arg7
  let v180 : BitVec 32 := Scalar.addi v30 v179
  let c1_i32_65 : BitVec 32 := 1#32
  let v181 : BitVec 32 := Scalar.addi v180 c1_i32_65
  let c512_i32_66 : BitVec 32 := 512#32
  let v182 : BitVec 32 := Scalar.muli v181 c512_i32_66
  v182
@[reducible] def k0_t4_loop (i : grid0.Coords) : Scf.Loop 32 :=
  let c0_i32_20 : BitVec 32 := 0#32
  let arg1 : BitVec 32 := BitVec.ofNat 32 (i 1).val
  let c0_i32_13 : BitVec 32 := 0#32
  let c4_i32_12 : BitVec 32 := 4#32
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let v50 : BitVec 32 := Scalar.addi c0_i32_20 v49
  let c1_i32_23 : BitVec 32 := 1#32
  ⟨v53, v50, c1_i32_23⟩
def k0_mult11 (i : grid0.Coords) (k0_t4 : Fin (k0_t4_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_54 : BitVec 32 := 2#32
  let c0_i32_20 : BitVec 32 := 0#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg7 : BitVec 32 := Scf.iv v53 c1_i32_23 k0_t4
  let v154 : BitVec 32 := Scalar.muli c2_i32_54 arg7
  let v155 : BitVec 32 := Scalar.addi v30 v154
  let c0_i32_55 : BitVec 32 := 0#32
  let v156 : BitVec 32 := Scalar.addi v155 c0_i32_55
  let c512_i32_56 : BitVec 32 := 512#32
  let v157 : BitVec 32 := Scalar.muli v156 c512_i32_56
  v157
def k0_off4 (i : grid0.Coords) (k0_t4 : Fin (k0_t4_loop i).trips) (c0_i32_55 : BitVec 32) : Fin 3 → Nat :=
  let c0_57 : Index := 0#32
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_54 : BitVec 32 := 2#32
  let c0_i32_20 : BitVec 32 := 0#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg7 : BitVec 32 := Scf.iv v53 c1_i32_23 k0_t4
  let v154 : BitVec 32 := Scalar.muli c2_i32_54 arg7
  let v155 : BitVec 32 := Scalar.addi v30 v154
  let v156 : BitVec 32 := Scalar.addi v155 c0_i32_55
  let c512_i32_56 : BitVec 32 := 512#32
  let v157 : BitVec 32 := Scalar.muli v156 c512_i32_56
  let v158 : BitVec 32 := v157
  let v159 : Index := Scalar.indexCast v158
  let c0_58 : Index := 0#32
  ![0, v159.toNat, 0]
def k0_mult12 (i : grid0.Coords) (k0_t4 : Fin (k0_t4_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_64 : BitVec 32 := 2#32
  let c0_i32_20 : BitVec 32 := 0#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg7 : BitVec 32 := Scf.iv v53 c1_i32_23 k0_t4
  let v179 : BitVec 32 := Scalar.muli c2_i32_64 arg7
  let v180 : BitVec 32 := Scalar.addi v30 v179
  let c1_i32_65 : BitVec 32 := 1#32
  let v181 : BitVec 32 := Scalar.addi v180 c1_i32_65
  let c512_i32_66 : BitVec 32 := 512#32
  let v182 : BitVec 32 := Scalar.muli v181 c512_i32_66
  v182
@[reducible] def k0_t5_loop (i : grid0.Coords) : Scf.Loop 32 :=
  let c0_i32_32 : BitVec 32 := 0#32
  let arg1 : BitVec 32 := BitVec.ofNat 32 (i 1).val
  let c0_i32_13 : BitVec 32 := 0#32
  let c4_i32_12 : BitVec 32 := 4#32
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let v58 : BitVec 32 := Scalar.subi arg1 v57
  let c0_i32_26 : BitVec 32 := 0#32
  let v60 : BitVec 1 := Scalar.cmpi .sgt v58 c0_i32_26
  let v61 : BitVec 32 := Scalar.extui v60
  let c0_i32_27 : BitVec 32 := 0#32
  let v62 : BitVec 1 := Scalar.cmpi .slt v58 c0_i32_27
  let v63 : BitVec 32 := Scalar.extui v62
  let v64 : BitVec 32 := Scalar.subi v61 v63
  let c1_i32_25 : BitVec 32 := 1#32
  let c0_i32_28 : BitVec 32 := 0#32
  let v65 : BitVec 1 := Scalar.cmpi .sgt c1_i32_25 c0_i32_28
  let v66 : BitVec 32 := Scalar.extui v65
  let c0_i32_29 : BitVec 32 := 0#32
  let v67 : BitVec 1 := Scalar.cmpi .slt c1_i32_25 c0_i32_29
  let v68 : BitVec 32 := Scalar.extui v67
  let v69 : BitVec 32 := Scalar.subi v66 v68
  let v70 : BitVec 1 := Scalar.cmpi .ne v64 v69
  let v71 : BitVec 32 := Scalar.remsi v58 c1_i32_25
  let c0_i32_30 : BitVec 32 := 0#32
  let v72 : BitVec 1 := Scalar.cmpi .ne v71 c0_i32_30
  let v73 : BitVec 1 := Scalar.andi v70 v72
  let v59 : BitVec 32 := Scalar.divsi v58 c1_i32_25
  let c1_i32_31 : BitVec 32 := 1#32
  let v74 : BitVec 32 := Scalar.subi v59 c1_i32_31
  let v75 : BitVec 32 := Scalar.select v73 v74 v59
  let v76 : BitVec 32 := Scalar.subi v75 c0_i32_32
  let c1_i32_33 : BitVec 32 := 1#32
  let v78 : BitVec 32 := Scalar.divsi v76 c1_i32_33
  let v79 : BitVec 32 := Scalar.muli v78 c1_i32_33
  let v80 : BitVec 32 := Scalar.addi c0_i32_32 v79
  let c1_i32_34 : BitVec 32 := 1#32
  ⟨c0_i32_32, v80, c1_i32_34⟩
def k0_mult13 (i : grid0.Coords) (k0_t5 : Fin (k0_t5_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let c1_i32_54 : BitVec 32 := 1#32
  let c0_i32_32 : BitVec 32 := 0#32
  let c1_i32_34 : BitVec 32 := 1#32
  let arg7 : BitVec 32 := Scf.iv c0_i32_32 c1_i32_34 k0_t5
  let v154 : BitVec 32 := Scalar.muli c1_i32_54 arg7
  let v155 : BitVec 32 := Scalar.addi v57 v154
  let c0_i32_55 : BitVec 32 := 0#32
  let v156 : BitVec 32 := Scalar.addi v155 c0_i32_55
  let c512_i32_56 : BitVec 32 := 512#32
  let v157 : BitVec 32 := Scalar.muli v156 c512_i32_56
  v157
def k0_off5 (i : grid0.Coords) (k0_t5 : Fin (k0_t5_loop i).trips) : Fin 3 → Nat :=
  let c0_57 : Index := 0#32
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let c1_i32_54 : BitVec 32 := 1#32
  let c0_i32_32 : BitVec 32 := 0#32
  let c1_i32_34 : BitVec 32 := 1#32
  let arg7 : BitVec 32 := Scf.iv c0_i32_32 c1_i32_34 k0_t5
  let v154 : BitVec 32 := Scalar.muli c1_i32_54 arg7
  let v155 : BitVec 32 := Scalar.addi v57 v154
  let c0_i32_55 : BitVec 32 := 0#32
  let v156 : BitVec 32 := Scalar.addi v155 c0_i32_55
  let c512_i32_56 : BitVec 32 := 512#32
  let v157 : BitVec 32 := Scalar.muli v156 c512_i32_56
  let v158 : BitVec 32 := v157
  let v159 : Index := Scalar.indexCast v158
  let c0_58 : Index := 0#32
  ![0, v159.toNat, 0]
@[reducible] def k0_t6_loop (i : grid0.Coords) : Scf.Loop 32 :=
  let c0_i32_32 : BitVec 32 := 0#32
  let arg1 : BitVec 32 := BitVec.ofNat 32 (i 1).val
  let c0_i32_13 : BitVec 32 := 0#32
  let c4_i32_12 : BitVec 32 := 4#32
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let v58 : BitVec 32 := Scalar.subi arg1 v57
  let c0_i32_26 : BitVec 32 := 0#32
  let v60 : BitVec 1 := Scalar.cmpi .sgt v58 c0_i32_26
  let v61 : BitVec 32 := Scalar.extui v60
  let c0_i32_27 : BitVec 32 := 0#32
  let v62 : BitVec 1 := Scalar.cmpi .slt v58 c0_i32_27
  let v63 : BitVec 32 := Scalar.extui v62
  let v64 : BitVec 32 := Scalar.subi v61 v63
  let c1_i32_25 : BitVec 32 := 1#32
  let c0_i32_28 : BitVec 32 := 0#32
  let v65 : BitVec 1 := Scalar.cmpi .sgt c1_i32_25 c0_i32_28
  let v66 : BitVec 32 := Scalar.extui v65
  let c0_i32_29 : BitVec 32 := 0#32
  let v67 : BitVec 1 := Scalar.cmpi .slt c1_i32_25 c0_i32_29
  let v68 : BitVec 32 := Scalar.extui v67
  let v69 : BitVec 32 := Scalar.subi v66 v68
  let v70 : BitVec 1 := Scalar.cmpi .ne v64 v69
  let v71 : BitVec 32 := Scalar.remsi v58 c1_i32_25
  let c0_i32_30 : BitVec 32 := 0#32
  let v72 : BitVec 1 := Scalar.cmpi .ne v71 c0_i32_30
  let v73 : BitVec 1 := Scalar.andi v70 v72
  let v59 : BitVec 32 := Scalar.divsi v58 c1_i32_25
  let c1_i32_31 : BitVec 32 := 1#32
  let v74 : BitVec 32 := Scalar.subi v59 c1_i32_31
  let v75 : BitVec 32 := Scalar.select v73 v74 v59
  let v76 : BitVec 32 := Scalar.subi v75 c0_i32_32
  let c1_i32_33 : BitVec 32 := 1#32
  let v78 : BitVec 32 := Scalar.divsi v76 c1_i32_33
  let v79 : BitVec 32 := Scalar.muli v78 c1_i32_33
  let v80 : BitVec 32 := Scalar.addi c0_i32_32 v79
  let v77 : BitVec 32 := Scalar.addi c0_i32_32 v76
  let c1_i32_35 : BitVec 32 := 1#32
  ⟨v80, v77, c1_i32_35⟩
def k0_mult14 (i : grid0.Coords) (k0_t6 : Fin (k0_t6_loop i).trips) : BitVec 32 :=
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let c1_i32_54 : BitVec 32 := 1#32
  let c0_i32_32 : BitVec 32 := 0#32
  let v58 : BitVec 32 := Scalar.subi arg1 v57
  let c0_i32_26 : BitVec 32 := 0#32
  let v60 : BitVec 1 := Scalar.cmpi .sgt v58 c0_i32_26
  let v61 : BitVec 32 := Scalar.extui v60
  let c0_i32_27 : BitVec 32 := 0#32
  let v62 : BitVec 1 := Scalar.cmpi .slt v58 c0_i32_27
  let v63 : BitVec 32 := Scalar.extui v62
  let v64 : BitVec 32 := Scalar.subi v61 v63
  let c1_i32_25 : BitVec 32 := 1#32
  let c0_i32_28 : BitVec 32 := 0#32
  let v65 : BitVec 1 := Scalar.cmpi .sgt c1_i32_25 c0_i32_28
  let v66 : BitVec 32 := Scalar.extui v65
  let c0_i32_29 : BitVec 32 := 0#32
  let v67 : BitVec 1 := Scalar.cmpi .slt c1_i32_25 c0_i32_29
  let v68 : BitVec 32 := Scalar.extui v67
  let v69 : BitVec 32 := Scalar.subi v66 v68
  let v70 : BitVec 1 := Scalar.cmpi .ne v64 v69
  let v71 : BitVec 32 := Scalar.remsi v58 c1_i32_25
  let c0_i32_30 : BitVec 32 := 0#32
  let v72 : BitVec 1 := Scalar.cmpi .ne v71 c0_i32_30
  let v73 : BitVec 1 := Scalar.andi v70 v72
  let v59 : BitVec 32 := Scalar.divsi v58 c1_i32_25
  let c1_i32_31 : BitVec 32 := 1#32
  let v74 : BitVec 32 := Scalar.subi v59 c1_i32_31
  let v75 : BitVec 32 := Scalar.select v73 v74 v59
  let v76 : BitVec 32 := Scalar.subi v75 c0_i32_32
  let c1_i32_33 : BitVec 32 := 1#32
  let v78 : BitVec 32 := Scalar.divsi v76 c1_i32_33
  let v79 : BitVec 32 := Scalar.muli v78 c1_i32_33
  let v80 : BitVec 32 := Scalar.addi c0_i32_32 v79
  let c1_i32_35 : BitVec 32 := 1#32
  let arg7 : BitVec 32 := Scf.iv v80 c1_i32_35 k0_t6
  let v154 : BitVec 32 := Scalar.muli c1_i32_54 arg7
  let v155 : BitVec 32 := Scalar.addi v57 v154
  let c0_i32_55 : BitVec 32 := 0#32
  let v156 : BitVec 32 := Scalar.addi v155 c0_i32_55
  let c512_i32_56 : BitVec 32 := 512#32
  let v157 : BitVec 32 := Scalar.muli v156 c512_i32_56
  v157
def k0_off6 (i : grid0.Coords) (k0_t6 : Fin (k0_t6_loop i).trips) : Fin 3 → Nat :=
  let c0_57 : Index := 0#32
  let c0_i32_13 : BitVec 32 := 0#32
  let c4_i32_12 : BitVec 32 := 4#32
  let arg1 : BitVec 32 := BitVec.ofNat 32 (i 1).val
  let c0_i32 : BitVec 32 := 0#32
  let v4 : BitVec 32 := Scalar.subi arg1 c0_i32
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c4_i32 : BitVec 32 := 4#32
  let c0_i32_5 : BitVec 32 := 0#32
  let v11 : BitVec 1 := Scalar.cmpi .sgt c4_i32 c0_i32_5
  let v12 : BitVec 32 := Scalar.extui v11
  let c0_i32_6 : BitVec 32 := 0#32
  let v13 : BitVec 1 := Scalar.cmpi .slt c4_i32 c0_i32_6
  let v14 : BitVec 32 := Scalar.extui v13
  let v15 : BitVec 32 := Scalar.subi v12 v14
  let v16 : BitVec 1 := Scalar.cmpi .ne v10 v15
  let v17 : BitVec 32 := Scalar.remsi v4 c4_i32
  let c0_i32_7 : BitVec 32 := 0#32
  let v18 : BitVec 1 := Scalar.cmpi .ne v17 c0_i32_7
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let v29 : BitVec 32 := Scalar.muli c4_i32_12 v21
  let v30 : BitVec 32 := Scalar.addi c0_i32_13 v29
  let c2_i32_24 : BitVec 32 := 2#32
  let v31 : BitVec 32 := Scalar.subi arg1 v30
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c2_i32 : BitVec 32 := 2#32
  let c0_i32_16 : BitVec 32 := 0#32
  let v38 : BitVec 1 := Scalar.cmpi .sgt c2_i32 c0_i32_16
  let v39 : BitVec 32 := Scalar.extui v38
  let c0_i32_17 : BitVec 32 := 0#32
  let v40 : BitVec 1 := Scalar.cmpi .slt c2_i32 c0_i32_17
  let v41 : BitVec 32 := Scalar.extui v40
  let v42 : BitVec 32 := Scalar.subi v39 v41
  let v43 : BitVec 1 := Scalar.cmpi .ne v37 v42
  let v44 : BitVec 32 := Scalar.remsi v31 c2_i32
  let c0_i32_18 : BitVec 32 := 0#32
  let v45 : BitVec 1 := Scalar.cmpi .ne v44 c0_i32_18
  let v46 : BitVec 1 := Scalar.andi v43 v45
  let v32 : BitVec 32 := Scalar.divsi v31 c2_i32
  let c1_i32_19 : BitVec 32 := 1#32
  let v47 : BitVec 32 := Scalar.subi v32 c1_i32_19
  let v48 : BitVec 32 := Scalar.select v46 v47 v32
  let v56 : BitVec 32 := Scalar.muli c2_i32_24 v48
  let v57 : BitVec 32 := Scalar.addi v30 v56
  let c1_i32_54 : BitVec 32 := 1#32
  let c0_i32_32 : BitVec 32 := 0#32
  let v58 : BitVec 32 := Scalar.subi arg1 v57
  let c0_i32_26 : BitVec 32 := 0#32
  let v60 : BitVec 1 := Scalar.cmpi .sgt v58 c0_i32_26
  let v61 : BitVec 32 := Scalar.extui v60
  let c0_i32_27 : BitVec 32 := 0#32
  let v62 : BitVec 1 := Scalar.cmpi .slt v58 c0_i32_27
  let v63 : BitVec 32 := Scalar.extui v62
  let v64 : BitVec 32 := Scalar.subi v61 v63
  let c1_i32_25 : BitVec 32 := 1#32
  let c0_i32_28 : BitVec 32 := 0#32
  let v65 : BitVec 1 := Scalar.cmpi .sgt c1_i32_25 c0_i32_28
  let v66 : BitVec 32 := Scalar.extui v65
  let c0_i32_29 : BitVec 32 := 0#32
  let v67 : BitVec 1 := Scalar.cmpi .slt c1_i32_25 c0_i32_29
  let v68 : BitVec 32 := Scalar.extui v67
  let v69 : BitVec 32 := Scalar.subi v66 v68
  let v70 : BitVec 1 := Scalar.cmpi .ne v64 v69
  let v71 : BitVec 32 := Scalar.remsi v58 c1_i32_25
  let c0_i32_30 : BitVec 32 := 0#32
  let v72 : BitVec 1 := Scalar.cmpi .ne v71 c0_i32_30
  let v73 : BitVec 1 := Scalar.andi v70 v72
  let v59 : BitVec 32 := Scalar.divsi v58 c1_i32_25
  let c1_i32_31 : BitVec 32 := 1#32
  let v74 : BitVec 32 := Scalar.subi v59 c1_i32_31
  let v75 : BitVec 32 := Scalar.select v73 v74 v59
  let v76 : BitVec 32 := Scalar.subi v75 c0_i32_32
  let c1_i32_33 : BitVec 32 := 1#32
  let v78 : BitVec 32 := Scalar.divsi v76 c1_i32_33
  let v79 : BitVec 32 := Scalar.muli v78 c1_i32_33
  let v80 : BitVec 32 := Scalar.addi c0_i32_32 v79
  let c1_i32_35 : BitVec 32 := 1#32
  let arg7 : BitVec 32 := Scf.iv v80 c1_i32_35 k0_t6
  let v154 : BitVec 32 := Scalar.muli c1_i32_54 arg7
  let v155 : BitVec 32 := Scalar.addi v57 v154
  let c0_i32_55 : BitVec 32 := 0#32
  let v156 : BitVec 32 := Scalar.addi v155 c0_i32_55
  let c512_i32_56 : BitVec 32 := 512#32
  let v157 : BitVec 32 := Scalar.muli v156 c512_i32_56
  let v158 : BitVec 32 := v157
  let v159 : Index := Scalar.indexCast v158
  let c0_58 : Index := 0#32
  ![0, v159.toNat, 0]
def k0_mult15 (i : grid0.Coords) : BitVec 32 :=
  let arg1 : BitVec 32 := BitVec.ofNat 32 (i 1).val
  let c512_i32 : BitVec 32 := 512#32
  let v83 : BitVec 32 := Scalar.muli arg1 c512_i32
  v83
def k0_off7 (i : grid0.Coords) : Fin 3 → Nat :=
  let c0_36 : Index := 0#32
  let arg1 : BitVec 32 := BitVec.ofNat 32 (i 1).val
  let c512_i32 : BitVec 32 := 512#32
  let v83 : BitVec 32 := Scalar.muli arg1 c512_i32
  let v84 : BitVec 32 := v83
  let v85 : Index := Scalar.indexCast v84
  let c0_37 : Index := 0#32
  ![0, v85.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | "mask" => some ⊥
  | _ => none
-- ==== FwdRefIdeal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8x8192, .f32⟩
  | .hbm, ⟨9, _⟩ => ⟨S8x8192x1, .f32⟩
  | .hbm, ⟨10, _⟩ => ⟨S8x8192, .f32⟩
  | .hbm, ⟨11, _⟩ => ⟨S8x1x8192, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x64x8192, .f32⟩
  | .hbm, ⟨42, _⟩ => ⟨S8192x8x64, .f32⟩
  | .hbm, ⟨43, _⟩ => ⟨S_, .f32⟩
  | .hbm, ⟨44, _⟩ => ⟨S8x8192, .f32⟩
  | .hbm, ⟨45, _⟩ => ⟨S8192x8x64, .bf16⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192, .f32⟩
  | .hbm, ⟨53, _⟩ => ⟨S8x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Do.lean ====
abbrev S8192x512 : Shape := ⟨2, ![8192, 512]⟩
abbrev S512x1024 : Shape := ⟨2, ![512, 1024]⟩
abbrev S8192x1024 : Shape := ⟨2, ![8192, 1024]⟩
abbrev S8192x8x64 : Shape := ⟨3, ![8192, 8, 64]⟩
abbrev S8x8192x64 : Shape := ⟨3, ![8, 8192, 64]⟩
abbrev S_ : Shape := ⟨0, ![]⟩
abbrev S8x8192x128 : Shape := ⟨3, ![8, 8192, 128]⟩
abbrev S8x64x1024 : Shape := ⟨3, ![8, 64, 1024]⟩
abbrev S8x128x1024 : Shape := ⟨3, ![8, 128, 1024]⟩
abbrev S1024x1024 : Shape := ⟨2, ![1024, 1024]⟩
abbrev S8x512x128 : Shape := ⟨3, ![8, 512, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S8x8192x1 : Shape := ⟨3, ![8, 8192, 1]⟩
abbrev S8x8192 : Shape := ⟨2, ![8, 8192]⟩
abbrev S8192x8 : Shape := ⟨2, ![8192, 8]⟩

abbrev nBuf : Space → Nat
  | .hbm => 33
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x8x64, .f32⟩
  | .hbm, ⟨4, _⟩ => ⟨S8x8192x64, .f32⟩
  | .hbm, ⟨5, _⟩ => ⟨S_, .i32⟩
  | .hbm, ⟨6, _⟩ => ⟨S_, .f32⟩
  | .hbm, ⟨7, _⟩ => ⟨S8x8192x128, .f32⟩
  | .hbm, ⟨8, _⟩ => ⟨S8x8192x128, .bf16⟩
  | .hbm, ⟨9, _⟩ => ⟨S8192x1024, .bf16⟩
  | .hbm, ⟨10, _⟩ => ⟨S512x1024, .bf16⟩
  | .hbm, ⟨11, _⟩ => ⟨S8x64x1024, .bf16⟩
  | .hbm, ⟨12, _⟩ => ⟨S_, .i32⟩
  | .hbm, ⟨13, _⟩ => ⟨S_, .bf16⟩
  | .hbm, ⟨14, _⟩ => ⟨S8x128x1024, .bf16⟩
  | .hbm, ⟨15, _⟩ => ⟨S1024x1024, .bf16⟩
  | .hbm, ⟨16, _⟩ => ⟨S8x8192x128, .bf16⟩
  | .hbm, ⟨17, _⟩ => ⟨S8x8192x64, .bf16⟩
  | .hbm, ⟨18, _⟩ => ⟨S8192x8x64, .bf16⟩
  | .hbm, ⟨19, _⟩ => ⟨S8192x512, .bf16⟩
  | .hbm, ⟨20, _⟩ => ⟨S8x8192x1, .bf16⟩
  | .hbm, ⟨21, _⟩ => ⟨S8x8192, .bf16⟩
  | .hbm, ⟨22, _⟩ => ⟨S8x8192, .f32⟩
  | .hbm, ⟨23, _⟩ => ⟨S8x8192x1, .bf16⟩
  | .hbm, ⟨24, _⟩ => ⟨S8x8192, .bf16⟩
  | .hbm, ⟨25, _⟩ => ⟨S8x8192, .f32⟩
  | .hbm, ⟨26, _⟩ => ⟨S8x8192x1, .bf16⟩
  | .hbm, ⟨27, _⟩ => ⟨S8x8192, .bf16⟩
  | .hbm, ⟨28, _⟩ => ⟨S8x8192, .f32⟩
  | .hbm, ⟨29, _⟩ => ⟨S8x8192, .f32⟩
  | .hbm, ⟨30, _⟩ => ⟨S8x8192, .f32⟩
  | .hbm, ⟨31, _⟩ => ⟨S8192x8, .f32⟩
  | .hbm, ⟨32, _⟩ => ⟨S8192x8, .f32⟩
  | .local _ .vmem, ⟨0, _⟩ => ⟨S512x1024, .bf16⟩
  | .local _ .vmem, ⟨1, _⟩ => ⟨S512x1024, .bf16⟩
  | .local _ .vmem, ⟨2, _⟩ => ⟨S8x512x128, .bf16⟩
  | .local _ .vmem, ⟨3, _⟩ => ⟨S8x512x128, .bf16⟩
  | .local _ .vmem, ⟨4, _⟩ => ⟨S1024x1024, .bf16⟩
  | .local _ .vmem, ⟨5, _⟩ => ⟨S8x512x128, .bf16⟩
  | .local _ .vmem, ⟨6, _⟩ => ⟨S8x512x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DoRefIdeal.lean ====
abbrev S8192x512 : Shape := ⟨2, ![8192, 512]⟩
abbrev S512x1024 : Shape := ⟨2, ![512, 1024]⟩
abbrev S8192x1024 : Shape := ⟨2, ![8192, 1024]⟩
abbrev S8192x8x64 : Shape := ⟨3, ![8192, 8, 64]⟩
abbrev S_ : Shape := ⟨0, ![]⟩
abbrev S8192x8 : Shape := ⟨2, ![8192, 8]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S_, .f32⟩
  | .hbm, ⟨9, _⟩ => ⟨S8192x8, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.AttnReal.lean ====
/- Causal attention with a forget-gate decay over the reals: its weights, the gradient of its logits, and what both
   programs' sums come to. Nothing here is of a program. -/
module

public import Idealize.ShloMosaic.PureOps.Ideal
public import Idealize.ShloMosaic.PureOps.Ideal.Laws
public import Idealize.ShloMosaic.Lib.IdealHost

@[expose] public section

noncomputable section

namespace Cert.Proof.Attn

open Idealize.ShloMosaic

/-- A finite sum of reals, taken in the extended reals. -/
theorem sum_coe {ι : Type} (s : Finset ι) (x : ι → ℝ) : ∑ i ∈ s, ((x i : ℝ) : EReal) = ((∑ i ∈ s, x i : ℝ) : EReal) := by
  classical
  induction s using Finset.induction_on with
  | empty => simp
  | insert a s ha ih => rw [Finset.sum_insert ha, Finset.sum_insert ha, ih, EReal.coe_add]

/-- The quotient of two reals, the divisor not zero. -/
theorem div_real {y : ℝ} (h : y ≠ 0) (x : ℝ) : Ideal.div (x : EReal) (y : EReal) = ((x / y : ℝ) : EReal) := by
  rw [Ideal.div_coe h, ← EReal.coe_mul]; congr 1; ring

/-- A real function of three coordinates, at an index. -/
def on3 {a b c : ℕ} (x : Fin a → Fin b → Fin c → ℝ) (i : (⟨3, ![a, b, c]⟩ : Shape).Idx) : ℝ := x (i 0) (i 1) (i 2)

/-- A real function of two coordinates, at an index. -/
def on2 {a b : ℕ} (x : Fin a → Fin b → ℝ) (i : (⟨2, ![a, b]⟩ : Shape).Idx) : ℝ := x (i 0) (i 1)

/-- The arguments of an attention's gradient, all finite: queries, keys, values, the cotangent, the decay's running
    sum, and the number every row's logits are shifted by. -/
structure Data where
  q : Fin 8192 → Fin 8 → Fin 64 → ℝ
  k : Fin 8192 → Fin 8 → Fin 64 → ℝ
  v : Fin 8192 → Fin 8 → Fin 64 → ℝ
  g : Fin 8192 → Fin 8 → Fin 64 → ℝ
  f : Fin 8192 → Fin 8 → ℝ
  top : Fin 8 → Fin 8192 → ℝ

namespace Data

variable (D : Data)

/-- The logit of query `t` and key `s`. -/
def score (h : Fin 8) (t s : Fin 8192) : ℝ := (∑ d, D.q t h d * D.k s h d) * (1 / 8) + (D.f t h - D.f s h)

/-- The exponential of the shifted logit, zero where the key comes after the query. -/
def weight (h : Fin 8) (t s : Fin 8192) : ℝ := if s ≤ t then Real.exp (D.score h t s - D.top h t) else 0

/-- A row's sum of weights. -/
def mass (h : Fin 8) (t : Fin 8192) : ℝ := ∑ s, D.weight h t s

theorem weight_of {h : Fin 8} {t s : Fin 8192} (hs : s ≤ t) : D.weight h t s = Real.exp (D.score h t s - D.top h t) :=
  if_pos hs

theorem weight_zero {h : Fin 8} {t s : Fin 8192} (hs : ¬ s ≤ t) : D.weight h t s = 0 := if_neg hs

theorem weight_nonneg (h : Fin 8) (t s : Fin 8192) : 0 ≤ D.weight h t s := by
  unfold weight; split
  · exact (Real.exp_pos _).le
  · exact le_rfl

theorem mass_pos (h : Fin 8) (t : Fin 8192) : 0 < D.mass h t := by
  refine Finset.sum_pos' (fun s _ => D.weight_nonneg h t s) ⟨t, Finset.mem_univ _, ?_⟩
  rw [weight, if_pos le_rfl]; exact Real.exp_pos _

/-- The attention's probability. -/
def prob (h : Fin 8) (t s : Fin 8192) : ℝ := D.weight h t s / D.mass h t

/-- The cotangent at `t` against the value at `s`. -/
def agree (h : Fin 8) (t s : Fin 8192) : ℝ := ∑ d, D.g t h d * D.v s h d

/-- Row `t`'s mean of that. -/
def delta (h : Fin 8) (t : Fin 8192) : ℝ := ∑ s, D.prob h t s * D.agree h t s

/-- The gradient of the logit. -/
def grad (h : Fin 8) (t s : Fin 8192) : ℝ := D.prob h t s * (D.agree h t s - D.delta h t)

/-- The values' gradient. -/
def dv (s : Fin 8192) (h : Fin 8) (d : Fin 64) : ℝ := ∑ t, D.g t h d * D.prob h t s

/-- The keys' gradient. -/
def dk (s : Fin 8192) (h : Fin 8) (d : Fin 64) : ℝ := ∑ t, D.grad h t s * (1 / 8) * D.q t h d

/-- The queries' gradient. -/
def dq (t : Fin 8192) (h : Fin 8) (d : Fin 64) : ℝ := ∑ s, D.grad h t s * (1 / 8) * D.k s h d

/-- The running sum's gradient. -/
def df (t : Fin 8192) (h : Fin 8) : ℝ := -∑ u, D.grad h u t + ∑ s, D.grad h t s

theorem prob_zero {h : Fin 8} {t s : Fin 8192} (hs : ¬ s ≤ t) : D.prob h t s = 0 := by
  rw [prob, weight, if_neg hs, zero_div]

theorem grad_zero {h : Fin 8} {t s : Fin 8192} (hs : ¬ s ≤ t) : D.grad h t s = 0 := by rw [grad, D.prob_zero hs, zero_mul]

/-- The logits' gradient in the order a derivative of the quotient takes it. -/
theorem grad_eq (h : Fin 8) (t s : Fin 8192) :
    (D.agree h t s / D.mass h t
        + -∑ s', D.agree h t s' * (1 / (D.mass h t * D.mass h t)) * D.weight h t s') * D.weight h t s = D.grad h t s := by
  have hm := (D.mass_pos h t).ne'
  have e : ∑ s', D.agree h t s' * (1 / (D.mass h t * D.mass h t)) * D.weight h t s' = D.delta h t / D.mass h t := by
    rw [delta, Finset.sum_div]
    refine Finset.sum_congr rfl fun s' _ => ?_
    rw [prob]; field_simp
  rw [e, grad, prob]; field_simp; ring

/-- The row's mean is the cotangent against the attention's output. -/
theorem delta_eq (h : Fin 8) (t : Fin 8192) : ∑ d, D.g t h d * (∑ s, D.prob h t s * D.v s h d) = D.delta h t := by
  simp only [delta, agree, Finset.mul_sum]
  rw [Finset.sum_comm]
  exact Finset.sum_congr rfl fun s _ => Finset.sum_congr rfl fun d _ => by ring

/-- Two to the shifted logit less the row's log-sum, both in units of `log 2`, is the probability. -/
theorem rpow_eq {h : Fin 8} {t s : Fin 8192} (hs : s ≤ t) :
    Real.rpow 2 ((D.score h t s - (D.top h t + Real.log (D.mass h t))) * (1 / Real.log 2)) = D.prob h t s := by
  have h2 : Real.log 2 ≠ 0 := (Real.log_pos (by norm_num)).ne'
  have e : ∀ x, Real.rpow 2 x = Real.exp (Real.log 2 * x) := fun x => Real.rpow_def_of_pos (by norm_num) x
  rw [e, prob, weight, if_pos hs,
    show Real.log 2 * ((D.score h t s - (D.top h t + Real.log (D.mass h t))) * (1 / Real.log 2))
      = D.score h t s - D.top h t - Real.log (D.mass h t) by field_simp; ring,
    Real.exp_sub, Real.exp_log (D.mass_pos h t)]

end Data

end Cert.Proof.Attn

end
-- ==== Proof.AttnRefVal.lean ====
/- What the reference of attention's gradient computes, operation by operation, at finite arguments: each array's
   elements are reals, named in the module of the real mathematics. -/
module

public import proofs.«01_k».proof.Proof.Gen.AttnRefIdeal.Read
public import proofs.«01_k».proof.Proof.AttnReal
public import Idealize.ShloMosaic.Lib.Affine
public import Idealize.ShloMosaic.Lib.IdealHost
public import Idealize.ShloMosaic.Lib.ValueIdx

@[expose] public section

set_option maxRecDepth 16384

noncomputable section

namespace Cert.Proof.Attn

open Cert.AttnRefIdeal Cert.AttnRefIdeal.Gen Cert.AttnRefIdeal.Read
open Idealize.ShloMosaic Idealize.ShloMosaic.TcCoe Idealize.ShloMosaic.ValueIdx Idealize.SL.Sem

/-- One array of a row for every token and head. -/
abbrev T3 : Type := (⟨S8192x8x64, .f32⟩ : BufTy).Contents (Elt Ideal)

/-- One number for every token and head. -/
abbrev T2 : Type := (⟨S8192x8, .f32⟩ : BufTy).Contents (Elt Ideal)

/-- The arguments are the reals of `D`, and so are the running sum and the rows' maxima that both programs compute. -/
structure Data.Reads (D : Data) (x0 x1 x2 : T3) (x3 : T2) (x4 : T3) : Prop where
  q : ∀ i, x0 i = ((on3 D.q i : ℝ) : EReal)
  k : ∀ i, x1 i = ((on3 D.k i : ℝ) : EReal)
  v : ∀ i, x2 i = ((on3 D.v i : ℝ) : EReal)
  g : ∀ i, x4 i = ((on3 D.g i : ℝ) : EReal)
  f : ∀ i, val_main_v0 (F := Ideal) x3 i = ((on2 D.f i : ℝ) : EReal)
  top : ∀ i, val_main_v19 (F := Ideal) x0 x1 x3 i = ((on2 D.top i : ℝ) : EReal)

/-- The `f32` word of one eighth. -/
theorem ofBits_eighth : Ideal.ofBits .f32 0x3E000000#32 = ((1 / 8 : ℝ) : EReal) := by
  simp [Ideal.ofBits, Ideal.ieee, -EReal.coe_mul]; norm_num

/-- The `f32` word of minus infinity. -/
theorem ofBits_bot : Ideal.ofBits .f32 0xFF800000#32 = ⊥ := by
  simp [Ideal.ofBits, Ideal.ieee]

/-- The mask: a key no later than the query. -/
theorem mask_apply (i : S8x8192x8192.Idx) : val_main_v18_1 (F := Ideal) i = 1#1 ↔ i 2 ≤ i 1 := by
  rw [val_main_v18_1_apply, val_main_v17_apply, IntOp.cmpi_sle, val_main_v15_apply, val_main_v16_apply,
    val_main_v13_apply, val_main_v14_apply, val_main_v12_apply, val_main_v12_apply]
  have h1 := (i 1).isLt
  have h2 := (i 2).isLt
  show (BitVec.ofNat 32 (i 2).val).toInt ≤ (BitVec.ofNat 32 (i 1).val).toInt ↔ (i 2).val ≤ (i 1).val
  have e : ∀ n : ℕ, n < 8192 → (BitVec.ofNat 32 n).toInt = n := fun n hn => by
    rw [BitVec.toInt_eq_toNat_of_lt] <;> simp only [BitVec.toNat_ofNat] <;> omega
  rw [e _ h1, e _ h2]; omega

/-- The logits, whatever the arguments, behind the mask. -/
theorem masked_apply (x0 x1 : T3) (x3 : T2) (i : S8x8192x8192.Idx) :
    val_main_v18_0 (F := Ideal) x0 x1 x3 i = if i 2 ≤ i 1 then val_main_v11 (F := Ideal) x0 x1 x3 i else ⊥ := by
  rw [val_main_v18_0_apply, Scalar.select]
  by_cases h : i 2 ≤ i 1
  · rw [if_pos h]; exact if_pos ((mask_apply i).mpr h)
  · rw [if_neg h]; refine (if_neg fun e => h ((mask_apply i).mp e)).trans ?_; rw [val_main_call1_v2_apply]
    exact ofBits_bot

/-- The logits before the mask, where queries, keys and the running sum are reals. -/
theorem logit_real (D : Data) {x0 x1 : T3} {x3 : T2} (hq : ∀ i, x0 i = ((on3 D.q i : ℝ) : EReal))
    (hk : ∀ i, x1 i = ((on3 D.k i : ℝ) : EReal))
    (hf : ∀ i, val_main_v0 (F := Ideal) x3 i = ((on2 D.f i : ℝ) : EReal)) (i : S8x8192x8192.Idx) :
    val_main_v11 (F := Ideal) x0 x1 x3 i = ((on3 D.score i : ℝ) : EReal) := by
  rw [val_main_v11_apply, val_main_v3_apply, val_main_v10_apply, val_main_v1_apply, val_main_v2_apply, val_main_cst_apply,
    val_main_v8_apply, val_main_v9_apply, val_main_v5_apply, val_main_v7_apply, val_main_v4_apply, val_main_v6_apply, hf, hf]
  simp only [hq, hk, ← EReal.coe_mul, sum_coe, Ideal.ofBits_def, ofBits_eighth, Ideal.mulf_def, Ideal.addf_def, Ideal.subf_def]
  rw [← EReal.coe_sub, ← EReal.coe_add]
  rfl

/-- The programs' reshapes of a row's number to one lane and back. -/
theorem row_57 (j : S8x8192x1.Idx) : idx_main_v57 j = idx_main_v41 j := by
  have h2 : (j 2).val < 1 := (j 2).isLt
  have h1 : (j 1).val < 8192 := (j 1).isLt
  funext a
  match a with
  | ⟨0, _⟩ => exact Fin.ext (show (((j 0).val * 8192 + (j 1).val) * 1 + (j 2).val) / 8192 = (j 0).val by omega)
  | ⟨1, _⟩ => exact Fin.ext (show (((j 0).val * 8192 + (j 1).val) * 1 + (j 2).val) % 8192 = (j 1).val by omega)

theorem row_67 (j : S8x8192x1.Idx) : idx_main_v67 j = idx_main_v41 j := row_57 j

theorem row_70 (j : S8x1x8192.Idx) : idx_main_v70 j = idx_main_v7 j := by
  have h2 : (j 2).val < 8192 := (j 2).isLt
  have h1 : (j 1).val < 1 := (j 1).isLt
  funext a
  match a with
  | ⟨0, _⟩ => exact Fin.ext (show (((j 0).val * 1 + (j 1).val) * 8192 + (j 2).val) / 8192 = (j 0).val by omega)
  | ⟨1, _⟩ => exact Fin.ext (show (((j 0).val * 1 + (j 1).val) * 8192 + (j 2).val) % 8192 = (j 2).val by omega)

variable {D : Data} {x0 x1 x2 x4 : T3} {x3 : T2} (R : D.Reads x0 x1 x2 x3 x4)
include R

theorem weight_apply (i : S8x8192x8192.Idx) :
    val_main_v39 (F := Ideal) x0 x1 x3 i = ((on3 D.weight i : ℝ) : EReal) := by
  rw [val_main_v39_apply, val_main_v38_apply, masked_apply, val_main_v37_apply, val_main_v36_apply, val_main_v26_apply, R.top,
    val_main_v25_apply, val_main_cst_3_apply, Ideal.ofBits_def, ofBits_bot, logit_real D R.q R.k R.f]
  show Ideal.exp ((if i 2 ≤ i 1 then ((D.score (i 0) (i 1) (i 2) : ℝ) : EReal) else ⊥)
    - max ⊥ ((D.top (i 0) (i 1) : ℝ) : EReal)) = ((D.weight (i 0) (i 1) (i 2) : ℝ) : EReal)
  rw [max_eq_right bot_le]
  by_cases h : i 2 ≤ i 1
  · have e : D.weight (i 0) (i 1) (i 2) = _ := D.weight_of h
    rw [if_pos h, e, ← EReal.coe_sub, Ideal.exp_coe]
  · have e : D.weight (i 0) (i 1) (i 2) = _ := D.weight_zero h
    rw [if_neg h, e, EReal.bot_sub, Ideal.exp_bot]; rfl

theorem mass_apply (i : S8x8192.Idx) : val_main_v40 (F := Ideal) x0 x1 x3 i = ((on2 D.mass i : ℝ) : EReal) := by
  rw [val_main_v40_apply, val_main_cst_9_apply, Ideal.ofBits_def, Ideal.ofBits_zero_f32, zero_add]
  simp only [weight_apply R, sum_coe]
  rfl

theorem prob_apply (i : S8x8192x8192.Idx) :
    val_main_v43 (F := Ideal) x0 x1 x3 i = ((on3 D.prob i : ℝ) : EReal) := by
  rw [val_main_v43_apply, val_main_v42_apply, val_main_v41_apply, mass_apply R, weight_apply R, Ideal.hostDivf_def]
  exact div_real (D.mass_pos _ _).ne' _

theorem agree_apply (i : S8x8192x8192.Idx) :
    val_main_v50 (F := Ideal) x2 x4 i = ((on3 D.agree i : ℝ) : EReal) := by
  rw [val_main_v50_apply]
  simp only [val_main_v49_apply, R.g, R.v, ← EReal.coe_mul, sum_coe]
  rfl

theorem grad_apply (i : S8x8192x8192.Idx) :
    val_main_v65 (F := Ideal) x0 x1 x2 x3 x4 i = ((on3 D.grad i : ℝ) : EReal) := by
  have hm : ∀ j : S8x8192.Idx, on2 D.mass j ≠ 0 := fun j => (D.mass_pos _ _).ne'
  have e : val_main_v64 (F := Ideal) x0 x1 x2 x3 x4 i = ((on3 D.grad i : ℝ) : EReal) := by
    rw [val_main_v64_apply, val_main_v63_apply, val_main_v60_apply, val_main_v59_apply, val_main_v41_apply, val_main_v62_apply,
      val_main_v61_apply, agree_apply R, mass_apply R, weight_apply R]
    simp only [val_main_v58_apply, val_main_v57_apply, row_57, val_main_v56_apply, val_main_v55_apply, val_main_v54_apply,
      val_main_v53_apply, val_main_v46_apply, val_main_v45_apply, val_main_v44_apply, val_main_v41_apply,
      val_main_cst_10_apply, val_main_cst_11_apply, val_main_cst_12_apply, agree_apply R, mass_apply R, weight_apply R,
      Ideal.ofBits_def, Ideal.ofBits_zero_f32, Ideal.ofBits_one_f32, zero_add, Fin.sum_univ_one, Ideal.mulf_def,
      Ideal.addf_def, Ideal.hostDivf_def, ← EReal.coe_mul, ← EReal.coe_one]
    simp only [div_real (mul_ne_zero (hm _) (hm _)), div_real (hm _), ← EReal.coe_mul, sum_coe, Ideal.hostNegf_def, Ideal.negf_def,
      ← EReal.coe_neg, ← EReal.coe_add]
    exact congrArg (fun r : ℝ => (r : EReal)) (D.grad_eq (i 0) (i 1) (i 2))
  rw [val_main_v65_apply, Scalar.select]
  by_cases h : i 2 ≤ i 1
  · exact (if_pos ((mask_apply i).mpr h)).trans e
  · refine (if_neg fun e => h ((mask_apply i).mp e)).trans ?_
    rw [val_main_call2_v0_apply]
    exact Ideal.ofBits_zero_f32.trans (congrArg (fun r : ℝ => (r : EReal)) (D.grad_zero h)).symm

/-- The values' gradient that the reference computes. -/
theorem dv_apply (i : S8192x8x64.Idx) : val_main_v52 (F := Ideal) x0 x1 x3 x4 i = ((on3 D.dv i : ℝ) : EReal) := by
  rw [val_main_v52_apply, val_main_v51_apply]
  simp only [val_main_v49_apply, R.g, prob_apply R, ← EReal.coe_mul, sum_coe]
  rfl

/-- The keys' gradient that the reference computes. -/
theorem dk_apply (i : S8192x8x64.Idx) : val_main_v79 (F := Ideal) x0 x1 x2 x3 x4 i = ((on3 D.dk i : ℝ) : EReal) := by
  rw [val_main_v79_apply, val_main_v78_apply]
  simp only [val_main_v77_apply, val_main_v76_apply, val_main_cst_17_apply, Ideal.ofBits_def, ofBits_eighth, Ideal.mulf_def,
    R.q, grad_apply R, ← EReal.coe_mul, sum_coe]
  rfl

/-- The queries' gradient that the reference computes. -/
theorem dq_apply (i : S8192x8x64.Idx) : val_main_v81 (F := Ideal) x0 x1 x2 x3 x4 i = ((on3 D.dq i : ℝ) : EReal) := by
  rw [val_main_v81_apply, val_main_v80_apply]
  simp only [val_main_v77_apply, val_main_v76_apply, val_main_cst_17_apply, Ideal.ofBits_def, ofBits_eighth, Ideal.mulf_def,
    R.k, grad_apply R, ← EReal.coe_mul, sum_coe]
  rfl

/-- The running sum's gradient that the reference computes. -/
theorem df_apply (i : S8192x8.Idx) : val_main_v75 (F := Ideal) x0 x1 x2 x3 x4 i = ((on2 D.df i : ℝ) : EReal) := by
  rw [val_main_v75_apply, val_main_v72_apply, val_main_v71_apply, val_main_v74_apply, val_main_v73_apply]
  simp only [val_main_v70_apply, val_main_v67_apply, row_70, row_67, val_main_v69_apply, val_main_v66_apply, val_main_v68_apply,
    val_main_cst_13_apply, val_main_cst_14_apply, val_main_cst_15_apply, val_main_cst_16_apply, Ideal.ofBits_def,
    Ideal.ofBits_zero_f32, zero_add, Fin.sum_univ_one, grad_apply R, Ideal.hostNegf_def, Ideal.negf_def, Ideal.addf_def, ← EReal.coe_neg,
    sum_coe, ← EReal.coe_add, Finset.sum_neg_distrib]
  rfl

end Cert.Proof.Attn

end
-- ==== Proof.AttnData.lean ====
/- Finite arguments are reals, and with them the running sum and every row's maximum: the reals that the value claim of
   attention's gradient is about exist. -/
module

public import proofs.«01_k».proof.Defs
public import proofs.«01_k».proof.Proof.AttnRefVal
public import Idealize.ShloMosaic.PureOps.Reduce

@[expose] public section

set_option maxRecDepth 16384

noncomputable section

namespace Cert.Proof.Attn

open Cert.AttnRefIdeal Cert.AttnRefIdeal.Gen Cert.AttnRefIdeal.Read
open Idealize.ShloMosaic Idealize.ShloMosaic.TcCoe Idealize.ShloMosaic.ValueIdx Idealize.SL.Sem

/-- An extended real that is neither infinity is a real. -/
theorem exists_real {x : EReal} (ht : x ≠ ⊤) (hb : x ≠ ⊥) : ∃ r : ℝ, x = r := ⟨x.toReal, (EReal.coe_toReal ht hb).symm⟩

/-- What the precondition says of one element. -/
theorem real_of_abs_lt {x : EReal} (h : FloatOps.cmpf (F := Ideal) (φ := .f32) .olt (FloatOps.hostAbsf (F := Ideal) (φ := .f32) x)
    (FloatOps.ofBits (F := Ideal) .f32 0x7F800000#32) = 1#1) : ∃ r : ℝ, x = r := by
  have e : Ideal.ofBits .f32 0x7F800000#32 = ⊤ := by simp [Ideal.ofBits, Ideal.ieee]
  have hlt : max x (-x) < ⊤ := by
    rw [← e]
    by_contra hn
    have : FloatOps.cmpf (F := Ideal) (φ := .f32) .olt (FloatOps.hostAbsf (F := Ideal) (φ := .f32) x)
      (FloatOps.ofBits (F := Ideal) .f32 0x7F800000#32) = BitVec.ofBool (decide (max x (-x) < Ideal.ofBits .f32 0x7F800000#32)) := rfl
    rw [this, decide_eq_false hn] at h
    exact absurd h (by decide)
  refine exists_real (fun h => ?_) (fun h => ?_) <;> subst h <;> simp at hlt

/-- A fold of additions of reals is a real. -/
theorem foldl_real {ι : Type} (f : ι → EReal) (hf : ∀ i, ∃ r : ℝ, f i = r) : ∀ (l : List ι) (z : EReal), (∃ r : ℝ, z = r) →
    ∃ r : ℝ, l.foldl (fun a i => a + f i) z = r
  | [], _, h => h
  | i :: l, z, ⟨r, h⟩ => by
    obtain ⟨r', h'⟩ := hf i
    exact foldl_real f hf l _ ⟨r + r', by dsimp only; rw [h, h', EReal.coe_add]⟩

/-- The running sum of reals is real. -/
theorem cumsum_real (x3 : T2) (h : ∀ i, ∃ r : ℝ, x3 i = r) (i : S8192x8.Idx) : ∃ r : ℝ, val_main_v0 (F := Ideal) x3 i = r := by
  unfold val_main_v0 Host.reduceWindowAdd
  rw [Ideal.hostReduceWindowAdd_def]
  unfold Ideal.hostReduceWindowAdd Host.reduceWindow
  have z : val_main_call0_call0_v0 (F := Ideal) (Shape.Idx.first h_S_) = ((0 : ℝ) : EReal) := by
    rw [val_main_call0_call0_v0_apply]; exact Ideal.ofBits_zero_f32
  refine foldl_real _ (fun n => ?_) _ _ ⟨0, z⟩
  dsimp only
  split
  · exact h _
  · exact ⟨0, z⟩

/-- The greatest of a row of extended reals, none of them plus infinity and one a real, is a real. -/
theorem max_real {ι : Type} [DecidableEq ι] (s : Finset ι) (x : ι → EReal) (ht : ∀ i ∈ s, x i ≠ ⊤) (i : ι) (hi : i ∈ s)
    (hx : x i ≠ ⊥) : ∃ r : ℝ, s.fold max ⊥ x = r := by
  refine exists_real (ne_of_lt ?_) (ne_of_gt ?_)
  · exact Finset.fold_max_lt (b := (⊥ : EReal)) (c := ⊤) |>.mpr ⟨bot_lt_top, fun j hj => lt_top_iff_ne_top.mpr (ht j hj)⟩
  · exact (Finset.lt_fold_max _).mpr (Or.inr ⟨i, hi, bot_lt_iff_ne_bot.mpr hx⟩)

theorem top_real (D : Data) {x0 x1 : T3} {x3 : T2} (hq : ∀ i, x0 i = ((on3 D.q i : ℝ) : EReal))
    (hk : ∀ i, x1 i = ((on3 D.k i : ℝ) : EReal)) (hf : ∀ i, val_main_v0 (F := Ideal) x3 i = ((on2 D.f i : ℝ) : EReal))
    (i : S8x8192.Idx) : ∃ r : ℝ, val_main_v19 (F := Ideal) x0 x1 x3 i = r := by
  unfold val_main_v19
  rw [Host.reduce_eq_fold]
  have z : val_main_cst_1 (F := Ideal) (Shape.Idx.first h_S_) = (⊥ : EReal) := ofBits_bot
  rw [z]
  have hd : reducesTo_S8x8192x8192_S8x8192_d2.drop (ix3 (i 0) (i 1) (i 1) : S8x8192x8192.Idx) = i := by
    funext a
    match a with
    | ⟨0, _⟩ => rfl
    | ⟨1, _⟩ => rfl
  refine max_real _ _ (fun j _ => ?_) (ix3 (i 0) (i 1) (i 1)) (Finset.mem_filter.mpr ⟨Finset.mem_univ _, hd⟩) ?_
  · rw [masked_apply]
    split
    · rw [logit_real D hq hk hf]; exact EReal.coe_ne_top _
    · exact bot_ne_top
  · rw [masked_apply]; refine ne_of_eq_of_ne (if_pos (le_refl (i 1))) ?_; rw [logit_real D hq hk hf]; exact EReal.coe_ne_bot _

/-- Finite arguments are the reals of some `D`. -/
theorem exists_reads {x0 x1 x2 x4 : T3} {x3 : T2} (h0 : ∀ i, ∃ r : ℝ, x0 i = r) (h1 : ∀ i, ∃ r : ℝ, x1 i = r)
    (h2 : ∀ i, ∃ r : ℝ, x2 i = r) (h3 : ∀ i, ∃ r : ℝ, x3 i = r) (h4 : ∀ i, ∃ r : ℝ, x4 i = r) :
    ∃ D : Data, D.Reads x0 x1 x2 x3 x4 := by
  have e3 : ∀ i : S8192x8x64.Idx, (ix3 (i 0) (i 1) (i 2) : S8192x8x64.Idx) = i := fun i => (eq_ix3 i).symm
  have e2 : ∀ i : S8192x8.Idx, (ix2 (i 0) (i 1) : S8192x8.Idx) = i := fun i => (eq_ix2 i).symm
  have e2' : ∀ i : S8x8192.Idx, (ix2 (i 0) (i 1) : S8x8192.Idx) = i := fun i => (eq_ix2 i).symm
  choose q hq using h0
  choose k hk using h1
  choose v hv using h2
  choose f hf using cumsum_real x3 h3
  choose g hg using h4
  let D₀ : Data := ⟨fun a b c => q (ix3 a b c), fun a b c => k (ix3 a b c), fun a b c => v (ix3 a b c), fun a b c => g (ix3 a b c),
    fun a b => f (ix2 a b), fun _ _ => 0⟩
  have Hq : ∀ i, x0 i = ((on3 D₀.q i : ℝ) : EReal) := fun i => by rw [hq]; exact congrArg (fun j => ((q j : ℝ) : EReal)) (e3 i).symm
  have Hk : ∀ i, x1 i = ((on3 D₀.k i : ℝ) : EReal) := fun i => by rw [hk]; exact congrArg (fun j => ((k j : ℝ) : EReal)) (e3 i).symm
  have Hf : ∀ i, val_main_v0 (F := Ideal) x3 i = ((on2 D₀.f i : ℝ) : EReal) := fun i => by
    rw [hf]; exact congrArg (fun j => ((f j : ℝ) : EReal)) (e2 i).symm
  choose t ht using top_real D₀ Hq Hk Hf
  exact ⟨{ D₀ with top := fun a b => t (ix2 a b) }, ⟨Hq, Hk,
    fun i => by rw [hv]; exact congrArg (fun j => ((v j : ℝ) : EReal)) (e3 i).symm,
    fun i => by rw [hg]; exact congrArg (fun j => ((g j : ℝ) : EReal)) (e3 i).symm, Hf,
    fun i => by rw [ht]; exact congrArg (fun j => ((t j : ℝ) : EReal)) (e2' i).symm⟩⟩

/-- The claim's precondition gives those reals. -/
theorem reads_of_pre [Cert.Pre_attn_finite.Facts] (m : (ℓ : Loc Cert.AttnIdeal.nD Cert.AttnIdeal.τ Cert.AttnIdeal.sig) → Buf (Elt Ideal) ℓ)
    (h : Cert.Pre_AttnIdeal_attn_finite m) (c : Dev Cert.AttnIdeal.nD) :
    ∃ D : Data, D.Reads (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3))
      (m ((c.tc : Thread Cert.AttnIdeal.nD Cert.AttnIdeal.τ).loc Cert.AttnIdeal.main_arg4)) := by
  obtain ⟨p0, p1, p2, p3, p4⟩ := h c
  exact exists_reads (fun i => real_of_abs_lt (congrFun p0 i)) (fun i => real_of_abs_lt (congrFun p1 i))
    (fun i => real_of_abs_lt (congrFun p2 i)) (fun i => real_of_abs_lt (congrFun p3 i)) (fun i => real_of_abs_lt (congrFun p4 i))

end Cert.Proof.Attn

end
-- ==== Proof.Cum.lean ====
/- The value of the gate's running sum backwards: each row takes the sum of the rows from it on. -/
module

public import proofs.«01_k».proof.Proof.Gen.CumIdeal.Frame
public import proofs.«01_k».proof.Proof.Gen.CumRefIdeal.Read
public import proofs.«01_k».proof.Proof.AttnData
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Proof.Cum

open Cert.CumIdeal Cert.CumIdeal.Gen
open Idealize.ShloMosaic Idealize.ShloMosaic.TcCoe Idealize.SL.Sem

variable (m : (ℓ : Loc nD τ sig) → Buf (Elt Ideal) ℓ) (c : Dev nD)

theorem idx0 : ∀ t : Fin grid0.N, win0_0.index t = ![15 - t.val, 0] ∧ win0_2.index t = ![15 - t.val, 0] := by
  decide +kernel

abbrev x0 : S8192x8.Idx → EReal := m ((c : Thread nD τ).loc main_arg0)

variable (t : Fin cfg0.N) (j : Fin 128)

theorem lt16 : t.val < 16 := t.isLt
/-- Row `a` of the block at point `t`, the blocks taken from the last one up. -/
def row (a : Fin 512) : Fin 8192 := ⟨(15 - t.val) * 512 + a.val, by omega⟩

/-- The argument's rows, zero beyond its last row and its last column. -/
def f (j : Fin 128) (n : ℕ) : EReal := if h : n < 8192 ∧ j.val < 8 then x0 m c (ix2 ⟨n, h.1⟩ ⟨j.val, h.2⟩) else 0

theorem zero_word : (FloatOps.sitofp (F := Ideal) FTy.f32 0#32 : EReal) = 0 := by
  show (((0#32 : BitVec 32).toInt : ℝ) : EReal) = 0
  simp
theorem host_x (s : Fin 8192) : @Eq EReal (V m c main_v0 (ix2 s j)) (f m c j s.val) := by
  have h : @Eq EReal (V m c main_v0 (ix2 s j)) (if h : j.val < 8 then x0 m c (ix2 s ⟨j.val, h⟩) else 0) := by
    rw [← zero_word]
    unfold V
    after_reads_at
  rw [h]
  unfold f
  by_cases hj : j.val < 8
  · rw [dif_pos hj, dif_pos ⟨s.isLt, hj⟩]
  · rw [dif_neg hj, dif_neg (fun h => hj h.2)]
theorem blk0 (a : Fin 512) : @Eq EReal (iblk m c 0 t (ix2 a j)) (f m c j (row t a).val) := by
  refine Eq.trans ?_ (host_x m c j (row t a))
  blk_ext [iblk, idx0 t] <;> rfl

/-- The sum of the rows from `n` on. -/
def S (j : Fin 128) (n : ℕ) : EReal := ∑ k ∈ Finset.Ico n 8192, f m c j k

/-- A tile's upper triangle takes the rows of the tile from row `a` on; with the sum of the rows behind the tile it is the whole sum. -/
theorem tile_sum (g : ℕ → EReal) (n : ℕ) (hn : n + 512 ≤ 8192) (a : Fin 512) :
    (∑ b : Fin 512, if a.val ≤ b.val then g (n + b.val) else 0) + ∑ k ∈ Finset.Ico (n + 512) 8192, g k = ∑ k ∈ Finset.Ico (n + a.val) 8192, g k := by
  rw [← Finset.sum_Ico_consecutive g (m := n + a.val) (n := n + 512) (k := 8192) (by omega) hn]
  refine congrArg (· + _) ?_
  rw [← Finset.sum_range fun b => if a.val ≤ b then g (n + b) else 0, ← Finset.sum_filter, Finset.sum_Ico_eq_sum_range]
  have e : (Finset.range 512).filter (a.val ≤ ·) = Finset.Ico a.val 512 := by
    ext b
    simp only [Finset.mem_filter, Finset.mem_range, Finset.mem_Ico]
    exact and_comm
  rw [e, Finset.sum_Ico_eq_sum_range, show n + 512 - (n + a.val) = 512 - a.val by omega]
  exact Finset.sum_congr rfl fun b _ => congrArg g (by omega)

theorem is_upper (a b : Fin 512) : IntOp.cmpi CmpIPredicate.sge (BitVec.ofNat 32 b.val) (BitVec.ofNat 32 a.val) = if a.val ≤ b.val then 1#1 else 0#1 := by
  have ha : (BitVec.ofNat 32 a.val).toInt = a.val := by rw [BitVec.toInt_ofNat']; simp only [Int.bmod]; omega
  have hb : (BitVec.ofNat 32 b.val).toInt = b.val := by rw [BitVec.toInt_ofNat']; simp only [Int.bmod]; omega
  unfold IntOp.cmpi
  simp only [BitVec.sle, ha, hb, Nat.cast_le]
  by_cases h : a.val ≤ b.val
  · rw [if_pos h, decide_eq_true h]; rfl
  · rw [if_neg h, decide_eq_false h]; rfl

theorem pay2_at (v10 : S512x128.Idx → EReal) (hv : ∀ i, ∃ r : ℝ, v10 i = r) (v24 : S1x128.Idx → EReal) (a : Fin 512) : @Eq EReal (k0_pay2 (F := Ideal) v10 v24 (ix2 a j))
    ((∑ b : Fin 512, if a.val ≤ b.val then v10 (ix2 b j) else 0) + v24 (ix2 0 j)) := by
  have h0 : ∀ i, v10 i - v10 i = 0 := fun i => by
    obtain ⟨r, e⟩ := hv i
    rw [e, ← EReal.coe_sub, sub_self, EReal.coe_zero]
  unfold k0_pay2
  pointwise
  simp only [h0, sub_zero, is_upper]
  have hs : ∀ (p : Prop) [Decidable p] (x : EReal), Scalar.select (if p then 1#1 else 0#1) x 0 = if p then x else 0 := fun p _ x => by
    split_ifs <;> rfl
  simp only [hs, ite_self, Finset.sum_const_zero, add_zero]
theorem pay3_at (v10 : S512x128.Idx → EReal) (v24 : S1x128.Idx → EReal) (k : Fin 8) : @Eq EReal (k0_pay3 (F := Ideal) v10 v24 (ix2 k j)) (k0_pay2 (F := Ideal) v10 v24 (ix2 0 j)) := by
  unfold k0_pay3
  pointwise
theorem pay1_at (i : S8x128.Idx) : @Eq EReal (k0_pay1 (F := Ideal) i) 0 := by
  idx_vars i
  unfold k0_pay1
  pointwise

/-- The row the first point reads from the carried scratch, just zeroed. -/
theorem carry_first (y : S1x128.Idx) : @Eq EReal ((View.whole cc0_scratch0).readCov (Val := Elt Ideal)
    [⟨Rect.unit (s := S8x128) ![0, 0] ![8, 128] inb_S8x128_S8x128_0_0, k0_pay1 (F := Ideal)⟩]
    (Rect.unit (s := S8x128) ![0, 0] ![1, 128] inb_S8x128_S1x128_0_0).toLoadRect y) 0 := by
  rw [View.readCov_eq_canon']
  have h := View.canon_cons_unit_lit (Val := Elt Ideal) (S := S8x128) (e := cc0_scratch0.ty.elt) inb_S8x128_S8x128_0_0 (k0_pay1 (F := Ideal)) [] (by decide)
  exact (congrFun h _).trans (pay1_at _)
/-- The row a later point reads from the carried scratch. -/
theorem carry_next (h : (Memref.whole cc0_scratch0).IsWhole) (X : S8x128.Idx → EReal) : @Eq EReal (View.ld (View.read (Elt Ideal) (View.whole cc0_scratch0) (h.unread X))
    (Rect.unit (s := S8x128) ![0, 0] ![1, 128] inb_S8x128_S1x128_0_0) (ix2 0 j : S1x128.Idx)) (X (ix2 0 j)) := by
  rw [read_unread_whole]
  refine congrArg X (funext fun a => Fin.ext ?_)
  match a with
  | ⟨0, _⟩ => rfl
  | ⟨1, _⟩ => show 0 + 1 * j.val = j.val; omega

section Point
variable (hx : ∀ i, ∃ r : ℝ, x0 m c i = r)
include hx
theorem f_real (n : ℕ) : ∃ r : ℝ, f m c j n = r := by
  unfold f
  split_ifs
  · exact hx _
  · exact ⟨0, rfl⟩
omit j in
theorem blk0_real (t : Fin cfg0.N) (i : S512x128.Idx) : ∃ r : ℝ, @Eq EReal (iblk m c 0 t i) r := by
  idx_vars i
  obtain ⟨r, e⟩ := f_real m c i1 hx (row t i0).val
  exact ⟨r, (blk0 m c t i1 i0).trans e⟩

/-- One point, over the sum of the rows behind its tile. -/
theorem point (t : Fin cfg0.N) (v24 : S1x128.Idx → EReal) (hv : v24 (ix2 0 j) = S m c j ((15 - t.val) * 512 + 512)) (a : Fin 512) :
    @Eq EReal (k0_pay2 (F := Ideal) (iblk m c 0 t) v24 (ix2 a j)) (S m c j (row t a).val) := by
  rw [pay2_at _ _ (blk0_real m c hx t), hv]
  simp only [blk0]
  exact tile_sum (f m c j) ((15 - t.val) * 512) (by omega) a

theorem outs (n : ℕ) (hn : n < cfg0.N) : (∀ a : Fin 512, @Eq EReal ((outsAt0 m c n hn).1 (ix2 a j)) (S m c j ((15 - n) * 512 + a.val)))
    ∧ ∀ k : Fin 8, @Eq EReal ((outsAt0 m c n hn).2 (ix2 k j)) (S m c j ((15 - n) * 512)) := by
  induction n with
  | zero =>
    have hz := outsAt0_A m c ⟨0, hn⟩ rfl
    have hc := (carry_first (ix2 0 j)).trans (show (0 : EReal) = S m c j ((15 - 0) * 512 + 512) from (Finset.sum_eq_zero fun k hk => by have := Finset.mem_Ico.mp hk; omega).symm)
    refine ⟨fun a => ?_, fun k => ?_⟩
    · refine (congrFun (congrArg Prod.fst hz) _).trans ?_
      frame_out
      exact point m c j hx ⟨0, hn⟩ _ hc a
    · refine (congrFun (congrArg Prod.snd hz) _).trans ?_
      frame_out
      exact (pay3_at j _ _ k).trans (point m c j hx ⟨0, hn⟩ _ hc 0)
  | succ n ih =>
    have h16 : n + 1 < 16 := hn
    have hz := outsAt0_B m c ⟨n + 1, hn⟩ (by show ¬ (n + 1) % 16 = 0; omega)
    have hc := (carry_next j (Memref.isWhole_whole _) (outsAt0 m c n (Nat.lt_of_succ_lt hn)).2).trans (((ih (Nat.lt_of_succ_lt hn)).2 0).trans
      (congrArg (S m c j) (show (15 - n) * 512 = (15 - (n + 1)) * 512 + 512 by omega)))
    refine ⟨fun a => ?_, fun k => ?_⟩
    · refine (congrFun (congrArg Prod.fst hz) _).trans ?_
      frame_out
      exact point m c j hx ⟨n + 1, hn⟩ _ hc a
    · refine (congrFun (congrArg Prod.snd hz) _).trans ?_
      frame_out
      exact (pay3_at j _ _ k).trans (point m c j hx ⟨n + 1, hn⟩ _ hc 0)

theorem arr2 : @Eq (S8192x128.Idx → EReal) ((dats m 0 c).arrAt 2 cfg0.N) fun i => S m c (i 1) (i 0).val := by
  refine (dats m 0 c).arrAt_eq_of_covers 2 _ (by decide +kernel) fun t hf y => ?_
  rw [after0_2]
  idx_vars y
  have he : ((View.whole main_v2).slice (win0_2.rect t)).emb (ix2 y0 y1) = ix2 (row t y0) y1 := by blk_ext [idx0 t] <;> rfl
  refine ((outs m c y1 hx t.val t.isLt).1 y0).trans ?_
  exact (congrArg (fun i : S8192x128.Idx => S m c (i 1) (i 0).val) he).symm
end Point

abbrev a2 (W : Valuation τ sig (Elt Ideal)) : S8192x128.Idx → EReal := W (Proc.devRef .tc main_v2)
theorem tail_out (W : Valuation τ sig (Elt Ideal)) (s : Fin 8192) (h : Fin 8) : @Eq EReal (StableHlo.after hostOps1 W (Proc.devRef .tc main_v3) (ix2 s h)) (a2 W (ix2 s ⟨h.val, by omega⟩)) := by
  after_reads_at
  try rfl
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b
theorem left_2 : a2 (left m c) = (dats m 0 c).arrAt 2 cfg0.N := Pipeline.withArrays_arr spec0 launch0.win.arr_inj c (V0 m c) _ 2

section Reference
open Cert.CumRefIdeal.Read

theorem foldl_sum {ι : Type} (g : ι → EReal) : ∀ (l : List ι) (z : EReal), l.foldl (fun r n => r + g n) z = z + (l.map g).sum
  | [], z => (add_zero z).symm
  | i :: l, z => by rw [List.foldl_cons, foldl_sum g l, List.map_cons, List.sum_cons, add_assoc]

theorem window_at (s : Fin 8192) (h : Fin 8) (w : (⟨2, ![8192, 1]⟩ : Shape).Idx) :
    @Eq EReal (if hin : ∀ a : Fin 2, ![0, 0] a ≤ ((ix2 s h : S8192x8.Idx) a).val * ![1, 1] a + (w a).val ∧ ((ix2 s h : S8192x8.Idx) a).val * ![1, 1] a + (w a).val - ![0, 0] a < ![8192, 8] a
      then x0 m c fun a => ⟨((ix2 s h : S8192x8.Idx) a).val * ![1, 1] a + (w a).val - ![0, 0] a, (hin a).2⟩ else 0)
      (f m c ⟨h.val, by omega⟩ (s.val + (w 0).val)) := by
  have e1 : (w 1).val = 0 := Nat.lt_one_iff.mp (w 1).isLt
  have p0 : ((ix2 s h : S8192x8.Idx) 0).val * ![1, 1] (0 : Fin 2) + (w 0).val - ![0, 0] (0 : Fin 2) = s.val + (w 0).val := by show s.val * 1 + (w 0).val - 0 = _; omega
  have p1 : ((ix2 s h : S8192x8.Idx) 1).val * ![1, 1] (1 : Fin 2) + (w 1).val - ![0, 0] (1 : Fin 2) = h.val := by show h.val * 1 + (w 1).val - 0 = _; omega
  unfold f
  by_cases hs : s.val + (w 0).val < 8192
  · rw [dif_pos (show s.val + (w 0).val < 8192 ∧ h.val < 8 from ⟨hs, h.isLt⟩), dif_pos]
    · refine congrArg (x0 m c) (funext fun a => Fin.ext ?_)
      match a with
      | ⟨0, _⟩ => exact p0
      | ⟨1, _⟩ => exact p1
    · intro a
      match a with
      | ⟨0, _⟩ => exact ⟨Nat.zero_le _, p0.trans_lt hs⟩
      | ⟨1, _⟩ => exact ⟨Nat.zero_le _, p1.trans_lt h.isLt⟩
  · rw [dif_neg fun q => hs (p0 ▸ (q 0).2), dif_neg fun q => hs q.1]

theorem ref_at (s : Fin 8192) (h : Fin 8) : @Eq EReal (val_main_v2 (F := Ideal) (x0 m c) (ix2 s h)) (S m c ⟨h.val, by omega⟩ s.val) := by
  unfold val_main_v2 Host.reduceWindowAdd
  rw [Ideal.hostReduceWindowAdd_def]
  unfold Ideal.hostReduceWindowAdd Host.reduceWindow
  have z : val_main_call1_call0_v0 (F := Ideal) (Shape.Idx.first Cert.CumRefIdeal.Gen.h_S_) = (0 : EReal) := by
    rw [val_main_call1_call0_v0_apply]; exact Ideal.ofBits_zero_f32
  dsimp only
  simp only [z]
  refine (foldl_sum _ _ _).trans ((zero_add _).trans ?_)
  rw [← Fin.sum_univ_def]
  refine (Finset.sum_congr rfl fun n _ => window_at m c s h ((Shape.rowMajor ⟨2, ![8192, 1]⟩).symm n)).trans ?_
  refine (Equiv.sum_comp (Shape.rowMajor ⟨2, ![8192, 1]⟩).symm fun w : (⟨2, ![8192, 1]⟩ : Shape).Idx => f m c ⟨h.val, by omega⟩ (s.val + (w 0).val)).trans ?_
  have hs := s.isLt
  rw [sum_idx2]
  have e1 : ∀ a : Fin 8192, ∑ _b : Fin 1, f m c ⟨h.val, by omega⟩ (s.val + a.val) = f m c ⟨h.val, by omega⟩ (s.val + a.val) := fun a => Finset.sum_const _ |>.trans (one_smul ℕ _)
  refine (Finset.sum_congr rfl fun a _ => e1 a).trans ?_
  rw [← Finset.sum_range fun a => f m c ⟨h.val, by omega⟩ (s.val + a)]
  unfold S
  rw [Finset.sum_Ico_eq_sum_range]
  refine (Finset.sum_subset (fun a ha => Finset.mem_range.mpr (by have := Finset.mem_range.mp ha; omega)) fun a _ ha => dif_neg fun q => ?_).symm
  exact ha (Finset.mem_range.mpr (by have := q.1; omega))
end Reference

theorem final_dx (hx : ∀ i, ∃ r : ℝ, x0 m c i = r) (s : Fin 8192) (h : Fin 8) : @Eq EReal (final m c main_v3 (ix2 s h)) (S m c ⟨h.val, by omega⟩ s.val) := by
  refine (tail_out (left m c) s h).trans ?_
  rw [left_2, arr2 m c hx]
  rfl

/-- The kernel's run: its result at the end, and the argument as it was. -/
theorem run_results (ρ : Dev nD → PrngReg) :
    θ_run defs (onTc (τ := τ) (main (F := Ideal))) ⟨m, fun _ => 0, ρ⟩ fun r => ∀ c : Dev nD,
      r.2.mem ((c.tc : Thread nD τ).loc main_v3) = final m c main_v3
      ∧ r.2.mem ((c.tc : Thread nD τ).loc main_arg0) = m ((c.tc : Thread nD τ).loc main_arg0) :=
  (θ_run defs _ _).mono (fun r h c => ⟨(h.1 c).2 main_v3 (Pipeline.mem_restRefs_of main_v3 (by decide) (by decide)), h.2.1 c⟩)
    (θ_run_and (run_main m ρ) (frame m ρ))

/-- The gate's running sum backwards: kernel and derivative leave the same array where the cotangent is finite. -/
theorem value [Cert.Pre_cum_finite.Facts] : Cert.algebraic_CumIdeal_CumRefIdeal_pre_cum_finite := fun m ρ m' ρ' hp hag =>
  ⟨_, run_results m ρ, (θ_run _ _ _).mono (fun _ h c => by
      obtain ⟨h0, hr⟩ := h c
      have p0 := hp c
      have hx : ∀ i, ∃ r : ℝ, x0 m c i = r := fun i => Attn.real_of_abs_lt (congrFun p0 i)
      rw [Cert.CumRefIdeal.Read.val_main_v2_eq, hag c] at h0
      refine ⟨h0.trans (funext fun i => ?_), hr⟩
      idx_vars i
      exact (ref_at m c i0 i1).trans (final_dx m c hx i0 i1).symm)
    (Cert.CumRefIdeal.Value.run (F := Ideal) m' ρ')⟩

end Cert.Proof.Cum

end
-- ==== Proof.Scalars.lean ====
/- Identities of single extended reals that several of the claims use: the constants of the programs, the logistic
   function in its two spellings. -/
module

public import Idealize.ShloMosaic.PureOps.Ideal
public import Idealize.ShloMosaic.Lib.IdealHost

@[expose] public section

noncomputable section

namespace Cert.Proof.Scalars

open Idealize.ShloMosaic

/-- The `f32` word of one half. -/
theorem ofBits_half : Ideal.ofBits .f32 0x3F000000#32 = ((1 / 2 : ℝ) : EReal) := by
  simp [Ideal.ofBits, Ideal.ieee, -EReal.coe_mul]; norm_num

/-- The logistic function of a real by the hyperbolic tangent of half the argument. -/
theorem real_half_tanh (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have hp := Real.exp_pos (1 / 2 * r)
  rw [Real.tanh_eq_sinh_div_cosh, Real.sinh_eq, Real.cosh_eq, h, Real.exp_neg]
  field_simp
  ring

/-- The same at every extended real: at minus infinity both are 0, at plus infinity 1. -/
theorem half_tanh (x : EReal) :
    Ideal.ofBits .f32 0x3F000000#32 * Ideal.tanh (Ideal.ofBits .f32 0x3F000000#32 * x) + Ideal.ofBits .f32 0x3F000000#32
      = Ideal.logistic x := by
  rw [ofBits_half]
  induction x using EReal.rec with
  | bot =>
    rw [EReal.coe_mul_bot_of_pos (by norm_num)]
    show ((1 / 2 : ℝ) : EReal) * ((-1 : ℝ) : EReal) + _ = _
    rw [Ideal.logistic_bot, ← EReal.coe_mul, ← EReal.coe_add]; norm_num
  | top =>
    rw [EReal.coe_mul_top_of_pos (by norm_num)]
    show ((1 / 2 : ℝ) : EReal) * ((1 : ℝ) : EReal) + _ = _
    rw [Ideal.logistic_top, ← EReal.coe_mul, ← EReal.coe_add]; norm_num
  | coe r =>
    rw [Ideal.logistic_coe, ← EReal.coe_mul]
    show ((1 / 2 : ℝ) : EReal) * ((Real.tanh (1 / 2 * r) : ℝ) : EReal) + _ = _
    rw [← EReal.coe_mul, ← EReal.coe_add, real_half_tanh]

/-- One over one plus the exponential of the negated argument is the logistic function. -/
theorem one_div_one_add_exp (x : EReal) : Ideal.div 1 (1 + Ideal.exp (-x)) = Ideal.logistic x := rfl

end Cert.Proof.Scalars

end
-- ==== Proof.Ada.lean ====
/- The value of the conditioning product's gradient: the activation, transposed, times the cotangent. -/
module

public import proofs.«01_k».proof.Proof.Gen.AdaIdeal.Value
public import proofs.«01_k».proof.Proof.Gen.AdaRefIdeal.Read
public import proofs.«01_k».proof.Proof.Scalars
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Ada

open Cert.AdaIdeal Cert.AdaIdeal.Gen
open Idealize.ShloMosaic Idealize.ShloMosaic.TcCoe Idealize.SL.Sem

variable (m : (ℓ : Loc nD τ sig) → Buf (Elt Ideal) ℓ) (c : Dev nD)

theorem idx0 : ∀ t : Fin grid0.N, win0_0.index t = ![0, 0] ∧ win0_1.index t = ![0, 0] ∧ win0_2.index t = ![0, 0] := by
  decide +kernel

abbrev x0 : S8x1024.Idx → EReal := m ((c : Thread nD τ).loc main_arg0)
abbrev x1 : S8x768.Idx → EReal := m ((c : Thread nD τ).loc main_arg1)

variable (t : Fin cfg0.N) (d : Fin 1024) (e : Fin 768)

theorem zero_word : (FloatOps.sitofp (F := Ideal) FTy.f32 0#32 : EReal) = 0 := by
  show (((0#32 : BitVec 32).toInt : ℝ) : EReal) = 0
  simp
theorem host_c (k : Fin 128) : @Eq EReal (V m c main_v1 (ix2 d k)) (if h : k.val < 8 then x0 m c (ix2 ⟨k.val, h⟩ d) else 0) := by
  rw [← zero_word]
  unfold V
  after_reads_at
theorem host_d (k : Fin 128) : @Eq EReal (V m c main_v2 (ix2 k e)) (if h : k.val < 8 then x1 m c (ix2 ⟨k.val, h⟩ e) else 0) := by
  rw [← zero_word]
  unfold V
  after_reads_at

theorem blk0 (k : Fin 128) : @Eq EReal (iblk m c 0 t (ix2 d k)) (V m c main_v1 (ix2 d k)) := by
  blk_ext [iblk, idx0 t] <;> rfl
theorem blk1 (k : Fin 128) : @Eq EReal (iblk m c 1 t (ix2 k e)) (V m c main_v2 (ix2 k e)) := by
  blk_ext [iblk, idx0 t] <;> rfl

theorem pay1_at (v0 : S1024x128.Idx → EReal) (v11 : S128x768.Idx → EReal) : @Eq EReal (k0_pay1 (F := Ideal) v0 v11 (ix2 d e))
    (∑ k : Fin 128, v0 (ix2 d k) * Ideal.logistic (v0 (ix2 d k)) * v11 (ix2 k e)) := by
  simp only [← Scalars.half_tanh]
  unfold k0_pay1
  pointwise

/-- The lanes beyond the eighth carry zeros on both sides. -/
theorem point : @Eq EReal (k0_pay1 (F := Ideal) (iblk m c 0 t) (iblk m c 1 t) (ix2 d e))
    (∑ k : Fin 8, x0 m c (ix2 k d) * Ideal.logistic (x0 m c (ix2 k d)) * x1 m c (ix2 k e)) := by
  rw [pay1_at]
  simp only [blk0, blk1]
  refine (Fin.sum_univ_add (a := 8) (b := 120) _).trans ((congrArg₂ (· + ·) (Finset.sum_congr rfl fun k _ => ?_) (Finset.sum_eq_zero fun k _ => ?_)).trans (add_zero _))
  · have h : (Fin.castAdd 120 k).val < 8 := k.isLt
    rw [(host_c m c d (Fin.castAdd 120 k)).trans (dif_pos h), (host_d m c e (Fin.castAdd 120 k)).trans (dif_pos h)]
    rfl
  · have h : ¬ (Fin.natAdd 8 k).val < 8 := by show ¬ 8 + k.val < 8; omega
    rw [(host_d m c e (Fin.natAdd 8 k)).trans (dif_neg h), mul_zero]

theorem arr2 : @Eq (S1024x768.Idx → EReal) ((dats m 0 c).arrAt 2 cfg0.N) fun i => ∑ k : Fin 8, x0 m c (ix2 k (i 0)) * Ideal.logistic (x0 m c (ix2 k (i 0))) * x1 m c (ix2 k (i 1)) := by
  refine (dats m 0 c).arrAt_eq_of_covers 2 _ (by decide +kernel) fun t hf y => ?_
  blk_simp
  rw [after0_2]
  idx_vars y
  have he : ((View.whole main_v3).slice (win0_2.rect t)).emb (ix2 y0 y1) = ix2 y0 y1 := by blk_ext [idx0 t] <;> rfl
  rw [he]
  unfold out0_2
  frame_out
  exact point m c t y0 y1

section Reference
open Cert.AdaRefIdeal.Read
theorem ref_at : @Eq EReal (val_main_v4 (F := Ideal) (x0 m c) (x1 m c) (ix2 d e)) (∑ k : Fin 8, x0 m c (ix2 k d) * Ideal.logistic (x0 m c (ix2 k d)) * x1 m c (ix2 k e)) := by
  simp only [← Scalars.one_div_one_add_exp]
  unfold val_main_v4 val_main_v3 val_main_v1 val_main_call0_v5 val_main_call0_v4 val_main_call0_cst_0 val_main_call0_v3 val_main_call0_v2 val_main_call0_cst val_main_call0_v1 val_main_call0_v0
  pointwise
  exact Finset.sum_congr rfl fun k _ => mul_comm _ _
end Reference

/-- The conditioning product's gradient: kernel and derivative leave the same array. -/
theorem value : Cert.algebraic_AdaIdeal_AdaRefIdeal := fun m ρ m' ρ' _ hag =>
  ⟨_, Cert.AdaIdeal.Value.run_blocks m ρ, (θ_run _ _ _).mono (fun _ h c => by
      obtain ⟨h0, hr⟩ := h c
      obtain ⟨e0, e1⟩ := hag c
      rw [Cert.AdaRefIdeal.Read.val_main_v4_eq, e0, e1] at h0
      refine ⟨h0.trans (Eq.trans (funext fun i => ?_) (arr2 m c).symm), hr⟩
      idx_vars i
      exact ref_at m c i0 i1)
    (Cert.AdaRefIdeal.Value.run m' ρ')⟩

end Cert.Proof.Ada

end
-- ==== Proof.Rows.lean ====
/- Sums over the rows of an array, taken block by block and, within a block, by the row's place in a group of eight. -/
module

public import Idealize.ShloMosaic.PureOps.Ideal

@[expose] public section

namespace Cert.Proof

/-- The 8192 rows as 16 blocks of 64 groups of eight. -/
theorem sum_groups {M : Type} [AddCommMonoid M] (f : Fin 8192 → M) :
    ∑ a : Fin 8, ∑ t : Fin 16, ∑ k : Fin 64, f ⟨t.val * 512 + (k.val * 8 + a.val), by omega⟩ = ∑ s, f s := by
  have e : ∀ a : Fin 8, ∑ t : Fin 16, ∑ k : Fin 64, f ⟨t.val * 512 + (k.val * 8 + a.val), by omega⟩
      = ∑ x : Fin 16 × Fin 64, f ⟨x.1.val * 512 + (x.2.val * 8 + a.val), by omega⟩ := fun a =>
    (Fintype.sum_prod_type' fun (t : Fin 16) (k : Fin 64) => f ⟨t.val * 512 + (k.val * 8 + a.val), by omega⟩).symm
  simp only [e]
  rw [← Fintype.sum_prod_type' fun (a : Fin 8) (x : Fin 16 × Fin 64) => f ⟨x.1.val * 512 + (x.2.val * 8 + a.val), by omega⟩]
  refine Fintype.sum_bijective (fun x : Fin 8 × Fin 16 × Fin 64 => (⟨x.2.1.val * 512 + (x.2.2.val * 8 + x.1.val), by omega⟩ : Fin 8192))
    ((Fintype.bijective_iff_injective_and_card _).mpr ⟨?_, by simp⟩) _ _ fun _ => rfl
  rintro ⟨a, t, k⟩ ⟨a', t', k'⟩ h
  have h' := Fin.mk.inj h
  simp only at h'
  have h1 : a = a' := Fin.ext (by omega)
  have h2 : t = t' := Fin.ext (by omega)
  have h3 : k = k' := Fin.ext (by omega)
  rw [h1, h2, h3]

/-- The 8192 rows as 16 blocks of 512. -/
theorem sum_rows512 {M : Type} [AddCommMonoid M] (f : Fin 8192 → M) :
    ∑ t : Fin 16, ∑ a : Fin 512, f ⟨t.val * 512 + a.val, by omega⟩ = ∑ s, f s := by
  rw [← Fintype.sum_prod_type' fun (t : Fin 16) (a : Fin 512) => f ⟨t.val * 512 + a.val, by omega⟩]
  refine Fintype.sum_bijective (fun x : Fin 16 × Fin 512 => (⟨x.1.val * 512 + x.2.val, by omega⟩ : Fin 8192))
    ((Fintype.bijective_iff_injective_and_card _).mpr ⟨?_, by simp⟩) _ _ fun _ => rfl
  rintro ⟨t, a⟩ ⟨t', a'⟩ h
  have h' := Fin.mk.inj h
  simp only at h'
  have h2 : t = t' := Fin.ext (by omega)
  have h3 : a = a' := Fin.ext (by omega)
  rw [h2, h3]

/-- The 8192 rows as 32 blocks of 256. -/
theorem sum_rows256 {M : Type} [AddCommMonoid M] (f : Fin 8192 → M) :
    ∑ t : Fin 32, ∑ a : Fin 256, f ⟨t.val * 256 + a.val, by omega⟩ = ∑ s, f s := by
  rw [← Fintype.sum_prod_type' fun (t : Fin 32) (a : Fin 256) => f ⟨t.val * 256 + a.val, by omega⟩]
  refine Fintype.sum_bijective (fun x : Fin 32 × Fin 256 => (⟨x.1.val * 256 + x.2.val, by omega⟩ : Fin 8192))
    ((Fintype.bijective_iff_injective_and_card _).mpr ⟨?_, by simp⟩) _ _ fun _ => rfl
  rintro ⟨t, a⟩ ⟨t', a'⟩ h
  have h' := Fin.mk.inj h
  simp only at h'
  have h2 : t = t' := Fin.ext (by omega)
  have h3 : a = a' := Fin.ext (by omega)
  rw [h2, h3]

/-- A sum of nonnegative values may be scaled term by term. -/
theorem sum_mul_real {ι : Type} [Fintype ι] (f : ι → EReal) (hf : ∀ i, 0 ≤ f i) (r : ℝ) : (∑ i, f i) * (r : EReal) = ∑ i, f i * (r : EReal) := by
  classical
  induction (Finset.univ : Finset ι) using Finset.induction_on with
  | empty => simp
  | insert i s hi ih => rw [Finset.sum_insert hi, Finset.sum_insert hi, EReal.right_distrib_of_nonneg (hf i) (Finset.sum_nonneg fun j _ => hf j), ih]

theorem square_nonneg (x : EReal) : 0 ≤ x * x := by
  induction x using EReal.rec with
  | bot => simp
  | coe r => exact_mod_cast mul_self_nonneg r
  | top => simp

/-- A sum over rows of one quantity `e` rows ahead of the other, counted from the other. -/
theorem sum_late (N e : ℕ) (he : e ≤ N) (f g : ℕ → EReal) (hf : ∀ n, N ≤ n → f n = 0) :
    ∑ s : Fin N, f (s.val + e) * g s.val = ∑ s : Fin N, f s.val * (if e ≤ s.val then g (s.val - e) else 0) := by
  obtain ⟨M, rfl⟩ := Nat.exists_eq_add_of_le he
  rw [Fin.sum_univ_eq_sum_range (fun s => f (s + e) * g s), Fin.sum_univ_eq_sum_range (fun s => f s * (if e ≤ s then g (s - e) else 0)),
    Finset.sum_range_add (fun s => f s * (if e ≤ s then g (s - e) else 0)), Nat.add_comm e M, Finset.sum_range_add (fun s => f (s + e) * g s)]
  rw [Finset.sum_eq_zero (s := Finset.range e) (f := fun s => f s * (if e ≤ s then g (s - e) else 0)) fun s hs => by
      rw [if_neg (by have := Finset.mem_range.mp hs; omega), mul_zero],
    Finset.sum_eq_zero (s := Finset.range e) (f := fun s => f (M + s + e) * g (M + s)) fun s _ => by rw [hf _ (by omega), zero_mul],
    zero_add, add_zero]
  refine Finset.sum_congr rfl fun s _ => ?_
  rw [if_pos (Nat.le_add_right e s), Nat.add_sub_cancel_left, Nat.add_comm s e]

end Cert.Proof
-- ==== Proof.Head.lean ====
/- The value of the loss head: loss, and the gradients of the output, of the last product and of its gate. -/
module

public import proofs.«01_k».proof.Proof.Gen.HeadIdeal.Frame
public import proofs.«01_k».proof.Proof.Gen.HeadRefIdeal.Read
public import proofs.«01_k».proof.Proof.Scalars
public import proofs.«01_k».proof.Proof.Rows
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Head

open Cert.HeadIdeal Cert.HeadIdeal.Gen
open Idealize.ShloMosaic Idealize.ShloMosaic.TcCoe Idealize.SL.Sem

variable (m : (ℓ : Loc nD τ sig) → Buf (Elt Ideal) ℓ) (c : Dev nD)

/-- Which block each window holds at grid point `t`. -/
theorem idx0 : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] := by
  decide +kernel

abbrev x0 : S8192x1024.Idx → EReal := m ((c : Thread nD τ).loc main_arg0)
abbrev x1 : S8192x2816.Idx → EReal := m ((c : Thread nD τ).loc main_arg1)
abbrev x2 : S2816x1024.Idx → EReal := m ((c : Thread nD τ).loc main_arg2)
abbrev x3 : S1x1024.Idx → EReal := m ((c : Thread nD τ).loc main_arg3)
abbrev x4 : S8192x1024.Idx → EReal := m ((c : Thread nD τ).loc main_arg4)

/-- The last product, the error and the output's gradient at row `s` and column `d`. -/
def ff (s : Fin 8192) (d : Fin 1024) : EReal := ∑ k : Fin 2816, x1 m c (ix2 s k) * x2 m c (ix2 k d)
def err (s : Fin 8192) (d : Fin 1024) : EReal := x0 m c (ix2 s d) + x3 m c (ix2 0 d) * ff m c s d - x4 m c (ix2 s d)
def dy (s : Fin 8192) (d : Fin 1024) : EReal := err m c s d * Ideal.ofBits .f32 0x3A800000#32

/-- Row `a` of the block of point `t`. -/
def row (t : Fin cfg0.N) (a : Fin 512) : Fin 8192 := ⟨t.val * 512 + a.val, by have h : t.val < 16 := t.isLt; omega⟩

variable (t : Fin cfg0.N) (a : Fin 512) (d : Fin 1024)

theorem blk0 : @Eq EReal (iblk m c 0 t (ix2 a d)) (x0 m c (ix2 (row t a) d)) := by
  blk_ext [iblk, V, idx0 t]; rfl
theorem blk1 (k : Fin 2816) : @Eq EReal (iblk m c 1 t (ix2 a k)) (x1 m c (ix2 (row t a) k)) := by
  refine Eq.trans ?_ (show @Eq EReal (V m c main_v0 (ix2 (row t a) k)) _ from by unfold V; after_reads_at; try rfl)
  blk_ext [iblk, idx0 t]; rfl
theorem blk2 (k : Fin 2816) : @Eq EReal (iblk m c 2 t (ix2 k d)) (x2 m c (ix2 k d)) := by
  refine Eq.trans ?_ (show @Eq EReal (V m c main_v1 (ix2 k d)) _ from by unfold V; after_reads_at; try rfl)
  blk_ext [iblk, idx0 t]
theorem blk3 : @Eq EReal (iblk m c 3 t (ix2 0 d)) (x3 m c (ix2 0 d)) := by
  blk_ext [iblk, V, idx0 t]
theorem blk4 : @Eq EReal (iblk m c 4 t (ix2 a d)) (x4 m c (ix2 (row t a) d)) := by
  blk_ext [iblk, V, idx0 t]; rfl

theorem pay4_at : @Eq EReal (k0_pay4 (F := Ideal) (iblk m c 1 t) (iblk m c 2 t) (ix2 a d)) (ff m c (row t a) d) := by
  unfold k0_pay4 ff
  pointwise
  exact Finset.sum_congr rfl fun k _ => congrArg₂ (· * ·) (blk1 m c t a k) (blk2 m c t d k)

theorem pay5_at : @Eq EReal (k0_pay5 (F := Ideal) (iblk m c 1 t) (iblk m c 2 t) (iblk m c 0 t) (iblk m c 3 t) (iblk m c 4 t) (ix2 a d)) (err m c (row t a) d) := by
  unfold k0_pay5 err
  pointwise
  rw [pay4_at, blk0, blk3, blk4]

theorem pay6_at : @Eq EReal (k0_pay6 (F := Ideal) (iblk m c 1 t) (iblk m c 2 t) (iblk m c 0 t) (iblk m c 3 t) (iblk m c 4 t) (ix2 a d)) (dy m c (row t a) d) := by
  unfold k0_pay6 dy
  pointwise
  rw [pay5_at]

/-- What every point leaves in the two plain outputs' blocks and adds to the two sums. -/
theorem outs_at (t : Fin cfg0.N) :
    (∀ a d, @Eq EReal ((outsAt0 m c t.val t.isLt).1 (ix2 a d)) (dy m c (row t a) d))
    ∧ (∀ a d, @Eq EReal ((outsAt0 m c t.val t.isLt).2.1 (ix2 a d)) (dy m c (row t a) d * x3 m c (ix2 0 d))) := by
  by_cases h0 : t.val % 16 = 0
  · rw [outsAt0_A m c t h0]
    refine ⟨fun a d => ?_, fun a d => ?_⟩
    · frame_out
      exact pay6_at m c t a d
    · frame_out
      unfold k0_pay7
      pointwise
      rw [pay6_at, blk3]
  · rw [outsAt0_B m c t h0]
    refine ⟨fun a d => ?_, fun a d => ?_⟩
    · frame_out
      exact pay6_at m c t a d
    · frame_out
      unfold k0_pay7
      pointwise
      rw [pay6_at, blk3]

/-- What point `t` adds to the squared errors' sums and to the gate's gradient. -/
def term7 (p : Fin cfg0.N) (i : S8x1024.Idx) : EReal :=
  ∑ k : Fin 64, err m c (row p ⟨k.val * 8 + (i 0).val, by have : (i 0).val < 8 := (i 0).isLt; omega⟩) (i 1) * err m c (row p ⟨k.val * 8 + (i 0).val, by have : (i 0).val < 8 := (i 0).isLt; omega⟩) (i 1)
def term8 (p : Fin cfg0.N) (i : S8x1024.Idx) : EReal :=
  ∑ k : Fin 64, dy m c (row p ⟨k.val * 8 + (i 0).val, by have : (i 0).val < 8 := (i 0).isLt; omega⟩) (i 1) * ff m c (row p ⟨k.val * 8 + (i 0).val, by have : (i 0).val < 8 := (i 0).isLt; omega⟩) (i 1)

theorem first_7 (h0 : t.val % 16 = 0) (i : S8x1024.Idx) : @Eq EReal ((outsAt0 m c t.val t.isLt).2.2.1 i) (0 + term7 m c t i) := by
  idx_vars i
  rw [outsAt0_A m c t h0]
  frame_out
  unfold k0_pay8 k0_pay2
  pointwise
  simp only [pay5_at]
  rfl
theorem next_7 (h0 : ¬ t.val % 16 = 0) (i : S8x1024.Idx) :
    @Eq EReal ((outsAt0 m c t.val t.isLt).2.2.1 i) ((outsAt0 m c (t.val - 1) (Nat.lt_of_le_of_lt (Nat.sub_le _ _) t.isLt)).2.2.1 i + term7 m c t i) := by
  idx_vars i
  rw [outsAt0_B m c t h0]
  frame_out
  unfold k0_pay8
  pointwise
  simp only [pay5_at]
  rfl
theorem first_8 (h0 : t.val % 16 = 0) (i : S8x1024.Idx) : @Eq EReal ((outsAt0 m c t.val t.isLt).2.2.2 i) (0 + term8 m c t i) := by
  idx_vars i
  rw [outsAt0_A m c t h0]
  frame_out
  unfold k0_pay1 k0_pay3
  pointwise
  simp only [pay6_at, pay4_at]
  rfl
theorem next_8 (h0 : ¬ t.val % 16 = 0) (i : S8x1024.Idx) :
    @Eq EReal ((outsAt0 m c t.val t.isLt).2.2.2 i) ((outsAt0 m c (t.val - 1) (Nat.lt_of_le_of_lt (Nat.sub_le _ _) t.isLt)).2.2.2 i + term8 m c t i) := by
  idx_vars i
  rw [outsAt0_B m c t h0]
  frame_out
  unfold k0_pay1
  pointwise
  simp only [pay6_at, pay4_at]
  rfl

theorem arr5 : @Eq (S8192x1024.Idx → EReal) ((dats m 0 c).arrAt 5 cfg0.N) fun i => dy m c (i 0) (i 1) := by
  refine (dats m 0 c).arrAt_eq_of_covers 5 _ (by decide +kernel) fun t hf y => ?_
  blk_simp
  rw [after0_5]
  idx_vars y
  have he : ((View.whole main_v2_0).slice (win0_5.rect t)).emb (ix2 y0 y1) = ix2 (row t y0) y1 := by blk_ext [idx0 t] <;> rfl
  rw [he]
  exact (outs_at m c t).1 y0 y1

theorem arr6 : @Eq (S8192x1024.Idx → EReal) ((dats m 0 c).arrAt 6 cfg0.N) fun i => dy m c (i 0) (i 1) * x3 m c (ix2 0 (i 1)) := by
  refine (dats m 0 c).arrAt_eq_of_covers 6 _ (by decide +kernel) fun t hf y => ?_
  blk_simp
  rw [after0_6]
  idx_vars y
  have he : ((View.whole main_v2_1).slice (win0_6.rect t)).emb (ix2 y0 y1) = ix2 (row t y0) y1 := by blk_ext [idx0 t] <;> rfl
  rw [he]
  exact (outs_at m c t).2 y0 y1

theorem arr7 : @Eq (S8x1024.Idx → EReal) ((dats m 0 c).arrAt 7 cfg0.N) fun i => ∑ p, term7 m c p i := by
  refine (dats m 0 c).arrAt_eq_of_after_last 7 t0_15 (by decide +kernel) _ fun j => ?_
  blk_simp
  rw [after0_7]
  refine (Pipeline.eq_sum_fin_of_reset_step_apply_last (fun n h => (outsAt0 m c n h).2.2.1) 16 (fun _ => (0 : EReal)) (term7 m c)
    (first_7 m c) (next_7 m c) (by decide) t0_15 rfl j).trans (zero_add _)

theorem arr8 : @Eq (S8x1024.Idx → EReal) ((dats m 0 c).arrAt 8 cfg0.N) fun i => ∑ p, term8 m c p i := by
  refine (dats m 0 c).arrAt_eq_of_after_last 8 t0_15 (by decide +kernel) _ fun j => ?_
  blk_simp
  rw [after0_8]
  refine (Pipeline.eq_sum_fin_of_reset_step_apply_last (fun n h => (outsAt0 m c n h).2.2.2) 16 (fun _ => (0 : EReal)) (term8 m c)
    (first_8 m c) (next_8 m c) (by decide) t0_15 rfl j).trans (zero_add _)

section Tail

abbrev a7 (W : Valuation τ sig (Elt Ideal)) : S8x1024.Idx → EReal := W (Proc.devRef .tc main_v2_2)
abbrev a8 (W : Valuation τ sig (Elt Ideal)) : S8x1024.Idx → EReal := W (Proc.devRef .tc main_v2_3)

variable (W : Valuation τ sig (Elt Ideal))

theorem tail_loss (i) : @Eq EReal (StableHlo.after hostOps1 W (Proc.devRef .tc main_v6) i)
    ((∑ a : Fin 8, ∑ d : Fin 1024, a7 W (ix2 a d)) * Ideal.ofBits .f32 0x3A000000#32) := by
  after_reads_at
theorem tail_dg (d : Fin 1024) : @Eq EReal (StableHlo.after hostOps1 W (Proc.devRef .tc main_v8) (ix2 0 d)) (∑ a : Fin 8, a8 W (ix2 a d)) := by
  after_reads_at
end Tail

theorem word_half : Ideal.ofBits .f32 1056964608#32 = ((1 / 2 : ℝ) : EReal) := by
  simp [Ideal.ofBits, Ideal.ieee, -EReal.coe_mul]; norm_num
theorem word_1024 : Ideal.ofBits .f32 1149239296#32 = ((1024 : ℝ) : EReal) := by
  simp [Ideal.ofBits, Ideal.ieee, -EReal.coe_mul]; norm_num
theorem word_two : Ideal.ofBits .f32 1073741824#32 = ((2 : ℝ) : EReal) := by
  simp [Ideal.ofBits, Ideal.ieee, -EReal.coe_mul]; norm_num
theorem word_inv : Ideal.ofBits .f32 981467136#32 = ((1 / 1024 : ℝ) : EReal) := by
  simp [Ideal.ofBits, Ideal.ieee, -EReal.coe_mul]; norm_num
theorem word_inv2 : Ideal.ofBits .f32 973078528#32 = ((1 / 2048 : ℝ) : EReal) := by
  simp [Ideal.ofBits, Ideal.ieee, -EReal.coe_mul]; norm_num

/-- The derivative of half a mean square, as the reference and as the kernel write it. -/
theorem grad_scale (e : EReal) : Ideal.div (Ideal.ofBits .f32 1056964608#32) (Ideal.ofBits .f32 1149239296#32) * (Ideal.ofBits .f32 1073741824#32 * e)
    = e * Ideal.ofBits .f32 981467136#32 := by
  rw [word_half, word_1024, word_two, word_inv, Ideal.div_coe (by norm_num), ← mul_assoc, ← EReal.coe_mul, ← EReal.coe_mul, mul_comm]
  norm_num

theorem ref_dy (i) : @Eq EReal (Cert.HeadRefIdeal.Read.val_main_v18 (F := Ideal) (x0 m c) (x1 m c) (x2 m c) (x3 m c) (x4 m c) i) (dy m c (i 0) (i 1)) := by
  idx_vars i
  unfold dy err ff
  rw [← Cert.HeadRefIdeal.Read.val_main_v18_eq]
  pointwise
  exact grad_scale _

theorem ref_dff (i) : @Eq EReal (Cert.HeadRefIdeal.Read.val_main_v24 (F := Ideal) (x0 m c) (x1 m c) (x2 m c) (x3 m c) (x4 m c) i) (dy m c (i 0) (i 1) * x3 m c (ix2 0 (i 1))) := by
  idx_vars i
  unfold dy err ff
  rw [← Cert.HeadRefIdeal.Read.val_main_v24_eq]
  pointwise
  exact (congrArg _ (grad_scale _)).trans (mul_comm _ _)

theorem ref_dg (i) : @Eq EReal (Cert.HeadRefIdeal.Read.val_main_v23 (F := Ideal) (x0 m c) (x1 m c) (x2 m c) (x3 m c) (x4 m c) i) (∑ s, dy m c s (i 1) * ff m c s (i 1)) := by
  idx_vars i
  unfold dy err ff
  rw [← Cert.HeadRefIdeal.Read.val_main_v23_eq]
  pointwise
  exact Finset.sum_congr rfl fun s _ => congrArg (· * _) (grad_scale _)

theorem ref_loss (i) : @Eq EReal (Cert.HeadRefIdeal.Read.val_main_v12 (F := Ideal) (x0 m c) (x1 m c) (x2 m c) (x3 m c) (x4 m c) i)
    ((∑ s, ∑ d, err m c s d * err m c s d) * Ideal.ofBits .f32 0x3A000000#32) := by
  unfold err ff
  rw [← Cert.HeadRefIdeal.Read.val_main_v12_eq]
  pointwise
  rw [word_half, word_1024, word_inv2]
  simp only [Ideal.div_coe (show (1024 : ℝ) ≠ 0 by norm_num)]
  rw [← sum_mul_real _ (fun s => Finset.sum_nonneg fun d _ => square_nonneg _), mul_comm, mul_assoc, ← EReal.coe_mul]
  norm_num

theorem arr_inj : Function.Injective (Pipeline.arrRef spec0) := by decide

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b

theorem left_7 : a7 (left m c) = (dats m 0 c).arrAt 7 cfg0.N := Pipeline.withArrays_arr spec0 arr_inj c _ _ 7
theorem left_8 : a8 (left m c) = (dats m 0 c).arrAt 8 cfg0.N := Pipeline.withArrays_arr spec0 arr_inj c _ _ 8

theorem final_loss (i) : @Eq EReal (final m c main_v6 i) ((∑ s, ∑ d, err m c s d * err m c s d) * Ideal.ofBits .f32 0x3A000000#32) := by
  refine (tail_loss (left m c) i).trans (congrArg (· * _) ?_)
  rw [left_7, arr7, Finset.sum_comm]
  refine (Finset.sum_congr rfl fun d _ => ?_).trans Finset.sum_comm
  exact sum_groups fun s => err m c s d * err m c s d

theorem final_dg (i) : @Eq EReal (final m c main_v8 i) (∑ s, dy m c s (i 1) * ff m c s (i 1)) := by
  idx_vars i
  obtain rfl : i0 = 0 := Subsingleton.elim _ _
  refine (tail_dg (left m c) i1).trans ?_
  rw [left_8, arr8]
  exact sum_groups fun s => dy m c s i1 * ff m c s i1

/-- The kernel's run: its four results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v6) = final m c main_v6
      ∧ r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v8) = final m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (h.1 c).2 main_v6 (Pipeline.mem_restRefs_of main_v6 (by decide) (by decide)), (h.1 c).1 5, (h.1 c).1 6,
      (h.1 c).2 main_v8 (Pipeline.mem_restRefs_of main_v8 (by decide) (by decide)), h.2.1 c⟩)
    (θ_run_and (run_main m ρ) (frame m ρ))

/-- The loss and its gradients: kernel and derivative leave the same four arrays. -/
theorem value : Cert.algebraic_HeadIdeal_HeadRefIdeal := fun m ρ m' ρ' _ hag =>
  ⟨_, _, _, _, run_results m ρ, (θ_run _ _ _).mono (fun _ h c => by
      obtain ⟨h0, h1, h2, h3, hr⟩ := h c
      obtain ⟨e0, e1, e2, e3, e4⟩ := hag c
      rw [Cert.HeadRefIdeal.Read.val_main_v12_eq, e0, e1, e2, e3, e4] at h0
      rw [Cert.HeadRefIdeal.Read.val_main_v18_eq, e0, e1, e2, e3, e4] at h1
      rw [Cert.HeadRefIdeal.Read.val_main_v24_eq, e0, e1, e2, e3, e4] at h2
      rw [Cert.HeadRefIdeal.Read.val_main_v23_eq, e0, e1, e2, e3, e4] at h3
      exact ⟨h0.trans (funext fun i => (ref_loss m c i).trans (final_loss m c i).symm), h1.trans ((funext (ref_dy m c)).trans (arr5 m c).symm),
        h2.trans ((funext (ref_dff m c)).trans (arr6 m c).symm), h3.trans (funext fun i => (ref_dg m c i).trans (final_dg m c i).symm), hr⟩)
    (Cert.HeadRefIdeal.Value.run m' ρ')⟩

end Cert.Proof.Head
-- ==== Proof.Conv.lean ====
/- The value of the gated short convolution's gradient: the three branches' gradient and the filter's. -/
module

public import proofs.«01_k».proof.Proof.Gen.ConvIdeal.Frame
public import proofs.«01_k».proof.Proof.Gen.ConvRefIdeal.Read
public import proofs.«01_k».proof.Proof.Rows
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Conv

open Cert.ConvIdeal Cert.ConvIdeal.Gen
open Idealize.ShloMosaic Idealize.ShloMosaic.TcCoe Idealize.SL.Sem

variable (m : (ℓ : Loc nD τ sig) → Buf (Elt Ideal) ℓ) (c : Dev nD)

/-- Which block each window holds at grid point `t`. -/
theorem idx0 : ∀ t : Fin grid0.N, win0_0.index t = ![t.val, 0] ∧ win0_1.index t = ![t.val, 1] ∧ win0_2.index t = ![t.val, 2]
    ∧ win0_3.index t = ![min (t.val * 32 + 32) 1023, 0] ∧ win0_4.index t = ![t.val * 32 - 1, 1] ∧ win0_5.index t = ![t.val * 32 - 1, 2]
    ∧ win0_6.index t = ![min (t.val * 32 + 32) 1023, 1] ∧ win0_7.index t = ![min (t.val * 32 + 32) 1023, 2] ∧ win0_8.index t = ![t.val, 0]
    ∧ win0_9.index t = ![min (t.val * 32 + 32) 1023, 0] ∧ win0_10.index t = ![0, 0] ∧ win0_11.index t = ![t.val, 0] ∧ win0_12.index t = ![0, 0] := by
  decide +kernel

abbrev x0 : S8192x5128.Idx → EReal := m ((c : Thread nD τ).loc main_arg0)
abbrev x1 : S3x512.Idx → EReal := m ((c : Thread nD τ).loc main_arg1)
abbrev x2 : S8192x512.Idx → EReal := m ((c : Thread nD τ).loc main_arg2)

/-- The three branches of the projection, the filter, and the gradient that comes in. -/
def cb (s : Fin 8192) (q : Fin 512) : EReal := x0 m c (ix2 s ⟨q.val, by omega⟩)
def cc (s : Fin 8192) (q : Fin 512) : EReal := x0 m c (ix2 s ⟨q.val + 512, by omega⟩)
def cv (s : Fin 8192) (q : Fin 512) : EReal := x0 m c (ix2 s ⟨q.val + 1024, by omega⟩)

/-- The filtered product two rows late, zero outside the array; and the gradient of the filter's output. -/
def z (n : ℕ) (q : Fin 512) : EReal := if h : 2 ≤ n ∧ n < 8194 then cc m c ⟨n - 2, by omega⟩ q * cv m c ⟨n - 2, by omega⟩ q else 0
def g (n : ℕ) (q : Fin 512) : EReal := if h : n < 8192 then x2 m c (ix2 ⟨n, h⟩ q) * cb m c ⟨n, h⟩ q else 0

variable (t : Fin cfg0.N) (q : Fin 512)

theorem lt32 : t.val < 32 := t.isLt

theorem packed (s : Fin 8192) (j : Fin 5376) (h : j.val < 3072) : @Eq EReal (V m c main_v4 (ix2 s j)) (x0 m c (ix2 s ⟨j.val, by omega⟩)) := by
  unfold V
  after_reads_simp
  pointwise
  refine (dif_pos h).trans ((congrFun (StableHlo.unary_result' _ _ _ _) _).trans ?_)
  pointwise
  rfl

theorem blk0 (a : Fin 256) : @Eq EReal (X0_0 m c t (ix2 a q)) (cb m c ⟨t.val * 256 + a.val, by have := lt32 t; omega⟩ q) := by
  unfold X0_0 Pipeline.Window.fill cb; rw [dif_pos (moved0_0 t (ix2 a q))]
  refine Eq.trans ?_ (packed m c _ ⟨q.val, by omega⟩ (by show q.val < _; omega))
  blk_ext [iblk, idx0 t] <;> rfl
theorem blk1 (a : Fin 256) : @Eq EReal (X0_1 m c t (ix2 a q)) (cc m c ⟨t.val * 256 + a.val, by have := lt32 t; omega⟩ q) := by
  unfold X0_1 Pipeline.Window.fill cc; rw [dif_pos (moved0_1 t (ix2 a q))]
  refine Eq.trans ?_ (packed m c _ ⟨q.val + 512, by omega⟩ (by show q.val + 512 < _; omega))
  blk_ext [iblk, idx0 t] <;> (try simp only) <;> omega
theorem blk2 (a : Fin 256) : @Eq EReal (X0_2 m c t (ix2 a q)) (cv m c ⟨t.val * 256 + a.val, by have := lt32 t; omega⟩ q) := by
  unfold X0_2 Pipeline.Window.fill cv; rw [dif_pos (moved0_2 t (ix2 a q))]
  refine Eq.trans ?_ (packed m c _ ⟨q.val + 1024, by omega⟩ (by show q.val + 1024 < _; omega))
  blk_ext [iblk, idx0 t] <;> (try simp only) <;> omega
theorem blk3 (b : Fin 8) (h : t.val < 31) : @Eq EReal (X0_3 m c t (ix2 b q)) (cb m c ⟨t.val * 256 + 256 + b.val, by omega⟩ q) := by
  unfold X0_3 Pipeline.Window.fill cb; rw [dif_pos (moved0_3 t (ix2 b q))]
  refine Eq.trans ?_ (packed m c _ ⟨q.val, by omega⟩ (by show q.val < _; omega))
  blk_ext [iblk, idx0 t] <;> (try simp only) <;> omega
theorem blk4 (b : Fin 8) (h : 0 < t.val) : @Eq EReal (X0_4 m c t (ix2 b q)) (cc m c ⟨t.val * 256 + b.val - 8, by have := lt32 t; omega⟩ q) := by
  unfold X0_4 Pipeline.Window.fill cc; rw [dif_pos (moved0_4 t (ix2 b q))]
  refine Eq.trans ?_ (packed m c _ ⟨q.val + 512, by omega⟩ (by show q.val + 512 < _; omega))
  blk_ext [iblk, idx0 t] <;> (try simp only) <;> omega
theorem blk5 (b : Fin 8) (h : 0 < t.val) : @Eq EReal (X0_5 m c t (ix2 b q)) (cv m c ⟨t.val * 256 + b.val - 8, by have := lt32 t; omega⟩ q) := by
  unfold X0_5 Pipeline.Window.fill cv; rw [dif_pos (moved0_5 t (ix2 b q))]
  refine Eq.trans ?_ (packed m c _ ⟨q.val + 1024, by omega⟩ (by show q.val + 1024 < _; omega))
  blk_ext [iblk, idx0 t] <;> (try simp only) <;> omega
theorem blk8 (a : Fin 256) : @Eq EReal (iblk m c 8 t (ix2 a q)) (x2 m c (ix2 ⟨t.val * 256 + a.val, by have := lt32 t; omega⟩ q)) := by
  blk_ext [iblk, V, idx0 t] <;> rfl
theorem blk9 (b : Fin 8) (h : t.val < 31) : @Eq EReal (iblk m c 9 t (ix2 b q)) (x2 m c (ix2 ⟨t.val * 256 + 256 + b.val, by omega⟩ q)) := by
  blk_ext [iblk, V, idx0 t] <;> (try simp only) <;> omega
theorem blk10 (k : Fin 3) : @Eq EReal (iblk m c 10 t (ix2 ⟨k.val, by omega⟩ q)) (x1 m c (ix2 k q)) := by
  refine Eq.trans ?_ (show @Eq EReal (V m c main_v5 (ix2 ⟨k.val, by omega⟩ q)) _ from by unfold V; after_reads_at)
  blk_ext [iblk, idx0 t]

/-- The kernel's tests of the first point, of the last, and of the rows before the tile. -/
theorem is_first : ∀ t : Fin cfg0.N, Scalar.cmpi CmpIPredicate.eq (BitVec.ofNat 32 (grid0.coords t 0).val) 0#32 = if t.val = 0 then 1#1 else 0#1 := by decide +kernel
theorem is_last : ∀ t : Fin cfg0.N, Scalar.cmpi CmpIPredicate.eq (BitVec.ofNat 32 (grid0.coords t 0).val) 31#32 = if t.val = 31 then 1#1 else 0#1 := by decide +kernel
theorem is_prev : ∀ r : Fin 272, IntOp.cmpi CmpIPredicate.slt (BitVec.ofNat 32 r.val) 8#32 = if r.val < 8 then 1#1 else 0#1 := by decide +kernel

section Payloads

variable (i : grid0.Coords) (v5 v7 v11 v14 v18 v44 v50 v6 v91 : Vec Ideal S8x512 .f32) (v9 v16 v43 v48 : Vec Ideal S256x512 .f32) (v4 : BitVec 1)
  (v13 v20 v28 v29 v30 v33 v35 v53 : FVec Ideal S272x512 .f32) (r : Fin 272) (a : Fin 256)

theorem stack1 : @Eq EReal (k0_pay4 (F := Ideal) v7 v9 v11 (ix2 r q)) (if h : r.val < 8 then v7 (ix2 ⟨r.val, h⟩ q)
    else if h : r.val - 8 < 256 then v9 (ix2 ⟨r.val - 8, h⟩ q) else v11 (ix2 ⟨r.val - 8 - 256, by omega⟩ q)) := by
  unfold k0_pay4
  pointwise
theorem stack2 : @Eq EReal (k0_pay5 (F := Ideal) v14 v16 v18 (ix2 r q)) (if h : r.val < 8 then v14 (ix2 ⟨r.val, h⟩ q)
    else if h : r.val - 8 < 256 then v16 (ix2 ⟨r.val - 8, h⟩ q) else v18 (ix2 ⟨r.val - 8 - 256, by omega⟩ q)) := by
  unfold k0_pay5
  pointwise
theorem product_at : @Eq EReal (k0_pay6 (F := Ideal) i v7 v9 v11 v14 v16 v18 (ix2 r q))
    (Scalar.select (IntOp.andi (Scalar.cmpi CmpIPredicate.eq (BitVec.ofNat 32 (i 0).val) 0#32) (IntOp.cmpi CmpIPredicate.slt (BitVec.ofNat 32 r.val) 8#32))
      (0 : EReal) (k0_pay4 (F := Ideal) v7 v9 v11 (ix2 r q) * k0_pay5 (F := Ideal) v14 v16 v18 (ix2 r q))) := by
  unfold k0_pay6
  pointwise
theorem grad_at (h8 : 8 ≤ r.val) : @Eq EReal (k0_pay13 (F := Ideal) v4 v43 v44 v48 v50 (ix2 r q)) (if h : r.val - 8 < 256 then v43 (ix2 ⟨r.val - 8, h⟩ q) * v48 (ix2 ⟨r.val - 8, h⟩ q)
    else Scalar.select v4 (0 : EReal) (v44 (ix2 ⟨r.val - 8 - 256, by omega⟩ q)) * v50 (ix2 ⟨r.val - 8 - 256, by omega⟩ q)) := by
  unfold k0_pay13 k0_pay12 k0_pay11
  pointwise
  rw [dif_neg (show ¬ r.val < 8 by omega), dif_neg (show ¬ r.val < 8 by omega)]
  by_cases h : r.val - 8 < 256
  · rw [dif_pos h, dif_pos h, dif_pos h]
  · rw [dif_neg h, dif_neg h, dif_neg h]
    unfold Scalar.select
    split
    · exact zero_mul _
    · rfl
theorem late1 (h : 1 ≤ r.val) : @Eq EReal (k0_pay7 (F := Ideal) i v7 v9 v11 v14 v16 v18 (ix2 r q)) (k0_pay6 (F := Ideal) i v7 v9 v11 v14 v16 v18 (ix2 ⟨r.val - 1, by omega⟩ q)) := by
  unfold k0_pay7
  pointwise
  simp only [show (r.val + 272 - 1) % 272 = r.val - 1 by omega]
theorem late2 (h : 2 ≤ r.val) : @Eq EReal (k0_pay8 (F := Ideal) i v7 v9 v11 v14 v16 v18 (ix2 r q)) (k0_pay6 (F := Ideal) i v7 v9 v11 v14 v16 v18 (ix2 ⟨r.val - 2, by omega⟩ q)) := by
  unfold k0_pay8
  pointwise
  simp only [show (r.val + 272 - 2) % 272 = r.val - 2 by omega]
theorem first_tap : @Eq EReal (k0_pay9 (F := Ideal) i v5 v7 v9 v11 v14 v16 v18 (ix2 r q)) (k0_pay8 (F := Ideal) i v7 v9 v11 v14 v16 v18 (ix2 r q) * v5 (ix2 0 q)) := by
  unfold k0_pay9 k0_pay3
  pointwise
theorem second_tap : @Eq EReal (k0_pay10 (F := Ideal) v5 (ix2 r q)) (v5 (ix2 1 q)) := by
  unfold k0_pay10 k0_pay3
  pointwise
theorem part0 : @Eq EReal (k0_pay15 (F := Ideal) v4 (k0_pay3 (F := Ideal) v6) v28 v29 v33 v35 v43 v44 (ix2 a q))
    (v43 (ix2 a q) * (v33 (ix2 ⟨8 + a.val, by omega⟩ q) + v29 (ix2 ⟨8 + a.val, by omega⟩ q) * v35 (ix2 ⟨8 + a.val, by omega⟩ q) + v28 (ix2 ⟨8 + a.val, by omega⟩ q) * v6 (ix2 2 q))) := by
  unfold k0_pay15 k0_pay12 k0_pay11 k0_pay3
  pointwise
theorem filtered : @Eq EReal (k0_pay14 (F := Ideal) v4 (k0_pay3 (F := Ideal) v6) v43 v44 v48 v50 (ix2 ⟨8 + a.val, by omega⟩ q))
    (k0_pay13 (F := Ideal) v4 v43 v44 v48 v50 (ix2 ⟨8 + a.val, by omega⟩ q) * v6 (ix2 2 q) + k0_pay13 (F := Ideal) v4 v43 v44 v48 v50 (ix2 ⟨9 + a.val, by omega⟩ q) * v6 (ix2 1 q)
      + k0_pay13 (F := Ideal) v4 v43 v44 v48 v50 (ix2 ⟨10 + a.val, by omega⟩ q) * v6 (ix2 0 q)) := by
  unfold k0_pay14 k0_pay3
  pointwise
  simp only [show (8 + a.val + 272 - 271) % 272 = 9 + a.val by omega, show (8 + a.val + 272 - 270) % 272 = 10 + a.val by omega]
theorem part1 : @Eq EReal (k0_pay16 (F := Ideal) v4 v6 v20 v43 v44 v48 v50 (ix2 a q)) (k0_pay14 (F := Ideal) v4 v6 v43 v44 v48 v50 (ix2 ⟨8 + a.val, by omega⟩ q) * v20 (ix2 ⟨8 + a.val, by omega⟩ q)) := by
  unfold k0_pay16
  pointwise
theorem part2 : @Eq EReal (k0_pay17 (F := Ideal) v4 v6 v13 v43 v44 v48 v50 (ix2 a q)) (k0_pay14 (F := Ideal) v4 v6 v43 v44 v48 v50 (ix2 ⟨8 + a.val, by omega⟩ q) * v13 (ix2 ⟨8 + a.val, by omega⟩ q)) := by
  unfold k0_pay17
  pointwise
theorem filter_row (k : Fin 8) : @Eq EReal (k0_pay1 (F := Ideal) v28 v29 v30 v53 v91 (ix2 k q)) (v91 (ix2 k q) +
    if k.val < 1 then ∑ a : Fin 256, v53 (ix2 ⟨8 + a.val, by omega⟩ q) * v30 (ix2 ⟨8 + a.val, by omega⟩ q)
    else if k.val - 1 < 1 then ∑ a : Fin 256, v53 (ix2 ⟨8 + a.val, by omega⟩ q) * v29 (ix2 ⟨8 + a.val, by omega⟩ q)
    else if k.val - 1 - 1 < 1 then ∑ a : Fin 256, v53 (ix2 ⟨8 + a.val, by omega⟩ q) * v28 (ix2 ⟨8 + a.val, by omega⟩ q) else 0) := by
  unfold k0_pay1
  pointwise
  rfl

/-- The three stores side by side, read back. -/
theorem store2 (P : S256x512.Idx → EReal) (L) (j : Fin 1536) (h : 1024 ≤ j.val) :
    @Eq EReal (View.canon (Val := Elt Ideal) (e := .bf16) (⟨Rect.unit ![0, 1024] ![256, 512] inb_S256x1536_S256x512_0_1024, P⟩ :: L) (ix2 a j)) (P (ix2 a ⟨j.val - 1024, by omega⟩)) := by
  have e : (ix2 a j : S256x1536.Idx) = (Rect.unit ![0, 1024] ![256, 512] inb_S256x1536_S256x512_0_1024).emb (ix2 a (⟨j.val - 1024, by omega⟩ : Fin 512)) := by
    funext b; fin_cases b <;> apply Fin.ext <;> simp [ValueKit.rect_emb_unit_val] <;> omega
  rw [e]
  exact View.canon_cons_emb _ _ _ _
theorem store1 (P P' : S256x512.Idx → EReal) (L) (j : Fin 1024) (h : 512 ≤ j.val) :
    @Eq EReal (View.canon (Val := Elt Ideal) (e := .bf16) (⟨Rect.unit ![0, 1024] ![256, 512] inb_S256x1536_S256x512_0_1024, P'⟩
      :: ⟨Rect.unit ![0, 512] ![256, 512] inb_S256x1536_S256x512_0_512, P⟩ :: L) (ix2 a ⟨j.val, by omega⟩)) (P (ix2 a ⟨j.val - 512, by omega⟩)) := by
  have hj : j.val < 1024 := j.isLt
  rw [View.canon_cons_of_not_mem _ _ fun hm => by have h := ((Rect.mem_set_unit (inb := inb_S256x1536_S256x512_0_1024)).mp hm 1).1; change 1024 ≤ j.val at h; omega]
  have e : (ix2 a ⟨j.val, by omega⟩ : S256x1536.Idx) = (Rect.unit ![0, 512] ![256, 512] inb_S256x1536_S256x512_0_512).emb (ix2 a (⟨j.val - 512, by omega⟩ : Fin 512)) := by
    funext b; fin_cases b <;> apply Fin.ext <;> simp [ValueKit.rect_emb_unit_val] <;> omega
  rw [e]
  exact View.canon_cons_emb _ _ _ _
theorem store0 (j : Fin 512) (P P' P'' : S256x512.Idx → EReal) :
    @Eq EReal (View.canon (Val := Elt Ideal) (e := .bf16) [⟨Rect.unit ![0, 1024] ![256, 512] inb_S256x1536_S256x512_0_1024, P''⟩,
      ⟨Rect.unit ![0, 512] ![256, 512] inb_S256x1536_S256x512_0_512, P'⟩, ⟨Rect.unit ![0, 0] ![256, 512] inb_S256x1536_S256x512_0_0, P⟩] (ix2 a ⟨j.val, by omega⟩)) (P (ix2 a j)) := by
  have hj : j.val < 512 := j.isLt
  rw [View.canon_cons_of_not_mem _ _ fun hm => by have h := ((Rect.mem_set_unit (inb := inb_S256x1536_S256x512_0_1024)).mp hm 1).1; change 1024 ≤ j.val at h; omega,
    View.canon_cons_of_not_mem _ _ fun hm => by have h := ((Rect.mem_set_unit (inb := inb_S256x1536_S256x512_0_512)).mp hm 1).1; change 512 ≤ j.val at h; omega]
  have e : (ix2 a ⟨j.val, by omega⟩ : S256x1536.Idx) = (Rect.unit ![0, 0] ![256, 512] inb_S256x1536_S256x512_0_0).emb (ix2 a j) := by
    funext b; fin_cases b <;> apply Fin.ext <;> simp [ValueKit.rect_emb_unit_val] <;> omega
  rw [e]
  exact View.canon_cons_emb _ _ _ _
end Payloads

/-- The kernel's product of two branches, with the rows before the tile. -/
theorem pay6_at (r : Fin 272) (h6 : 6 ≤ r.val) (hr : r.val < 264) :
    @Eq EReal (k0_pay6 (F := Ideal) (grid0.coords t) (X0_4 m c t) (X0_1 m c t) (X0_6 m c t) (X0_5 m c t) (X0_2 m c t) (X0_7 m c t) (ix2 r q)) (z m c (t.val * 256 + r.val - 6) q) := by
  have h32 : t.val < 32 := lt32 t
  rw [product_at, stack1, stack2, is_first, is_prev]
  unfold z
  by_cases h8 : r.val < 8
  · by_cases h0 : t.val = 0
    · rw [if_pos h8, if_pos h0, dif_neg (show ¬ (2 ≤ t.val * 256 + r.val - 6 ∧ t.val * 256 + r.val - 6 < 8194) by omega)]
      rfl
    · have h3 : 2 ≤ t.val * 256 + r.val - 6 ∧ t.val * 256 + r.val - 6 < 8194 := ⟨by omega, by omega⟩
      rw [if_pos h8, if_neg h0, dif_pos h3, dif_pos h8, dif_pos h8, blk4 m c t q ⟨r.val, h8⟩ (by omega), blk5 m c t q ⟨r.val, h8⟩ (by omega)]
      have e : t.val * 256 + r.val - 8 = t.val * 256 + r.val - 6 - 2 := by omega
      simp only [e]
      rfl
  · have h2 : r.val - 8 < 256 := by omega
    have h3 : 2 ≤ t.val * 256 + r.val - 6 ∧ t.val * 256 + r.val - 6 < 8194 := ⟨by omega, by omega⟩
    rw [if_neg h8, dif_pos h3, dif_neg h8, dif_neg h8, dif_pos h2, dif_pos h2, blk1 m c t q ⟨r.val - 8, h2⟩, blk2 m c t q ⟨r.val - 8, h2⟩]
    have e : t.val * 256 + (r.val - 8) = t.val * 256 + r.val - 6 - 2 := by omega
    simp only [e]
    by_cases h0 : t.val = 0
    · rw [if_pos h0]; rfl
    · rw [if_neg h0]; rfl

/-- The gradient of the filter's output, with the rows behind the tile. -/
theorem pay13_at (r : Fin 272) (h8 : 8 ≤ r.val) :
    @Eq EReal (k0_pay13 (F := Ideal) (Scalar.cmpi CmpIPredicate.eq (BitVec.ofNat 32 (grid0.coords t 0).val) 31#32) (iblk m c 8 t) (iblk m c 9 t) (X0_0 m c t) (X0_3 m c t) (ix2 r q))
      (g m c (t.val * 256 + r.val - 8) q) := by
  have h32 : t.val < 32 := lt32 t
  rw [grad_at _ _ _ _ _ _ _ h8, is_last]
  unfold g
  by_cases h2 : r.val - 8 < 256
  · have h3 : t.val * 256 + r.val - 8 < 8192 := by omega
    rw [dif_pos h2, dif_pos h3]
    refine (congrArg₂ (· * ·) (blk8 m c t q ⟨r.val - 8, h2⟩) (blk0 m c t q ⟨r.val - 8, h2⟩)).trans ?_
    have e : t.val * 256 + (r.val - 8) = t.val * 256 + r.val - 8 := by omega
    simp only [e]
  · rw [dif_neg h2]
    by_cases h0 : t.val = 31
    · rw [if_pos h0, dif_neg (by omega)]
      exact zero_mul _
    · have h3 : t.val * 256 + r.val - 8 < 8192 := by omega
      rw [if_neg h0, dif_pos h3]
      refine (congrArg₂ (fun x y : EReal => x * y) (blk9 m c t q ⟨r.val - 8 - 256, by omega⟩ (by omega)) (blk3 m c t q ⟨r.val - 8 - 256, by omega⟩ (by omega))).trans ?_
      have e : t.val * 256 + 256 + (r.val - 8 - 256) = t.val * 256 + r.val - 8 := by omega
      simp only [e]

/-- The filtered product and the gradient drawn back through the filter. -/
def cz (n : ℕ) (q : Fin 512) : EReal := z m c n q * x1 m c (ix2 0 q) + z m c (n + 1) q * x1 m c (ix2 1 q) + z m c (n + 2) q * x1 m c (ix2 2 q)
def dz (n : ℕ) (q : Fin 512) : EReal := g m c n q * x1 m c (ix2 2 q) + g m c (n + 1) q * x1 m c (ix2 1 q) + g m c (n + 2) q * x1 m c (ix2 0 q)

/-- The gradient of the three branches, side by side. -/
def d3 (s : Fin 8192) (j : Fin 1536) : EReal :=
  if h : j.val < 512 then x2 m c (ix2 s ⟨j.val, h⟩) * cz m c s.val ⟨j.val, h⟩
  else if h : j.val < 1024 then dz m c s.val ⟨j.val - 512, by omega⟩ * cv m c s ⟨j.val - 512, by omega⟩
  else dz m c s.val ⟨j.val - 1024, by omega⟩ * cc m c s ⟨j.val - 1024, by omega⟩

def row (a : Fin 256) : Fin 8192 := ⟨t.val * 256 + a.val, by have := lt32 t; omega⟩

abbrev lastBit : BitVec 1 := Scalar.cmpi CmpIPredicate.eq (BitVec.ofNat 32 (grid0.coords t 0).val) 31#32

theorem w0_at : @Eq EReal (iblk m c 10 t (ix2 0 q)) (x1 m c (ix2 0 q)) := blk10 m c t q 0
theorem w1_at : @Eq EReal (iblk m c 10 t (ix2 1 q)) (x1 m c (ix2 1 q)) := blk10 m c t q 1
theorem w2_at : @Eq EReal (iblk m c 10 t (ix2 2 q)) (x1 m c (ix2 2 q)) := blk10 m c t q 2

theorem z0_at (a : Fin 256) : @Eq EReal (k0_pay8 (F := Ideal) (grid0.coords t) (X0_4 m c t) (X0_1 m c t) (X0_6 m c t) (X0_5 m c t) (X0_2 m c t) (X0_7 m c t) (ix2 ⟨8 + a.val, by omega⟩ q)) (z m c (row t a).val q) := by
  rw [late2 _ _ _ _ _ _ _ _ _ (by show 2 ≤ 8 + a.val; omega), pay6_at m c t q _ (by show 6 ≤ 8 + a.val - 2; omega) (by show 8 + a.val - 2 < 264; omega)]
  exact congrArg (fun n => z m c n q) (show t.val * 256 + (8 + a.val - 2) - 6 = t.val * 256 + a.val by omega)
theorem z1_at (a : Fin 256) : @Eq EReal (k0_pay7 (F := Ideal) (grid0.coords t) (X0_4 m c t) (X0_1 m c t) (X0_6 m c t) (X0_5 m c t) (X0_2 m c t) (X0_7 m c t) (ix2 ⟨8 + a.val, by omega⟩ q)) (z m c ((row t a).val + 1) q) := by
  rw [late1 _ _ _ _ _ _ _ _ _ (by show 1 ≤ 8 + a.val; omega), pay6_at m c t q _ (by show 6 ≤ 8 + a.val - 1; omega) (by show 8 + a.val - 1 < 264; omega)]
  exact congrArg (fun n => z m c n q) (show t.val * 256 + (8 + a.val - 1) - 6 = t.val * 256 + a.val + 1 by omega)
theorem z2_at (a : Fin 256) : @Eq EReal (k0_pay6 (F := Ideal) (grid0.coords t) (X0_4 m c t) (X0_1 m c t) (X0_6 m c t) (X0_5 m c t) (X0_2 m c t) (X0_7 m c t) (ix2 ⟨8 + a.val, by omega⟩ q)) (z m c ((row t a).val + 2) q) := by
  rw [pay6_at m c t q _ (by show 6 ≤ 8 + a.val; omega) (by show 8 + a.val < 264; omega)]
  exact congrArg (fun n => z m c n q) (show t.val * 256 + (8 + a.val) - 6 = t.val * 256 + a.val + 2 by omega)
theorem g_at (a : Fin 256) (k : ℕ) (hk : k < 3) : @Eq EReal (k0_pay13 (F := Ideal) (lastBit t) (iblk m c 8 t) (iblk m c 9 t) (X0_0 m c t) (X0_3 m c t) (ix2 ⟨8 + k + a.val, by omega⟩ q)) (g m c ((row t a).val + k) q) := by
  rw [pay13_at m c t q _ (by show 8 ≤ 8 + k + a.val; omega)]
  exact congrArg (fun n => g m c n q) (show t.val * 256 + (8 + k + a.val) - 8 = t.val * 256 + a.val + k by omega)
theorem dz_at (a : Fin 256) : @Eq EReal (k0_pay14 (F := Ideal) (lastBit t) (k0_pay3 (F := Ideal) (iblk m c 10 t)) (iblk m c 8 t) (iblk m c 9 t) (X0_0 m c t) (X0_3 m c t) (ix2 ⟨8 + a.val, by omega⟩ q)) (dz m c (row t a).val q) := by
  rw [filtered, w0_at, w1_at, w2_at]
  unfold dz
  exact congrArg₂ (· + ·) (congrArg₂ (· + ·) (congrArg (· * _) (g_at m c t q a 0 (by omega))) (congrArg (· * _) (g_at m c t q a 1 (by omega)))) (congrArg (· * _) (g_at m c t q a 2 (by omega)))
theorem cc_at (a : Fin 256) : @Eq EReal (k0_pay4 (F := Ideal) (X0_4 m c t) (X0_1 m c t) (X0_6 m c t) (ix2 ⟨8 + a.val, by omega⟩ q)) (cc m c (row t a) q) := by
  have h : (8 + a.val) - 8 < 256 := by omega
  rw [stack1, dif_neg (by show ¬ 8 + a.val < 8; omega), dif_pos h, blk1 m c t q ⟨8 + a.val - 8, h⟩]
  simp only [show 8 + a.val - 8 = a.val by omega]
  rfl
theorem cv_at (a : Fin 256) : @Eq EReal (k0_pay5 (F := Ideal) (X0_5 m c t) (X0_2 m c t) (X0_7 m c t) (ix2 ⟨8 + a.val, by omega⟩ q)) (cv m c (row t a) q) := by
  have h : (8 + a.val) - 8 < 256 := by omega
  rw [stack2, dif_neg (by show ¬ 8 + a.val < 8; omega), dif_pos h, blk2 m c t q ⟨8 + a.val - 8, h⟩]
  simp only [show 8 + a.val - 8 = a.val by omega]
  rfl

/-- What one point stores of the branches' gradient. -/
theorem stored (a : Fin 256) (j : Fin 1536) : @Eq EReal (View.canon (Val := Elt Ideal) (e := .bf16)
      [⟨Rect.unit ![0, 1024] ![256, 512] inb_S256x1536_S256x512_0_1024,
          k0_pay17 (F := Ideal) (lastBit t) (k0_pay3 (iblk m c 10 t)) (k0_pay4 (X0_4 m c t) (X0_1 m c t) (X0_6 m c t)) (iblk m c 8 t) (iblk m c 9 t) (X0_0 m c t) (X0_3 m c t)⟩,
        ⟨Rect.unit ![0, 512] ![256, 512] inb_S256x1536_S256x512_0_512,
          k0_pay16 (F := Ideal) (lastBit t) (k0_pay3 (iblk m c 10 t)) (k0_pay5 (X0_5 m c t) (X0_2 m c t) (X0_7 m c t)) (iblk m c 8 t) (iblk m c 9 t) (X0_0 m c t) (X0_3 m c t)⟩,
        ⟨Rect.unit ![0, 0] ![256, 512] inb_S256x1536_S256x512_0_0,
          k0_pay15 (F := Ideal) (lastBit t) (k0_pay3 (iblk m c 10 t))
            (k0_pay6 (grid0.coords t) (X0_4 m c t) (X0_1 m c t) (X0_6 m c t) (X0_5 m c t) (X0_2 m c t) (X0_7 m c t))
            (k0_pay7 (grid0.coords t) (X0_4 m c t) (X0_1 m c t) (X0_6 m c t) (X0_5 m c t) (X0_2 m c t) (X0_7 m c t))
            (k0_pay9 (grid0.coords t) (iblk m c 10 t) (X0_4 m c t) (X0_1 m c t) (X0_6 m c t) (X0_5 m c t) (X0_2 m c t) (X0_7 m c t))
            (k0_pay10 (iblk m c 10 t)) (iblk m c 8 t) (iblk m c 9 t)⟩] (ix2 a j)) (d3 m c (row t a) j) := by
  unfold d3
  by_cases h0 : j.val < 512
  · refine (store0 a ⟨j.val, h0⟩ _ _ _).trans (Eq.trans ?_ (dif_pos h0).symm)
    rw [part0, first_tap, second_tap, z0_at, z1_at, z2_at, w0_at, w1_at, w2_at]
    exact congrArg (· * _) (blk8 m c t _ a)
  · refine Eq.trans ?_ (dif_neg h0).symm
    by_cases h1 : j.val < 1024
    · refine (store1 a _ _ _ ⟨j.val, h1⟩ (Nat.le_of_not_lt h0)).trans (Eq.trans ?_ (dif_pos h1).symm)
      rw [part1, dz_at, cv_at]
    · refine (store2 a _ _ j (Nat.le_of_not_lt h1)).trans (Eq.trans ?_ (dif_neg h1).symm)
      rw [part2, dz_at, cc_at]

theorem outs_at (j : Fin 1536) (a : Fin 256) : @Eq EReal ((outsAt0 m c t.val t.isLt).1 (ix2 a j)) (d3 m c (row t a) j) := by
  by_cases h0 : t.val % 32 = 0
  · rw [outsAt0_A m c t h0]
    frame_out
    exact stored m c t a j
  · rw [outsAt0_B m c t h0]
    frame_out
    exact stored m c t a j

/-- What point `t` adds to the filter's gradient: tap `k` takes the product `2 - k` rows back. -/
def tap (s : Fin 8192) (k : Fin 8) (q : Fin 512) : EReal := if k.val < 3 then g m c s.val q * z m c (s.val + k.val) q else 0
def term12 (p : Fin cfg0.N) (i : S8x512.Idx) : EReal := ∑ a : Fin 256, tap m c (row p a) (i 0) (i 1)

theorem added (v91 : Vec Ideal S8x512 .f32) (k : Fin 8) : @Eq EReal (k0_pay1 (F := Ideal)
      (k0_pay6 (grid0.coords t) (X0_4 m c t) (X0_1 m c t) (X0_6 m c t) (X0_5 m c t) (X0_2 m c t) (X0_7 m c t))
      (k0_pay7 (grid0.coords t) (X0_4 m c t) (X0_1 m c t) (X0_6 m c t) (X0_5 m c t) (X0_2 m c t) (X0_7 m c t))
      (k0_pay8 (grid0.coords t) (X0_4 m c t) (X0_1 m c t) (X0_6 m c t) (X0_5 m c t) (X0_2 m c t) (X0_7 m c t))
      (k0_pay13 (lastBit t) (iblk m c 8 t) (iblk m c 9 t) (X0_0 m c t) (X0_3 m c t)) v91 (ix2 k q)) (v91 (ix2 k q) + term12 m c t (ix2 k q)) := by
  have hg : ∀ a : Fin 256, @Eq EReal (k0_pay13 (F := Ideal) (lastBit t) (iblk m c 8 t) (iblk m c 9 t) (X0_0 m c t) (X0_3 m c t) (ix2 ⟨8 + a.val, by omega⟩ q)) (g m c (row t a).val q) := fun a => g_at m c t q a 0 (by omega)
  rw [filter_row]
  refine congrArg _ ?_
  unfold term12 tap
  simp only [hg, z0_at, z1_at, z2_at]
  fin_cases k <;> simp

theorem first_12 (h0 : t.val % 32 = 0) (i : S8x512.Idx) : @Eq EReal ((outsAt0 m c t.val t.isLt).2 i) (0 + term12 m c t i) := by
  idx_vars i
  rw [outsAt0_A m c t h0]
  frame_out
  refine (added m c t i1 _ i0).trans (congrArg (· + _) ?_)
  unfold k0_pay2
  pointwise
theorem next_12 (h0 : ¬ t.val % 32 = 0) (i : S8x512.Idx) :
    @Eq EReal ((outsAt0 m c t.val t.isLt).2 i) ((outsAt0 m c (t.val - 1) (Nat.lt_of_le_of_lt (Nat.sub_le _ _) t.isLt)).2 i + term12 m c t i) := by
  idx_vars i
  rw [outsAt0_B m c t h0]
  frame_out
  exact added m c t i1 _ i0

theorem arr11 : @Eq (S8192x1536.Idx → EReal) ((dats m 0 c).arrAt 11 cfg0.N) fun i => d3 m c (i 0) (i 1) := by
  refine (dats m 0 c).arrAt_eq_of_covers 11 _ (by decide +kernel) fun t hf y => ?_
  blk_simp
  rw [after0_11]
  idx_vars y
  have he : ((View.whole main_v6_0).slice (win0_11.rect t)).emb (ix2 y0 y1) = ix2 (row t y0) y1 := by blk_ext [idx0 t] <;> rfl
  rw [he]
  exact outs_at m c t y1 y0

/-- The last point of the grid. -/
def last : Fin cfg0.N := ⟨31, by decide⟩

theorem arr12 : @Eq (S8x512.Idx → EReal) ((dats m 0 c).arrAt 12 cfg0.N) fun i => ∑ p, term12 m c p i := by
  refine (dats m 0 c).arrAt_eq_of_after_last 12 last (by decide +kernel) _ fun j => ?_
  blk_simp
  rw [after0_12]
  refine (Pipeline.eq_sum_fin_of_reset_step_apply_last (fun n h => (outsAt0 m c n h).2) 32 (fun _ => (0 : EReal)) (term12 m c)
    (first_12 m c) (next_12 m c) (by decide) last rfl j).trans (zero_add _)

/-- The filter's gradient over all rows. -/
theorem total (k : Fin 8) : ∑ p, term12 m c p (ix2 k q) = ∑ s, tap m c s k q := sum_rows256 fun s => tap m c s k q

abbrev a12 (W : Valuation τ sig (Elt Ideal)) : S8x512.Idx → EReal := W (Proc.devRef .tc main_v6_1)
theorem tail_dw (W : Valuation τ sig (Elt Ideal)) (k : Fin 3) : @Eq EReal (StableHlo.after hostOps1 W (Proc.devRef .tc main_v7) (ix2 k q)) (a12 W (ix2 ⟨k.val, by omega⟩ q)) := by
  after_reads_at
  try rfl

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b
theorem left_12 : a12 (left m c) = (dats m 0 c).arrAt 12 cfg0.N := (dats m 0 c).withArrays_arrAt sharedIn0 (V0 m c) (A_eq m c) 12

theorem final_dw (i : S3x512.Idx) : @Eq EReal (final m c main_v7 i) (∑ s : Fin 8192, g m c s.val (i 1) * z m c (s.val + (i 0).val) (i 1)) := by
  idx_vars i
  refine (tail_dw (q := i1) (left m c) i0).trans ?_
  rw [left_12, arr12]
  refine (total m c i1 _).trans (Finset.sum_congr rfl fun s _ => if_pos i0.isLt)

section Reference
open Cert.ConvRefIdeal.Read

theorem ref_z (n : Fin 8194) : @Eq EReal (val_main_v6 (F := Ideal) (x0 m c) (ix2 n q)) (z m c n.val q) := by
  have h : @Eq EReal (val_main_v6 (F := Ideal) (x0 m c) (ix2 n q))
      (if h : n.val < 2 then 0 else x0 m c (ix2 ⟨n.val - 2, by omega⟩ ⟨512 + q.val, by omega⟩) * x0 m c (ix2 ⟨n.val - 2, by omega⟩ ⟨1024 + q.val, by omega⟩)) := by
    unfold val_main_v6 val_main_v5 val_main_cst val_main_v4 val_main_v3 val_main_v2 val_main_v0
    pointwise
  rw [h]
  unfold z cc cv
  by_cases h2 : n.val < 2
  · rw [dif_pos h2, dif_neg (by omega)]
  · rw [dif_neg h2, dif_pos ⟨by omega, n.isLt⟩]
    simp only [Nat.add_comm]
theorem ref_g (s : Fin 8192) : @Eq EReal (val_main_v29 (F := Ideal) (x0 m c) (x2 m c) (ix2 s q)) (g m c s.val q) := by
  have h : @Eq EReal (val_main_v29 (F := Ideal) (x0 m c) (x2 m c) (ix2 s q)) (x0 m c (ix2 s ⟨q.val, by omega⟩) * x2 m c (ix2 s q)) := by
    unfold val_main_v29 val_main_v1 val_main_v0
    pointwise
  rw [h, mul_comm]
  unfold g cb
  rw [dif_pos s.isLt]
theorem ref_w0 (s : Fin 8192) : @Eq EReal (val_main_v12 (F := Ideal) (x1 m c) (ix2 s q)) (x1 m c (ix2 0 q)) := by
  unfold val_main_v12 val_main_v11 val_main_v10 val_main_v9
  pointwise
theorem ref_w1 (s : Fin 8192) : @Eq EReal (val_main_v18 (F := Ideal) (x1 m c) (ix2 s q)) (x1 m c (ix2 1 q)) := by
  unfold val_main_v18 val_main_v17 val_main_v16 val_main_v15
  pointwise
theorem ref_w2 (s : Fin 8192) : @Eq EReal (val_main_v25 (F := Ideal) (x1 m c) (ix2 s q)) (x1 m c (ix2 2 q)) := by
  unfold val_main_v25 val_main_v24 val_main_v23 val_main_v22
  pointwise
theorem ref_z0 (s : Fin 8192) : @Eq EReal (val_main_v8 (F := Ideal) (x0 m c) (ix2 s q)) (z m c s.val q) := by
  unfold val_main_v8
  pointwise
  exact ref_z m c q ⟨s.val, by omega⟩
theorem ref_z1 (s : Fin 8192) : @Eq EReal (val_main_v14 (F := Ideal) (x0 m c) (ix2 s q)) (z m c (s.val + 1) q) := by
  unfold val_main_v14
  pointwise
  exact (ref_z m c q ⟨1 + s.val, by omega⟩).trans (congrArg (fun n => z m c n q) (Nat.add_comm _ _))
theorem ref_z2 (s : Fin 8192) : @Eq EReal (val_main_v21 (F := Ideal) (x0 m c) (ix2 s q)) (z m c (s.val + 2) q) := by
  unfold val_main_v21
  pointwise
  exact (ref_z m c q ⟨2 + s.val, by omega⟩).trans (congrArg (fun n => z m c n q) (Nat.add_comm _ _))
theorem ref_cz (s : Fin 8192) : @Eq EReal (val_main_v27 (F := Ideal) (x0 m c) (x1 m c) (ix2 s q)) (cz m c s.val q) := by
  unfold val_main_v27 val_main_v20 val_main_v26 val_main_v19 val_main_v13 cz
  pointwise
  rw [ref_z0, ref_z1, ref_z2, ref_w0, ref_w1, ref_w2]

theorem ref_t0 : @Eq EReal (val_main_v52 (F := Ideal) (x0 m c) (x2 m c) (ix1 q)) (∑ s : Fin 8192, g m c s.val q * z m c (s.val + 0) q) := by
  unfold val_main_v52 val_main_v51 val_main_cst_9
  pointwise
  exact Finset.sum_congr rfl fun s _ => by rw [ref_z0, ref_g, mul_comm]
theorem ref_t1 : @Eq EReal (val_main_v41 (F := Ideal) (x0 m c) (x2 m c) (ix1 q)) (∑ s : Fin 8192, g m c s.val q * z m c (s.val + 1) q) := by
  unfold val_main_v41 val_main_v40 val_main_cst_5
  pointwise
  exact Finset.sum_congr rfl fun s _ => by rw [ref_z1, ref_g, mul_comm]
theorem ref_t2 : @Eq EReal (val_main_v32 (F := Ideal) (x0 m c) (x2 m c) (ix1 q)) (∑ s : Fin 8192, g m c s.val q * z m c (s.val + 2) q) := by
  unfold val_main_v32 val_main_v31 val_main_cst_1
  pointwise
  exact Finset.sum_congr rfl fun s _ => by rw [ref_z2, ref_g, mul_comm]

theorem ref_dw (i : S3x512.Idx) : @Eq EReal (val_main_v59 (F := Ideal) (x0 m c) (x2 m c) i) (∑ s : Fin 8192, g m c s.val (i 1) * z m c (s.val + (i 0).val) (i 1)) := by
  idx_vars i
  unfold val_main_v59 val_main_v48 val_main_v38 val_main_v47 val_main_v58 val_main_v37 val_main_v46 val_main_v57 val_main_v36 val_main_v45 val_main_v56 val_main_v33 val_main_v42 val_main_v53
  unfold val_main_cst_2 val_main_cst_3 val_main_cst_6 val_main_cst_7 val_main_cst_10 val_main_cst_11
  pointwise
  rw [ref_t0, ref_t1, ref_t2]
  fin_cases i0 <;> simp

theorem ref_dz (s : Fin 8192) : @Eq EReal (val_main_v63 (F := Ideal) (x0 m c) (x1 m c) (x2 m c) (ix2 s q)) (dz m c s.val q) := by
  unfold val_main_v63 val_main_v61 val_main_v50 val_main_v60 val_main_v39 val_main_v49 val_main_v35 val_main_v44 val_main_v55 val_main_v34 val_main_v43 val_main_v54 val_main_cst_4 val_main_cst_8 val_main_cst_12
  unfold val_main_v24 val_main_v23 val_main_v22 val_main_v17 val_main_v16 val_main_v15 val_main_v11 val_main_v10 val_main_v9
  pointwise
  unfold dz
  have e1 : 2 + s.val - 1 = s.val + 1 := by omega
  have e2 : 2 + s.val = s.val + 2 := Nat.add_comm _ _
  refine congrArg₂ (· + ·) (congrArg₂ (· + ·) (congrArg (· * _) (ref_g m c q s)) ?_) ?_
  · by_cases h : s.val + 1 < 8192
    · rw [dif_pos ⟨by omega, by omega⟩, ref_g]
      exact congrArg (fun n => g m c n q * _) e1
    · rw [dif_neg (by omega)]
      unfold g
      rw [dif_neg h, zero_mul]
  · by_cases h : s.val + 2 < 8192
    · rw [dif_pos (by omega), ref_g]
      exact congrArg (fun n => g m c n q * _) e2
    · rw [dif_neg (by omega)]
      unfold g
      rw [dif_neg h, zero_mul]

theorem ref_d3 (i : S8192x1536.Idx) : @Eq EReal (val_main_v67 (F := Ideal) (x0 m c) (x1 m c) (x2 m c) i) (d3 m c (i 0) (i 1)) := by
  idx_vars i
  unfold val_main_v67 val_main_v66 val_main_v30 val_main_v64 val_main_v65 val_main_v2 val_main_v3 val_main_v0
  pointwise
  unfold d3
  by_cases h0 : i1.val < 512
  · rw [dif_pos h0, dif_pos h0, ref_cz]
  · rw [dif_neg h0, dif_neg h0]
    by_cases h1 : i1.val < 1024
    · rw [dif_pos (show i1.val - 512 < 512 by omega), dif_pos h1, ref_dz]
      unfold cv
      simp only [Nat.add_comm]
    · rw [dif_neg (show ¬ i1.val - 512 < 512 by omega), dif_neg h1, ref_dz, mul_comm]
      unfold cc
      simp only [show i1.val - 512 - 512 = i1.val - 1024 by omega, Nat.add_comm]
end Reference

/-- The kernel's run: its two results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v6_0) = (dats m 0 c).arrAt 11 cfg0.N
      ∧ r.2.mem ((c.tc : Thread nD τ).loc main_v7) = final m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 11,
      (h.1 c).2 main_v7 (Pipeline.mem_restRefs_of main_v7 (by decide) (by decide)), h.2.1 c⟩)
    (θ_run_and (run_main m ρ) (frame m ρ))

/-- The short convolution's gradient: kernel and derivative leave the same two arrays. -/
theorem value : Cert.algebraic_ConvIdeal_ConvRefIdeal := fun m ρ m' ρ' _ hag =>
  ⟨_, _, run_results m ρ, (θ_run _ _ _).mono (fun _ h c => by
      obtain ⟨h0, h1, hr⟩ := h c
      obtain ⟨e0, e1, e2⟩ := hag c
      rw [Cert.ConvRefIdeal.Read.val_main_v67_eq, e0, e1, e2] at h0
      rw [Cert.ConvRefIdeal.Read.val_main_v59_eq, e0, e2] at h1
      exact ⟨h0.trans ((funext (ref_d3 m c)).trans (arr11 m c).symm), h1.trans (funext fun i => (ref_dw m c i).trans (final_dw m c i).symm), hr⟩)
    (Cert.ConvRefIdeal.Value.run m' ρ')⟩

end Cert.Proof.Conv
-- ==== Proof.Ffn.lean ====
/- The value of the feed-forward gate's gradient: both halves' gradient before the convolution, and the filter's. -/
module

public import proofs.«01_k».proof.Proof.Gen.FfnIdeal.Frame
public import proofs.«01_k».proof.Proof.Gen.FfnRefIdeal.Read
public import proofs.«01_k».proof.Proof.Rows
public import proofs.«01_k».proof.Proof.Scalars
public import proofs.«01_k».proof.Proof.AttnData
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Ffn

open Cert.FfnIdeal Cert.FfnIdeal.Gen
open Idealize.ShloMosaic Idealize.ShloMosaic.TcCoe Idealize.SL.Sem

variable (m : (ℓ : Loc nD τ sig) → Buf (Elt Ideal) ℓ) (c : Dev nD)

/-- Which block each window holds at grid point `t`: row tile `t % 32` of column tile `t / 32`. -/
theorem idx0 : ∀ t : Fin grid0.N, win0_0.index t = ![t.val % 32, t.val / 32] ∧ win0_1.index t = ![t.val % 32, t.val / 32 + 2]
    ∧ win0_2.index t = ![t.val % 32, t.val / 32] ∧ win0_3.index t = ![t.val % 32, t.val / 32]
    ∧ win0_4.index t = ![min (t.val % 32 * 16 + 16) 511, t.val / 32] ∧ win0_5.index t = ![min (t.val % 32 * 16 + 16) 511, t.val / 32]
    ∧ win0_6.index t = ![t.val % 32, t.val / 32] ∧ win0_7.index t = ![min (t.val % 32 * 16 + 16) 511, t.val / 32]
    ∧ win0_8.index t = ![0, t.val / 32] ∧ win0_9.index t = ![0, t.val / 32 + 2]
    ∧ win0_10.index t = ![t.val % 32, t.val / 32] ∧ win0_11.index t = ![t.val % 32, t.val / 32]
    ∧ win0_12.index t = ![0, t.val / 32] ∧ win0_13.index t = ![0, t.val / 32] := by
  decide +kernel

abbrev x0 : S8192x5632.Idx → EReal := m ((c : Thread nD τ).loc main_arg0)
abbrev x1 : S3x5632.Idx → EReal := m ((c : Thread nD τ).loc main_arg1)
abbrev x2 : S8192x2816.Idx → EReal := m ((c : Thread nD τ).loc main_arg2)

/-- The columns of the gate and of the value. -/
def lft (q : Fin 2816) : Fin 5632 := ⟨q.val, by omega⟩
def rgt (q : Fin 2816) : Fin 5632 := ⟨q.val + 2816, by omega⟩

/-- The convolution's input two rows late, zero outside the array, and the convolution. -/
def z (n : ℕ) (j : Fin 5632) : EReal := if h : 2 ≤ n ∧ n < 8194 then x0 m c (ix2 ⟨n - 2, by omega⟩ j) else 0
def cv (s : ℕ) (j : Fin 5632) : EReal := z m c s j * x1 m c (ix2 0 j) + z m c (s + 1) j * x1 m c (ix2 1 j) + z m c (s + 2) j * x1 m c (ix2 2 j)

/-- The gradient of the gate and of the value, zero behind the array's last row. -/
def dg (n : ℕ) (q : Fin 2816) : EReal :=
  if h : n < 8192 then x2 m c (ix2 ⟨n, h⟩ q) * cv m c n (rgt q) * Ideal.logistic (cv m c n (lft q)) * (1 + cv m c n (lft q) * (1 - Ideal.logistic (cv m c n (lft q)))) else 0
def dv (n : ℕ) (q : Fin 2816) : EReal :=
  if h : n < 8192 then x2 m c (ix2 ⟨n, h⟩ q) * cv m c n (lft q) * Ideal.logistic (cv m c n (lft q)) else 0

/-- A gradient `d` of column `j` drawn back through the filter. -/
def back (d : ℕ → EReal) (j : Fin 5632) (n : ℕ) : EReal := d n * x1 m c (ix2 2 j) + d (n + 1) * x1 m c (ix2 1 j) + d (n + 2) * x1 m c (ix2 0 j)

variable (t : Fin cfg0.N) (q : Fin 1408)

theorem lt64 : t.val < 64 := t.isLt
def row (a : Fin 256) : Fin 8192 := ⟨t.val % 32 * 256 + a.val, by omega⟩
def col : Fin 2816 := ⟨t.val / 32 * 1408 + q.val, by have := lt64 t; omega⟩

/-! ### What the host lines before the kernel hold -/

section HostLines
variable (s : Fin 8192) (p : Fin 2816)

theorem host_w (k : Fin 3) (j : Fin 5632) : @Eq EReal (V m c main_v0 (ix2 ⟨k.val, by omega⟩ j)) (x1 m c (ix2 k j)) := by
  unfold V
  after_reads_at
  try rfl
theorem host_da : @Eq EReal (V m c main_v27 (ix2 s p)) (x2 m c (ix2 s p)) := by
  unfold V
  after_reads_at
  try rfl
/-- The valuation the last concatenation's operands are read from. -/
abbrev early : Valuation τ sig (Elt Ideal) := StableHlo.upto [hostOps0, hostOps0_1, hostOps0_2].flatten (fun b => m (c, b)) 5
theorem early_zero (i : S2x5632.Idx) : @Eq EReal (early m c (Proc.devRef .tc main_v1) i) 0 := by
  idx_vars i
  after_reads_at
theorem early_arg (i : S8192x5632.Idx) : @Eq EReal (early m c (Proc.devRef .tc main_arg0) i) (x0 m c i) := rfl
theorem late_at (n : ℕ) (hn : n < 8194) (j : Fin 5632) :
    @Eq EReal (if h : n < 2 then early m c (Proc.devRef .tc main_v1) (ix2 ⟨n, h⟩ j) else early m c (Proc.devRef .tc main_arg0) (ix2 ⟨n - 2, by omega⟩ j)) (z m c n j) := by
  unfold z
  by_cases h : n < 2
  · rw [dif_pos h, dif_neg (by omega)]
    exact early_zero m c _
  · rw [dif_neg h, dif_pos ⟨by omega, hn⟩]
    exact early_arg m c _
theorem late_last (j : Fin 5632) : x0 m c (ix2 s j) = z m c (s.val + 2) j := by
  unfold z
  rw [dif_pos ⟨by omega, by omega⟩]
  rfl
theorem host_gate : @Eq EReal (V m c main_v24 (ix2 s p)) (cv m c s.val (lft p)) := by
  unfold V
  after_reads_at
  refine congrArg₂ (· + ·) (congrArg₂ (· + ·) (congrArg (· * _) (late_at m c s.val (by omega) (lft p))) (congrArg (· * _) ?_)) (congrArg (· * _) (late_last m c s (lft p)))
  exact (late_at m c (1 + s.val) (by omega) (lft p)).trans (congrArg (fun n => z m c n _) (Nat.add_comm _ _))
theorem host_val : @Eq EReal (V m c main_v26 (ix2 s p)) (cv m c s.val (rgt p)) := by
  unfold V
  after_reads_at
  have e : (⟨2816 + p.val, by omega⟩ : Fin 5632) = rgt p := Fin.ext (Nat.add_comm _ _)
  simp only [e]
  refine congrArg₂ (· + ·) (congrArg₂ (· + ·) (congrArg (· * _) (late_at m c s.val (by omega) _)) (congrArg (· * _) ?_)) (congrArg (· * _) (late_last m c s _))
  exact (late_at m c (1 + s.val) (by omega) _).trans (congrArg (fun n => z m c n _) (Nat.add_comm _ _))
end HostLines

/-! ### The blocks -/

theorem blk0 (a : Fin 256) : @Eq EReal (iblk m c 0 t (ix2 a q)) (x0 m c (ix2 (row t a) (lft (col t q)))) := by
  blk_ext [iblk, idx0 t] <;> rfl
theorem blk1 (a : Fin 256) : @Eq EReal (iblk m c 1 t (ix2 a q)) (x0 m c (ix2 (row t a) (rgt (col t q)))) := by
  blk_ext [iblk, idx0 t]
  · rfl
  · show (t.val / 32 + 2) * 1408 + q.val = t.val / 32 * 1408 + q.val + 2816
    omega
theorem blk2 (a : Fin 256) : @Eq EReal (iblk m c 2 t (ix2 a q)) (cv m c (row t a).val (lft (col t q))) :=
  Eq.trans (by blk_ext [iblk, idx0 t] <;> rfl) (host_gate m c (row t a) (col t q))
theorem blk3 (a : Fin 256) : @Eq EReal (iblk m c 3 t (ix2 a q)) (cv m c (row t a).val (rgt (col t q))) :=
  Eq.trans (by blk_ext [iblk, idx0 t] <;> rfl) (host_val m c (row t a) (col t q))
theorem blk6 (a : Fin 256) : @Eq EReal (iblk m c 6 t (ix2 a q)) (x2 m c (ix2 (row t a) (col t q))) :=
  Eq.trans (by blk_ext [iblk, idx0 t] <;> rfl) (host_da m c (row t a) (col t q))

/-- The rows behind a tile that is not the last. -/
def next (b : Fin 16) (h : t.val % 32 < 31) : Fin 8192 := ⟨t.val % 32 * 256 + 256 + b.val, by omega⟩
theorem blk4 (b : Fin 16) (h : t.val % 32 < 31) : @Eq EReal (iblk m c 4 t (ix2 b q)) (cv m c (next t b h).val (lft (col t q))) := by
  refine Eq.trans ?_ (host_gate m c (next t b h) (col t q))
  blk_ext [iblk, idx0 t]
  · show min (t.val % 32 * 16 + 16) 511 * 16 + b.val = t.val % 32 * 256 + 256 + b.val
    omega
  · rfl
theorem blk5 (b : Fin 16) (h : t.val % 32 < 31) : @Eq EReal (iblk m c 5 t (ix2 b q)) (cv m c (next t b h).val (rgt (col t q))) := by
  refine Eq.trans ?_ (host_val m c (next t b h) (col t q))
  blk_ext [iblk, idx0 t]
  · show min (t.val % 32 * 16 + 16) 511 * 16 + b.val = t.val % 32 * 256 + 256 + b.val
    omega
  · rfl
theorem blk7 (b : Fin 16) (h : t.val % 32 < 31) : @Eq EReal (iblk m c 7 t (ix2 b q)) (x2 m c (ix2 (next t b h) (col t q))) := by
  refine Eq.trans ?_ (host_da m c (next t b h) (col t q))
  blk_ext [iblk, idx0 t]
  · show min (t.val % 32 * 16 + 16) 511 * 16 + b.val = t.val % 32 * 256 + 256 + b.val
    omega
  · rfl
theorem blk8 (k : Fin 3) : @Eq EReal (iblk m c 8 t (ix2 ⟨k.val, by omega⟩ q)) (x1 m c (ix2 k (lft (col t q)))) := by
  refine Eq.trans ?_ (host_w m c k (lft (col t q)))
  blk_ext [iblk, idx0 t]
  · rfl
theorem blk9 (k : Fin 3) : @Eq EReal (iblk m c 9 t (ix2 ⟨k.val, by omega⟩ q)) (x1 m c (ix2 k (rgt (col t q)))) := by
  refine Eq.trans ?_ (host_w m c k (rgt (col t q)))
  blk_ext [iblk, idx0 t]
  · show (t.val / 32 + 2) * 1408 + q.val = t.val / 32 * 1408 + q.val + 2816
    omega

theorem is_last : ∀ t : Fin cfg0.N, Scalar.cmpi CmpIPredicate.eq (BitVec.ofNat 32 (grid0.coords t 1).val) 31#32 = if t.val % 32 = 31 then 1#1 else 0#1 := by decide +kernel
theorem is_next : ∀ r : Fin 272, IntOp.cmpi CmpIPredicate.sge (BitVec.ofNat 32 r.val) 256#32 = if r.val < 256 then 0#1 else 1#1 := by decide +kernel

/-! ### The payloads, over operands that stand for any blocks -/

section Payloads
variable (i : grid0.Coords) (v3 v9 v15 v46 v84 : S256x1408.Idx → EReal) (v5 v11 v17 : S16x1408.Idx → EReal) (v8 v28 v35 v36 : S272x1408.Idx → EReal)
  (v44 v74 : S8x1408.Idx → EReal) (r : Fin 272) (a : Fin 256)

theorem pay3_at : @Eq EReal (k0_pay3 (F := Ideal) v3 v5 (ix2 r q)) (if h : r.val < 256 then v3 (ix2 ⟨r.val, h⟩ q) else v5 (ix2 ⟨r.val - 256, by omega⟩ q)) := by
  unfold k0_pay3
  pointwise
theorem pay4_at : @Eq EReal (k0_pay4 (F := Ideal) i v15 v17 (ix2 r q)) (Scalar.select (IntOp.andi (Scalar.cmpi CmpIPredicate.eq (BitVec.ofNat 32 (i 1).val) 31#32) (IntOp.cmpi CmpIPredicate.sge (BitVec.ofNat 32 r.val) 256#32))
    (0 : EReal) (if h : r.val < 256 then v15 (ix2 ⟨r.val, h⟩ q) else v17 (ix2 ⟨r.val - 256, by omega⟩ q))) := by
  unfold k0_pay4
  pointwise
theorem pay5_at : @Eq EReal (k0_pay5 (F := Ideal) v3 v5 (ix2 r q)) (Ideal.logistic (k0_pay3 (F := Ideal) v3 v5 (ix2 r q))) := by
  rw [← Scalars.half_tanh]
  unfold k0_pay5
  pointwise
theorem pay6_at : @Eq EReal (k0_pay6 (F := Ideal) i v9 v11 v15 v17 (ix2 r q)) (k0_pay4 (F := Ideal) i v15 v17 (ix2 r q) * (if h : r.val < 256 then v9 (ix2 ⟨r.val, h⟩ q) else v11 (ix2 ⟨r.val - 256, by omega⟩ q))) := by
  unfold k0_pay6
  pointwise
theorem pay7_at : @Eq EReal (k0_pay7 (F := Ideal) v8 v35 v36 (ix2 r q)) (v36 (ix2 r q) * v35 (ix2 r q) * (1 + v8 (ix2 r q) * (1 - v35 (ix2 r q)))) := by
  unfold k0_pay7
  pointwise
theorem pay13_at : @Eq EReal (k0_pay13 (F := Ideal) v8 v28 v35 (ix2 r q)) (v28 (ix2 r q) * v8 (ix2 r q) * v35 (ix2 r q)) := by
  unfold k0_pay13
  pointwise
theorem pay11_at : @Eq EReal (k0_pay11 (F := Ideal) v8 v35 v36 v44 (ix2 a q))
    (k0_pay7 (F := Ideal) v8 v35 v36 (ix2 ⟨a.val, by omega⟩ q) * v44 (ix2 2 q) + k0_pay7 (F := Ideal) v8 v35 v36 (ix2 ⟨a.val + 1, by omega⟩ q) * v44 (ix2 1 q)
      + k0_pay7 (F := Ideal) v8 v35 v36 (ix2 ⟨a.val + 2, by omega⟩ q) * v44 (ix2 0 q)) := by
  unfold k0_pay11 k0_pay8 k0_pay9 k0_pay10
  pointwise
  simp only [show (a.val + 272 - 271) % 272 = a.val + 1 by omega, show (a.val + 272 - 270) % 272 = a.val + 2 by omega]
theorem pay17_at : @Eq EReal (k0_pay17 (F := Ideal) v8 v28 v35 v44 (ix2 a q))
    (k0_pay13 (F := Ideal) v8 v28 v35 (ix2 ⟨a.val, by omega⟩ q) * v44 (ix2 2 q) + k0_pay13 (F := Ideal) v8 v28 v35 (ix2 ⟨a.val + 1, by omega⟩ q) * v44 (ix2 1 q)
      + k0_pay13 (F := Ideal) v8 v28 v35 (ix2 ⟨a.val + 2, by omega⟩ q) * v44 (ix2 0 q)) := by
  unfold k0_pay17 k0_pay14 k0_pay15 k0_pay16
  pointwise
  simp only [show (a.val + 272 - 271) % 272 = a.val + 1 by omega, show (a.val + 272 - 270) % 272 = a.val + 2 by omega]

/-- The three sums of one tile, row by row of the filter's gradient. -/
def three (d : ℕ → EReal) (u : Fin 256 → EReal) (k : Fin 8) : EReal :=
  if k.val < 1 then ∑ a : Fin 256, d (a.val + 2) * u a else if k.val - 1 < 1 then ∑ a : Fin 256, d (a.val + 1) * u a
  else if k.val - 1 - 1 < 1 then ∑ a : Fin 256, d a.val * u a else 0
theorem pay12_at (d : ℕ → EReal) (hd : ∀ r : Fin 272, r.val < 258 → k0_pay7 (F := Ideal) v8 v35 v36 (ix2 r q) = d r.val) (k : Fin 8) :
    @Eq EReal (k0_pay12 (F := Ideal) v8 v35 v36 v46 v74 (ix2 k q)) (v74 (ix2 k q) + three d (fun a => v46 (ix2 a q)) k) := by
  unfold k0_pay12 k0_pay8 k0_pay9 k0_pay10
  pointwise
  have e1 : ∀ a : Fin 256, (a.val + 272 - 271) % 272 = a.val + 1 := fun a => by omega
  have e2 : ∀ a : Fin 256, (a.val + 272 - 270) % 272 = a.val + 2 := fun a => by omega
  have h0 : ∀ a : Fin 256, k0_pay7 (F := Ideal) v8 v35 v36 (ix2 ⟨a.val, by omega⟩ q) = d a.val := fun a => hd _ (by show a.val < _; omega)
  have h1 : ∀ a : Fin 256, k0_pay7 (F := Ideal) v8 v35 v36 (ix2 ⟨a.val + 1, by omega⟩ q) = d (a.val + 1) := fun a => hd _ (by show a.val + 1 < _; omega)
  have h2 : ∀ a : Fin 256, k0_pay7 (F := Ideal) v8 v35 v36 (ix2 ⟨a.val + 2, by omega⟩ q) = d (a.val + 2) := fun a => hd _ (by show a.val + 2 < _; omega)
  simp only [e1, e2, h0, h1, h2]
  rfl
theorem pay18_at (d : ℕ → EReal) (hd : ∀ r : Fin 272, r.val < 258 → k0_pay13 (F := Ideal) v8 v28 v35 (ix2 r q) = d r.val) (k : Fin 8) :
    @Eq EReal (k0_pay18 (F := Ideal) v8 v28 v35 v84 v74 (ix2 k q)) (v74 (ix2 k q) + three d (fun a => v84 (ix2 a q)) k) := by
  unfold k0_pay18 k0_pay14 k0_pay15 k0_pay16
  pointwise
  have e1 : ∀ a : Fin 256, (a.val + 272 - 271) % 272 = a.val + 1 := fun a => by omega
  have e2 : ∀ a : Fin 256, (a.val + 272 - 270) % 272 = a.val + 2 := fun a => by omega
  have h0 : ∀ a : Fin 256, k0_pay13 (F := Ideal) v8 v28 v35 (ix2 ⟨a.val, by omega⟩ q) = d a.val := fun a => hd _ (by show a.val < _; omega)
  have h1 : ∀ a : Fin 256, k0_pay13 (F := Ideal) v8 v28 v35 (ix2 ⟨a.val + 1, by omega⟩ q) = d (a.val + 1) := fun a => hd _ (by show a.val + 1 < _; omega)
  have h2 : ∀ a : Fin 256, k0_pay13 (F := Ideal) v8 v28 v35 (ix2 ⟨a.val + 2, by omega⟩ q) = d (a.val + 2) := fun a => hd _ (by show a.val + 2 < _; omega)
  simp only [e1, e2, h0, h1, h2]
  rfl
end Payloads

/-! ### The blocks of one point, as rows of the arrays -/

section Point
variable (r : Fin 272)

theorem da_in (h : t.val % 32 * 256 + r.val < 8192) : @Eq EReal (k0_pay4 (F := Ideal) (grid0.coords t) (iblk m c 6 t) (iblk m c 7 t) (ix2 r q)) (x2 m c (ix2 ⟨t.val % 32 * 256 + r.val, h⟩ (col t q))) := by
  rw [pay4_at, is_last, is_next]
  by_cases hr : r.val < 256
  · rw [if_pos hr, dif_pos hr, blk6]
    by_cases hl : t.val % 32 = 31
    · rw [if_pos hl]; rfl
    · rw [if_neg hl]; rfl
  · rw [if_neg hr, dif_neg hr, if_neg (by omega : ¬ t.val % 32 = 31), blk7 m c t q _ (by omega)]
    exact congrArg (fun n => x2 m c (ix2 n (col t q))) (Fin.ext (by show t.val % 32 * 256 + 256 + (r.val - 256) = t.val % 32 * 256 + r.val; omega))
theorem da_out (h : ¬ t.val % 32 * 256 + r.val < 8192) : @Eq EReal (k0_pay4 (F := Ideal) (grid0.coords t) (iblk m c 6 t) (iblk m c 7 t) (ix2 r q)) 0 := by
  rw [pay4_at, is_last, is_next, if_pos (by omega : t.val % 32 = 31), if_neg (by omega : ¬ r.val < 256)]
  rfl
theorem gate_in (h : t.val % 32 * 256 + r.val < 8192) : @Eq EReal (k0_pay3 (F := Ideal) (iblk m c 2 t) (iblk m c 4 t) (ix2 r q)) (cv m c (t.val % 32 * 256 + r.val) (lft (col t q))) := by
  rw [pay3_at]
  by_cases hr : r.val < 256
  · rw [dif_pos hr, blk2]
    rfl
  · rw [dif_neg hr, blk4 m c t q _ (by omega)]
    exact congrArg (fun n => cv m c n (lft (col t q))) (by show t.val % 32 * 256 + 256 + (r.val - 256) = t.val % 32 * 256 + r.val; omega)
theorem val_in (h : t.val % 32 * 256 + r.val < 8192) : @Eq EReal (k0_pay6 (F := Ideal) (grid0.coords t) (iblk m c 3 t) (iblk m c 5 t) (iblk m c 6 t) (iblk m c 7 t) (ix2 r q))
    (x2 m c (ix2 ⟨t.val % 32 * 256 + r.val, h⟩ (col t q)) * cv m c (t.val % 32 * 256 + r.val) (rgt (col t q))) := by
  rw [pay6_at, da_in m c t q r h]
  refine congrArg _ ?_
  by_cases hr : r.val < 256
  · rw [dif_pos hr, blk3]
    rfl
  · rw [dif_neg hr, blk5 m c t q _ (by omega)]
    exact congrArg (fun n => cv m c n (rgt (col t q))) (by show t.val % 32 * 256 + 256 + (r.val - 256) = t.val % 32 * 256 + r.val; omega)

theorem dg_at : @Eq EReal (k0_pay7 (F := Ideal) (k0_pay3 (F := Ideal) (iblk m c 2 t) (iblk m c 4 t)) (k0_pay5 (F := Ideal) (iblk m c 2 t) (iblk m c 4 t))
      (k0_pay6 (F := Ideal) (grid0.coords t) (iblk m c 3 t) (iblk m c 5 t) (iblk m c 6 t) (iblk m c 7 t)) (ix2 r q)) (dg m c (t.val % 32 * 256 + r.val) (col t q)) := by
  rw [pay7_at, pay5_at]
  unfold dg
  by_cases h : t.val % 32 * 256 + r.val < 8192
  · rw [dif_pos h, gate_in m c t q r h, val_in m c t q r h]
  · rw [dif_neg h, pay6_at, da_out m c t q r h, zero_mul, zero_mul, zero_mul]
theorem dv_at : @Eq EReal (k0_pay13 (F := Ideal) (k0_pay3 (F := Ideal) (iblk m c 2 t) (iblk m c 4 t)) (k0_pay4 (F := Ideal) (grid0.coords t) (iblk m c 6 t) (iblk m c 7 t))
      (k0_pay5 (F := Ideal) (iblk m c 2 t) (iblk m c 4 t)) (ix2 r q)) (dv m c (t.val % 32 * 256 + r.val) (col t q)) := by
  rw [pay13_at, pay5_at]
  unfold dv
  by_cases h : t.val % 32 * 256 + r.val < 8192
  · rw [dif_pos h, gate_in m c t q r h, da_in m c t q r h]
  · rw [dif_neg h, da_out m c t q r h, zero_mul, zero_mul]
end Point

theorem w8 (k : Fin 3) : @Eq EReal (iblk m c 8 t (ix2 ⟨k.val, by omega⟩ q)) (x1 m c (ix2 k (lft (col t q)))) := blk8 m c t q k

theorem gate_rows (a : Fin 256) : @Eq EReal (k0_pay11 (F := Ideal) (k0_pay3 (F := Ideal) (iblk m c 2 t) (iblk m c 4 t)) (k0_pay5 (F := Ideal) (iblk m c 2 t) (iblk m c 4 t))
      (k0_pay6 (F := Ideal) (grid0.coords t) (iblk m c 3 t) (iblk m c 5 t) (iblk m c 6 t) (iblk m c 7 t)) (iblk m c 8 t) (ix2 a q))
    (back m c (fun n => dg m c n (col t q)) (lft (col t q)) (row t a).val) := by
  rw [pay11_at, dg_at, dg_at, dg_at]
  exact congrArg₂ (· + ·) (congrArg₂ (· + ·) (congrArg (_ * ·) (blk8 m c t q 2)) (congrArg (_ * ·) (blk8 m c t q 1))) (congrArg (_ * ·) (blk8 m c t q 0))
theorem val_rows (a : Fin 256) : @Eq EReal (k0_pay17 (F := Ideal) (k0_pay3 (F := Ideal) (iblk m c 2 t) (iblk m c 4 t)) (k0_pay4 (F := Ideal) (grid0.coords t) (iblk m c 6 t) (iblk m c 7 t))
      (k0_pay5 (F := Ideal) (iblk m c 2 t) (iblk m c 4 t)) (iblk m c 9 t) (ix2 a q))
    (back m c (fun n => dv m c n (col t q)) (rgt (col t q)) (row t a).val) := by
  rw [pay17_at, dv_at, dv_at, dv_at]
  exact congrArg₂ (· + ·) (congrArg₂ (· + ·) (congrArg (_ * ·) (blk9 m c t q 2)) (congrArg (_ * ·) (blk9 m c t q 1))) (congrArg (_ * ·) (blk9 m c t q 0))

theorem out10 (a : Fin 256) : @Eq EReal ((outsAt0 m c t.val t.isLt).1 (ix2 a q)) (back m c (fun n => dg m c n (col t q)) (lft (col t q)) (row t a).val) := by
  by_cases h0 : t.val % 32 = 0
  · rw [outsAt0_A m c t h0]
    frame_out
    exact gate_rows m c t q a
  · rw [outsAt0_B m c t h0]
    frame_out
    exact gate_rows m c t q a
theorem out11 (a : Fin 256) : @Eq EReal ((outsAt0 m c t.val t.isLt).2.1 (ix2 a q)) (back m c (fun n => dv m c n (col t q)) (rgt (col t q)) (row t a).val) := by
  by_cases h0 : t.val % 32 = 0
  · rw [outsAt0_A m c t h0]
    frame_out
    exact val_rows m c t q a
  · rw [outsAt0_B m c t h0]
    frame_out
    exact val_rows m c t q a

/-! ### The filter's gradient, summed tile after tile -/

/-- The column `q` of column tile `g`, and what row tile `k` adds to the filter's gradient there. -/
def colN (g : ℕ) : Fin 2816 := ⟨g % 2 * 1408 + q.val, by omega⟩
theorem col_eq : col t q = colN q (t.val / 32) := Fin.ext (by have := lt64 t; show t.val / 32 * 1408 + q.val = t.val / 32 % 2 * 1408 + q.val; omega)
def term (d : ℕ → Fin 2816 → EReal) (side : Fin 2816 → Fin 5632) (g k : ℕ) (i : S8x1408.Idx) : EReal :=
  three (fun r => d (k * 256 + r) (colN (i 1) g)) (fun a => x0 m c (ix2 ⟨k % 32 * 256 + a.val, by omega⟩ (side (colN (i 1) g)))) (i 0)

theorem add12 (v74 : S8x1408.Idx → EReal) (i : S8x1408.Idx) : @Eq EReal (k0_pay12 (F := Ideal) (k0_pay3 (F := Ideal) (iblk m c 2 t) (iblk m c 4 t)) (k0_pay5 (F := Ideal) (iblk m c 2 t) (iblk m c 4 t))
      (k0_pay6 (F := Ideal) (grid0.coords t) (iblk m c 3 t) (iblk m c 5 t) (iblk m c 6 t) (iblk m c 7 t)) (iblk m c 0 t) v74 i) (v74 i + term m c (dg m c) lft (t.val / 32) (t.val % 32) i) := by
  idx_vars i
  refine (pay12_at i1 _ _ _ _ _ (fun r => dg m c (t.val % 32 * 256 + r) (col t i1)) (fun r _ => dg_at m c t i1 r) i0).trans (congrArg _ ?_)
  unfold term
  change three _ _ i0 = three (fun r => dg m c (t.val % 32 * 256 + r) (colN i1 (t.val / 32)))
    (fun a => x0 m c (ix2 ⟨t.val % 32 % 32 * 256 + a.val, by omega⟩ (lft (colN i1 (t.val / 32))))) i0
  rw [← col_eq]
  refine congrArg (fun u => three _ u i0) (funext fun a => (blk0 m c t i1 a).trans (congrArg (fun n => x0 m c (ix2 n _)) (Fin.ext ?_)))
  show t.val % 32 * 256 + a.val = t.val % 32 % 32 * 256 + a.val
  omega
theorem add13 (v74 : S8x1408.Idx → EReal) (i : S8x1408.Idx) : @Eq EReal (k0_pay18 (F := Ideal) (k0_pay3 (F := Ideal) (iblk m c 2 t) (iblk m c 4 t)) (k0_pay4 (F := Ideal) (grid0.coords t) (iblk m c 6 t) (iblk m c 7 t))
      (k0_pay5 (F := Ideal) (iblk m c 2 t) (iblk m c 4 t)) (iblk m c 1 t) v74 i) (v74 i + term m c (dv m c) rgt (t.val / 32) (t.val % 32) i) := by
  idx_vars i
  refine (pay18_at i1 _ _ _ _ _ (fun r => dv m c (t.val % 32 * 256 + r) (col t i1)) (fun r _ => dv_at m c t i1 r) i0).trans (congrArg _ ?_)
  unfold term
  change three _ _ i0 = three (fun r => dv m c (t.val % 32 * 256 + r) (colN i1 (t.val / 32)))
    (fun a => x0 m c (ix2 ⟨t.val % 32 % 32 * 256 + a.val, by omega⟩ (rgt (colN i1 (t.val / 32))))) i0
  rw [← col_eq]
  refine congrArg (fun u => three _ u i0) (funext fun a => (blk1 m c t i1 a).trans (congrArg (fun n => x0 m c (ix2 n _)) (Fin.ext ?_)))
  show t.val % 32 * 256 + a.val = t.val % 32 % 32 * 256 + a.val
  omega

theorem first_12 (h0 : t.val % 32 = 0) (i : S8x1408.Idx) : @Eq EReal ((outsAt0 m c t.val t.isLt).2.2.1 i) (0 + term m c (dg m c) lft (t.val / 32) (t.val % 32) i) := by
  rw [outsAt0_A m c t h0]
  frame_out
  refine (add12 m c t _ i).trans (congrArg (· + _) ?_)
  idx_vars i
  unfold k0_pay1
  pointwise
theorem next_12 (h0 : ¬ t.val % 32 = 0) (i : S8x1408.Idx) : @Eq EReal ((outsAt0 m c t.val t.isLt).2.2.1 i)
    ((outsAt0 m c (t.val - 1) (Nat.lt_of_le_of_lt (Nat.sub_le _ _) t.isLt)).2.2.1 i + term m c (dg m c) lft (t.val / 32) (t.val % 32) i) := by
  rw [outsAt0_B m c t h0]
  frame_out
  exact add12 m c t _ i
theorem first_13 (h0 : t.val % 32 = 0) (i : S8x1408.Idx) : @Eq EReal ((outsAt0 m c t.val t.isLt).2.2.2 i) (0 + term m c (dv m c) rgt (t.val / 32) (t.val % 32) i) := by
  rw [outsAt0_A m c t h0]
  frame_out
  refine (add13 m c t _ i).trans (congrArg (· + _) ?_)
  idx_vars i
  unfold k0_pay2
  pointwise
theorem next_13 (h0 : ¬ t.val % 32 = 0) (i : S8x1408.Idx) : @Eq EReal ((outsAt0 m c t.val t.isLt).2.2.2 i)
    ((outsAt0 m c (t.val - 1) (Nat.lt_of_le_of_lt (Nat.sub_le _ _) t.isLt)).2.2.2 i + term m c (dv m c) rgt (t.val / 32) (t.val % 32) i) := by
  rw [outsAt0_B m c t h0]
  frame_out
  exact add13 m c t _ i

/-- The three sums over all rows. -/
def sums (d : ℕ → EReal) (u : Fin 8192 → EReal) (k : Fin 8) : EReal :=
  if k.val < 1 then ∑ s : Fin 8192, d (s.val + 2) * u s else if k.val - 1 < 1 then ∑ s : Fin 8192, d (s.val + 1) * u s
  else if k.val - 1 - 1 < 1 then ∑ s : Fin 8192, d s.val * u s else 0
theorem three_sum (d : ℕ → EReal) (u : Fin 8192 → EReal) (k : Fin 8) :
    ∑ p ∈ Finset.range 32, three (fun r => d (p * 256 + r)) (fun a => u ⟨p % 32 * 256 + a.val, by omega⟩) k = sums d u k := by
  rw [Finset.sum_range]
  have e : ∀ p : Fin 32, p.val % 32 = p.val := fun p => by omega
  unfold three sums
  simp only [e]
  split_ifs
  · exact sum_rows256 fun s => d (s.val + 2) * u s
  · exact sum_rows256 fun s => d (s.val + 1) * u s
  · exact sum_rows256 fun s => d s.val * u s
  · exact Finset.sum_const_zero

/-- The four arrays the kernel leaves. -/
def dug (s : Fin 8192) (j : Fin 2816) : EReal := back m c (fun n => dg m c n j) (lft j) s.val
def duv (s : Fin 8192) (j : Fin 2816) : EReal := back m c (fun n => dv m c n j) (rgt j) s.val
def dwg (k : Fin 8) (j : Fin 2816) : EReal := sums (fun n => dg m c n j) (fun s => x0 m c (ix2 s (lft j))) k
def dwv (k : Fin 8) (j : Fin 2816) : EReal := sums (fun n => dv m c n j) (fun s => x0 m c (ix2 s (rgt j))) k

theorem arr10 : @Eq (S8192x2816.Idx → EReal) ((dats m 0 c).arrAt 10 cfg0.N) fun i => dug m c (i 0) (i 1) := by
  refine (dats m 0 c).arrAt_eq_of_covers 10 _ (by decide +kernel) fun t hf y => ?_
  blk_simp
  rw [after0_10]
  idx_vars y
  have he : ((View.whole main_v28_0).slice (win0_10.rect t)).emb (ix2 y0 y1) = ix2 (row t y0) (col t y1) := by blk_ext [idx0 t] <;> rfl
  rw [he]
  exact out10 m c t y1 y0
theorem arr11 : @Eq (S8192x2816.Idx → EReal) ((dats m 0 c).arrAt 11 cfg0.N) fun i => duv m c (i 0) (i 1) := by
  refine (dats m 0 c).arrAt_eq_of_covers 11 _ (by decide +kernel) fun t hf y => ?_
  blk_simp
  rw [after0_11]
  idx_vars y
  have he : ((View.whole main_v28_1).slice (win0_11.rect t)).emb (ix2 y0 y1) = ix2 (row t y0) (col t y1) := by blk_ext [idx0 t] <;> rfl
  rw [he]
  exact out11 m c t y1 y0
theorem out12 (hr : t.val % 32 = 31) (k : Fin 8) : @Eq EReal ((outsAt0 m c t.val t.isLt).2.2.1 (ix2 k q)) (dwg m c k (col t q)) := by
  refine (Pipeline.eq_sum_of_reset_step_apply_divmod (fun n h => (outsAt0 m c n h).2.2.1) 32 (fun _ => (0 : EReal)) (term m c (dg m c) lft)
    (first_12 m c) (next_12 m c) t (ix2 k q)).trans ((zero_add _).trans ?_)
  rw [hr, col_eq]
  unfold dwg
  rw [← three_sum]
  exact Finset.sum_congr rfl fun p _ => rfl
theorem arr12 : @Eq (S8x2816.Idx → EReal) ((dats m 0 c).arrAt 12 cfg0.N) fun i => dwg m c (i 0) (i 1) := by
  refine (dats m 0 c).arrAt_eq_of_covers 12 _ (by decide +kernel) fun t hf y => ?_
  blk_simp
  rw [after0_12]
  idx_vars y
  have he : ((View.whole main_v28_2).slice (win0_12.rect t)).emb (ix2 y0 y1) = ix2 y0 (col t y1) := by
    blk_ext [idx0 t]
    rfl
  rw [he]
  exact out12 m c t y1 ((flush0_12 t).mp hf) y0
theorem out13 (hr : t.val % 32 = 31) (k : Fin 8) : @Eq EReal ((outsAt0 m c t.val t.isLt).2.2.2 (ix2 k q)) (dwv m c k (col t q)) := by
  refine (Pipeline.eq_sum_of_reset_step_apply_divmod (fun n h => (outsAt0 m c n h).2.2.2) 32 (fun _ => (0 : EReal)) (term m c (dv m c) rgt)
    (first_13 m c) (next_13 m c) t (ix2 k q)).trans ((zero_add _).trans ?_)
  rw [hr, col_eq]
  unfold dwv
  rw [← three_sum]
  exact Finset.sum_congr rfl fun p _ => rfl
theorem arr13 : @Eq (S8x2816.Idx → EReal) ((dats m 0 c).arrAt 13 cfg0.N) fun i => dwv m c (i 0) (i 1) := by
  refine (dats m 0 c).arrAt_eq_of_covers 13 _ (by decide +kernel) fun t hf y => ?_
  blk_simp
  rw [after0_13]
  idx_vars y
  have he : ((View.whole main_v28_3).slice (win0_13.rect t)).emb (ix2 y0 y1) = ix2 y0 (col t y1) := by
    blk_ext [idx0 t]
    rfl
  rw [he]
  exact out13 m c t y1 ((flush0_13 t).mp hf) y0

abbrev a12 (W : Valuation τ sig (Elt Ideal)) : S8x2816.Idx → EReal := W (Proc.devRef .tc main_v28_2)
abbrev a13 (W : Valuation τ sig (Elt Ideal)) : S8x2816.Idx → EReal := W (Proc.devRef .tc main_v28_3)
theorem tail_dw (W : Valuation τ sig (Elt Ideal)) (k : Fin 3) (j : Fin 5632) : @Eq EReal (StableHlo.after hostOps1 W (Proc.devRef .tc main_v30) (ix2 k j))
    (if h : j.val < 2816 then a12 W (ix2 ⟨k.val, by omega⟩ ⟨j.val, h⟩) else a13 W (ix2 ⟨k.val, by omega⟩ ⟨j.val - 2816, by omega⟩)) := by
  after_reads_at
  try rfl

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b
theorem left_12 : a12 (left m c) = (dats m 0 c).arrAt 12 cfg0.N := (dats m 0 c).withArrays_arrAt sharedIn0 (V0 m c) (A_eq m c) 12
theorem left_13 : a13 (left m c) = (dats m 0 c).arrAt 13 cfg0.N := (dats m 0 c).withArrays_arrAt sharedIn0 (V0 m c) (A_eq m c) 13

/-- The gradient of the convolution's output, both halves side by side. -/
def d2 (n : ℕ) (j : Fin 5632) : EReal := if h : j.val < 2816 then dg m c n ⟨j.val, h⟩ else dv m c n ⟨j.val - 2816, by omega⟩

theorem final_dw (k : Fin 3) (j : Fin 5632) : @Eq EReal (final m c main_v30 (ix2 k j)) (sums (fun n => d2 m c n j) (fun s => x0 m c (ix2 s j)) ⟨k.val, by omega⟩) := by
  refine (tail_dw (left m c) k j).trans ?_
  rw [left_12, left_13, arr12, arr13]
  unfold d2 dwg dwv
  by_cases h : j.val < 2816
  · simp only [dif_pos h]
    rfl
  · simp only [dif_neg h]
    have e : rgt ⟨j.val - 2816, by omega⟩ = j := Fin.ext (by show j.val - 2816 + 2816 = j.val; omega)
    exact congrArg (fun j' => sums (fun n => dv m c n ⟨j.val - 2816, by omega⟩) (fun s => x0 m c (ix2 s j')) ⟨k.val, by omega⟩) e

section Reference
open Cert.FfnRefIdeal.Read
variable (s : Fin 8192) (j : Fin 5632) (p : Fin 2816)

theorem ref_z (n : Fin 8194) : @Eq EReal (val_main_v4 (F := Ideal) (x0 m c) (ix2 n j)) (z m c n.val j) := by
  have h : @Eq EReal (val_main_v4 (F := Ideal) (x0 m c) (ix2 n j)) (if h : n.val < 2 then 0 else x0 m c (ix2 ⟨n.val - 2, by omega⟩ j)) := by
    unfold val_main_v4 val_main_v3 val_main_cst val_main_v2 val_main_v1 val_main_v0
    pointwise
    by_cases h2 : n.val < 2
    · rw [dif_pos h2, dif_pos h2]
    · rw [dif_neg h2, dif_neg h2]
      by_cases hj : j.val < 2816
      · rw [dif_pos hj]
      · rw [dif_neg hj]
        exact congrArg (fun j' => x0 m c (ix2 _ j')) (Fin.ext (by show 2816 + (j.val - 2816) = j.val; omega))
  rw [h]
  unfold z
  by_cases h2 : n.val < 2
  · rw [dif_pos h2, dif_neg (by omega)]
  · rw [dif_neg h2, dif_pos ⟨by omega, n.isLt⟩]
theorem ref_w0 : @Eq EReal (val_main_v10 (F := Ideal) (x1 m c) (ix2 s j)) (x1 m c (ix2 0 j)) := by
  unfold val_main_v10 val_main_v9 val_main_v8 val_main_v7
  pointwise
theorem ref_w1 : @Eq EReal (val_main_v16 (F := Ideal) (x1 m c) (ix2 s j)) (x1 m c (ix2 1 j)) := by
  unfold val_main_v16 val_main_v15 val_main_v14 val_main_v13
  pointwise
theorem ref_w2 : @Eq EReal (val_main_v23 (F := Ideal) (x1 m c) (ix2 s j)) (x1 m c (ix2 2 j)) := by
  unfold val_main_v23 val_main_v22 val_main_v21 val_main_v20
  pointwise
theorem ref_z0 : @Eq EReal (val_main_v6 (F := Ideal) (x0 m c) (ix2 s j)) (z m c s.val j) := by
  unfold val_main_v6
  pointwise
  exact ref_z m c j ⟨s.val, by omega⟩
theorem ref_z1 : @Eq EReal (val_main_v12 (F := Ideal) (x0 m c) (ix2 s j)) (z m c (s.val + 1) j) := by
  unfold val_main_v12
  pointwise
  exact (ref_z m c j ⟨1 + s.val, by omega⟩).trans (congrArg (fun n => z m c n j) (Nat.add_comm _ _))
theorem ref_z2 : @Eq EReal (val_main_v19 (F := Ideal) (x0 m c) (ix2 s j)) (z m c (s.val + 2) j) := by
  unfold val_main_v19
  pointwise
  exact (ref_z m c j ⟨2 + s.val, by omega⟩).trans (congrArg (fun n => z m c n j) (Nat.add_comm _ _))
theorem ref_cv : @Eq EReal (val_main_v25 (F := Ideal) (x0 m c) (x1 m c) (ix2 s j)) (cv m c s.val j) := by
  unfold val_main_v25 val_main_v18 val_main_v24 val_main_v17 val_main_v11 cv
  pointwise
  rw [ref_z0, ref_z1, ref_z2, ref_w0, ref_w1, ref_w2]
theorem ref_gate : @Eq EReal (val_main_v26 (F := Ideal) (x0 m c) (x1 m c) (ix2 s p)) (cv m c s.val (lft p)) := by
  unfold val_main_v26
  pointwise
  exact ref_cv m c s (lft p)
theorem ref_val : @Eq EReal (val_main_v27 (F := Ideal) (x0 m c) (x1 m c) (ix2 s p)) (cv m c s.val (rgt p)) := by
  unfold val_main_v27
  pointwise
  exact (congrArg (fun j' => val_main_v25 (F := Ideal) (x0 m c) (x1 m c) (ix2 s j')) (Fin.ext (Nat.add_comm _ _) : (⟨2816 + p.val, _⟩ : Fin 5632) = rgt p)).trans (ref_cv m c s (rgt p))
theorem ref_sigma : @Eq EReal (val_main_v28_2 (F := Ideal) (x0 m c) (x1 m c) (ix2 s p)) (Ideal.logistic (cv m c s.val (lft p))) := by
  rw [← Scalars.one_div_one_add_exp]
  unfold val_main_v28_2 val_main_call0_v4 val_main_call0_cst_0 val_main_call0_v3 val_main_call0_v2 val_main_call0_cst val_main_call0_v1 val_main_call0_v0
  pointwise
  rw [ref_gate]
theorem ref_dv : @Eq EReal (val_main_v30 (F := Ideal) (x0 m c) (x1 m c) (x2 m c) (ix2 s p)) (dv m c s.val p) := by
  unfold val_main_v30 val_main_v28_0
  pointwise
  rw [ref_gate, ref_sigma]
  unfold dv
  rw [dif_pos s.isLt, mul_comm, mul_assoc]
theorem ref_slope : @Eq EReal (val_main_v32 (F := Ideal) (x0 m c) (x1 m c) (x2 m c) (ix2 s p))
    (x2 m c (ix2 s p) * cv m c s.val (rgt p) * Ideal.logistic (cv m c s.val (lft p))
      + cv m c s.val (lft p) * (x2 m c (ix2 s p) * cv m c s.val (rgt p)) * (Ideal.logistic (cv m c s.val (lft p)) * (1 - Ideal.logistic (cv m c s.val (lft p))))) := by
  unfold val_main_v32 val_main_call1_v2 val_main_call1_v1 val_main_call1_v0 val_main_v31 val_main_v28_1 val_main_call0_v7 val_main_call0_v6 val_main_call0_cst_1
  pointwise
  rw [ref_gate, ref_val, ref_sigma]

/-- Over real numbers the two ways to write the gate's slope agree. -/
theorem slope_real (P L x : ℝ) : (P : EReal) * L + x * P * (L * (1 - L)) = P * L * (1 + x * (1 - L)) := by
  norm_cast
  ring

/-- The arguments are real numbers. -/
structure Reals : Prop where
  u : ∀ i, ∃ r : ℝ, x0 m c i = r
  w : ∀ i, ∃ r : ℝ, x1 m c i = r
  da : ∀ i, ∃ r : ℝ, x2 m c i = r

variable {m c} in
theorem Reals.z (h : Reals m c) (n : ℕ) : ∃ r : ℝ, Ffn.z m c n j = r := by
  unfold Ffn.z
  by_cases hn : 2 ≤ n ∧ n < 8194
  · rw [dif_pos hn]
    exact h.u _
  · rw [dif_neg hn]
    exact ⟨0, rfl⟩
variable {m c} in
theorem Reals.cv (h : Reals m c) (n : ℕ) : ∃ r : ℝ, Ffn.cv m c n j = r := by
  obtain ⟨z0, e0⟩ := h.z j n
  obtain ⟨z1, e1⟩ := h.z j (n + 1)
  obtain ⟨z2, e2⟩ := h.z j (n + 2)
  obtain ⟨w0, f0⟩ := h.w (ix2 0 j)
  obtain ⟨w1, f1⟩ := h.w (ix2 1 j)
  obtain ⟨w2, f2⟩ := h.w (ix2 2 j)
  exact ⟨z0 * w0 + z1 * w1 + z2 * w2, by unfold Ffn.cv; rw [e0, e1, e2, f0, f1, f2]; norm_cast⟩

theorem ref_dg (h : Reals m c) : @Eq EReal (val_main_v32 (F := Ideal) (x0 m c) (x1 m c) (x2 m c) (ix2 s p)) (dg m c s.val p) := by
  rw [ref_slope]
  unfold dg
  rw [dif_pos s.isLt]
  obtain ⟨x, ex⟩ := h.cv (lft p) s.val
  obtain ⟨y, ey⟩ := h.cv (rgt p) s.val
  obtain ⟨a, ea⟩ := h.da (ix2 s p)
  rw [ex, ey, ea, Ideal.logistic_coe, ← EReal.coe_mul]
  exact slope_real _ _ _

theorem ref_d2 (h : Reals m c) : @Eq EReal (val_main_v33 (F := Ideal) (x0 m c) (x1 m c) (x2 m c) (ix2 s j)) (d2 m c s.val j) := by
  unfold val_main_v33 d2
  pointwise
  by_cases hj : j.val < 2816
  · rw [dif_pos hj, dif_pos hj, ref_dg m c s _ h]
  · rw [dif_neg hj, dif_neg hj, ref_dv]

theorem d2_out (n : ℕ) (hn : 8192 ≤ n) : d2 m c n j = 0 := by
  unfold d2 dg dv
  have h : ¬ n < 8192 := Nat.not_lt.mpr hn
  simp only [dif_neg h]
  exact ite_self _

/-- A sum with the gradient `e` rows late takes the convolution's input `e` rows back. -/
theorem late_sum (e : ℕ) (he : e ≤ 2) : ∑ s : Fin 8192, d2 m c (s.val + e) j * x0 m c (ix2 s j) = ∑ s : Fin 8192, d2 m c s.val j * z m c (s.val + (2 - e)) j := by
  have h := sum_late 8192 e (by omega) (fun n => d2 m c n j) (fun n => z m c (n + 2) j) fun n hn => d2_out m c j n hn
  refine (Finset.sum_congr rfl fun s _ => congrArg (_ * ·) (late_last m c s j)).trans (h.trans (Finset.sum_congr rfl fun s _ => congrArg (_ * ·) ?_))
  by_cases hs : e ≤ s.val
  · rw [if_pos hs]
    exact congrArg (fun n => z m c n j) (by omega)
  · rw [if_neg hs]
    unfold z
    rw [dif_neg (by omega)]

theorem ref_t2 (h : Reals m c) : @Eq EReal (val_main_v35 (F := Ideal) (x0 m c) (x1 m c) (x2 m c) (ix1 j)) (∑ s : Fin 8192, d2 m c s.val j * z m c (s.val + 2) j) := by
  unfold val_main_v35 val_main_v34 val_main_cst_1
  pointwise
  exact Finset.sum_congr rfl fun s _ => by rw [ref_z2, ref_d2 m c s j h, mul_comm]
theorem ref_t1 (h : Reals m c) : @Eq EReal (val_main_v44 (F := Ideal) (x0 m c) (x1 m c) (x2 m c) (ix1 j)) (∑ s : Fin 8192, d2 m c s.val j * z m c (s.val + 1) j) := by
  unfold val_main_v44 val_main_v43 val_main_cst_5
  pointwise
  exact Finset.sum_congr rfl fun s _ => by rw [ref_z1, ref_d2 m c s j h, mul_comm]
theorem ref_t0 (h : Reals m c) : @Eq EReal (val_main_v55 (F := Ideal) (x0 m c) (x1 m c) (x2 m c) (ix1 j)) (∑ s : Fin 8192, d2 m c s.val j * z m c (s.val + 0) j) := by
  unfold val_main_v55 val_main_v54 val_main_cst_9
  pointwise
  exact Finset.sum_congr rfl fun s _ => by rw [ref_z0, ref_d2 m c s j h, mul_comm]

theorem ref_dw (h : Reals m c) (k : Fin 3) : @Eq EReal (val_main_v62 (F := Ideal) (x0 m c) (x1 m c) (x2 m c) (ix2 k j))
    (sums (fun n => d2 m c n j) (fun s => x0 m c (ix2 s j)) ⟨k.val, by omega⟩) := by
  unfold val_main_v62 val_main_v51 val_main_v41 val_main_v50 val_main_v61 val_main_v40 val_main_v49 val_main_v60 val_main_v39 val_main_v48 val_main_v59 val_main_v36 val_main_v45 val_main_v56
  unfold val_main_cst_2 val_main_cst_3 val_main_cst_6 val_main_cst_7 val_main_cst_10 val_main_cst_11
  pointwise
  rw [ref_t0 m c j h, ref_t1 m c j h, ref_t2 m c j h]
  have l2 := late_sum m c j 2 (by omega)
  have l1 := late_sum m c j 1 (by omega)
  have l0 := late_sum m c j 0 (by omega)
  simp only [Nat.add_zero, Nat.sub_self, Nat.sub_zero, show 2 - 1 = 1 from rfl] at l2 l1 l0 ⊢
  unfold sums
  simp only [l2, l1, l0]
  fin_cases k <;> simp

theorem ref_back (h : Reals m c) : @Eq EReal (val_main_v66 (F := Ideal) (x0 m c) (x1 m c) (x2 m c) (ix2 s j)) (back m c (fun n => d2 m c n j) j s.val) := by
  unfold val_main_v66 val_main_v64 val_main_v53 val_main_v63 val_main_v42 val_main_v52 val_main_v38 val_main_v47 val_main_v58 val_main_v37 val_main_v46 val_main_v57 val_main_cst_4 val_main_cst_8 val_main_cst_12
  unfold val_main_v22 val_main_v21 val_main_v20 val_main_v15 val_main_v14 val_main_v13 val_main_v9 val_main_v8 val_main_v7
  pointwise
  unfold back
  have e1 : 2 + s.val - 1 = s.val + 1 := by omega
  have e2 : 2 + s.val = s.val + 2 := Nat.add_comm _ _
  refine congrArg₂ (· + ·) (congrArg₂ (· + ·) (congrArg (· * _) (ref_d2 m c s j h)) ?_) ?_
  · by_cases h1 : s.val + 1 < 8192
    · rw [dif_pos ⟨by omega, by omega⟩, ref_d2 m c _ j h]
      exact congrArg (fun n => d2 m c n j * _) e1
    · rw [dif_neg (by omega)]
      exact ((congrArg (· * _) (d2_out m c j _ (by omega))).trans (zero_mul _)).symm
  · by_cases h2 : s.val + 2 < 8192
    · rw [dif_pos (by omega), ref_d2 m c _ j h]
      exact congrArg (fun n => d2 m c n j * _) e2
    · rw [dif_neg (by omega)]
      exact ((congrArg (· * _) (d2_out m c j _ (by omega))).trans (zero_mul _)).symm

theorem d2_gate (n : ℕ) : d2 m c n (lft p) = dg m c n p := dif_pos p.isLt
theorem d2_val (n : ℕ) : d2 m c n (rgt p) = dv m c n p := by
  have h : ¬ (rgt p).val < 2816 := by show ¬ p.val + 2816 < 2816; omega
  unfold d2
  rw [dif_neg h]
  exact congrArg (dv m c n) (Fin.ext (by show p.val + 2816 - 2816 = p.val; omega))
theorem ref_dug (h : Reals m c) (i : S8192x2816.Idx) : @Eq EReal (val_main_v69 (F := Ideal) (x0 m c) (x1 m c) (x2 m c) i) (dug m c (i 0) (i 1)) := by
  idx_vars i
  unfold val_main_v69 val_main_v67
  pointwise
  refine (ref_back m c i0 (lft i1) h).trans ?_
  unfold dug back
  simp only [d2_gate]
theorem ref_duv (h : Reals m c) (i : S8192x2816.Idx) : @Eq EReal (val_main_v70 (F := Ideal) (x0 m c) (x1 m c) (x2 m c) i) (duv m c (i 0) (i 1)) := by
  idx_vars i
  unfold val_main_v70 val_main_v68
  pointwise
  refine (congrArg (fun j' => val_main_v66 (F := Ideal) (x0 m c) (x1 m c) (x2 m c) (ix2 i0 j')) (Fin.ext (Nat.add_comm _ _) : (⟨2816 + i1.val, _⟩ : Fin 5632) = rgt i1)).trans ?_
  refine (ref_back m c i0 (rgt i1) h).trans ?_
  unfold duv back
  simp only [d2_val]
end Reference

theorem run_results (ρ : Dev nD → PrngReg) :
    θ_run defs (onTc (τ := τ) (main (F := Ideal))) ⟨m, fun _ => 0, ρ⟩ fun r => ∀ c : Dev nD,
      r.2.mem ((c.tc : Thread nD τ).loc main_v28_0) = (dats m 0 c).arrAt 10 cfg0.N
      ∧ r.2.mem ((c.tc : Thread nD τ).loc main_v28_1) = (dats m 0 c).arrAt 11 cfg0.N
      ∧ r.2.mem ((c.tc : Thread nD τ).loc main_v30) = final m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 10, (h.1 c).1 11,
      (h.1 c).2 main_v30 (Pipeline.mem_restRefs_of main_v30 (by decide) (by decide)), h.2.1 c⟩)
    (θ_run_and (run_main m ρ) (frame m ρ))

/-- The feed-forward gate's gradient: over finite arguments kernel and derivative leave the same three arrays. -/
theorem value [Cert.Pre_ffn_finite.Facts] : Cert.algebraic_FfnIdeal_FfnRefIdeal_pre_ffn_finite := fun m ρ m' ρ' hp hag =>
  ⟨_, _, _, run_results m ρ, (θ_run _ _ _).mono (fun _ h c => by
      obtain ⟨h0, h1, h2, hr⟩ := h c
      obtain ⟨e0, e1, e2⟩ := hag c
      obtain ⟨p0, p1, p2⟩ := hp c
      have hR : Reals m c := ⟨fun i => Attn.real_of_abs_lt (congrFun p0 i), fun i => Attn.real_of_abs_lt (congrFun p1 i), fun i => Attn.real_of_abs_lt (congrFun p2 i)⟩
      rw [Cert.FfnRefIdeal.Read.val_main_v69_eq, e0, e1, e2] at h0
      rw [Cert.FfnRefIdeal.Read.val_main_v70_eq, e0, e1, e2] at h1
      rw [Cert.FfnRefIdeal.Read.val_main_v62_eq, e0, e1, e2] at h2
      refine ⟨h0.trans ((funext (ref_dug m c hR)).trans (arr10 m c).symm), h1.trans ((funext (ref_duv m c hR)).trans (arr11 m c).symm), h2.trans (funext fun i => ?_), hr⟩
      idx_vars i
      exact (ref_dw m c i1 hR i0).trans (final_dw m c i0 i1).symm)
    (Cert.FfnRefIdeal.Value.run m' ρ')⟩

end Cert.Proof.Ffn

end
-- ==== Proof.NormReal.lean ====
/- The gradient of one row's root mean square norm, as it is written by hand and as it is derived. -/
module

public import proofs.«01_k».proof.Proof.AttnReal
public import Idealize.ShloMosaic.Lib.Pointwise

@[expose] public section

noncomputable section

namespace Cert.Proof

open Idealize.ShloMosaic

/-- The mean square of a row with the norm's small constant, and the norm's factor. -/
def rowSq (x : Fin 1024 → EReal) : EReal := Ideal.div (∑ j, x j * x j) (Ideal.ofBits .f32 0x44800000#32) + Ideal.ofBits .f32 0x358637BD#32
def rowInv (x : Fin 1024 → EReal) : EReal := Ideal.rsqrt (rowSq x)
/-- The gradient of a row `x` from the gradient `w` of the normed row. -/
def rowGrad (x w : Fin 1024 → EReal) (d : Fin 1024) : EReal :=
  rowInv x * (w d - x d * rowInv x * Ideal.div (∑ j, w j * (x j * rowInv x)) (Ideal.ofBits .f32 0x44800000#32))
/-- The half of it that comes by the mean square, as the derivative takes it. -/
def rowHalf (x w : Fin 1024 → EReal) : EReal :=
  Ideal.div ((∑ j, x j * w j) * (Ideal.ofBits .f32 0xBF000000#32 * Ideal.div (rowInv x) (rowSq x))) (Ideal.ofBits .f32 0x44800000#32)

theorem word_count : Ideal.ofBits .f32 0x44800000#32 = ((1024 : ℝ) : EReal) := by
  simp [Ideal.ofBits, Ideal.ieee, -EReal.coe_mul]; norm_num
theorem word_minus_half : Ideal.ofBits .f32 0xBF000000#32 = ((-1 / 2 : ℝ) : EReal) := by
  simp [Ideal.ofBits, Ideal.ieee, -EReal.coe_mul]; norm_num
theorem word_small : ∃ e : ℝ, 0 < e ∧ Ideal.ofBits .f32 0x358637BD#32 = (e : EReal) :=
  ⟨8796093 / 8796093022208, by norm_num, by simp [Ideal.ofBits, Ideal.ieee, -EReal.coe_mul]; norm_num⟩

/-- A positive real factor of a sum goes into each term, infinite or not. -/
theorem pos_mul_sum {ι : Type} [Fintype ι] (v : ℝ) (hv : 0 < v) (f : ι → EReal) : (v : EReal) * ∑ i, f i = ∑ i, (v : EReal) * f i := by
  classical
  induction (Finset.univ : Finset ι) using Finset.induction_on with
  | empty => simp
  | insert i s hi ih =>
    rw [Finset.sum_insert hi, Finset.sum_insert hi, EReal.left_distrib_of_nonneg_of_ne_top (EReal.coe_nonneg.mpr hv.le) (EReal.coe_ne_top v), ih]

theorem twice (y : EReal) : y + y = ((2 : ℝ) : EReal) * y := by
  rw [show ((2 : ℝ) : EReal) = 1 + 1 by rw [← EReal.coe_one, ← EReal.coe_add]; norm_num, EReal.right_distrib_of_nonneg zero_le_one zero_le_one, one_mul]

/-- A row with an infinite entry has the factor zero. -/
theorem rowSq_top (x : Fin 1024 → EReal) (h : ¬ ∀ j, ∃ r : ℝ, x j = r) : rowSq x = ⊤ := by
  obtain ⟨j, hj⟩ := not_forall.mp h
  obtain ⟨e, he, hword⟩ := word_small
  have hn : ∀ y : EReal, 0 ≤ y * y := fun y => by
    induction y using EReal.rec with
    | bot => simp
    | coe r => exact_mod_cast mul_self_nonneg r
    | top => simp
  have ht : x j * x j = ⊤ := by
    induction hy : x j using EReal.rec with
    | bot => simp
    | coe r => exact absurd ⟨r, hy⟩ hj
    | top => simp
  have hs : ∑ j, x j * x j = ⊤ := top_le_iff.mp (ht ▸ Finset.single_le_sum (f := fun j => x j * x j) (fun i _ => hn _) (Finset.mem_univ j))
  unfold rowSq
  rw [hs, hword, word_count, Ideal.div_coe (by norm_num), EReal.top_mul_coe_of_pos (by norm_num), EReal.top_add_coe]

/-- Both ways to write the gradient agree, whatever the row and the gradient are. -/
theorem rowGrad_derived (x w : Fin 1024 → EReal) (d : Fin 1024) :
    rowGrad x w d = w d * rowInv x + x d * rowHalf x w + rowHalf x w * x d := by
  by_cases hx : ∀ j, ∃ r : ℝ, x j = r
  · choose r hr using hx
    obtain ⟨e, he, hword⟩ := word_small
    set u : ℝ := (∑ j, r j * r j) * (1 / 1024) + e with hu
    have hpos : 0 < u := by
      have : 0 ≤ ∑ j, r j * r j := Finset.sum_nonneg fun j _ => mul_self_nonneg _
      positivity
    have hsq : rowSq x = (u : EReal) := by
      unfold rowSq
      simp only [hr, hword, word_count, Ideal.div_coe (show (1024 : ℝ) ≠ 0 by norm_num), ← EReal.coe_mul, Attn.sum_coe, ← EReal.coe_add]
      rfl
    set v : ℝ := (Real.sqrt u)⁻¹ with hv
    have hv0 : 0 < v := inv_pos.mpr (Real.sqrt_pos.mpr hpos)
    have hinv : rowInv x = (v : EReal) := by
      unfold rowInv
      rw [hsq, Ideal.rsqrt_coe, if_neg hpos.not_gt, if_neg hpos.ne']
    have hvu : 1 / u = v * v := by
      rw [hv, ← mul_inv, Real.mul_self_sqrt hpos.le, one_div]
    set S : EReal := ∑ j, x j * w j with hS
    have hs : ∑ j, w j * (x j * (v : EReal)) = v * S := by
      rw [pos_mul_sum v hv0]
      exact Finset.sum_congr rfl fun j _ => by ac_rfl
    have hB : x d * v * (v * S * ((1 / 1024 : ℝ) : EReal)) = ((r d * v * v * (1 / 1024) : ℝ) : EReal) * S := by
      rw [hr d]; simp only [EReal.coe_mul]; ac_rfl
    have hH : x d * rowHalf x w = ((r d * (-1 / 2) * v * (1 / u) * (1 / 1024) : ℝ) : EReal) * S := by
      unfold rowHalf
      rw [hinv, hsq, hr d, word_count, word_minus_half, Ideal.div_coe (by norm_num), Ideal.div_coe hpos.ne', ← hS]
      simp only [EReal.coe_mul]; ac_rfl
    rw [mul_comm (rowHalf x w), add_assoc, twice, hH, ← mul_assoc, ← EReal.coe_mul]
    unfold rowGrad
    rw [hinv, hs, word_count, Ideal.div_coe (by norm_num), hB, sub_eq_add_neg,
      EReal.left_distrib_of_nonneg_of_ne_top (EReal.coe_nonneg.mpr hv0.le) (EReal.coe_ne_top v), mul_neg, ← mul_assoc, ← EReal.coe_mul, mul_comm (w d), ← neg_mul, ← EReal.coe_neg, hvu]
    refine congrArg (_ + Real.toEReal · * S) ?_
    ring
  · have h0 : rowInv x = 0 := by unfold rowInv; rw [rowSq_top x hx, Ideal.rsqrt_top]
    have hH : rowHalf x w = 0 := by
      unfold rowHalf
      rw [h0, word_count, Ideal.div_coe (by norm_num), rowSq_top x hx]
      simp [Ideal.div]
    unfold rowGrad
    rw [hH, h0]
    simp

end Cert.Proof

end
-- ==== Proof.Norm2.lean ====
/- The value of the second norm's gradient, fused with the product by the up weights' transpose. -/
module

public import proofs.«01_k».proof.Proof.Gen.Norm2Ideal.Frame
public import proofs.«01_k».proof.Proof.Gen.Norm2RefIdeal.Read
public import proofs.«01_k».proof.Proof.Scalars
public import proofs.«01_k».proof.Proof.Rows
public import proofs.«01_k».proof.Proof.NormReal
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Norm2

open Cert.Norm2Ideal Cert.Norm2Ideal.Gen
open Idealize.ShloMosaic Idealize.ShloMosaic.TcCoe Idealize.SL.Sem

variable (m : (ℓ : Loc nD τ sig) → Buf (Elt Ideal) ℓ) (c : Dev nD)

/-- Which block each window holds at grid point `t`. -/
theorem idx0 : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![t.val, 0] ∧ win0_10.index t = ![0, 0]
    ∧ win0_11.index t = ![0, 0] ∧ win0_12.index t = ![0, 0] ∧ win0_13.index t = ![t.val, 0] ∧ win0_14.index t = ![0, 0] := by
  decide +kernel

abbrev x0 : S8192x1024.Idx → EReal := m ((c : Thread nD τ).loc main_arg0)
abbrev x1 : S1x1024.Idx → EReal := m ((c : Thread nD τ).loc main_arg1)
abbrev x2 : S8192x1024.Idx → EReal := m ((c : Thread nD τ).loc main_arg2)
abbrev x3 : S1x1024.Idx → EReal := m ((c : Thread nD τ).loc main_arg3)
abbrev x4 : S1x1024.Idx → EReal := m ((c : Thread nD τ).loc main_arg4)
abbrev x5 : S1x1024.Idx → EReal := m ((c : Thread nD τ).loc main_arg5)
abbrev x6 : S1024x5632.Idx → EReal := m ((c : Thread nD τ).loc main_arg6)
abbrev x7 : S8192x1024.Idx → EReal := m ((c : Thread nD τ).loc main_arg7)
abbrev x8 : S8192x5632.Idx → EReal := m ((c : Thread nD τ).loc main_arg8)

/-- The normed row, the gradient of the modulated norm, and what it sends to each of its arguments. -/
def X (s : Fin 8192) (d : Fin 1024) : EReal := x0 m c (ix2 s d) + x1 m c (ix2 0 d) * x2 m c (ix2 s d)
def dh (s : Fin 8192) (d : Fin 1024) : EReal := ∑ k : Fin 5632, x8 m c (ix2 s k) * x6 m c (ix2 d k)
def osc (d : Fin 1024) : EReal := 1 + x4 m c (ix2 0 d)
def inv (s : Fin 8192) : EReal := Cert.Proof.rowInv fun j => X m c s j
def dx (s : Fin 8192) (d : Fin 1024) : EReal :=
  x7 m c (ix2 s d) + Cert.Proof.rowGrad (fun j => X m c s j) (fun j => dh m c s j * (x3 m c (ix2 0 j) * osc m c j)) d

/-- Row `a` of the block of point `t`. -/
def row (t : Fin cfg0.N) (a : Fin 512) : Fin 8192 := ⟨t.val * 512 + a.val, by have h : t.val < 16 := t.isLt; omega⟩

variable (t : Fin cfg0.N) (a : Fin 512) (d : Fin 1024)

theorem blk0 (k : Fin 2816) : @Eq EReal (iblk m c 0 t (ix2 a k)) (x8 m c (ix2 (row t a) ⟨k.val, by omega⟩)) := by
  refine Eq.trans ?_ (show @Eq EReal (V m c main_v4 (ix2 (row t a) k)) _ from by unfold V; after_reads_at; try rfl)
  blk_ext [iblk, idx0 t]; rfl
theorem blk1 (k : Fin 2816) : @Eq EReal (iblk m c 1 t (ix2 a k)) (x8 m c (ix2 (row t a) ⟨2816 + k.val, by omega⟩)) := by
  refine Eq.trans ?_ (show @Eq EReal (V m c main_v6 (ix2 (row t a) k)) _ from by unfold V; after_reads_at; try rfl)
  blk_ext [iblk, idx0 t]; rfl
theorem blk2 (k : Fin 5632) : @Eq EReal (iblk m c 2 t (ix2 d k)) (x6 m c (ix2 d k)) := by
  refine Eq.trans ?_ (show @Eq EReal (V m c main_v7 (ix2 d k)) _ from by unfold V; after_reads_at; try rfl)
  blk_ext [iblk, idx0 t]
theorem blk3 : @Eq EReal (iblk m c 3 t (ix2 a d)) (X m c (row t a) d) := by
  refine Eq.trans ?_ (show @Eq EReal (V m c main_v2 (ix2 (row t a) d)) _ from by unfold V X; after_reads_at; try rfl)
  blk_ext [iblk, idx0 t]; rfl
theorem blk4 : @Eq EReal (iblk m c 4 t (ix2 a d)) (x7 m c (ix2 (row t a) d)) := by
  blk_ext [iblk, V, idx0 t]; rfl
theorem blk5 : @Eq EReal (iblk m c 5 t (ix2 0 d)) (x3 m c (ix2 0 d)) := by
  blk_ext [iblk, V, idx0 t]
theorem blk6 : @Eq EReal (iblk m c 6 t (ix2 0 d)) (x4 m c (ix2 0 d)) := by
  blk_ext [iblk, V, idx0 t]
theorem blk7 : @Eq EReal (iblk m c 7 t (ix2 a d)) (x2 m c (ix2 (row t a) d)) := by
  blk_ext [iblk, V, idx0 t]; rfl
theorem blk8 : @Eq EReal (iblk m c 8 t (ix2 0 d)) (x1 m c (ix2 0 d)) := by
  blk_ext [iblk, V, idx0 t]

/-- The two halves of the weights, each loaded by itself. -/
abbrev wl : S1024x2816.Idx → EReal := View.ld (iblk m c 2 t) (Rect.unit ![0, 0] ![1024, 2816] inb_S1024x5632_S1024x2816_0_0)
abbrev wr : S1024x2816.Idx → EReal := View.ld (iblk m c 2 t) (Rect.unit ![0, 2816] ![1024, 2816] inb_S1024x5632_S1024x2816_0_2816)
theorem wl_at (k : Fin 2816) : wl m c t (ix2 d k) = x6 m c (ix2 d ⟨k.val, by omega⟩) := by
  refine Eq.trans (congrArg (iblk m c 2 t : S1024x5632.Idx → EReal) (funext fun a => Fin.ext ?_)) (blk2 m c t d ⟨k.val, by omega⟩)
  match a with
  | ⟨0, _⟩ => show 0 + 1 * d.val = d.val; omega
  | ⟨1, _⟩ => show 0 + 1 * k.val = k.val; omega
theorem wr_at (k : Fin 2816) : wr m c t (ix2 d k) = x6 m c (ix2 d ⟨2816 + k.val, by omega⟩) := by
  refine Eq.trans (congrArg (iblk m c 2 t : S1024x5632.Idx → EReal) (funext fun a => Fin.ext ?_)) (blk2 m c t d ⟨2816 + k.val, by omega⟩)
  match a with
  | ⟨0, _⟩ => show 0 + 1 * d.val = d.val; omega
  | ⟨1, _⟩ => show 2816 + 1 * k.val = 2816 + k.val; omega

section Payloads
variable (v0 v5 : S512x2816.Idx → EReal) (v2 v7 : S1024x2816.Idx → EReal) (v10 v14 v29 v32 v33 : S512x1024.Idx → EReal) (v27 : S512x1.Idx → EReal)
  (v16 v19 : S1x1024.Idx → EReal) (p : S8x1024.Idx → EReal) (b : Fin 8)

theorem pay3_at : @Eq EReal (k0_pay3 (F := Ideal) v0 v2 v5 v7 (ix2 a d)) ((∑ k, v0 (ix2 a k) * v2 (ix2 d k)) + ∑ k, v5 (ix2 a k) * v7 (ix2 d k)) := by
  unfold k0_pay3
  pointwise
theorem pay9_at : @Eq EReal (k0_pay9 (F := Ideal) v16 (ix2 0 d)) (1 + v16 (ix2 0 d)) := by
  unfold k0_pay9
  pointwise
theorem pay10_at : @Eq EReal (k0_pay10 (F := Ideal) v14 (ix2 a 0)) (rowInv fun j => v14 (ix2 a j)) := by
  unfold k0_pay10 k0_pay8 rowInv rowSq
  pointwise
theorem pay11_at : @Eq EReal (k0_pay11 (F := Ideal) v14 (ix2 a d)) (v14 (ix2 a d) * rowInv fun j => v14 (ix2 a j)) := by
  rw [← pay10_at]
  unfold k0_pay11 k0_pay8
  pointwise
theorem pay12_at : @Eq EReal (k0_pay12 (F := Ideal) v0 v2 v5 v7 v16 v19 (ix2 a d)) (k0_pay3 (F := Ideal) v0 v2 v5 v7 (ix2 a d) * (v16 (ix2 0 d) * (1 + v19 (ix2 0 d)))) := by
  unfold k0_pay12
  pointwise
  rw [pay9_at]
theorem pay13_at : @Eq EReal (k0_pay13 (F := Ideal) v27 v29 v32 v33 (ix2 a d))
    (v33 (ix2 a d) + v27 (ix2 a 0) * (v32 (ix2 a d) - v29 (ix2 a d) * Ideal.div (∑ x, v32 (ix2 a x) * v29 (ix2 a x)) (Ideal.ofBits .f32 0x44800000#32))) := by
  unfold k0_pay13
  pointwise
theorem pay1_at : @Eq EReal (k0_pay1 (F := Ideal) v10 v16 (ix2 a d)) (v10 (ix2 a d) * v16 (ix2 0 d)) := by
  unfold k0_pay1
  pointwise

/-- Row `k·8 + b` of a tile, the `k`-th of those folded into row `b`. -/
def fold (k : Fin 64) : Fin 512 := ⟨k.val * 8 + b.val, by omega⟩
theorem pay15_at : @Eq EReal (k0_pay15 (F := Ideal) v10 p (ix2 b d)) (p (ix2 b d) + ∑ k, v10 (ix2 (fold b k) d)) := by
  unfold k0_pay15
  pointwise
  rfl
theorem pay16_at : @Eq EReal (k0_pay16 (F := Ideal) v10 v16 v29 p (ix2 b d)) (p (ix2 b d) + ∑ k, v10 (ix2 (fold b k) d) * v29 (ix2 (fold b k) d) * v16 (ix2 0 d)) := by
  unfold k0_pay16 k0_pay14
  pointwise
  rfl
theorem pay17_at : @Eq EReal (k0_pay17 (F := Ideal) v10 v16 v29 p (ix2 b d)) (p (ix2 b d) + ∑ k, v10 (ix2 (fold b k) d) * v29 (ix2 (fold b k) d) * v16 (ix2 0 d)) := by
  unfold k0_pay17 k0_pay14
  pointwise
  rfl
theorem pay2_at : @Eq EReal (k0_pay2 (F := Ideal) v10 p v14 (ix2 b d)) (p (ix2 b d) + ∑ k, v10 (ix2 (fold b k) d) * v14 (ix2 (fold b k) d)) := by
  unfold k0_pay2
  pointwise
  rfl
end Payloads

/-- The tile's payloads, at the blocks of point `t`. -/
abbrev p3 := k0_pay3 (F := Ideal) (iblk m c 0 t) (wl m c t) (iblk m c 1 t) (wr m c t)
abbrev p13 := k0_pay13 (F := Ideal) (k0_pay10 (iblk m c 3 t)) (k0_pay11 (iblk m c 3 t)) (k0_pay12 (iblk m c 0 t) (wl m c t) (iblk m c 1 t) (wr m c t) (iblk m c 5 t) (iblk m c 6 t)) (iblk m c 4 t)

theorem p3_at : @Eq EReal (p3 m c t (ix2 a d)) (dh m c (row t a) d) := by
  refine (pay3_at a d _ _ _ _).trans ?_
  simp only [blk0, blk1, wl_at, wr_at]
  exact (Fin.sum_univ_add (a := 2816) (b := 2816) fun k => x8 m c (ix2 (row t a) k) * x6 m c (ix2 d k)).symm
theorem inv_at : @Eq EReal (k0_pay10 (F := Ideal) (iblk m c 3 t) (ix2 a 0)) (inv m c (row t a)) := by
  refine (pay10_at a _).trans ?_
  simp only [blk3]
  rfl
theorem xn_at : @Eq EReal (k0_pay11 (F := Ideal) (iblk m c 3 t) (ix2 a d)) (X m c (row t a) d * inv m c (row t a)) := by
  refine (pay11_at a d _).trans ?_
  simp only [blk3]
  rfl
theorem p13_at : @Eq EReal (p13 m c t (ix2 a d)) (dx m c (row t a) d) := by
  refine (pay13_at a d _ _ _ _).trans ?_
  simp only [pay12_at, p3_at, inv_at, xn_at, blk4, blk5, blk6]
  rfl

/-- What every point leaves in the two plain outputs' blocks. -/
theorem outs_at (t : Fin cfg0.N) :
    (∀ a d, @Eq EReal ((outsAt0 m c t.val t.isLt).1 (ix2 a d)) (dx m c (row t a) d))
    ∧ (∀ a d, @Eq EReal ((outsAt0 m c t.val t.isLt).2.2.2.2.1 (ix2 a d)) (dx m c (row t a) d * x1 m c (ix2 0 d))) := by
  by_cases h0 : t.val % 16 = 0
  · rw [outsAt0_A m c t h0]
    refine ⟨fun a d => ?_, fun a d => ?_⟩
    · frame_out
      exact p13_at m c t a d
    · frame_out
      exact (pay1_at a d _ _).trans (congrArg₂ (· * ·) (p13_at m c t a d) (blk8 m c t d))
  · rw [outsAt0_B m c t h0]
    refine ⟨fun a d => ?_, fun a d => ?_⟩
    · frame_out
      exact p13_at m c t a d
    · frame_out
      exact (pay1_at a d _ _).trans (congrArg₂ (· * ·) (p13_at m c t a d) (blk8 m c t d))

/-- What point `p` adds to one of the four sums over rows. -/
def term (f : Fin 8192 → Fin 1024 → EReal) (p : Fin cfg0.N) (i : S8x1024.Idx) : EReal := ∑ k : Fin 64, f (row p (fold (i 0) k)) (i 1)

def fsh (s : Fin 8192) (d : Fin 1024) : EReal := dh m c s d
def fsc (s : Fin 8192) (d : Fin 1024) : EReal := dh m c s d * (X m c s d * inv m c s) * x3 m c (ix2 0 d)
def fn (s : Fin 8192) (d : Fin 1024) : EReal := dh m c s d * (X m c s d * inv m c s) * osc m c d
def fg (s : Fin 8192) (d : Fin 1024) : EReal := dx m c s d * x2 m c (ix2 s d)

theorem zeros (i : S8x1024.Idx) : @Eq EReal (k0_pay4 (F := Ideal) i) 0 ∧ @Eq EReal (k0_pay5 (F := Ideal) i) 0 ∧ @Eq EReal (k0_pay6 (F := Ideal) i) 0
    ∧ @Eq EReal (k0_pay7 (F := Ideal) i) 0 := by
  idx_vars i
  unfold k0_pay4 k0_pay5 k0_pay6 k0_pay7
  refine ⟨?_, ?_, ?_, ?_⟩ <;> pointwise

/-- The four sums' payloads, over what was there before. -/
theorem add_sh (p : S8x1024.Idx → EReal) (i0 : Fin 8) (i1 : Fin 1024) : @Eq EReal (k0_pay15 (F := Ideal) (p3 m c t) p (ix2 i0 i1)) (p (ix2 i0 i1) + term (fsh m c) t (ix2 i0 i1)) := by
  refine (pay15_at i1 _ p i0).trans ?_
  simp only [p3_at]
  rfl
theorem add_sc (p : S8x1024.Idx → EReal) (i0 : Fin 8) (i1 : Fin 1024) :
    @Eq EReal (k0_pay16 (F := Ideal) (p3 m c t) (iblk m c 5 t) (k0_pay11 (iblk m c 3 t)) p (ix2 i0 i1)) (p (ix2 i0 i1) + term (fsc m c) t (ix2 i0 i1)) := by
  refine (pay16_at i1 _ _ _ p i0).trans ?_
  simp only [p3_at, xn_at, blk5]
  rfl
theorem add_n (p : S8x1024.Idx → EReal) (i0 : Fin 8) (i1 : Fin 1024) :
    @Eq EReal (k0_pay17 (F := Ideal) (p3 m c t) (k0_pay9 (iblk m c 6 t)) (k0_pay11 (iblk m c 3 t)) p (ix2 i0 i1)) (p (ix2 i0 i1) + term (fn m c) t (ix2 i0 i1)) := by
  refine (pay17_at i1 _ _ _ p i0).trans ?_
  simp only [p3_at, xn_at, pay9_at, blk6]
  rfl
theorem add_g (p : S8x1024.Idx → EReal) (i0 : Fin 8) (i1 : Fin 1024) :
    @Eq EReal (k0_pay2 (F := Ideal) (p13 m c t) p (iblk m c 7 t) (ix2 i0 i1)) (p (ix2 i0 i1) + term (fg m c) t (ix2 i0 i1)) := by
  refine (pay2_at i1 _ _ p i0).trans ?_
  simp only [p13_at, blk7]
  rfl

theorem first (h0 : t.val % 16 = 0) (i : S8x1024.Idx) : @Eq EReal ((outsAt0 m c t.val t.isLt).2.1 i) (0 + term (fsh m c) t i)
    ∧ @Eq EReal ((outsAt0 m c t.val t.isLt).2.2.1 i) (0 + term (fsc m c) t i)
    ∧ @Eq EReal ((outsAt0 m c t.val t.isLt).2.2.2.1 i) (0 + term (fn m c) t i)
    ∧ @Eq EReal ((outsAt0 m c t.val t.isLt).2.2.2.2.2 i) (0 + term (fg m c) t i) := by
  obtain ⟨z4, z5, z6, z7⟩ := zeros i
  idx_vars i
  rw [outsAt0_A m c t h0]
  refine ⟨?_, ?_, ?_, ?_⟩
  · frame_out
    exact (add_sh m c t _ i0 i1).trans (congrArg (· + _) z4)
  · frame_out
    exact (add_sc m c t _ i0 i1).trans (congrArg (· + _) z5)
  · frame_out
    exact (add_n m c t _ i0 i1).trans (congrArg (· + _) z6)
  · frame_out
    exact (add_g m c t _ i0 i1).trans (congrArg (· + _) z7)

theorem next (h0 : ¬ t.val % 16 = 0) (i : S8x1024.Idx) :
    @Eq EReal ((outsAt0 m c t.val t.isLt).2.1 i) ((outsAt0 m c (t.val - 1) (Nat.lt_of_le_of_lt (Nat.sub_le _ _) t.isLt)).2.1 i + term (fsh m c) t i)
    ∧ @Eq EReal ((outsAt0 m c t.val t.isLt).2.2.1 i) ((outsAt0 m c (t.val - 1) (Nat.lt_of_le_of_lt (Nat.sub_le _ _) t.isLt)).2.2.1 i + term (fsc m c) t i)
    ∧ @Eq EReal ((outsAt0 m c t.val t.isLt).2.2.2.1 i) ((outsAt0 m c (t.val - 1) (Nat.lt_of_le_of_lt (Nat.sub_le _ _) t.isLt)).2.2.2.1 i + term (fn m c) t i)
    ∧ @Eq EReal ((outsAt0 m c t.val t.isLt).2.2.2.2.2 i) ((outsAt0 m c (t.val - 1) (Nat.lt_of_le_of_lt (Nat.sub_le _ _) t.isLt)).2.2.2.2.2 i + term (fg m c) t i) := by
  idx_vars i
  rw [outsAt0_B m c t h0]
  refine ⟨?_, ?_, ?_, ?_⟩
  · frame_out
    exact add_sh m c t _ i0 i1
  · frame_out
    exact add_sc m c t _ i0 i1
  · frame_out
    exact add_n m c t _ i0 i1
  · frame_out
    exact add_g m c t _ i0 i1

theorem arr9 : @Eq (S8192x1024.Idx → EReal) ((dats m 0 c).arrAt 9 cfg0.N) fun i => dx m c (i 0) (i 1) := by
  refine (dats m 0 c).arrAt_eq_of_covers 9 _ (by decide +kernel) fun t hf y => ?_
  blk_simp
  rw [after0_9]
  idx_vars y
  have he : ((View.whole main_v8_0).slice (win0_9.rect t)).emb (ix2 y0 y1) = ix2 (row t y0) y1 := by blk_ext [idx0 t] <;> rfl
  rw [he]
  exact (outs_at m c t).1 y0 y1
theorem arr13 : @Eq (S8192x1024.Idx → EReal) ((dats m 0 c).arrAt 13 cfg0.N) fun i => dx m c (i 0) (i 1) * x1 m c (ix2 0 (i 1)) := by
  refine (dats m 0 c).arrAt_eq_of_covers 13 _ (by decide +kernel) fun t hf y => ?_
  blk_simp
  rw [after0_13]
  idx_vars y
  have he : ((View.whole main_v8_4).slice (win0_13.rect t)).emb (ix2 y0 y1) = ix2 (row t y0) y1 := by blk_ext [idx0 t] <;> rfl
  rw [he]
  exact (outs_at m c t).2 y0 y1

/-- One of the four sums at the end: the rows folded into eight. -/
theorem sum_all (h : (n : ℕ) → n < cfg0.N → S8x1024.Idx → EReal) (f : Fin 8192 → Fin 1024 → EReal)
    (hf : ∀ t : Fin cfg0.N, t.val % 16 = 0 → ∀ i, h t.val t.isLt i = 0 + term f t i)
    (hn : ∀ t : Fin cfg0.N, ¬ t.val % 16 = 0 → ∀ i, h t.val t.isLt i = h (t.val - 1) (Nat.lt_of_le_of_lt (Nat.sub_le _ _) t.isLt) i + term f t i)
    (i : S8x1024.Idx) : h t0_15.val t0_15.isLt i = ∑ p, term f p i :=
  (Pipeline.eq_sum_fin_of_reset_step_apply_last h 16 (fun _ => (0 : EReal)) (term f) hf hn (by decide) t0_15 rfl i).trans (zero_add _)

theorem arr10 : @Eq (S8x1024.Idx → EReal) ((dats m 0 c).arrAt 10 cfg0.N) fun i => ∑ p, term (fsh m c) p i := by
  refine (dats m 0 c).arrAt_eq_of_after_last 10 t0_15 (by decide +kernel) _ fun j => ?_
  blk_simp
  rw [after0_10]
  exact sum_all (fun n h => (outsAt0 m c n h).2.1) _ (fun t h0 i => (first m c t h0 i).1) (fun t h0 i => (next m c t h0 i).1) j
theorem arr11 : @Eq (S8x1024.Idx → EReal) ((dats m 0 c).arrAt 11 cfg0.N) fun i => ∑ p, term (fsc m c) p i := by
  refine (dats m 0 c).arrAt_eq_of_after_last 11 t0_15 (by decide +kernel) _ fun j => ?_
  blk_simp
  rw [after0_11]
  exact sum_all (fun n h => (outsAt0 m c n h).2.2.1) _ (fun t h0 i => (first m c t h0 i).2.1) (fun t h0 i => (next m c t h0 i).2.1) j
theorem arr12 : @Eq (S8x1024.Idx → EReal) ((dats m 0 c).arrAt 12 cfg0.N) fun i => ∑ p, term (fn m c) p i := by
  refine (dats m 0 c).arrAt_eq_of_after_last 12 t0_15 (by decide +kernel) _ fun j => ?_
  blk_simp
  rw [after0_12]
  exact sum_all (fun n h => (outsAt0 m c n h).2.2.2.1) _ (fun t h0 i => (first m c t h0 i).2.2.1) (fun t h0 i => (next m c t h0 i).2.2.1) j
theorem arr14 : @Eq (S8x1024.Idx → EReal) ((dats m 0 c).arrAt 14 cfg0.N) fun i => ∑ p, term (fg m c) p i := by
  refine (dats m 0 c).arrAt_eq_of_after_last 14 t0_15 (by decide +kernel) _ fun j => ?_
  blk_simp
  rw [after0_14]
  exact sum_all (fun n h => (outsAt0 m c n h).2.2.2.2.2) _ (fun t h0 i => (first m c t h0 i).2.2.2) (fun t h0 i => (next m c t h0 i).2.2.2) j

section Tail
variable (W : Valuation τ sig (Elt Ideal)) (d : Fin 1024)
abbrev a10 : S8x1024.Idx → EReal := W (Proc.devRef .tc main_v8_1)
abbrev a11 : S8x1024.Idx → EReal := W (Proc.devRef .tc main_v8_2)
abbrev a12 : S8x1024.Idx → EReal := W (Proc.devRef .tc main_v8_3)
abbrev a14 : S8x1024.Idx → EReal := W (Proc.devRef .tc main_v8_5)
theorem tail_g : @Eq EReal (StableHlo.after hostOps1 W (Proc.devRef .tc main_v10) (ix2 0 d)) (∑ a : Fin 8, a14 W (ix2 a d)) := by
  after_reads_at
theorem tail_n : @Eq EReal (StableHlo.after hostOps1 W (Proc.devRef .tc main_v12) (ix2 0 d)) (∑ a : Fin 8, a12 W (ix2 a d)) := by
  after_reads_at
theorem tail_sc : @Eq EReal (StableHlo.after hostOps1 W (Proc.devRef .tc main_v14) (ix2 0 d)) (∑ a : Fin 8, a11 W (ix2 a d)) := by
  after_reads_at
theorem tail_sh : @Eq EReal (StableHlo.after hostOps1 W (Proc.devRef .tc main_v16) (ix2 0 d)) (∑ a : Fin 8, a10 W (ix2 a d)) := by
  after_reads_at
end Tail

theorem arr_inj : Function.Injective (Pipeline.arrRef spec0) := by decide

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b

theorem left_10 : a10 (left m c) = (dats m 0 c).arrAt 10 cfg0.N := Pipeline.withArrays_arr spec0 arr_inj c _ _ 10
theorem left_11 : a11 (left m c) = (dats m 0 c).arrAt 11 cfg0.N := Pipeline.withArrays_arr spec0 arr_inj c _ _ 11
theorem left_12 : a12 (left m c) = (dats m 0 c).arrAt 12 cfg0.N := Pipeline.withArrays_arr spec0 arr_inj c _ _ 12
theorem left_14 : a14 (left m c) = (dats m 0 c).arrAt 14 cfg0.N := Pipeline.withArrays_arr spec0 arr_inj c _ _ 14

theorem unfold_sum (f : Fin 8192 → Fin 1024 → EReal) (d : Fin 1024) : ∑ a : Fin 8, ∑ p, term f p (ix2 a d) = ∑ s, f s d := sum_groups fun s => f s d

theorem final_g (d : Fin 1024) : @Eq EReal (final m c main_v10 (ix2 0 d)) (∑ s, fg m c s d) := by
  refine (tail_g (left m c) d).trans ?_
  rw [left_14, arr14]
  exact unfold_sum _ d
theorem final_n (d : Fin 1024) : @Eq EReal (final m c main_v12 (ix2 0 d)) (∑ s, fn m c s d) := by
  refine (tail_n (left m c) d).trans ?_
  rw [left_12, arr12]
  exact unfold_sum _ d
theorem final_sc (d : Fin 1024) : @Eq EReal (final m c main_v14 (ix2 0 d)) (∑ s, fsc m c s d) := by
  refine (tail_sc (left m c) d).trans ?_
  rw [left_11, arr11]
  exact unfold_sum _ d
theorem final_sh (d : Fin 1024) : @Eq EReal (final m c main_v16 (ix2 0 d)) (∑ s, fsh m c s d) := by
  refine (tail_sh (left m c) d).trans ?_
  rw [left_10, arr10]
  exact unfold_sum _ d

/-! The derivative's values, one lemma for each intermediate array that others read. -/

section Derivative
open Cert.Norm2RefIdeal.Read
variable (s : Fin 8192) (d : Fin 1024)

theorem r2 : @Eq EReal (val_main_v2 (F := Ideal) (x0 m c) (x1 m c) (x2 m c) (ix2 s d)) (X m c s d) := by
  unfold val_main_v2 val_main_v1 val_main_v0
  pointwise
  rfl
theorem r9 : @Eq EReal (val_main_v9 (F := Ideal) (x0 m c) (x1 m c) (x2 m c) (ix2 s 0)) (Cert.Proof.rowSq fun j => X m c s j) := by
  unfold val_main_v9 val_main_v8 val_main_cst_1 val_main_v7 val_main_v6 val_main_cst_0 val_main_v5 val_main_v4 val_main_v3 val_main_cst
  pointwise
  simp only [r2]
  rfl
theorem r10 : @Eq EReal (val_main_v10 (F := Ideal) (x0 m c) (x1 m c) (x2 m c) (ix2 s 0)) (inv m c s) := by
  unfold val_main_v10
  pointwise
  rw [r9]
  rfl
theorem r13 : @Eq EReal (val_main_v13 (F := Ideal) (x0 m c) (x1 m c) (x2 m c) (ix2 s 0))
    (Ideal.ofBits .f32 0xBF000000#32 * Ideal.div (inv m c s) (Cert.Proof.rowSq fun j => X m c s j)) := by
  unfold val_main_v13 val_main_v12 val_main_cst_2 val_main_v11
  pointwise
  rw [r9, r10]
theorem r15 : @Eq EReal (val_main_v15 (F := Ideal) (x0 m c) (x1 m c) (x2 m c) (ix2 s d)) (X m c s d * inv m c s) := by
  unfold val_main_v15 val_main_v14
  pointwise
  rw [r2, r10]
theorem r25 : @Eq EReal (val_main_v25 (F := Ideal) (x6 m c) (x8 m c) (ix2 s d)) (dh m c s d) := by
  unfold val_main_v25
  pointwise
  rfl
theorem r32 : @Eq EReal (val_main_v32 (F := Ideal) (x4 m c) (x6 m c) (x8 m c) (ix2 s d)) (dh m c s d * osc m c d) := by
  unfold val_main_v32 val_main_v31 val_main_v19 val_main_v18 val_main_cst_3
  pointwise
  rw [r25]
  rfl
theorem r37 : @Eq EReal (val_main_v37 (F := Ideal) (x3 m c) (x4 m c) (x6 m c) (x8 m c) (ix2 s d)) (dh m c s d * osc m c d * x3 m c (ix2 0 d)) := by
  unfold val_main_v37 val_main_v36
  pointwise
  rw [r32]
theorem r48 : @Eq EReal (val_main_v48 (F := Ideal) (x0 m c) (x1 m c) (x2 m c) (x3 m c) (x4 m c) (x6 m c) (x8 m c) (ix2 s d))
    (Cert.Proof.rowHalf (fun j => X m c s j) fun j => dh m c s j * osc m c j * x3 m c (ix2 0 j)) := by
  unfold val_main_v48 val_main_v47 val_main_cst_9 val_main_v46 val_main_v45 val_main_cst_8 val_main_v44 val_main_v40 val_main_v39 val_main_v38 val_main_cst_7
  pointwise
  simp only [r2, r37, Fin.sum_univ_one, r13]
  rfl
theorem r52 : @Eq EReal (val_main_v52 (F := Ideal) (x0 m c) (x1 m c) (x2 m c) (x3 m c) (x4 m c) (x6 m c) (x7 m c) (x8 m c) (ix2 s d)) (dx m c s d) := by
  unfold val_main_v52 val_main_v51 val_main_v50 val_main_v49 val_main_v43 val_main_v42 val_main_v41
  pointwise
  rw [r2, r48, r37, r10, dx, rowGrad_derived]
  simp only [add_assoc, mul_assoc, mul_comm (x3 m c _)]
  rfl

theorem ref_dx (i) : @Eq EReal (val_main_v52 (F := Ideal) (x0 m c) (x1 m c) (x2 m c) (x3 m c) (x4 m c) (x6 m c) (x7 m c) (x8 m c) i) (dx m c (i 0) (i 1)) := by
  idx_vars i
  exact r52 m c i0 i1
theorem ref_dg (i) : @Eq EReal (val_main_v58 (F := Ideal) (x0 m c) (x1 m c) (x2 m c) (x3 m c) (x4 m c) (x6 m c) (x7 m c) (x8 m c) i) (∑ s, fg m c s (i 1)) := by
  idx_vars i
  obtain rfl : i0 = 0 := Subsingleton.elim _ _
  unfold val_main_v58 val_main_v57 val_main_cst_10 val_main_v56 val_main_v53
  pointwise
  simp only [r52]
  rfl
theorem ref_dmix (i) : @Eq EReal (val_main_v59 (F := Ideal) (x0 m c) (x1 m c) (x2 m c) (x3 m c) (x4 m c) (x6 m c) (x7 m c) (x8 m c) i)
    (dx m c (i 0) (i 1) * x1 m c (ix2 0 (i 1))) := by
  idx_vars i
  unfold val_main_v59 val_main_v55 val_main_v54 val_main_v53
  pointwise
  rw [r52, mul_comm]
theorem ref_dn (i) : @Eq EReal (val_main_v35 (F := Ideal) (x0 m c) (x1 m c) (x2 m c) (x4 m c) (x6 m c) (x8 m c) i) (∑ s, fn m c s (i 1)) := by
  idx_vars i
  obtain rfl : i0 = 0 := Subsingleton.elim _ _
  unfold val_main_v35 val_main_v34 val_main_cst_6 val_main_v33
  pointwise
  simp only [r15, r32]
  exact Finset.sum_congr rfl fun s _ => by unfold fn; ac_rfl
theorem ref_dsc (i) : @Eq EReal (val_main_v30 (F := Ideal) (x0 m c) (x1 m c) (x2 m c) (x3 m c) (x6 m c) (x8 m c) i) (∑ s, fsc m c s (i 1)) := by
  idx_vars i
  obtain rfl : i0 = 0 := Subsingleton.elim _ _
  unfold val_main_v30 val_main_v29 val_main_cst_5 val_main_v28 val_main_v17 val_main_v16
  pointwise
  simp only [r15, r25]
  exact Finset.sum_congr rfl fun s _ => by unfold fsc; ac_rfl
theorem ref_dsh (i) : @Eq EReal (val_main_v27 (F := Ideal) (x6 m c) (x8 m c) i) (∑ s, fsh m c s (i 1)) := by
  idx_vars i
  obtain rfl : i0 = 0 := Subsingleton.elim _ _
  unfold val_main_v27 val_main_v26 val_main_cst_4
  pointwise
  simp only [r25]
  rfl
end Derivative

/-- The kernel's run: its six results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v8_0) = (dats m 0 c).arrAt 9 cfg0.N
      ∧ r.2.mem ((c.tc : Thread nD τ).loc main_v10) = final m c main_v10
      ∧ r.2.mem ((c.tc : Thread nD τ).loc main_v8_4) = (dats m 0 c).arrAt 13 cfg0.N
      ∧ r.2.mem ((c.tc : Thread nD τ).loc main_v12) = final m c main_v12
      ∧ r.2.mem ((c.tc : Thread nD τ).loc main_v14) = final m c main_v14
      ∧ r.2.mem ((c.tc : Thread nD τ).loc main_v16) = final m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 9,
      (h.1 c).2 main_v10 (Pipeline.mem_restRefs_of main_v10 (by decide) (by decide)), (h.1 c).1 13,
      (h.1 c).2 main_v12 (Pipeline.mem_restRefs_of main_v12 (by decide) (by decide)),
      (h.1 c).2 main_v14 (Pipeline.mem_restRefs_of main_v14 (by decide) (by decide)),
      (h.1 c).2 main_v16 (Pipeline.mem_restRefs_of main_v16 (by decide) (by decide)), h.2.1 c⟩)
    (θ_run_and (run_main m ρ) (frame m ρ))

/-- The host's row of a sum, at every coordinate. -/
theorem row_eq {v : S1x1024.Idx → EReal} {w : S1x1024.Idx → EReal} {f : Fin 1024 → EReal} (hv : ∀ i, v i = f (i 1)) (hw : ∀ d, w (ix2 0 d) = f d) : v = w := by
  funext i
  rw [hv]
  idx_vars i
  obtain rfl : i0 = 0 := Subsingleton.elim _ _
  exact (hw i1).symm

/-- The second norm's gradient: kernel and derivative leave the same six arrays. -/
theorem value : Cert.algebraic_Norm2Ideal_Norm2RefIdeal := fun m ρ m' ρ' _ hag =>
  ⟨_, _, _, _, _, _, run_results m ρ, (θ_run _ _ _).mono (fun _ h c => by
      obtain ⟨h0, h1, h2, h3, h4, h5, hr⟩ := h c
      obtain ⟨e0, e1, e2, e3, e4, e5, e6, e7, e8⟩ := hag c
      rw [Cert.Norm2RefIdeal.Read.val_main_v52_eq, e0, e1, e2, e3, e4, e6, e7, e8] at h0
      rw [Cert.Norm2RefIdeal.Read.val_main_v58_eq, e0, e1, e2, e3, e4, e6, e7, e8] at h1
      rw [Cert.Norm2RefIdeal.Read.val_main_v59_eq, e0, e1, e2, e3, e4, e6, e7, e8] at h2
      rw [Cert.Norm2RefIdeal.Read.val_main_v35_eq, e0, e1, e2, e4, e6, e8] at h3
      rw [Cert.Norm2RefIdeal.Read.val_main_v30_eq, e0, e1, e2, e3, e6, e8] at h4
      rw [Cert.Norm2RefIdeal.Read.val_main_v27_eq, e6, e8] at h5
      exact ⟨h0.trans ((funext (ref_dx m c)).trans (arr9 m c).symm), h1.trans (row_eq (ref_dg m c) (final_g m c)),
        h2.trans ((funext (ref_dmix m c)).trans (arr13 m c).symm), h3.trans (row_eq (ref_dn m c) (final_n m c)),
        h4.trans (row_eq (ref_dsc m c) (final_sc m c)), h5.trans (row_eq (ref_dsh m c) (final_sh m c)), hr⟩)
    (Cert.Norm2RefIdeal.Value.run m' ρ')⟩

end Cert.Proof.Norm2

end
-- ==== Proof.Norm1.lean ====
/- The value of the first norm's gradient, fused with the product by the input weights' transpose. The kernel takes the
   columns of the projection's gradient packed: the eight forget gates' columns go behind the others, and zeros behind them. -/
module

public import proofs.«01_k».proof.Proof.Gen.Norm1Ideal.Frame
public import proofs.«01_k».proof.Proof.Gen.Norm1RefIdeal.Read
public import proofs.«01_k».proof.Proof.Scalars
public import proofs.«01_k».proof.Proof.Rows
public import proofs.«01_k».proof.Proof.NormReal
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Norm1

open Cert.Norm1Ideal Cert.Norm1Ideal.Gen
open Idealize.ShloMosaic Idealize.ShloMosaic.TcCoe Idealize.SL.Sem

/-- A sum over the projection's columns, in the order the packed columns have. -/
theorem sum_columns (f : Fin 5128 → EReal) : ∑ k, f k = (∑ k : Fin 1536, f ⟨k.val, by omega⟩) + (∑ k : Fin 1024, f ⟨1536 + k.val, by omega⟩)
    + (∑ k : Fin 512, f ⟨2560 + k.val, by omega⟩) + (∑ k : Fin 1024, f ⟨3080 + k.val, by omega⟩) + (∑ k : Fin 1024, f ⟨4104 + k.val, by omega⟩)
    + ∑ k : Fin 8, f ⟨3072 + k.val, by omega⟩ := by
  have h1 : ∑ k, f k = (∑ k : Fin 4104, f ⟨k.val, by omega⟩) + ∑ k : Fin 1024, f ⟨4104 + k.val, by omega⟩ := Fin.sum_univ_add (a := 4104) (b := 1024) f
  have h2 : (∑ k : Fin 4104, f ⟨k.val, by omega⟩) = (∑ k : Fin 3080, f ⟨k.val, by omega⟩) + ∑ k : Fin 1024, f ⟨3080 + k.val, by omega⟩ :=
    Fin.sum_univ_add (a := 3080) (b := 1024) fun k => f ⟨k.val, by omega⟩
  have h3 : (∑ k : Fin 3080, f ⟨k.val, by omega⟩) = (∑ k : Fin 3072, f ⟨k.val, by omega⟩) + ∑ k : Fin 8, f ⟨3072 + k.val, by omega⟩ :=
    Fin.sum_univ_add (a := 3072) (b := 8) fun k => f ⟨k.val, by omega⟩
  have h4 : (∑ k : Fin 3072, f ⟨k.val, by omega⟩) = (∑ k : Fin 2560, f ⟨k.val, by omega⟩) + ∑ k : Fin 512, f ⟨2560 + k.val, by omega⟩ :=
    Fin.sum_univ_add (a := 2560) (b := 512) fun k => f ⟨k.val, by omega⟩
  have h5 : (∑ k : Fin 2560, f ⟨k.val, by omega⟩) = (∑ k : Fin 1536, f ⟨k.val, by omega⟩) + ∑ k : Fin 1024, f ⟨1536 + k.val, by omega⟩ :=
    Fin.sum_univ_add (a := 1536) (b := 1024) fun k => f ⟨k.val, by omega⟩
  rw [h1, h2, h3, h4, h5]
  ac_rfl

/-- A sum of products over the last piece, which is zero from its ninth column on. -/
theorem sum_last (f g : Fin 128 → EReal) (hf : ∀ k : Fin 120, f ⟨8 + k.val, by omega⟩ = 0) :
    ∑ k, f k * g k = ∑ k : Fin 8, f ⟨k.val, by omega⟩ * g ⟨k.val, by omega⟩ := by
  refine (Fin.sum_univ_add (a := 8) (b := 120) fun k => f k * g k).trans ?_
  have h : ∑ k : Fin 120, f ⟨8 + k.val, by omega⟩ * g ⟨8 + k.val, by omega⟩ = 0 := Finset.sum_eq_zero fun k _ => by rw [hf, zero_mul]
  exact (congrArg (_ + ·) h).trans (add_zero _)

variable (m : (ℓ : Loc nD τ sig) → Buf (Elt Ideal) ℓ) (c : Dev nD)

/-- Which block each window holds at grid point `t`. -/
theorem idx0 : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![t.val, 0] ∧ win0_12.index t = ![0, 0] ∧ win0_13.index t = ![0, 0] ∧ win0_14.index t = ![0, 0] := by
  decide +kernel

abbrev x0 : S8192x1024.Idx → EReal := m ((c : Thread nD τ).loc main_arg0)
abbrev x1 : S1x1024.Idx → EReal := m ((c : Thread nD τ).loc main_arg1)
abbrev x2 : S1x1024.Idx → EReal := m ((c : Thread nD τ).loc main_arg2)
abbrev x3 : S1x1024.Idx → EReal := m ((c : Thread nD τ).loc main_arg3)
abbrev x4 : S1024x5128.Idx → EReal := m ((c : Thread nD τ).loc main_arg4)
abbrev x5 : S8192x1024.Idx → EReal := m ((c : Thread nD τ).loc main_arg5)
abbrev x6 : S8192x5128.Idx → EReal := m ((c : Thread nD τ).loc main_arg6)

/-- The row that is normed, the gradient of the modulated norm, and what it sends to the row. -/
def X (s : Fin 8192) (d : Fin 1024) : EReal := x0 m c (ix2 s d)
def dh (s : Fin 8192) (d : Fin 1024) : EReal := ∑ k : Fin 5128, x6 m c (ix2 s k) * x4 m c (ix2 d k)
def osc (d : Fin 1024) : EReal := 1 + x2 m c (ix2 0 d)
def inv (s : Fin 8192) : EReal := Cert.Proof.rowInv fun j => X m c s j
def dx (s : Fin 8192) (d : Fin 1024) : EReal :=
  x5 m c (ix2 s d) + Cert.Proof.rowGrad (fun j => X m c s j) (fun j => dh m c s j * (x1 m c (ix2 0 j) * osc m c j)) d

/-- Row `a` of the block of point `t`. -/
def row (t : Fin cfg0.N) (a : Fin 512) : Fin 8192 := ⟨t.val * 512 + a.val, by have h : t.val < 16 := t.isLt; omega⟩

/-! The packed columns of the gradient and of the weights. -/

section Packed
variable (s : Fin 8192) (d : Fin 1024)
theorem packA (k : Fin 3072) : @Eq EReal (V m c main_v4 (ix2 s ⟨k.val, by omega⟩)) (x6 m c (ix2 s ⟨k.val, by omega⟩)) := by
  unfold V
  after_reads_at
  after_reads_at
theorem packB (k : Fin 2048) : @Eq EReal (V m c main_v4 (ix2 s ⟨3072 + k.val, by omega⟩)) (x6 m c (ix2 s ⟨3080 + k.val, by omega⟩)) := by
  unfold V
  after_reads_at
  after_reads_at
theorem packB' (k : Fin 1024) : @Eq EReal (V m c main_v4 (ix2 s ⟨4096 + k.val, by omega⟩)) (x6 m c (ix2 s ⟨4104 + k.val, by omega⟩)) := by
  refine Eq.trans (congrArg (fun j => V m c main_v4 (ix2 s j)) (Fin.ext ?_)) ((packB m c s ⟨1024 + k.val, by omega⟩).trans
    (congrArg (x6 m c) (congrArg (ix2 s) (Fin.ext ?_))))
  · show 4096 + k.val = 3072 + (1024 + k.val); omega
  · show 3080 + (1024 + k.val) = 4104 + k.val; omega
theorem packC (k : Fin 8) : @Eq EReal (V m c main_v4 (ix2 s ⟨5120 + k.val, by omega⟩)) (x6 m c (ix2 s ⟨3072 + k.val, by omega⟩)) := by
  unfold V
  after_reads_at
  after_reads_at
  rw [dif_neg (by omega), dif_neg (by omega), dif_pos (by omega)]
  exact congrArg (x6 m c) (congrArg (ix2 s) (Fin.ext (by show 3072 + (5120 + k.val - 3072 - 2048) = 3072 + k.val; omega)))
theorem packD (k : Fin 248) : @Eq EReal (V m c main_v4 (ix2 s ⟨5128 + k.val, by omega⟩)) 0 := by
  unfold V
  after_reads_at
  after_reads_at
  rw [dif_neg (by omega), dif_neg (by omega), dif_neg (by omega)]
theorem wpackA (k : Fin 3072) : @Eq EReal (V m c main_v16 (ix2 d ⟨k.val, by omega⟩)) (x4 m c (ix2 d ⟨k.val, by omega⟩)) := by
  unfold V
  after_reads_at
  after_reads_at
theorem wpackB (k : Fin 2048) : @Eq EReal (V m c main_v16 (ix2 d ⟨3072 + k.val, by omega⟩)) (x4 m c (ix2 d ⟨3080 + k.val, by omega⟩)) := by
  unfold V
  after_reads_at
  after_reads_at
theorem wpackC (k : Fin 8) : @Eq EReal (V m c main_v16 (ix2 d ⟨5120 + k.val, by omega⟩)) (x4 m c (ix2 d ⟨3072 + k.val, by omega⟩)) := by
  unfold V
  after_reads_at
  after_reads_at
  rw [dif_neg (by omega), dif_neg (by omega), dif_pos (by omega)]
  exact congrArg (x4 m c) (congrArg (ix2 d) (Fin.ext (by show 3072 + (5120 + k.val - 3072 - 2048) = 3072 + k.val; omega)))
end Packed

variable (t : Fin cfg0.N) (a : Fin 512) (d : Fin 1024)

theorem blk0 (k : Fin 1536) : @Eq EReal (iblk m c 0 t (ix2 a k)) (x6 m c (ix2 (row t a) ⟨k.val, by omega⟩)) := by
  refine Eq.trans ?_ (packA m c (row t a) ⟨k.val, by omega⟩)
  refine Eq.trans ?_ (show @Eq EReal (V m c main_v6 (ix2 (row t a) k)) _ from by unfold V; after_reads_at; try rfl)
  blk_ext [iblk, idx0 t]
  rfl
theorem blk1 (k : Fin 1024) : @Eq EReal (iblk m c 1 t (ix2 a k)) (x6 m c (ix2 (row t a) ⟨1536 + k.val, by omega⟩)) := by
  refine Eq.trans ?_ (packA m c (row t a) ⟨1536 + k.val, by omega⟩)
  refine Eq.trans ?_ (show @Eq EReal (V m c main_v7 (ix2 (row t a) k)) _ from by unfold V; after_reads_at; try rfl)
  blk_ext [iblk, idx0 t]
  rfl
theorem blk2 (k : Fin 512) : @Eq EReal (iblk m c 2 t (ix2 a k)) (x6 m c (ix2 (row t a) ⟨2560 + k.val, by omega⟩)) := by
  refine Eq.trans ?_ (packA m c (row t a) ⟨2560 + k.val, by omega⟩)
  refine Eq.trans ?_ (show @Eq EReal (V m c main_v8 (ix2 (row t a) k)) _ from by unfold V; after_reads_at; try rfl)
  blk_ext [iblk, idx0 t]
  rfl
theorem blk3 (k : Fin 1024) : @Eq EReal (iblk m c 3 t (ix2 a k)) (x6 m c (ix2 (row t a) ⟨3080 + k.val, by omega⟩)) := by
  refine Eq.trans ?_ (packB m c (row t a) ⟨k.val, by omega⟩)
  refine Eq.trans ?_ (show @Eq EReal (V m c main_v9 (ix2 (row t a) k)) _ from by unfold V; after_reads_at; try rfl)
  blk_ext [iblk, idx0 t]
  rfl
theorem blk4 (k : Fin 1024) : @Eq EReal (iblk m c 4 t (ix2 a k)) (x6 m c (ix2 (row t a) ⟨4104 + k.val, by omega⟩)) := by
  refine Eq.trans ?_ (packB' m c (row t a) k)
  refine Eq.trans ?_ (show @Eq EReal (V m c main_v10 (ix2 (row t a) k)) _ from by unfold V; after_reads_at; try rfl)
  blk_ext [iblk, idx0 t]
  rfl
theorem blk5 (k : Fin 128) : @Eq EReal (iblk m c 5 t (ix2 a k)) (V m c main_v4 (ix2 (row t a) ⟨5120 + k.val, by omega⟩)) := by
  refine Eq.trans ?_ (show @Eq EReal (V m c main_v11 (ix2 (row t a) k)) _ from by unfold V; after_reads_at; try rfl)
  blk_ext [iblk, idx0 t]
  rfl
theorem blk5_gates (k : Fin 8) : @Eq EReal (iblk m c 5 t (ix2 a ⟨k.val, by omega⟩)) (x6 m c (ix2 (row t a) ⟨3072 + k.val, by omega⟩)) :=
  (blk5 m c t a _).trans (packC m c _ k)
theorem blk5_pad (k : Fin 120) : @Eq EReal (iblk m c 5 t (ix2 a ⟨8 + k.val, by omega⟩)) 0 :=
  (blk5 m c t a _).trans ((congrArg (fun j => V m c main_v4 (ix2 (row t a) j)) (Fin.ext (by show 5120 + (8 + k.val) = 5128 + k.val; omega))).trans
    (packD m c _ ⟨k.val, by omega⟩))
theorem blk6 (k : Fin 5376) : @Eq EReal (iblk m c 6 t (ix2 d k)) (V m c main_v16 (ix2 d k)) := by
  refine Eq.trans ?_ (show @Eq EReal (V m c main_v17 (ix2 d k)) _ from by unfold V; after_reads_at; try rfl)
  blk_ext [iblk, idx0 t]
theorem blk7 : @Eq EReal (iblk m c 7 t (ix2 a d)) (X m c (row t a) d) := by
  blk_ext [iblk, V, idx0 t]
  rfl
theorem blk8 : @Eq EReal (iblk m c 8 t (ix2 a d)) (x5 m c (ix2 (row t a) d)) := by
  blk_ext [iblk, V, idx0 t]
  rfl
theorem blk9 : @Eq EReal (iblk m c 9 t (ix2 0 d)) (x1 m c (ix2 0 d)) := by
  blk_ext [iblk, V, idx0 t]
theorem blk10 : @Eq EReal (iblk m c 10 t (ix2 0 d)) (x2 m c (ix2 0 d)) := by
  blk_ext [iblk, V, idx0 t]

/-- The six pieces of the weights, each loaded by itself. -/
abbrev w0 : S1024x1536.Idx → EReal := View.ld (iblk m c 6 t) (Rect.unit ![0, 0] ![1024, 1536] inb_S1024x5376_S1024x1536_0_0)
abbrev w1 : S1024x1024.Idx → EReal := View.ld (iblk m c 6 t) (Rect.unit ![0, 1536] ![1024, 1024] inb_S1024x5376_S1024x1024_0_1536)
abbrev w2 : S1024x512.Idx → EReal := View.ld (iblk m c 6 t) (Rect.unit ![0, 2560] ![1024, 512] inb_S1024x5376_S1024x512_0_2560)
abbrev w3 : S1024x1024.Idx → EReal := View.ld (iblk m c 6 t) (Rect.unit ![0, 3072] ![1024, 1024] inb_S1024x5376_S1024x1024_0_3072)
abbrev w4 : S1024x1024.Idx → EReal := View.ld (iblk m c 6 t) (Rect.unit ![0, 4096] ![1024, 1024] inb_S1024x5376_S1024x1024_0_4096)
abbrev w5 : S1024x128.Idx → EReal := View.ld (iblk m c 6 t) (Rect.unit ![0, 5120] ![1024, 128] inb_S1024x5376_S1024x128_0_5120)

/-- A load at column `j + o` of the weights' block. -/
theorem load_at (i : S1024x5376.Idx) (k : Fin 5376) (h0 : (i 0).val = 0 + 1 * d.val) (h1 : (i 1).val = k.val) :
    (iblk m c 6 t : S1024x5376.Idx → EReal) i = V m c main_v16 (ix2 d k) := by
  refine Eq.trans (congrArg (iblk m c 6 t : S1024x5376.Idx → EReal) (funext fun a => Fin.ext ?_)) (blk6 m c t d k)
  match a with
  | ⟨0, _⟩ => exact h0.trans (by show 0 + 1 * d.val = d.val; omega)
  | ⟨1, _⟩ => exact h1
theorem w0_at (k : Fin 1536) : w0 m c t (ix2 d k) = x4 m c (ix2 d ⟨k.val, by omega⟩) :=
  (load_at m c t d _ ⟨k.val, by omega⟩ rfl (by show 0 + 1 * k.val = k.val; omega)).trans (wpackA m c d ⟨k.val, by omega⟩)
theorem w1_at (k : Fin 1024) : w1 m c t (ix2 d k) = x4 m c (ix2 d ⟨1536 + k.val, by omega⟩) :=
  (load_at m c t d _ ⟨1536 + k.val, by omega⟩ rfl (by show 1536 + 1 * k.val = 1536 + k.val; omega)).trans (wpackA m c d ⟨1536 + k.val, by omega⟩)
theorem w2_at (k : Fin 512) : w2 m c t (ix2 d k) = x4 m c (ix2 d ⟨2560 + k.val, by omega⟩) :=
  (load_at m c t d _ ⟨2560 + k.val, by omega⟩ rfl (by show 2560 + 1 * k.val = 2560 + k.val; omega)).trans (wpackA m c d ⟨2560 + k.val, by omega⟩)
theorem w3_at (k : Fin 1024) : w3 m c t (ix2 d k) = x4 m c (ix2 d ⟨3080 + k.val, by omega⟩) :=
  (load_at m c t d _ ⟨3072 + k.val, by omega⟩ rfl (by show 3072 + 1 * k.val = 3072 + k.val; omega)).trans (wpackB m c d ⟨k.val, by omega⟩)
theorem w4_at (k : Fin 1024) : w4 m c t (ix2 d k) = x4 m c (ix2 d ⟨4104 + k.val, by omega⟩) :=
  (load_at m c t d _ ⟨3072 + (1024 + k.val), by omega⟩ rfl (by show 4096 + 1 * k.val = 3072 + (1024 + k.val); omega)).trans
    ((wpackB m c d ⟨1024 + k.val, by omega⟩).trans (congrArg (x4 m c) (congrArg (ix2 d) (Fin.ext (by show 3080 + (1024 + k.val) = 4104 + k.val; omega)))))
theorem w5_at (k : Fin 8) : w5 m c t (ix2 d ⟨k.val, by omega⟩) = x4 m c (ix2 d ⟨3072 + k.val, by omega⟩) :=
  (load_at m c t d _ ⟨5120 + k.val, by omega⟩ rfl (by show 5120 + 1 * k.val = 5120 + k.val; omega)).trans (wpackC m c d k)

section Payloads
variable (u0 : S512x1536.Idx → EReal) (y0 : S1024x1536.Idx → EReal) (u1 u3 u4 : S512x1024.Idx → EReal) (y1 y3 y4 : S1024x1024.Idx → EReal)
  (u2 : S512x512.Idx → EReal) (y2 : S1024x512.Idx → EReal) (u5 : S512x128.Idx → EReal) (y5 : S1024x128.Idx → EReal)
  (v28 v34 v38 v52 v56 : S512x1024.Idx → EReal) (v39 v40 : S1x1024.Idx → EReal) (p : S8x1024.Idx → EReal) (b : Fin 8)

theorem pay5_at : @Eq EReal (k0_pay5 (F := Ideal) u0 y0 u1 y1 u2 y2 u3 y3 u4 y4 (ix2 a d))
    ((∑ k, u0 (ix2 a k) * y0 (ix2 d k)) + (∑ k, u1 (ix2 a k) * y1 (ix2 d k)) + (∑ k, u2 (ix2 a k) * y2 (ix2 d k)) + (∑ k, u3 (ix2 a k) * y3 (ix2 d k))
      + ∑ k, u4 (ix2 a k) * y4 (ix2 d k)) := by
  unfold k0_pay5
  pointwise
theorem pay7_at : @Eq EReal (k0_pay7 (F := Ideal) v28 (k0_pay6 (F := Ideal) u5) y5 (ix2 a d)) (v28 (ix2 a d) + ∑ k, u5 (ix2 a k) * y5 (ix2 d k)) := by
  unfold k0_pay7 k0_pay6
  pointwise
theorem pay11_at : @Eq EReal (k0_pay11 (F := Ideal) v40 (ix2 0 d)) (1 + v40 (ix2 0 d)) := by
  unfold k0_pay11
  pointwise
theorem pay12_at : @Eq EReal (k0_pay12 (F := Ideal) v38 (ix2 a 0)) (rowInv fun j => v38 (ix2 a j)) := by
  unfold k0_pay12 rowInv rowSq
  pointwise
theorem pay13_at : @Eq EReal (k0_pay13 (F := Ideal) v38 (ix2 a d)) (v38 (ix2 a d) * rowInv fun j => v38 (ix2 a j)) := by
  rw [← pay12_at]
  unfold k0_pay13
  pointwise
theorem pay14_at (v30 : S512x128.Idx → EReal) : @Eq EReal (k0_pay14 (F := Ideal) v28 v30 y5 v38 v39 v40 v56 (ix2 a d))
    (v56 (ix2 a d) + rowGrad (fun j => v38 (ix2 a j)) (fun j => k0_pay7 (F := Ideal) v28 v30 y5 (ix2 a j) * (v39 (ix2 0 j) * (1 + v40 (ix2 0 j)))) d) := by
  unfold k0_pay14 rowGrad
  pointwise
  simp only [pay13_at, pay12_at, pay11_at]

/-- Row `k·8 + b` of a tile, the `k`-th of those folded into row `b`. -/
def fold (k : Fin 64) : Fin 512 := ⟨k.val * 8 + b.val, by omega⟩
theorem pay2_at : @Eq EReal (k0_pay2 (F := Ideal) v34 p (ix2 b d)) (p (ix2 b d) + ∑ k, v34 (ix2 (fold b k) d)) := by
  unfold k0_pay2
  pointwise
  rfl
theorem pay3_at : @Eq EReal (k0_pay3 (F := Ideal) v34 v39 v52 p (ix2 b d)) (p (ix2 b d) + ∑ k, v34 (ix2 (fold b k) d) * v52 (ix2 (fold b k) d) * v39 (ix2 0 d)) := by
  unfold k0_pay3 k0_pay1
  pointwise
  rfl
theorem pay4_at : @Eq EReal (k0_pay4 (F := Ideal) v34 v39 v52 p (ix2 b d)) (p (ix2 b d) + ∑ k, v34 (ix2 (fold b k) d) * v52 (ix2 (fold b k) d) * v39 (ix2 0 d)) := by
  unfold k0_pay4 k0_pay1
  pointwise
  rfl
end Payloads

/-- The tile's payloads, at the blocks of point `t`. -/
abbrev p5 := k0_pay5 (F := Ideal) (iblk m c 0 t) (w0 m c t) (iblk m c 1 t) (w1 m c t) (iblk m c 2 t) (w2 m c t) (iblk m c 3 t) (w3 m c t) (iblk m c 4 t) (w4 m c t)
abbrev p7 := k0_pay7 (F := Ideal) (p5 m c t) (k0_pay6 (iblk m c 5 t)) (w5 m c t)
abbrev p14 := k0_pay14 (F := Ideal) (p5 m c t) (k0_pay6 (iblk m c 5 t)) (w5 m c t) (iblk m c 7 t) (iblk m c 9 t) (iblk m c 10 t) (iblk m c 8 t)

theorem p7_at : @Eq EReal (p7 m c t (ix2 a d)) (dh m c (row t a) d) := by
  refine ((pay7_at a d _ _ _).trans (congrArg₂ (· + ·) (pay5_at a d _ _ _ _ _ _ _ _ _ _)
    (sum_last (fun k => iblk m c 5 t (ix2 a k)) (fun k => w5 m c t (ix2 d k)) (blk5_pad m c t a)))).trans ?_
  simp only [blk0, blk1, blk2, blk3, blk4, blk5_gates, w0_at, w1_at, w2_at, w3_at, w4_at, w5_at]
  exact (sum_columns fun k => x6 m c (ix2 (row t a) k) * x4 m c (ix2 d k)).symm
theorem xn_at : @Eq EReal (k0_pay13 (F := Ideal) (iblk m c 7 t) (ix2 a d)) (X m c (row t a) d * inv m c (row t a)) := by
  refine (pay13_at a d _).trans ?_
  simp only [blk7]
  rfl
theorem p14_at : @Eq EReal (p14 m c t (ix2 a d)) (dx m c (row t a) d) := by
  refine (pay14_at a d _ _ _ _ _ _ _).trans ?_
  simp only [p7_at, blk7, blk8, blk9, blk10]
  rfl

/-- What every point leaves in the plain output's block. -/
theorem outs_at (t : Fin cfg0.N) (a d) : @Eq EReal ((outsAt0 m c t.val t.isLt).1 (ix2 a d)) (dx m c (row t a) d) := by
  by_cases h0 : t.val % 16 = 0
  · rw [outsAt0_A m c t h0]
    frame_out
    exact p14_at m c t a d
  · rw [outsAt0_B m c t h0]
    frame_out
    exact p14_at m c t a d

/-- What point `p` adds to one of the three sums over rows. -/
def term (f : Fin 8192 → Fin 1024 → EReal) (p : Fin cfg0.N) (i : S8x1024.Idx) : EReal := ∑ k : Fin 64, f (row p (fold (i 0) k)) (i 1)

def fsh (s : Fin 8192) (d : Fin 1024) : EReal := dh m c s d
def fsc (s : Fin 8192) (d : Fin 1024) : EReal := dh m c s d * (X m c s d * inv m c s) * x1 m c (ix2 0 d)
def fn (s : Fin 8192) (d : Fin 1024) : EReal := dh m c s d * (X m c s d * inv m c s) * osc m c d

theorem zeros (i : S8x1024.Idx) : @Eq EReal (k0_pay8 (F := Ideal) i) 0 ∧ @Eq EReal (k0_pay9 (F := Ideal) i) 0 ∧ @Eq EReal (k0_pay10 (F := Ideal) i) 0 := by
  idx_vars i
  unfold k0_pay8 k0_pay9 k0_pay10
  refine ⟨?_, ?_, ?_⟩ <;> pointwise

/-- The three sums' payloads, over what was there before. -/
theorem add_sh (p : S8x1024.Idx → EReal) (i0 : Fin 8) (i1 : Fin 1024) : @Eq EReal (k0_pay2 (F := Ideal) (p7 m c t) p (ix2 i0 i1)) (p (ix2 i0 i1) + term (fsh m c) t (ix2 i0 i1)) := by
  refine (pay2_at i1 _ p i0).trans ?_
  simp only [p7_at]
  rfl
theorem add_sc (p : S8x1024.Idx → EReal) (i0 : Fin 8) (i1 : Fin 1024) :
    @Eq EReal (k0_pay3 (F := Ideal) (p7 m c t) (iblk m c 9 t) (k0_pay13 (iblk m c 7 t)) p (ix2 i0 i1)) (p (ix2 i0 i1) + term (fsc m c) t (ix2 i0 i1)) := by
  refine (pay3_at i1 _ _ _ p i0).trans ?_
  simp only [p7_at, xn_at, blk9]
  rfl
theorem add_n (p : S8x1024.Idx → EReal) (i0 : Fin 8) (i1 : Fin 1024) :
    @Eq EReal (k0_pay4 (F := Ideal) (p7 m c t) (k0_pay11 (iblk m c 10 t)) (k0_pay13 (iblk m c 7 t)) p (ix2 i0 i1)) (p (ix2 i0 i1) + term (fn m c) t (ix2 i0 i1)) := by
  refine (pay4_at i1 _ _ _ p i0).trans ?_
  simp only [p7_at, xn_at, pay11_at, blk10]
  rfl

theorem first (h0 : t.val % 16 = 0) (i : S8x1024.Idx) : @Eq EReal ((outsAt0 m c t.val t.isLt).2.1 i) (0 + term (fsh m c) t i)
    ∧ @Eq EReal ((outsAt0 m c t.val t.isLt).2.2.1 i) (0 + term (fsc m c) t i)
    ∧ @Eq EReal ((outsAt0 m c t.val t.isLt).2.2.2 i) (0 + term (fn m c) t i) := by
  obtain ⟨z8, z9, z10⟩ := zeros i
  idx_vars i
  rw [outsAt0_A m c t h0]
  refine ⟨?_, ?_, ?_⟩
  · frame_out
    exact (add_sh m c t _ i0 i1).trans (congrArg (· + _) z8)
  · frame_out
    exact (add_sc m c t _ i0 i1).trans (congrArg (· + _) z9)
  · frame_out
    exact (add_n m c t _ i0 i1).trans (congrArg (· + _) z10)

theorem next (h0 : ¬ t.val % 16 = 0) (i : S8x1024.Idx) :
    @Eq EReal ((outsAt0 m c t.val t.isLt).2.1 i) ((outsAt0 m c (t.val - 1) (Nat.lt_of_le_of_lt (Nat.sub_le _ _) t.isLt)).2.1 i + term (fsh m c) t i)
    ∧ @Eq EReal ((outsAt0 m c t.val t.isLt).2.2.1 i) ((outsAt0 m c (t.val - 1) (Nat.lt_of_le_of_lt (Nat.sub_le _ _) t.isLt)).2.2.1 i + term (fsc m c) t i)
    ∧ @Eq EReal ((outsAt0 m c t.val t.isLt).2.2.2 i) ((outsAt0 m c (t.val - 1) (Nat.lt_of_le_of_lt (Nat.sub_le _ _) t.isLt)).2.2.2 i + term (fn m c) t i) := by
  idx_vars i
  rw [outsAt0_B m c t h0]
  refine ⟨?_, ?_, ?_⟩
  · frame_out
    exact add_sh m c t _ i0 i1
  · frame_out
    exact add_sc m c t _ i0 i1
  · frame_out
    exact add_n m c t _ i0 i1

theorem arr11 : @Eq (S8192x1024.Idx → EReal) ((dats m 0 c).arrAt 11 cfg0.N) fun i => dx m c (i 0) (i 1) := by
  refine (dats m 0 c).arrAt_eq_of_covers 11 _ (by decide +kernel) fun t hf y => ?_
  blk_simp
  rw [after0_11]
  idx_vars y
  have he : ((View.whole main_v18_0).slice (win0_11.rect t)).emb (ix2 y0 y1) = ix2 (row t y0) y1 := by blk_ext [idx0 t] <;> rfl
  rw [he]
  exact outs_at m c t y0 y1

/-- One of the three sums at the end: the rows folded into eight. -/
theorem sum_all (h : (n : ℕ) → n < cfg0.N → S8x1024.Idx → EReal) (f : Fin 8192 → Fin 1024 → EReal)
    (hf : ∀ t : Fin cfg0.N, t.val % 16 = 0 → ∀ i, h t.val t.isLt i = 0 + term f t i)
    (hn : ∀ t : Fin cfg0.N, ¬ t.val % 16 = 0 → ∀ i, h t.val t.isLt i = h (t.val - 1) (Nat.lt_of_le_of_lt (Nat.sub_le _ _) t.isLt) i + term f t i)
    (i : S8x1024.Idx) : h t0_15.val t0_15.isLt i = ∑ p, term f p i :=
  (Pipeline.eq_sum_fin_of_reset_step_apply_last h 16 (fun _ => (0 : EReal)) (term f) hf hn (by decide) t0_15 rfl i).trans (zero_add _)

theorem arr12 : @Eq (S8x1024.Idx → EReal) ((dats m 0 c).arrAt 12 cfg0.N) fun i => ∑ p, term (fsh m c) p i := by
  refine (dats m 0 c).arrAt_eq_of_after_last 12 t0_15 (by decide +kernel) _ fun j => ?_
  blk_simp
  rw [after0_12]
  exact sum_all (fun n h => (outsAt0 m c n h).2.1) _ (fun t h0 i => (first m c t h0 i).1) (fun t h0 i => (next m c t h0 i).1) j
theorem arr13 : @Eq (S8x1024.Idx → EReal) ((dats m 0 c).arrAt 13 cfg0.N) fun i => ∑ p, term (fsc m c) p i := by
  refine (dats m 0 c).arrAt_eq_of_after_last 13 t0_15 (by decide +kernel) _ fun j => ?_
  blk_simp
  rw [after0_13]
  exact sum_all (fun n h => (outsAt0 m c n h).2.2.1) _ (fun t h0 i => (first m c t h0 i).2.1) (fun t h0 i => (next m c t h0 i).2.1) j
theorem arr14 : @Eq (S8x1024.Idx → EReal) ((dats m 0 c).arrAt 14 cfg0.N) fun i => ∑ p, term (fn m c) p i := by
  refine (dats m 0 c).arrAt_eq_of_after_last 14 t0_15 (by decide +kernel) _ fun j => ?_
  blk_simp
  rw [after0_14]
  exact sum_all (fun n h => (outsAt0 m c n h).2.2.2) _ (fun t h0 i => (first m c t h0 i).2.2) (fun t h0 i => (next m c t h0 i).2.2) j

section Tail
variable (W : Valuation τ sig (Elt Ideal)) (d : Fin 1024)
abbrev a12 : S8x1024.Idx → EReal := W (Proc.devRef .tc main_v18_1)
abbrev a13 : S8x1024.Idx → EReal := W (Proc.devRef .tc main_v18_2)
abbrev a14 : S8x1024.Idx → EReal := W (Proc.devRef .tc main_v18_3)
theorem tail_n : @Eq EReal (StableHlo.after hostOps1 W (Proc.devRef .tc main_v20) (ix2 0 d)) (∑ a : Fin 8, a14 W (ix2 a d)) := by
  after_reads_at
theorem tail_sc : @Eq EReal (StableHlo.after hostOps1 W (Proc.devRef .tc main_v22) (ix2 0 d)) (∑ a : Fin 8, a13 W (ix2 a d)) := by
  after_reads_at
theorem tail_sh : @Eq EReal (StableHlo.after hostOps1 W (Proc.devRef .tc main_v24) (ix2 0 d)) (∑ a : Fin 8, a12 W (ix2 a d)) := by
  after_reads_at
end Tail

theorem arr_inj : Function.Injective (Pipeline.arrRef spec0) := by decide

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b

theorem left_12 : a12 (left m c) = (dats m 0 c).arrAt 12 cfg0.N := Pipeline.withArrays_arr spec0 arr_inj c _ _ 12
theorem left_13 : a13 (left m c) = (dats m 0 c).arrAt 13 cfg0.N := Pipeline.withArrays_arr spec0 arr_inj c _ _ 13
theorem left_14 : a14 (left m c) = (dats m 0 c).arrAt 14 cfg0.N := Pipeline.withArrays_arr spec0 arr_inj c _ _ 14

theorem unfold_sum (f : Fin 8192 → Fin 1024 → EReal) (d : Fin 1024) : ∑ a : Fin 8, ∑ p, term f p (ix2 a d) = ∑ s, f s d := sum_groups fun s => f s d

theorem final_n (d : Fin 1024) : @Eq EReal (final m c main_v20 (ix2 0 d)) (∑ s, fn m c s d) := by
  refine (tail_n (left m c) d).trans ?_
  rw [left_14, arr14]
  exact unfold_sum _ d
theorem final_sc (d : Fin 1024) : @Eq EReal (final m c main_v22 (ix2 0 d)) (∑ s, fsc m c s d) := by
  refine (tail_sc (left m c) d).trans ?_
  rw [left_13, arr13]
  exact unfold_sum _ d
theorem final_sh (d : Fin 1024) : @Eq EReal (final m c main_v24 (ix2 0 d)) (∑ s, fsh m c s d) := by
  refine (tail_sh (left m c) d).trans ?_
  rw [left_12, arr12]
  exact unfold_sum _ d

/-! The derivative's values, one lemma for each intermediate array that others read. -/

section Derivative
open Cert.Norm1RefIdeal.Read
variable (s : Fin 8192) (d : Fin 1024)

theorem r6 : @Eq EReal (val_main_v6 (F := Ideal) (x0 m c) (ix2 s 0)) (Cert.Proof.rowSq fun j => X m c s j) := by
  unfold val_main_v6 val_main_v5 val_main_cst_1 val_main_v4 val_main_v3 val_main_cst_0 val_main_v2 val_main_v1 val_main_v0 val_main_cst
  pointwise
  rfl
theorem r7 : @Eq EReal (val_main_v7 (F := Ideal) (x0 m c) (ix2 s 0)) (inv m c s) := by
  unfold val_main_v7
  pointwise
  rw [r6]
  rfl
theorem r10 : @Eq EReal (val_main_v10 (F := Ideal) (x0 m c) (ix2 s 0))
    (Ideal.ofBits .f32 0xBF000000#32 * Ideal.div (inv m c s) (Cert.Proof.rowSq fun j => X m c s j)) := by
  unfold val_main_v10 val_main_v9 val_main_cst_2 val_main_v8
  pointwise
  rw [r6, r7]
theorem r12 : @Eq EReal (val_main_v12 (F := Ideal) (x0 m c) (ix2 s d)) (X m c s d * inv m c s) := by
  unfold val_main_v12 val_main_v11
  pointwise
  rw [r7]
  rfl
theorem r22 : @Eq EReal (val_main_v22 (F := Ideal) (x4 m c) (x6 m c) (ix2 s d)) (dh m c s d) := by
  unfold val_main_v22
  pointwise
  rfl
theorem r29 : @Eq EReal (val_main_v29 (F := Ideal) (x2 m c) (x4 m c) (x6 m c) (ix2 s d)) (dh m c s d * osc m c d) := by
  unfold val_main_v29 val_main_v28 val_main_v16 val_main_v15 val_main_cst_3
  pointwise
  rw [r22]
  rfl
theorem r34 : @Eq EReal (val_main_v34 (F := Ideal) (x1 m c) (x2 m c) (x4 m c) (x6 m c) (ix2 s d)) (dh m c s d * osc m c d * x1 m c (ix2 0 d)) := by
  unfold val_main_v34 val_main_v33
  pointwise
  rw [r29]
theorem r45 : @Eq EReal (val_main_v45 (F := Ideal) (x0 m c) (x1 m c) (x2 m c) (x4 m c) (x6 m c) (ix2 s d))
    (Cert.Proof.rowHalf (fun j => X m c s j) fun j => dh m c s j * osc m c j * x1 m c (ix2 0 j)) := by
  unfold val_main_v45 val_main_v44 val_main_cst_9 val_main_v43 val_main_v42 val_main_cst_8 val_main_v41 val_main_v37 val_main_v36 val_main_v35 val_main_cst_7
  pointwise
  simp only [r34, Fin.sum_univ_one, r10]
  rfl
theorem r49 : @Eq EReal (val_main_v49 (F := Ideal) (x0 m c) (x1 m c) (x2 m c) (x4 m c) (x5 m c) (x6 m c) (ix2 s d)) (dx m c s d) := by
  unfold val_main_v49 val_main_v48 val_main_v47 val_main_v46 val_main_v40 val_main_v39 val_main_v38
  pointwise
  rw [r45, r34, r7, dx, rowGrad_derived]
  simp only [add_assoc, mul_assoc, mul_comm (x1 m c _)]
  rfl

theorem ref_dx (i) : @Eq EReal (val_main_v49 (F := Ideal) (x0 m c) (x1 m c) (x2 m c) (x4 m c) (x5 m c) (x6 m c) i) (dx m c (i 0) (i 1)) := by
  idx_vars i
  exact r49 m c i0 i1
theorem ref_dn (i) : @Eq EReal (val_main_v32 (F := Ideal) (x0 m c) (x2 m c) (x4 m c) (x6 m c) i) (∑ s, fn m c s (i 1)) := by
  idx_vars i
  obtain rfl : i0 = 0 := Subsingleton.elim _ _
  unfold val_main_v32 val_main_v31 val_main_cst_6 val_main_v30
  pointwise
  simp only [r12, r29]
  exact Finset.sum_congr rfl fun s _ => by unfold fn; ac_rfl
theorem ref_dsc (i) : @Eq EReal (val_main_v27 (F := Ideal) (x0 m c) (x1 m c) (x4 m c) (x6 m c) i) (∑ s, fsc m c s (i 1)) := by
  idx_vars i
  obtain rfl : i0 = 0 := Subsingleton.elim _ _
  unfold val_main_v27 val_main_v26 val_main_cst_5 val_main_v25 val_main_v14 val_main_v13
  pointwise
  simp only [r12, r22]
  exact Finset.sum_congr rfl fun s _ => by unfold fsc; ac_rfl
theorem ref_dsh (i) : @Eq EReal (val_main_v24 (F := Ideal) (x4 m c) (x6 m c) i) (∑ s, fsh m c s (i 1)) := by
  idx_vars i
  obtain rfl : i0 = 0 := Subsingleton.elim _ _
  unfold val_main_v24 val_main_v23 val_main_cst_4
  pointwise
  simp only [r22]
  rfl
end Derivative

/-- The kernel's run: its four results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v18_0) = (dats m 0 c).arrAt 11 cfg0.N
      ∧ r.2.mem ((c.tc : Thread nD τ).loc main_v20) = final m c main_v20
      ∧ r.2.mem ((c.tc : Thread nD τ).loc main_v22) = final m c main_v22
      ∧ r.2.mem ((c.tc : Thread nD τ).loc main_v24) = final m c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 11,
      (h.1 c).2 main_v20 (Pipeline.mem_restRefs_of main_v20 (by decide) (by decide)),
      (h.1 c).2 main_v22 (Pipeline.mem_restRefs_of main_v22 (by decide) (by decide)),
      (h.1 c).2 main_v24 (Pipeline.mem_restRefs_of main_v24 (by decide) (by decide)), h.2.1 c⟩)
    (θ_run_and (run_main m ρ) (frame m ρ))

/-- The host's row of a sum, at every coordinate. -/
theorem row_eq {v : S1x1024.Idx → EReal} {w : S1x1024.Idx → EReal} {f : Fin 1024 → EReal} (hv : ∀ i, v i = f (i 1)) (hw : ∀ d, w (ix2 0 d) = f d) : v = w := by
  funext i
  rw [hv]
  idx_vars i
  obtain rfl : i0 = 0 := Subsingleton.elim _ _
  exact (hw i1).symm

/-- The first norm's gradient: kernel and derivative leave the same four arrays. -/
theorem value : Cert.algebraic_Norm1Ideal_Norm1RefIdeal := fun m ρ m' ρ' _ hag =>
  ⟨_, _, _, _, run_results m ρ, (θ_run _ _ _).mono (fun _ h c => by
      obtain ⟨h0, h1, h2, h3, hr⟩ := h c
      obtain ⟨e0, e1, e2, e3, e4, e5, e6⟩ := hag c
      rw [Cert.Norm1RefIdeal.Read.val_main_v49_eq, e0, e1, e2, e4, e5, e6] at h0
      rw [Cert.Norm1RefIdeal.Read.val_main_v32_eq, e0, e2, e4, e6] at h1
      rw [Cert.Norm1RefIdeal.Read.val_main_v27_eq, e0, e1, e4, e6] at h2
      rw [Cert.Norm1RefIdeal.Read.val_main_v24_eq, e4, e6] at h3
      exact ⟨h0.trans ((funext (ref_dx m c)).trans (arr11 m c).symm), h1.trans (row_eq (ref_dn m c) (final_n m c)),
        h2.trans (row_eq (ref_dsc m c) (final_sc m c)), h3.trans (row_eq (ref_dsh m c) (final_sh m c)), hr⟩)
    (Cert.Norm1RefIdeal.Value.run m' ρ')⟩

end Cert.Proof.Norm1

end
-- ==== Proof.HeadNorm.lean ====
/- The gradient of one head's root mean square norm over finite numbers, the sums of a head by the matrix of groups, and
   the derivative of the logarithm of the logistic function. -/
module

public import proofs.«01_k».proof.Proof.NormReal
public import proofs.«01_k».proof.Proof.Scalars

@[expose] public section

noncomputable section

namespace Cert.Proof

open Idealize.ShloMosaic

/-- The mean square of a head's row with the norm's small constant, and the norm's factor. -/
def headSq (x : Fin 64 → EReal) : EReal := (∑ j, x j * x j) * Ideal.ofBits .f32 0x3C800000#32 + Ideal.ofBits .f32 0x358637BD#32
def headInv (x : Fin 64 → EReal) : EReal := Ideal.rsqrt (headSq x)
/-- The gradient of a head's row `x` from the gradient `w` of the normed row. -/
def headGrad (x w : Fin 64 → EReal) (d : Fin 64) : EReal :=
  headInv x * (w d - x d * headInv x * ((∑ j, w j * (x j * headInv x)) * Ideal.ofBits .f32 0x3C800000#32))
/-- The half of it that comes by the mean square, as the derivative takes it. -/
def headHalf (x w : Fin 64 → EReal) : EReal :=
  Ideal.div ((∑ j, x j * w j) * (Ideal.ofBits .f32 0xBF000000#32 * Ideal.div (headInv x) (headSq x))) (Ideal.ofBits .f32 0x42800000#32)

theorem word_64 : Ideal.ofBits .f32 0x42800000#32 = ((64 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num

theorem headSq_div (x : Fin 64 → EReal) : headSq x = Ideal.div (∑ j, x j * x j) (Ideal.ofBits .f32 0x42800000#32) + Ideal.ofBits .f32 0x358637BD#32 := by
  unfold headSq
  rw [word_64, word_64th, Ideal.div_coe (by norm_num)]

/-- A finite row's mean square is a positive number, and its factor the inverse of its root. -/
theorem head_real (x : Fin 64 → EReal) (r : Fin 64 → ℝ) (hr : ∀ j, x j = r j) :
    ∃ u v : ℝ, 0 < u ∧ headSq x = (u : EReal) ∧ headInv x = (v : EReal) ∧ 1 / u = v * v := by
  obtain ⟨e, he, hword⟩ := word_small
  set u : ℝ := (∑ j, r j * r j) * (1 / 64) + e with hu
  have hpos : 0 < u := by
    have : 0 ≤ ∑ j, r j * r j := Finset.sum_nonneg fun j _ => mul_self_nonneg _
    positivity
  have hsq : headSq x = (u : EReal) := by
    unfold headSq
    simp only [hr, hword, word_64th, ← EReal.coe_mul, Attn.sum_coe, ← EReal.coe_add]
    rfl
  refine ⟨u, (Real.sqrt u)⁻¹, hpos, hsq, ?_, ?_⟩
  · unfold headInv
    rw [hsq, Ideal.rsqrt_coe, if_neg hpos.not_gt, if_neg hpos.ne']
  · rw [← mul_inv, Real.mul_self_sqrt hpos.le, one_div]

theorem headInv_real (x : Fin 64 → EReal) (hx : ∀ j, ∃ r : ℝ, x j = r) : ∃ v : ℝ, headInv x = v := by
  choose r hr using hx
  obtain ⟨_, v, _, _, h, _⟩ := head_real x r hr
  exact ⟨v, h⟩

/-- Both ways to write the gradient agree at finite numbers. -/
theorem headGrad_derived (x w : Fin 64 → EReal) (hx : ∀ j, ∃ r : ℝ, x j = r) (hw : ∀ j, ∃ r : ℝ, w j = r) (d : Fin 64) :
    headGrad x w d = w d * headInv x + x d * headHalf x w + headHalf x w * x d := by
  choose r hr using hx
  choose q hq using hw
  obtain ⟨u, v, hpos, hsq, hinv, hvu⟩ := head_real x r hr
  unfold headGrad headHalf
  simp only [hinv, hsq, hr, hq, word_64, word_64th, word_minus_half, Ideal.div_coe (show (64 : ℝ) ≠ 0 by norm_num), Ideal.div_coe hpos.ne',
    ← EReal.coe_mul, Attn.sum_coe, ← EReal.coe_add, ← EReal.coe_sub, hvu]
  refine congrArg Real.toEReal ?_
  have hs : ∑ j, q j * (r j * v) = v * ∑ j, r j * q j := by
    rw [Finset.mul_sum]
    exact Finset.sum_congr rfl fun j _ => by ring
  rw [hs]
  ring

/-- Column `e` of head `h`, and the head and lane of a column. -/
def headCol (h : Fin 8) (e : Fin 64) : Fin 512 := ⟨h.val * 64 + e.val, by omega⟩
def headOf (j : Fin 512) : Fin 8 := ⟨j.val / 64, by omega⟩
def laneOf (j : Fin 512) : Fin 64 := ⟨j.val % 64, by omega⟩
theorem headCol_of (j : Fin 512) : headCol (headOf j) (laneOf j) = j := Fin.ext (by show j.val / 64 * 64 + j.val % 64 = j.val; omega)
theorem headOf_col (h : Fin 8) (e : Fin 64) : headOf (headCol h e) = h := Fin.ext (by show (h.val * 64 + e.val) / 64 = h.val; omega)
theorem laneOf_col (h : Fin 8) (e : Fin 64) : laneOf (headCol h e) = e := Fin.ext (by show (h.val * 64 + e.val) % 64 = e.val; omega)

/-- A sum over the columns is one over heads and lanes. -/
theorem sum_heads {M : Type} [AddCommMonoid M] (f : Fin 512 → M) : ∑ k, f k = ∑ h, ∑ e, f (headCol h e) := by
  rw [← Fintype.sum_prod_type']
  exact (Fintype.sum_equiv (finProdFinEquiv (m := 8) (n := 64)) _ _ fun p => congrArg f (Fin.ext (by
    show p.1.val * 64 + p.2.val = p.2.val + 64 * p.1.val; omega))).symm

/-- A product with the matrix of groups sums over one head. -/
theorem sum_group (f g : Fin 512 → EReal) (j : Fin 512) (hg : ∀ k, g k = if headOf k = headOf j then 1 else 0) :
    ∑ k, f k * g k = ∑ e, f (headCol (headOf j) e) := by
  rw [sum_heads, Finset.sum_eq_single (headOf j)]
  · exact Finset.sum_congr rfl fun e _ => by rw [hg, headOf_col, if_pos rfl, mul_one]
  · exact fun h _ hne => Finset.sum_eq_zero fun e _ => by rw [hg, headOf_col, if_neg hne, mul_zero]
  · exact fun h => absurd (Finset.mem_univ _) h

/-- The product in two parts: what the rounding left over is zero over finite numbers. -/
theorem sum_split (f g : Fin 512 → EReal) (hf : ∀ k, ∃ r : ℝ, f k = r) :
    (∑ k, f k * g k) + ∑ k, (f k - f k) * g k = ∑ k, f k * g k := by
  have h : ∑ k, (f k - f k) * g k = 0 := Finset.sum_eq_zero fun k _ => by
    obtain ⟨r, hr⟩ := hf k
    rw [hr, ← EReal.coe_sub, sub_self, EReal.coe_zero, zero_mul]
  rw [h, add_zero]

/-- A factor `1 / log 2` and a factor `log 2` cancel. -/
theorem log2_cancel (r : ℝ) : (r : EReal) * Ideal.div 1 (Ideal.log (Ideal.ofBits .f32 0x40000000#32)) * ((Real.log 2 : ℝ) : EReal) = r := by
  have h : Real.log 2 ≠ 0 := (Real.log_pos (by norm_num)).ne'
  rw [word_two, show Ideal.log ((2 : ℝ) : EReal) = ((Real.log 2 : ℝ) : EReal) from by rw [Ideal.log_coe, if_neg (by norm_num)], Ideal.div_coe h, one_mul, ← EReal.coe_mul, ← EReal.coe_mul]
  refine congrArg Real.toEReal ?_
  field_simp

/-- The softplus function of `x` as the maximum of its argument and zero with a logarithm, and its derivative as the
    derivative of a sum of exponentials is taken: the exponential of the argument less the value, an infinite one read as zero. -/
def softplus (x : EReal) : EReal := max x 0 + Ideal.log1p (Ideal.exp (-max x (-x)))
def softplusGrad (x : EReal) : EReal := Ideal.exp ((if x = ⊤ then 0 else x) - if softplus x = ⊤ then 0 else softplus x)

theorem log1p_real (a : ℝ) (h : 0 ≤ a) : Ideal.log1p (a : EReal) = ((Real.log (1 + a) : ℝ) : EReal) := by
  unfold Ideal.log1p
  rw [← EReal.coe_one, ← EReal.coe_add, Ideal.log_coe, if_neg (by linarith)]

theorem softplus_real (r : ℝ) : max r 0 + Real.log (1 + Real.exp (-max r (-r))) = Real.log (1 + Real.exp r) := by
  rcases le_total 0 r with h | h
  · have e : 1 + Real.exp r = Real.exp r * (1 + Real.exp (-r)) := by rw [mul_add, ← Real.exp_add, add_neg_cancel, Real.exp_zero]; ring
    rw [max_eq_left h, max_eq_left (by linarith), e, Real.log_mul (Real.exp_pos r).ne' (by positivity), Real.log_exp]
  · rw [max_eq_right h, max_eq_right (by linarith), neg_neg, zero_add]

/-- The derivative is the logistic function, at both infinities too. -/
theorem softplusGrad_eq (x : EReal) : softplusGrad x = Ideal.logistic x := by
  have h0 : Ideal.log1p 0 = 0 := by rw [← EReal.coe_zero, log1p_real 0 le_rfl, add_zero, Real.log_one]
  have e0 : Ideal.exp 0 = 1 := by rw [← EReal.coe_zero, Ideal.exp_coe, Real.exp_zero, EReal.coe_one]
  induction x using EReal.rec with
  | bot =>
    have h : softplus ⊥ = 0 := by simp [softplus, h0]
    rw [softplusGrad, h, Ideal.logistic_bot]
    simp
  | top =>
    have h : softplus ⊤ = ⊤ := by simp [softplus, h0]
    rw [softplusGrad, h, Ideal.logistic_top]
    simp [e0]
  | coe r =>
    have hm : ∀ a b : ℝ, max (a : EReal) b = ((max a b : ℝ) : EReal) := fun a b => (EReal.coe_strictMono.monotone.map_max).symm
    have hx : softplus r = ((Real.log (1 + Real.exp r) : ℝ) : EReal) := by
      unfold softplus
      rw [← EReal.coe_zero, hm, ← EReal.coe_neg, hm, ← EReal.coe_neg, Ideal.exp_coe, log1p_real _ (Real.exp_pos _).le, ← EReal.coe_add, softplus_real]
    have hp : 0 < 1 + Real.exp r := by positivity
    rw [softplusGrad, hx, if_neg (EReal.coe_ne_top _), if_neg (EReal.coe_ne_top _), ← EReal.coe_sub, Ideal.logistic_coe, Ideal.exp_coe, Real.exp_sub, Real.exp_log hp,
      Real.exp_neg]
    refine congrArg Real.toEReal ?_
    have := Real.exp_pos r
    field_simp
    ring

end Cert.Proof

end
-- ==== Proof.Qk.lean ====
/- The value of the gradient of the query's and key's norms, their gains and the forget gate. -/
module

public import proofs.«01_k».proof.Proof.Gen.QkIdeal.Frame
public import proofs.«01_k».proof.Proof.Gen.QkRefIdeal.Read
public import proofs.«01_k».proof.Proof.Scalars
public import proofs.«01_k».proof.Proof.Rows
public import proofs.«01_k».proof.Proof.HeadNorm
public import proofs.«01_k».proof.Proof.AttnData
public import proofs.«01_k».proof.Defs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Qk

open Cert.QkIdeal Cert.QkIdeal.Gen
open Idealize.ShloMosaic Idealize.ShloMosaic.TcCoe Idealize.SL.Sem

variable (m : (ℓ : Loc nD τ sig) → Buf (Elt Ideal) ℓ) (c : Dev nD)

/-- Which block each window holds at grid point `t`. -/
theorem idx0 : ∀ t : Fin grid0.N, win0_0.index t = ![t.val, 3] ∧ win0_1.index t = ![t.val, 4] ∧ win0_2.index t = ![t.val, 40]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![0, 0] ∧ win0_13.index t = ![0, 0] ∧ win0_14.index t = ![0, 0] := by
  decide +kernel

abbrev x0 : S8192x5128.Idx → EReal := m ((c : Thread nD τ).loc main_arg0)
abbrev x1 : S1x64.Idx → EReal := m ((c : Thread nD τ).loc main_arg1)
abbrev x2 : S1x64.Idx → EReal := m ((c : Thread nD τ).loc main_arg2)
abbrev x3 : S1x8.Idx → EReal := m ((c : Thread nD τ).loc main_arg3)
abbrev x4 : S8192x512.Idx → EReal := m ((c : Thread nD τ).loc main_arg4)
abbrev x5 : S8192x512.Idx → EReal := m ((c : Thread nD τ).loc main_arg5)
abbrev x6 : S8192x8.Idx → EReal := m ((c : Thread nD τ).loc main_arg6)

/-- Row `a` of the block of point `t`. -/
def row (t : Fin cfg0.N) (a : Fin 512) : Fin 8192 := ⟨t.val * 512 + a.val, by have h : t.val < 16 := t.isLt; omega⟩

section Host
variable (s : Fin 8192)
theorem packQ (k : Fin 3072) : @Eq EReal (V m c main_v13 (ix2 s ⟨k.val, by omega⟩)) (x0 m c (ix2 s ⟨k.val, by omega⟩)) := by
  unfold V
  after_reads_at
  after_reads_at
theorem packF (k : Fin 8) : @Eq EReal (V m c main_v13 (ix2 s ⟨5120 + k.val, by omega⟩)) (x0 m c (ix2 s ⟨3072 + k.val, by omega⟩)) := by
  unfold V
  after_reads_at
  after_reads_at
  rw [dif_neg (by omega), dif_neg (by omega), dif_pos (by omega)]
  exact congrArg (x0 m c) (congrArg (ix2 s) (Fin.ext (by show 3072 + (5120 + k.val - 3072 - 2048) = 3072 + k.val; omega)))
end Host

/-- The group of a column as the host counts it: a division of machine integers that rounds down. -/
def grp (k : Fin 512) : BitVec 32 :=
  Scalar.select
    (IntOp.andi
      (IntOp.cmpi CmpIPredicate.ne (if BitVec.ofNat 32 k.val = 0 then (0 : BitVec 32) else if (BitVec.ofNat 32 k.val).msb = true then -1 else 1)
        (if (64#32) = 0 then (0 : BitVec 32) else if BitVec.msb (64#32) = true then -1 else 1))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32)
theorem grp_eq : ∀ k : Fin 512, grp k = BitVec.ofNat 32 (headOf k).val := by decide +kernel
theorem grp_iff : ∀ h h' : Fin 8, IntOp.cmpi CmpIPredicate.eq (BitVec.ofNat 32 h.val) (BitVec.ofNat 32 h'.val) = if h = h' then 1#1 else 0#1 := by decide +kernel

variable (t : Fin cfg0.N) (a : Fin 512) (j k : Fin 512)
theorem blk0 : @Eq EReal (X0_0 m c t (ix2 a k)) (x0 m c (ix2 (row t a) ⟨1536 + k.val, by omega⟩)) := by
  refine Eq.trans ?_ (packQ m c (row t a) ⟨1536 + k.val, by omega⟩)
  unfold X0_0 Pipeline.Window.fill
  rw [dif_pos (moved0_0 t (ix2 a k))]
  blk_ext [iblk, idx0 t] <;> first | rfl | omega
theorem blk1 : @Eq EReal (X0_1 m c t (ix2 a k)) (x0 m c (ix2 (row t a) ⟨2048 + k.val, by omega⟩)) := by
  refine Eq.trans ?_ (packQ m c (row t a) ⟨2048 + k.val, by omega⟩)
  unfold X0_1 Pipeline.Window.fill
  rw [dif_pos (moved0_1 t (ix2 a k))]
  blk_ext [iblk, idx0 t] <;> first | rfl | omega
theorem blk2 (k : Fin 8) : @Eq EReal (iblk m c 2 t (ix2 a ⟨k.val, by omega⟩)) (x0 m c (ix2 (row t a) ⟨3072 + k.val, by omega⟩)) := by
  refine Eq.trans ?_ (packF m c (row t a) k)
  blk_ext [iblk, idx0 t]
  rfl
theorem blk3 : @Eq EReal (iblk m c 3 t (ix2 a j)) (x4 m c (ix2 (row t a) j)) := by
  refine Eq.trans ?_ (show @Eq EReal (V m c (Pipeline.arrRef spec0 3) (ix2 (row t a) j)) _ from by unfold V; after_reads_at; try rfl)
  blk_ext [iblk, idx0 t]
  rfl
theorem blk4 : @Eq EReal (iblk m c 4 t (ix2 a j)) (x5 m c (ix2 (row t a) j) * Ideal.div 1 (Ideal.log (Ideal.ofBits .f32 0x40000000#32))) := by
  refine Eq.trans ?_ (show @Eq EReal (V m c (Pipeline.arrRef spec0 4) (ix2 (row t a) j)) _ from by unfold V; after_reads_at; try rfl)
  blk_ext [iblk, idx0 t]
  rfl
theorem blk5 (k : Fin 8) : @Eq EReal (iblk m c 5 t (ix2 a ⟨k.val, by omega⟩)) (x6 m c (ix2 (row t a) k)) := by
  refine Eq.trans ?_ (show @Eq EReal (V m c (Pipeline.arrRef spec0 5) (ix2 (row t a) ⟨k.val, by omega⟩)) _ from by unfold V; after_reads_at; try rfl)
  blk_ext [iblk, idx0 t]
  rfl
theorem blk6 : @Eq EReal (iblk m c 6 t (ix2 0 j)) (x1 m c (ix2 0 (laneOf j))) := by
  refine Eq.trans ?_ (show @Eq EReal (V m c (Pipeline.arrRef spec0 6) (ix2 0 j)) _ from by unfold V; after_reads_at; try rfl)
  blk_ext [iblk, idx0 t]
theorem blk7 : @Eq EReal (iblk m c 7 t (ix2 0 j)) (x2 m c (ix2 0 (laneOf j))) := by
  refine Eq.trans ?_ (show @Eq EReal (V m c (Pipeline.arrRef spec0 7) (ix2 0 j)) _ from by unfold V; after_reads_at; try rfl)
  blk_ext [iblk, idx0 t]
theorem blk8 (k : Fin 8) : @Eq EReal (iblk m c 8 t (ix2 0 ⟨k.val, by omega⟩)) (x3 m c (ix2 0 k)) := by
  refine Eq.trans ?_ (show @Eq EReal (V m c (Pipeline.arrRef spec0 8) (ix2 0 ⟨k.val, by omega⟩)) _ from by unfold V; after_reads_at; try rfl)
  blk_ext [iblk, idx0 t]
theorem blk9 : @Eq EReal (iblk m c 9 t (ix2 k j)) (if headOf k = headOf j then 1 else 0) := by
  refine Eq.trans ?_ (show @Eq EReal (V m c (Pipeline.arrRef spec0 9) (ix2 k j)) _ from by
    unfold V
    after_reads_at
    show Scalar.select (IntOp.cmpi CmpIPredicate.eq (grp k) (grp j)) (1 : EReal) 0 = _
    rw [grp_eq, grp_eq, grp_iff]
    by_cases h : headOf k = headOf j
    · rw [if_pos h, if_pos h]; rfl
    · rw [if_neg h, if_neg h]; rfl)
  blk_ext [iblk, idx0 t]

section Payloads
variable (gm x v4 v24 v25 v35 v36 : S512x512.Idx → EReal) (d : S512x512.Idx → EReal) (g : S1x512.Idx → EReal) (p : S8x512.Idx → EReal) (b : Fin 8)
  (hgm : ∀ k j, gm (ix2 k j) = if headOf k = headOf j then 1 else 0) (hx : ∀ k, ∃ r : ℝ, x (ix2 a k) = r)

include hgm in
/-- A product with the matrix of groups, in the kernel's two parts: the sum over one head. -/
theorem split_at (f : Fin 512 → EReal) (hf : ∀ k, ∃ r : ℝ, f k = r) :
    (∑ k, f k * gm (ix2 k j)) + ∑ k, (f k - f k) * gm (ix2 k j) = ∑ e, f (headCol (headOf j) e) :=
  (sum_split f (fun k => gm (ix2 k j)) hf).trans (sum_group f _ j fun k => hgm k j)

include hgm hx in
theorem pay8_at : @Eq EReal (k0_pay8 (F := Ideal) gm x (ix2 a j)) (headInv fun e => x (ix2 a (headCol (headOf j) e))) := by
  refine Eq.trans ?_ (congrArg (fun s => Ideal.rsqrt (s * Ideal.ofBits .f32 0x3C800000#32 + Ideal.ofBits .f32 0x358637BD#32))
    (split_at j gm hgm (fun k => x (ix2 a k) * x (ix2 a k)) fun k => ?_))
  · unfold k0_pay8 k0_pay6 k0_pay5
    pointwise
  · obtain ⟨r, hr⟩ := hx k
    exact ⟨r * r, by rw [hr, EReal.coe_mul]⟩
include hgm hx in
theorem pay16_at : @Eq EReal (k0_pay16 (F := Ideal) gm x (ix2 a j)) (headInv fun e => x (ix2 a (headCol (headOf j) e))) := by
  refine Eq.trans ?_ (congrArg (fun s => Ideal.rsqrt (s * Ideal.ofBits .f32 0x3C800000#32 + Ideal.ofBits .f32 0x358637BD#32))
    (split_at j gm hgm (fun k => x (ix2 a k) * x (ix2 a k)) fun k => ?_))
  · unfold k0_pay16 k0_pay14
    pointwise
  · obtain ⟨r, hr⟩ := hx k
    exact ⟨r * r, by rw [hr, EReal.coe_mul]⟩
include hgm hx in
theorem pay9_at : @Eq EReal (k0_pay9 (F := Ideal) gm x (ix2 a j)) (x (ix2 a j) * headInv fun e => x (ix2 a (headCol (headOf j) e))) := by
  rw [← pay8_at a j gm x hgm hx]
  unfold k0_pay9 k0_pay6
  pointwise
include hgm hx in
theorem pay17_at : @Eq EReal (k0_pay17 (F := Ideal) gm x (ix2 a j)) (x (ix2 a j) * headInv fun e => x (ix2 a (headCol (headOf j) e))) := by
  rw [← pay16_at a j gm x hgm hx]
  unfold k0_pay17 k0_pay14
  pointwise
theorem pay7_at : @Eq EReal (k0_pay7 (F := Ideal) d (ix2 a j)) (d (ix2 a j) * Ideal.ofBits .f32 0x3E000000#32) := by
  unfold k0_pay7
  pointwise
theorem pay15_at : @Eq EReal (k0_pay15 (F := Ideal) d (ix2 a j)) (d (ix2 a j) * ((Real.log 2 : ℝ) : EReal)) := by
  unfold k0_pay15
  pointwise
  rfl
theorem pay11_at : @Eq EReal (k0_pay11 (F := Ideal) d g (ix2 a j)) (k0_pay7 (F := Ideal) d (ix2 a j) * g (ix2 0 j)) := by
  unfold k0_pay11
  pointwise
theorem pay12_at : @Eq EReal (k0_pay12 (F := Ideal) gm x d g (ix2 a j)) (k0_pay11 (F := Ideal) d g (ix2 a j) * k0_pay9 (F := Ideal) gm x (ix2 a j)) := by
  unfold k0_pay12
  pointwise
include hgm in
/-- What is stored of a head's gradient, from the factor, the normed row, the gradient and their product. -/
theorem pay13_at (hf : ∀ k, ∃ r : ℝ, v36 (ix2 a k) = r) : @Eq EReal (k0_pay13 (F := Ideal) gm v24 v25 v35 v36 (ix2 a j))
    (v24 (ix2 a j) * (v35 (ix2 a j) - v25 (ix2 a j) * ((∑ e, v36 (ix2 a (headCol (headOf j) e))) * Ideal.ofBits .f32 0x3C800000#32))) := by
  rw [← split_at j gm hgm (fun k => v36 (ix2 a k)) hf]
  unfold k0_pay13
  pointwise
include hgm in
theorem pay19_at (hf : ∀ k, ∃ r : ℝ, v35 (ix2 a k) * g (ix2 0 k) * v25 (ix2 a k) = r) : @Eq EReal (k0_pay19 (F := Ideal) gm v35 v24 v25 g (ix2 a j))
    (v24 (ix2 a j) * (v35 (ix2 a j) * g (ix2 0 j) - v25 (ix2 a j) * ((∑ e, v35 (ix2 a (headCol (headOf j) e)) * g (ix2 0 (headCol (headOf j) e)) * v25 (ix2 a (headCol (headOf j) e)))
      * Ideal.ofBits .f32 0x3C800000#32))) := by
  rw [← split_at j gm hgm (fun k => v35 (ix2 a k) * g (ix2 0 k) * v25 (ix2 a k)) hf]
  unfold k0_pay19
  pointwise

/-- Row `k·8 + b` of a tile, the `k`-th of those folded into row `b`. -/
def fold (k : Fin 64) : Fin 512 := ⟨k.val * 8 + b.val, by omega⟩
theorem pay10_at : @Eq EReal (k0_pay10 (F := Ideal) gm x d p (ix2 b j)) (p (ix2 b j) + ∑ k, k0_pay7 (F := Ideal) d (ix2 (fold b k) j) * k0_pay9 (F := Ideal) gm x (ix2 (fold b k) j)) := by
  unfold k0_pay10
  pointwise
  rfl
theorem pay18_at : @Eq EReal (k0_pay18 (F := Ideal) gm x d p (ix2 b j)) (p (ix2 b j) + ∑ k, k0_pay15 (F := Ideal) d (ix2 (fold b k) j) * k0_pay17 (F := Ideal) gm x (ix2 (fold b k) j)) := by
  unfold k0_pay18
  pointwise
  rfl
theorem pay20_at (f dl : S512x128.Idx → EReal) (bf : S1x128.Idx → EReal) (q : Fin 128) :
    @Eq EReal (k0_pay20 (F := Ideal) f bf dl (ix2 a q)) (dl (ix2 a q) * Ideal.logistic (-(f (ix2 a q) + bf (ix2 0 q)))) := by
  rw [← Scalars.half_tanh, ← zero_sub]
  unfold k0_pay20
  pointwise
theorem pay5_eq (v : S512x512.Idx → EReal) : @Eq (S512x512.Idx → EReal) (k0_pay5 (F := Ideal) v) v := by
  funext i
  idx_vars i
  unfold k0_pay5
  pointwise
theorem pay1_at (v : S512x128.Idx → EReal) (p : S8x128.Idx → EReal) (q : Fin 128) :
    @Eq EReal (k0_pay1 (F := Ideal) v p (ix2 b q)) (p (ix2 b q) + ∑ k, v (ix2 (fold b k) q)) := by
  unfold k0_pay1
  pointwise
  rfl
end Payloads

/-! What the kernel leaves, in terms of the arguments. -/

/-- The head's rows that are normed and the gradients of the normed rows before their gains, and behind them. -/
def qx (s : Fin 8192) (h : Fin 8) (e : Fin 64) : EReal := x0 m c (ix2 s ⟨1536 + (headCol h e).val, by omega⟩)
def kx (s : Fin 8192) (h : Fin 8) (e : Fin 64) : EReal := x0 m c (ix2 s ⟨2048 + (headCol h e).val, by omega⟩)
def qd (s : Fin 8192) (h : Fin 8) (e : Fin 64) : EReal := x4 m c (ix2 s (headCol h e)) * Ideal.ofBits .f32 0x3E000000#32
def kd (s : Fin 8192) (h : Fin 8) (e : Fin 64) : EReal := x5 m c (ix2 s (headCol h e))
def qw (s : Fin 8192) (h : Fin 8) (e : Fin 64) : EReal := qd m c s h e * x1 m c (ix2 0 e)
def kw (s : Fin 8192) (h : Fin 8) (e : Fin 64) : EReal := kd m c s h e * x2 m c (ix2 0 e)
/-- The terms of the gains' gradients. -/
def fq (s : Fin 8192) (j : Fin 512) : EReal := qd m c s (headOf j) (laneOf j) * (qx m c s (headOf j) (laneOf j) * headInv (qx m c s (headOf j)))
def fk (s : Fin 8192) (j : Fin 512) : EReal := kd m c s (headOf j) (laneOf j) * (kx m c s (headOf j) (laneOf j) * headInv (kx m c s (headOf j)))
/-- The forget gate's gradient. -/
def fl (s : Fin 8192) (q : Fin 8) : EReal := x6 m c (ix2 s q) * Ideal.logistic (-(x0 m c (ix2 s ⟨3072 + q.val, by omega⟩) + x3 m c (ix2 0 q)))

/-- The arguments that are finite numbers. -/
structure Reals : Prop where
  x0 : ∀ i, ∃ r : ℝ, x0 m c i = r
  x1 : ∀ i, ∃ r : ℝ, x1 m c i = r
  x2 : ∀ i, ∃ r : ℝ, x2 m c i = r
  x4 : ∀ i, ∃ r : ℝ, x4 m c i = r
  x5 : ∀ i, ∃ r : ℝ, x5 m c i = r

theorem real_mul {x y : EReal} (hx : ∃ r : ℝ, x = r) (hy : ∃ r : ℝ, y = r) : ∃ r : ℝ, x * y = r := by
  obtain ⟨r, rfl⟩ := hx
  obtain ⟨q, rfl⟩ := hy
  exact ⟨r * q, (EReal.coe_mul r q).symm⟩

theorem word_8th : Ideal.ofBits .f32 0x3E000000#32 = ((1 / 8 : ℝ) : EReal) := by
  simp [Ideal.ofBits, Ideal.ieee, -EReal.coe_mul]; norm_num

section Tile
variable (R : Reals m c)
include R

theorem qx_real (s h e) : ∃ r : ℝ, qx m c s h e = r := R.x0 _
theorem kx_real (s h e) : ∃ r : ℝ, kx m c s h e = r := R.x0 _
theorem qw_real (s h e) : ∃ r : ℝ, qw m c s h e = r := real_mul (real_mul (R.x4 _) ⟨_, word_8th⟩) (R.x1 _)
theorem kw_real (s h e) : ∃ r : ℝ, kw m c s h e = r := real_mul (R.x5 _) (R.x2 _)

theorem q_inv : @Eq EReal (k0_pay8 (F := Ideal) (iblk m c 9 t) (X0_0 m c t) (ix2 a j)) (headInv (qx m c (row t a) (headOf j))) := by
  refine (pay8_at a j _ _ (fun k j => blk9 m c t j k) fun k => ?_).trans ?_
  · rw [blk0]; exact R.x0 _
  · simp only [blk0]
    rfl
theorem k_inv : @Eq EReal (k0_pay16 (F := Ideal) (iblk m c 9 t) (X0_1 m c t) (ix2 a j)) (headInv (kx m c (row t a) (headOf j))) := by
  refine (pay16_at a j _ _ (fun k j => blk9 m c t j k) fun k => ?_).trans ?_
  · rw [blk1]; exact R.x0 _
  · simp only [blk1]
    rfl
theorem q_normed : @Eq EReal (k0_pay9 (F := Ideal) (iblk m c 9 t) (X0_0 m c t) (ix2 a j)) (qx m c (row t a) (headOf j) (laneOf j) * headInv (qx m c (row t a) (headOf j))) := by
  refine (pay9_at a j _ _ (fun k j => blk9 m c t j k) fun k => ?_).trans ?_
  · rw [blk0]; exact R.x0 _
  · simp only [blk0, qx, headCol_of]
    rfl
theorem k_normed : @Eq EReal (k0_pay17 (F := Ideal) (iblk m c 9 t) (X0_1 m c t) (ix2 a j)) (kx m c (row t a) (headOf j) (laneOf j) * headInv (kx m c (row t a) (headOf j))) := by
  refine (pay17_at a j _ _ (fun k j => blk9 m c t j k) fun k => ?_).trans ?_
  · rw [blk1]; exact R.x0 _
  · simp only [blk1, kx, headCol_of]
    rfl
omit R in
theorem q_hat : @Eq EReal (k0_pay7 (F := Ideal) (iblk m c 3 t) (ix2 a j)) (qd m c (row t a) (headOf j) (laneOf j)) := by
  refine (pay7_at a j _).trans ?_
  rw [blk3, qd, headCol_of]
theorem k_hat : @Eq EReal (k0_pay15 (F := Ideal) (iblk m c 4 t) (ix2 a j)) (kd m c (row t a) (headOf j) (laneOf j)) := by
  refine (pay15_at a j _).trans ?_
  obtain ⟨r, hr⟩ := R.x5 (ix2 (row t a) j)
  rw [blk4, kd, headCol_of, hr, log2_cancel]
omit R in
theorem q_weighted : @Eq EReal (k0_pay11 (F := Ideal) (iblk m c 3 t) (iblk m c 6 t) (ix2 a j)) (qw m c (row t a) (headOf j) (laneOf j)) :=
  (pay11_at a j _ _).trans (congrArg₂ (· * ·) (q_hat m c t a j) (blk6 m c t j))

/-- The two halves of the first output's tile. -/
abbrev tileQ := k0_pay13 (F := Ideal) (k0_pay5 (iblk m c 9 t)) (k0_pay8 (iblk m c 9 t) (X0_0 m c t)) (k0_pay9 (iblk m c 9 t) (X0_0 m c t))
  (k0_pay11 (iblk m c 3 t) (iblk m c 6 t)) (k0_pay12 (iblk m c 9 t) (X0_0 m c t) (iblk m c 3 t) (iblk m c 6 t))
abbrev tileK := k0_pay19 (F := Ideal) (k0_pay5 (iblk m c 9 t)) (k0_pay15 (iblk m c 4 t)) (k0_pay16 (k0_pay5 (iblk m c 9 t)) (X0_1 m c t)) (k0_pay17 (k0_pay5 (iblk m c 9 t)) (X0_1 m c t))
  (iblk m c 7 t)

theorem tileQ_at : @Eq EReal (tileQ m c t (ix2 a j)) (headGrad (qx m c (row t a) (headOf j)) (qw m c (row t a) (headOf j)) (laneOf j)) := by
  have hp : ∀ k, @Eq EReal (k0_pay12 (F := Ideal) (iblk m c 9 t) (X0_0 m c t) (iblk m c 3 t) (iblk m c 6 t) (ix2 a k))
      (qw m c (row t a) (headOf k) (laneOf k) * (qx m c (row t a) (headOf k) (laneOf k) * headInv (qx m c (row t a) (headOf k)))) := fun k =>
    (pay12_at a k _ _ _ _).trans (congrArg₂ (· * ·) (q_weighted m c t a k) (q_normed m c t a k R))
  rw [tileQ, pay5_eq]
  refine (pay13_at a j _ _ _ _ _ (fun k j => blk9 m c t j k) fun k => ?_).trans ?_
  · rw [hp]
    exact real_mul (qw_real m c R _ _ _) (real_mul (qx_real m c R _ _ _) (headInv_real _ (qx_real m c R _ _)))
  · rw [q_inv m c t a j R, q_weighted m c t a j, q_normed m c t a j R]
    simp only [hp, headOf_col, laneOf_col]
    rfl
theorem tileK_at : @Eq EReal (tileK m c t (ix2 a j)) (headGrad (kx m c (row t a) (headOf j)) (kw m c (row t a) (headOf j)) (laneOf j)) := by
  have hw : ∀ k, @Eq EReal (k0_pay15 (F := Ideal) (iblk m c 4 t) (ix2 a k) * (iblk m c 7 t : S1x512.Idx → EReal) (ix2 0 k)) (kw m c (row t a) (headOf k) (laneOf k)) := fun k => by
    rw [k_hat m c t a k R, blk7]
    rfl
  have hp : ∀ k, @Eq EReal (k0_pay15 (F := Ideal) (iblk m c 4 t) (ix2 a k) * (iblk m c 7 t : S1x512.Idx → EReal) (ix2 0 k) * k0_pay17 (F := Ideal) (iblk m c 9 t) (X0_1 m c t) (ix2 a k))
      (kw m c (row t a) (headOf k) (laneOf k) * (kx m c (row t a) (headOf k) (laneOf k) * headInv (kx m c (row t a) (headOf k)))) := fun k =>
    congrArg₂ (· * ·) (hw k) (k_normed m c t a k R)
  rw [tileK, pay5_eq]
  refine (pay19_at a j _ _ _ _ _ (fun k j => blk9 m c t j k) fun k => ?_).trans ?_
  · exact (hp k).symm ▸ real_mul (kw_real m c R _ _ _) (real_mul (kx_real m c R _ _ _) (headInv_real _ (kx_real m c R _ _)))
  · refine Eq.trans (congrArg₂ (· * ·) (k_inv m c t a j R) (congrArg₂ (· - ·) (hw j) (congrArg₂ (· * ·) (k_normed m c t a j R)
      (congrArg (· * Ideal.ofBits .f32 0x3C800000#32) (Finset.sum_congr rfl fun e _ => hp (headCol (headOf j) e)))))) ?_
    simp only [headOf_col, laneOf_col]
    rfl
end Tile

/-- The tile of the first output, read in its left and its right half. -/
theorem canon_left (P Q : FVec Ideal S512x512 .bf16) (k : Fin 512) : @Eq EReal (View.canon (Val := Elt Ideal) (e := .bf16)
    [⟨Rect.unit ![0, 512] ![512, 512] inb_S512x1024_S512x512_0_512, P⟩, ⟨Rect.unit ![0, 0] ![512, 512] inb_S512x1024_S512x512_0_0, Q⟩] (ix2 a (⟨k.val, by omega⟩ : Fin 1024))) (Q (ix2 a k)) := by
  rw [View.canon_cons_of_not_mem _ _ fun hm => by have h := ((Rect.mem_set_unit (inb := inb_S512x1024_S512x512_0_512)).mp hm 1).1; change 512 ≤ k.val at h; omega]
  have e : ix2 a (⟨k.val, by omega⟩ : Fin 1024) = (Rect.unit (s := S512x1024) ![0, 0] ![512, 512] inb_S512x1024_S512x512_0_0).emb (ix2 a k) := by
    funext b
    match b with
    | ⟨0, _⟩ => exact Fin.ext (by show a.val = 0 + 1 * a.val; omega)
    | ⟨1, _⟩ => exact Fin.ext (by show k.val = 0 + 1 * k.val; omega)
  rw [e]
  exact View.canon_cons_emb _ _ _ _
theorem canon_right (P : FVec Ideal S512x512 .bf16) (L) (k : Fin 512) : @Eq EReal (View.canon (Val := Elt Ideal) (e := .bf16)
    (⟨Rect.unit ![0, 512] ![512, 512] inb_S512x1024_S512x512_0_512, P⟩ :: L) (ix2 a (⟨512 + k.val, by omega⟩ : Fin 1024))) (P (ix2 a k)) := by
  have e : ix2 a (⟨512 + k.val, by omega⟩ : Fin 1024) = (Rect.unit (s := S512x1024) ![0, 512] ![512, 512] inb_S512x1024_S512x512_0_512).emb (ix2 a k) := by
    funext b
    match b with
    | ⟨0, _⟩ => exact Fin.ext (by show a.val = 0 + 1 * a.val; omega)
    | ⟨1, _⟩ => exact Fin.ext (by show 512 + k.val = 512 + 1 * k.val; omega)
  rw [e]
  exact View.canon_cons_emb _ _ _ _

/-- The gradient of the queries' and keys' columns, side by side. -/
def dqk (s : Fin 8192) (j : Fin 1024) : EReal :=
  if h : j.val < 512 then headGrad (qx m c s (headOf ⟨j.val, h⟩)) (qw m c s (headOf ⟨j.val, h⟩)) (laneOf ⟨j.val, h⟩)
  else headGrad (kx m c s (headOf ⟨j.val - 512, by omega⟩)) (kw m c s (headOf ⟨j.val - 512, by omega⟩)) (laneOf ⟨j.val - 512, by omega⟩)

theorem halves (R : Reals m c) (j : Fin 1024) : @Eq EReal (View.canon (Val := Elt Ideal) (e := .bf16)
    [⟨Rect.unit ![0, 512] ![512, 512] inb_S512x1024_S512x512_0_512, tileK m c t⟩, ⟨Rect.unit ![0, 0] ![512, 512] inb_S512x1024_S512x512_0_0, tileQ m c t⟩] (ix2 a j)) (dqk m c (row t a) j) := by
  by_cases h : j.val < 512
  · rw [dqk, dif_pos h]
    exact (canon_left a _ _ ⟨j.val, h⟩).trans (tileQ_at m c t a _ R)
  · rw [dqk, dif_neg h]
    have e : j = ⟨512 + (j.val - 512), by omega⟩ := Fin.ext (by show j.val = 512 + (j.val - 512); omega)
    conv_lhs => rw [e]
    exact (canon_right a _ _ ⟨j.val - 512, by omega⟩).trans (tileK_at m c t a _ R)
theorem outs_at (R : Reals m c) (t : Fin cfg0.N) (a) (j : Fin 1024) : @Eq EReal ((outsAt0 m c t.val t.isLt).1 (ix2 a j)) (dqk m c (row t a) j) := by
  by_cases h0 : t.val % 16 = 0
  · rw [outsAt0_A m c t h0]
    frame_out
    exact halves m c t a R j
  · rw [outsAt0_B m c t h0]
    frame_out
    exact halves m c t a R j

/-- The forget gate's tile, on all lanes; those behind the eighth are not used. -/
abbrev gate (t : Fin cfg0.N) := k0_pay20 (F := Ideal) (iblk m c 2 t) (iblk m c 8 t) (iblk m c 5 t)
theorem gate_at (q : Fin 8) : @Eq EReal (gate m c t (ix2 a ⟨q.val, by omega⟩)) (fl m c (row t a) q) := by
  refine (pay20_at a _ _ _ _).trans ?_
  rw [blk2, blk5, blk8]
  rfl
def gates (i : S8192x128.Idx) : EReal := gate m c ⟨(i 0).val / 512, by have h : (i 0).val < 8192 := (i 0).isLt; show _ < 16; omega⟩ (ix2 ⟨(i 0).val % 512, by omega⟩ (i 1))
theorem gates_row (q : Fin 128) : gates m c (ix2 (row t a) q) = gate m c t (ix2 a q) := by
  have h : ∀ (t' : Fin cfg0.N) (a' : Fin 512), t' = t → a' = a → gate m c t' (ix2 a' q) = gate m c t (ix2 a q) := by rintro _ _ rfl rfl; rfl
  exact h _ _ (Fin.ext (by show (t.val * 512 + a.val) / 512 = t.val; omega)) (Fin.ext (by show (t.val * 512 + a.val) % 512 = a.val; omega))
theorem row_of (s : Fin 8192) : ∃ t a, row t a = s :=
  ⟨⟨s.val / 512, by show _ < 16; omega⟩, ⟨s.val % 512, by omega⟩, Fin.ext (by show s.val / 512 * 512 + s.val % 512 = s.val; omega)⟩
theorem gates_at (s : Fin 8192) (q : Fin 8) : gates m c (ix2 s ⟨q.val, by omega⟩) = fl m c s q := by
  obtain ⟨t, a, rfl⟩ := row_of s
  rw [gates_row]
  exact gate_at m c t a q
theorem outs_gate (t : Fin cfg0.N) (a) (q : Fin 128) : @Eq EReal ((outsAt0 m c t.val t.isLt).2.1 (ix2 a q)) (gates m c (ix2 (row t a) q)) := by
  rw [gates_row]
  by_cases h0 : t.val % 16 = 0
  · rw [outsAt0_A m c t h0]
    frame_out
    rfl
  · rw [outsAt0_B m c t h0]
    frame_out
    rfl

/-- What point `p` adds to one of the three sums over rows. -/
def term {n : ℕ} (f : Fin 8192 → Fin n → EReal) (p : Fin cfg0.N) (i : (⟨2, ![8, n]⟩ : Shape).Idx) : EReal := ∑ k : Fin 64, f (row p (fold (i 0) k)) (i 1)
def gterm (s : Fin 8192) (q : Fin 128) : EReal := gates m c (ix2 s q)

theorem zeros (i : S8x512.Idx) (j : S8x128.Idx) : @Eq EReal (k0_pay2 (F := Ideal) i) 0 ∧ @Eq EReal (k0_pay3 (F := Ideal) i) 0 ∧ @Eq EReal (k0_pay4 (F := Ideal) j) 0 := by
  idx_vars i
  idx_vars j
  unfold k0_pay2 k0_pay3 k0_pay4
  refine ⟨?_, ?_, ?_⟩ <;> pointwise

/-- The three sums' payloads, over what was there before. -/
theorem add_q (R : Reals m c) (p : S8x512.Idx → EReal) (i0 : Fin 8) (i1 : Fin 512) :
    @Eq EReal (k0_pay10 (F := Ideal) (iblk m c 9 t) (X0_0 m c t) (iblk m c 3 t) p (ix2 i0 i1)) (p (ix2 i0 i1) + term (fq m c) t (ix2 i0 i1)) := by
  refine (pay10_at i1 _ _ _ p i0).trans ?_
  simp only [q_hat, q_normed m c t _ _ R]
  rfl
theorem add_k (R : Reals m c) (p : S8x512.Idx → EReal) (i0 : Fin 8) (i1 : Fin 512) :
    @Eq EReal (k0_pay18 (F := Ideal) (k0_pay5 (iblk m c 9 t)) (X0_1 m c t) (iblk m c 4 t) p (ix2 i0 i1)) (p (ix2 i0 i1) + term (fk m c) t (ix2 i0 i1)) := by
  rw [pay5_eq]
  refine (pay18_at i1 _ _ _ p i0).trans ?_
  simp only [k_hat m c t _ _ R, k_normed m c t _ _ R]
  rfl
theorem add_b (p : S8x128.Idx → EReal) (i0 : Fin 8) (i1 : Fin 128) :
    @Eq EReal (k0_pay1 (F := Ideal) (gate m c t) p (ix2 i0 i1)) (p (ix2 i0 i1) + term (gterm m c) t (ix2 i0 i1)) := by
  refine (pay1_at i0 _ p i1).trans ?_
  simp only [← gates_row]
  rfl

theorem first (R : Reals m c) (h0 : t.val % 16 = 0) (i : S8x512.Idx) (j : S8x128.Idx) : @Eq EReal ((outsAt0 m c t.val t.isLt).2.2.1 i) (0 + term (fq m c) t i)
    ∧ @Eq EReal ((outsAt0 m c t.val t.isLt).2.2.2.1 i) (0 + term (fk m c) t i)
    ∧ @Eq EReal ((outsAt0 m c t.val t.isLt).2.2.2.2 j) (0 + term (gterm m c) t j) := by
  obtain ⟨z2, z3, z4⟩ := zeros i j
  idx_vars i
  idx_vars j
  rw [outsAt0_A m c t h0]
  refine ⟨?_, ?_, ?_⟩
  · frame_out
    exact (add_q m c t R _ i0 i1).trans (congrArg (· + _) z2)
  · frame_out
    exact (add_k m c t R _ i0 i1).trans (congrArg (· + _) z3)
  · frame_out
    exact (add_b m c t _ j0 j1).trans (congrArg (· + _) z4)
theorem next (R : Reals m c) (h0 : ¬ t.val % 16 = 0) (i : S8x512.Idx) (j : S8x128.Idx) :
    @Eq EReal ((outsAt0 m c t.val t.isLt).2.2.1 i) ((outsAt0 m c (t.val - 1) (Nat.lt_of_le_of_lt (Nat.sub_le _ _) t.isLt)).2.2.1 i + term (fq m c) t i)
    ∧ @Eq EReal ((outsAt0 m c t.val t.isLt).2.2.2.1 i) ((outsAt0 m c (t.val - 1) (Nat.lt_of_le_of_lt (Nat.sub_le _ _) t.isLt)).2.2.2.1 i + term (fk m c) t i)
    ∧ @Eq EReal ((outsAt0 m c t.val t.isLt).2.2.2.2 j) ((outsAt0 m c (t.val - 1) (Nat.lt_of_le_of_lt (Nat.sub_le _ _) t.isLt)).2.2.2.2 j + term (gterm m c) t j) := by
  idx_vars i
  idx_vars j
  rw [outsAt0_B m c t h0]
  refine ⟨?_, ?_, ?_⟩
  · frame_out
    exact add_q m c t R _ i0 i1
  · frame_out
    exact add_k m c t R _ i0 i1
  · frame_out
    exact add_b m c t _ j0 j1

theorem arr10 (R : Reals m c) : @Eq (S8192x1024.Idx → EReal) ((dats m 0 c).arrAt 10 cfg0.N) fun i => dqk m c (i 0) (i 1) := by
  refine (dats m 0 c).arrAt_eq_of_covers 10 _ (by decide +kernel) fun t hf y => ?_
  blk_simp
  rw [after0_10]
  idx_vars y
  have he : ((View.whole main_v26_0).slice (win0_10.rect t)).emb (ix2 y0 y1) = ix2 (row t y0) y1 := by blk_ext [idx0 t] <;> rfl
  rw [he]
  exact outs_at m c R t y0 y1
theorem arr11 : @Eq (S8192x128.Idx → EReal) ((dats m 0 c).arrAt 11 cfg0.N) (gates m c) := by
  refine (dats m 0 c).arrAt_eq_of_covers 11 _ (by decide +kernel) fun t hf y => ?_
  blk_simp
  rw [after0_11]
  idx_vars y
  have he : ((View.whole main_v26_1).slice (win0_11.rect t)).emb (ix2 y0 y1) = ix2 (row t y0) y1 := by blk_ext [idx0 t] <;> rfl
  rw [he]
  exact outs_gate m c t y0 y1

/-- One of the three sums at the end: the rows folded into eight. -/
theorem sum_all {n : ℕ} (h : (k : ℕ) → k < cfg0.N → (⟨2, ![8, n]⟩ : Shape).Idx → EReal) (f : Fin 8192 → Fin n → EReal)
    (hf : ∀ t : Fin cfg0.N, t.val % 16 = 0 → ∀ i, h t.val t.isLt i = 0 + term f t i)
    (hn : ∀ t : Fin cfg0.N, ¬ t.val % 16 = 0 → ∀ i, h t.val t.isLt i = h (t.val - 1) (Nat.lt_of_le_of_lt (Nat.sub_le _ _) t.isLt) i + term f t i)
    (i : (⟨2, ![8, n]⟩ : Shape).Idx) : h t0_15.val t0_15.isLt i = ∑ p, term f p i :=
  (Pipeline.eq_sum_fin_of_reset_step_apply_last h 16 (fun _ => (0 : EReal)) (term f) hf hn (by decide) t0_15 rfl i).trans (zero_add _)

theorem arr12 (R : Reals m c) : @Eq (S8x512.Idx → EReal) ((dats m 0 c).arrAt 12 cfg0.N) fun i => ∑ p, term (fq m c) p i := by
  refine (dats m 0 c).arrAt_eq_of_after_last 12 t0_15 (by decide +kernel) _ fun j => ?_
  blk_simp
  rw [after0_12]
  exact sum_all (fun n h => (outsAt0 m c n h).2.2.1) _ (fun t h0 i => (first m c t R h0 i (ix2 0 0)).1) (fun t h0 i => (next m c t R h0 i (ix2 0 0)).1) j
theorem arr13 (R : Reals m c) : @Eq (S8x512.Idx → EReal) ((dats m 0 c).arrAt 13 cfg0.N) fun i => ∑ p, term (fk m c) p i := by
  refine (dats m 0 c).arrAt_eq_of_after_last 13 t0_15 (by decide +kernel) _ fun j => ?_
  blk_simp
  rw [after0_13]
  exact sum_all (fun n h => (outsAt0 m c n h).2.2.2.1) _ (fun t h0 i => (first m c t R h0 i (ix2 0 0)).2.1) (fun t h0 i => (next m c t R h0 i (ix2 0 0)).2.1) j
theorem arr14 (R : Reals m c) : @Eq (S8x128.Idx → EReal) ((dats m 0 c).arrAt 14 cfg0.N) fun i => ∑ p, term (gterm m c) p i := by
  refine (dats m 0 c).arrAt_eq_of_after_last 14 t0_15 (by decide +kernel) _ fun j => ?_
  blk_simp
  rw [after0_14]
  exact sum_all (fun n h => (outsAt0 m c n h).2.2.2.2) _ (fun t h0 i => (first m c t R h0 (ix2 0 0) i).2.2) (fun t h0 i => (next m c t R h0 (ix2 0 0) i).2.2) j

section Tail
variable (W : Valuation τ sig (Elt Ideal))
abbrev a11 : S8192x128.Idx → EReal := W (Proc.devRef .tc main_v26_1)
abbrev a12 : S8x512.Idx → EReal := W (Proc.devRef .tc main_v26_2)
abbrev a13 : S8x512.Idx → EReal := W (Proc.devRef .tc main_v26_3)
abbrev a14 : S8x128.Idx → EReal := W (Proc.devRef .tc main_v26_4)
theorem tail_gate (s : Fin 8192) (q : Fin 8) : @Eq EReal (StableHlo.after hostOps1 W (Proc.devRef .tc main_v27) (ix2 s q)) (a11 W (ix2 s ⟨q.val, by omega⟩)) := by
  after_reads_at
theorem tail_q (e : Fin 64) : @Eq EReal (StableHlo.after hostOps1 W (Proc.devRef .tc main_v32) (ix2 0 e)) (∑ h, ∑ a : Fin 8, a12 W (ix2 a (headCol h e))) := by
  after_reads_at
  rfl
theorem tail_k (e : Fin 64) : @Eq EReal (StableHlo.after hostOps1 W (Proc.devRef .tc main_v37) (ix2 0 e)) (∑ h, ∑ a : Fin 8, a13 W (ix2 a (headCol h e))) := by
  after_reads_at
  rfl
theorem tail_b (q : Fin 8) : @Eq EReal (StableHlo.after hostOps1 W (Proc.devRef .tc main_v40) (ix2 0 q)) (∑ a : Fin 8, a14 W (ix2 a ⟨q.val, by omega⟩)) := by
  after_reads_at
end Tail

/-- The device's buffers when the kernel is left, and after the host lines behind it. -/
abbrev left : Valuation τ sig (Elt Ideal) := Pipeline.withArrays spec0 c (V0 m c) fun w => (dats m 0 c).arrAt w cfg0.N
abbrev final (b : Ref sig .tc) := Pipeline.afterTail₀ cfgs (dats m) 0 (V0 m) [hostOps1] c b
theorem left_11 : a11 (left m c) = (dats m 0 c).arrAt 11 cfg0.N := (dats m 0 c).withArrays_arrAt sharedIn0 (V0 m c) (A_eq m c) 11
theorem left_12 : a12 (left m c) = (dats m 0 c).arrAt 12 cfg0.N := (dats m 0 c).withArrays_arrAt sharedIn0 (V0 m c) (A_eq m c) 12
theorem left_13 : a13 (left m c) = (dats m 0 c).arrAt 13 cfg0.N := (dats m 0 c).withArrays_arrAt sharedIn0 (V0 m c) (A_eq m c) 13
theorem left_14 : a14 (left m c) = (dats m 0 c).arrAt 14 cfg0.N := (dats m 0 c).withArrays_arrAt sharedIn0 (V0 m c) (A_eq m c) 14

theorem unfold_sum {n : ℕ} (f : Fin 8192 → Fin n → EReal) (d : Fin n) : ∑ a : Fin 8, ∑ p, term f p (ix2 a d) = ∑ s, f s d := sum_groups fun s => f s d

theorem final_gate (s : Fin 8192) (q : Fin 8) : @Eq EReal (final m c main_v27 (ix2 s q)) (fl m c s q) := by
  refine (tail_gate (left m c) s q).trans ?_
  rw [left_11, arr11]
  exact gates_at m c s q
theorem final_q (R : Reals m c) (e : Fin 64) : @Eq EReal (final m c main_v32 (ix2 0 e)) (∑ h, ∑ s, fq m c s (headCol h e)) := by
  refine (tail_q (left m c) e).trans ?_
  rw [left_12, arr12 m c R]
  exact Finset.sum_congr rfl fun h _ => unfold_sum _ _
theorem final_k (R : Reals m c) (e : Fin 64) : @Eq EReal (final m c main_v37 (ix2 0 e)) (∑ h, ∑ s, fk m c s (headCol h e)) := by
  refine (tail_k (left m c) e).trans ?_
  rw [left_13, arr13 m c R]
  exact Finset.sum_congr rfl fun h _ => unfold_sum _ _
theorem final_b (R : Reals m c) (q : Fin 8) : @Eq EReal (final m c main_v40 (ix2 0 q)) (∑ s, fl m c s q) := by
  refine (tail_b (left m c) q).trans ?_
  rw [left_14, arr14 m c R]
  refine (unfold_sum _ _).trans (Finset.sum_congr rfl fun s _ => ?_)
  exact gates_at m c s q

/-- The kernel's run: its five results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v26_0) = (dats m 0 c).arrAt 10 cfg0.N
      ∧ r.2.mem ((c.tc : Thread nD τ).loc main_v27) = final m c main_v27
      ∧ r.2.mem ((c.tc : Thread nD τ).loc main_v32) = final m c main_v32
      ∧ r.2.mem ((c.tc : Thread nD τ).loc main_v37) = final m c main_v37
      ∧ r.2.mem ((c.tc : Thread nD τ).loc main_v40) = final m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 10,
      (h.1 c).2 main_v27 (Pipeline.mem_restRefs_of main_v27 (by decide) (by decide)),
      (h.1 c).2 main_v32 (Pipeline.mem_restRefs_of main_v32 (by decide) (by decide)),
      (h.1 c).2 main_v37 (Pipeline.mem_restRefs_of main_v37 (by decide) (by decide)),
      (h.1 c).2 main_v40 (Pipeline.mem_restRefs_of main_v40 (by decide) (by decide)), h.2.1 c⟩)
    (θ_run_and (run_main m ρ) (frame m ρ))

end Cert.Proof.Qk
-- ==== Proof.QkRef.lean ====
/- The derivative's side of the gradient of the query's and key's norms, and the claim. -/
module

public import proofs.«01_k».proof.Proof.Qk

@[expose] public section

set_option maxRecDepth 16384

noncomputable section

namespace Cert.Proof.Qk

open Cert.QkIdeal Cert.QkIdeal.Gen
open Idealize.ShloMosaic Idealize.ShloMosaic.TcCoe Idealize.SL.Sem

variable (m : (ℓ : Loc nD τ sig) → Buf (Elt Ideal) ℓ) (c : Dev nD)

/-- The host's sum along the first two of three axes. -/
theorem reduce_front {n0 n1 n2 : ℕ} (h : (⟨3, ![n0, n1, n2]⟩ : Shape).ReducesTo [0, 1] ⟨1, ![n2]⟩) (v : (⟨3, ![n0, n1, n2]⟩ : Shape).Idx → EReal) (init : EReal) (d : Fin n2) :
    Ideal.hostReduceAdd h v init (ix1 d) = init + ∑ a, ∑ b, v (ix3 a b d) := by
  refine congrArg (init + ·) ((Finset.sum_filter_eq_sum_of_fiber _ (fun k : Fin n0 × Fin n1 => ix3 k.1 k.2 d)
    (fun _ _ e => Prod.ext (congrFun e 0) (congrFun e 1)) (fun i => ?_) v).trans ?_)
  · constructor
    · intro e
      refine ⟨(i 0, i 1), funext fun b => ?_⟩
      match b with
      | ⟨0, _⟩ => rfl
      | ⟨1, _⟩ => rfl
      | ⟨2, _⟩ => exact Fin.ext (congrArg Fin.val (congrFun e 0)).symm
    · rintro ⟨k, rfl⟩
      funext b
      match b with
      | ⟨0, _⟩ => rfl
  · simp only [Fintype.sum_prod_type]

/-! The derivative's values, one lemma for each intermediate array that others read. -/

section Derivative
open Cert.QkRefIdeal.Read
variable (s : Fin 8192) (h : Fin 8) (e : Fin 64)

theorem r4 : @Eq EReal (val_main_v4 (F := Ideal) (x0 m c) (ix3 s h e)) (qx m c s h e) := by
  unfold val_main_v4 val_main_v2 val_main_v0
  pointwise
  exact congrArg (x0 m c) (congrArg (ix2 s) (Fin.ext (by simp [headCol])))
theorem r23 : @Eq EReal (val_main_v23 (F := Ideal) (x0 m c) (ix3 s h e)) (kx m c s h e) := by
  unfold val_main_v23 val_main_v3 val_main_v0
  pointwise
  exact congrArg (x0 m c) (congrArg (ix2 s) (Fin.ext (by simp [headCol]; omega)))
theorem r11 : @Eq EReal (val_main_v11 (F := Ideal) (x0 m c) (ix3 s h 0)) (headSq (qx m c s h)) := by
  rw [headSq_div]
  unfold val_main_v11 val_main_v10 val_main_cst_1 val_main_v9 val_main_v8 val_main_cst_0 val_main_v7 val_main_v6 val_main_cst val_main_v5
  pointwise
  simp only [r4]
theorem r30 : @Eq EReal (val_main_v30 (F := Ideal) (x0 m c) (ix3 s h 0)) (headSq (kx m c s h)) := by
  rw [headSq_div]
  unfold val_main_v30 val_main_v29 val_main_cst_6 val_main_v28 val_main_v27 val_main_cst_5 val_main_v26 val_main_v25 val_main_cst_4 val_main_v24
  pointwise
  simp only [r23]
theorem r12 : @Eq EReal (val_main_v12 (F := Ideal) (x0 m c) (ix3 s h 0)) (headInv (qx m c s h)) := by
  unfold val_main_v12
  pointwise
  rw [r11]
  rfl
theorem r31 : @Eq EReal (val_main_v31 (F := Ideal) (x0 m c) (ix3 s h 0)) (headInv (kx m c s h)) := by
  unfold val_main_v31
  pointwise
  rw [r30]
  rfl
theorem r15 : @Eq EReal (val_main_v15 (F := Ideal) (x0 m c) (ix3 s h 0)) (Ideal.ofBits .f32 0xBF000000#32 * Ideal.div (headInv (qx m c s h)) (headSq (qx m c s h))) := by
  unfold val_main_v15 val_main_v14 val_main_cst_2 val_main_v13
  pointwise
  rw [r11, r12]
theorem r34 : @Eq EReal (val_main_v34 (F := Ideal) (x0 m c) (ix3 s h 0)) (Ideal.ofBits .f32 0xBF000000#32 * Ideal.div (headInv (kx m c s h)) (headSq (kx m c s h))) := by
  unfold val_main_v34 val_main_v33 val_main_cst_7 val_main_v32
  pointwise
  rw [r30, r31]
theorem r17 : @Eq EReal (val_main_v17 (F := Ideal) (x0 m c) (ix3 s h e)) (qx m c s h e * headInv (qx m c s h)) := by
  unfold val_main_v17 val_main_v16
  pointwise
  rw [r4, r12]
theorem r36 : @Eq EReal (val_main_v36 (F := Ideal) (x0 m c) (ix3 s h e)) (kx m c s h e * headInv (kx m c s h)) := by
  unfold val_main_v36 val_main_v35
  pointwise
  rw [r23, r31]
theorem r73 : @Eq EReal (val_main_v73 (F := Ideal) (x4 m c) (ix3 s h e)) (qd m c s h e) := by
  unfold val_main_v73 val_main_v72 val_main_cst_14 val_main_v49
  pointwise
  rfl
theorem r48 : @Eq EReal (val_main_v48 (F := Ideal) (x5 m c) (ix3 s h e)) (kd m c s h e) := by
  unfold val_main_v48
  pointwise
  rfl
theorem r78 : @Eq EReal (val_main_v78 (F := Ideal) (x1 m c) (x4 m c) (ix3 s h e)) (qw m c s h e) := by
  unfold val_main_v78 val_main_v77 val_main_v18
  pointwise
  rw [r73]
  rfl
theorem r54 : @Eq EReal (val_main_v54 (F := Ideal) (x2 m c) (x5 m c) (ix3 s h e)) (kw m c s h e) := by
  unfold val_main_v54 val_main_v53 val_main_v37
  pointwise
  rw [r48]
  rfl
theorem r90 : @Eq EReal (val_main_v90 (F := Ideal) (x0 m c) (x1 m c) (x4 m c) (ix3 s h e)) (headHalf (qx m c s h) (qw m c s h)) := by
  unfold val_main_v90 val_main_v89 val_main_cst_19 val_main_v88 val_main_v87 val_main_cst_18 val_main_v86 val_main_v83 val_main_v82 val_main_cst_17 val_main_v81
  pointwise
  simp only [Fin.sum_univ_one, r15, r4, r78]
  rfl
theorem r66 : @Eq EReal (val_main_v66 (F := Ideal) (x0 m c) (x2 m c) (x5 m c) (ix3 s h e)) (headHalf (kx m c s h) (kw m c s h)) := by
  unfold val_main_v66 val_main_v65 val_main_cst_13 val_main_v64 val_main_v63 val_main_cst_12 val_main_v62 val_main_v59 val_main_v58 val_main_cst_11 val_main_v57
  pointwise
  simp only [Fin.sum_univ_one, r34, r23, r54]
  rfl
theorem r94 (R : Reals m c) : @Eq EReal (val_main_v94 (F := Ideal) (x0 m c) (x1 m c) (x4 m c) (ix3 s h e)) (headGrad (qx m c s h) (qw m c s h) e) := by
  rw [headGrad_derived _ _ (qx_real m c R s h) (qw_real m c R s h)]
  unfold val_main_v94 val_main_v93 val_main_v92 val_main_v91 val_main_v85 val_main_v84
  pointwise
  rw [r90, r78, r4, r12]
theorem r70 (R : Reals m c) : @Eq EReal (val_main_v70 (F := Ideal) (x0 m c) (x2 m c) (x5 m c) (ix3 s h e)) (headGrad (kx m c s h) (kw m c s h) e) := by
  rw [headGrad_derived _ _ (kx_real m c R s h) (kw_real m c R s h)]
  unfold val_main_v70 val_main_v69 val_main_v68 val_main_v67 val_main_v61 val_main_v60
  pointwise
  rw [r66, r54, r23, r31]

theorem ref_dqk (R : Reals m c) (i) : @Eq EReal (val_main_v97 (F := Ideal) (x0 m c) (x1 m c) (x2 m c) (x4 m c) (x5 m c) i) (dqk m c (i 0) (i 1)) := by
  idx_vars i
  unfold dqk val_main_v97 val_main_v96 val_main_v95 val_main_v71
  pointwise
  by_cases hj : i1.val < 512
  · rw [dif_pos hj, dif_pos hj]
    exact r94 m c _ _ _ R
  · rw [dif_neg hj, dif_neg hj]
    exact r70 m c _ _ _ R

theorem ref_q (i) : @Eq EReal (val_main_v80 (F := Ideal) (x0 m c) (x4 m c) i) (∑ h, ∑ s, fq m c s (headCol h (i 1))) := by
  idx_vars i
  obtain rfl : i0 = 0 := Subsingleton.elim _ _
  unfold val_main_v80 val_main_v79 val_main_cst_16 val_main_v76 val_main_v75 val_main_cst_15 val_main_v74
  pointwise
  rw [reduce_front]
  pointwise
  rw [reduce_front]
  pointwise
  simp only [Fin.sum_univ_one, r17, r73]
  rw [Finset.sum_comm]
  refine Finset.sum_congr rfl fun h _ => Finset.sum_congr rfl fun s _ => ?_
  rw [fq, headOf_col, laneOf_col, mul_comm]
theorem ref_k (i) : @Eq EReal (val_main_v56 (F := Ideal) (x0 m c) (x5 m c) i) (∑ h, ∑ s, fk m c s (headCol h (i 1))) := by
  idx_vars i
  obtain rfl : i0 = 0 := Subsingleton.elim _ _
  unfold val_main_v56 val_main_v55 val_main_cst_10 val_main_v52 val_main_v51 val_main_cst_9 val_main_v50
  pointwise
  rw [reduce_front]
  pointwise
  rw [reduce_front]
  pointwise
  simp only [Fin.sum_univ_one, r36, r48]
  rw [Finset.sum_comm]
  refine Finset.sum_congr rfl fun h _ => Finset.sum_congr rfl fun s _ => ?_
  rw [fk, headOf_col, laneOf_col, mul_comm]

/-- The forget gate before its logistic, negated. -/
def fx (s : Fin 8192) (q : Fin 8) : EReal := -(x0 m c (ix2 s ⟨3072 + q.val, by omega⟩) + x3 m c (ix2 0 q))
theorem rc0 (q : Fin 8) : @Eq EReal (val_main_call0_v0 (F := Ideal) (x0 m c) (x3 m c) (ix2 s q)) (fx m c s q) := by
  unfold val_main_call0_v0 val_main_v43 val_main_v42 val_main_v1
  pointwise
  rfl
theorem rsoft (q : Fin 8) : @Eq EReal (val_main_call0_v1_0 (F := Ideal) (x0 m c) (x3 m c) (ix2 s q)) (softplus (fx m c s q)) := by
  unfold val_main_call0_v1_0 val_main_call0_call0_v11 val_main_call0_call0_v10 val_main_call0_call0_v9 val_main_call0_call0_v8 val_main_call0_call0_v7
    val_main_call0_call0_v6 val_main_call0_call0_v5 val_main_call0_call0_v4 val_main_call0_call0_v3 val_main_call0_call0_v2 val_main_call0_call0_v1 val_main_call0_call0_v0 val_main_call0_call0_cst
  pointwise
  rw [rc0]
  rw [if_neg (by simp)]
  rfl
theorem word_top : Ideal.ofBits .f32 0x7F800000#32 = ⊤ := by
  simp [Ideal.ofBits, Ideal.ieee]
theorem rslope (q : Fin 8) : @Eq EReal (val_main_v44_1 (F := Ideal) (x0 m c) (x3 m c) (ix2 s q)) (softplusGrad (fx m c s q)) := by
  unfold val_main_v44_1 val_main_call0_call0_v21 val_main_call0_call0_v20 val_main_call0_call0_v19 val_main_call0_call0_cst_3 val_main_call0_call0_v18 val_main_call0_call0_v17 val_main_call0_call0_cst_2
    val_main_call0_call0_v16 val_main_call0_call0_v15 val_main_call0_call0_cst_1 val_main_call0_call0_v14 val_main_call0_call0_v13 val_main_call0_call0_cst_0
  pointwise
  rw [rc0, rsoft]
  rw [word_top]
  rfl
theorem r45 (q : Fin 8) : @Eq EReal (val_main_v45 (F := Ideal) (x0 m c) (x3 m c) (x6 m c) (ix2 s q)) (fl m c s q) := by
  have e : fl m c s q = - (-(x6 m c (ix2 s q)) * softplusGrad (fx m c s q)) := by
    rw [softplusGrad_eq, EReal.neg_mul, neg_neg]
    rfl
  rw [e, ← rslope]
  unfold val_main_v45 val_main_call1_v1 val_main_call1_v0
  pointwise
theorem ref_gate (i) : @Eq EReal (val_main_v98 (F := Ideal) (x0 m c) (x3 m c) (x6 m c) i) (fl m c (i 0) (i 1)) := by
  idx_vars i
  rw [← r45]
  unfold val_main_v98
  pointwise
theorem ref_b (i) : @Eq EReal (val_main_v47 (F := Ideal) (x0 m c) (x3 m c) (x6 m c) i) (∑ s, fl m c s (i 1)) := by
  idx_vars i
  obtain rfl : i0 = 0 := Subsingleton.elim _ _
  unfold val_main_v47 val_main_v46 val_main_cst_8
  pointwise
  simp only [r45]
end Derivative

/-- The host's row of a sum, at every coordinate. -/
theorem row_eq {n : ℕ} {v w : (⟨2, ![1, n]⟩ : Shape).Idx → EReal} {f : Fin n → EReal} (hv : ∀ i, v i = f (i 1)) (hw : ∀ d, w (ix2 0 d) = f d) : v = w := by
  funext i
  have e : i = ix2 (0 : Fin 1) (i 1 : Fin n) := by
    funext b
    match b with
    | ⟨0, _⟩ => exact Subsingleton.elim (α := Fin 1) _ _
    | ⟨1, _⟩ => rfl
  rw [hv, e]
  exact (hw _).symm

/-- The gradient of the query's and key's norms: over finite arguments kernel and derivative leave the same five arrays. -/
theorem value [Cert.Pre_qk_finite.Facts] : Cert.algebraic_QkIdeal_QkRefIdeal_pre_qk_finite := fun m ρ m' ρ' hp hag =>
  ⟨_, _, _, _, _, run_results m ρ, (θ_run _ _ _).mono (fun _ h c => by
      obtain ⟨h0, h1, h2, h3, h4, hr⟩ := h c
      obtain ⟨e0, e1, e2, e3, e4, e5, e6⟩ := hag c
      obtain ⟨p0, p1, p2, p3, p4⟩ := hp c
      have hR : Reals m c := ⟨fun i => Attn.real_of_abs_lt (congrFun p0 i), fun i => Attn.real_of_abs_lt (congrFun p1 i), fun i => Attn.real_of_abs_lt (congrFun p2 i),
        fun i => Attn.real_of_abs_lt (congrFun p3 i), fun i => Attn.real_of_abs_lt (congrFun p4 i)⟩
      rw [Cert.QkRefIdeal.Read.val_main_v97_eq, e0, e1, e2, e4, e5] at h0
      rw [Cert.QkRefIdeal.Read.val_main_v98_eq, e0, e3, e6] at h1
      rw [Cert.QkRefIdeal.Read.val_main_v80_eq, e0, e4] at h2
      rw [Cert.QkRefIdeal.Read.val_main_v56_eq, e0, e5] at h3
      rw [Cert.QkRefIdeal.Read.val_main_v47_eq, e0, e3, e6] at h4
      refine ⟨h0.trans ((funext (ref_dqk m c hR)).trans (arr10 m c hR).symm), h1.trans (funext fun i => ?_), h2.trans (row_eq (ref_q m c) (final_q m c hR)),
        h3.trans (row_eq (ref_k m c) (final_k m c hR)), h4.trans (row_eq (ref_b m c) (final_b m c hR)), hr⟩
      idx_vars i
      exact (ref_gate m c _).trans (final_gate m c i0 i1).symm)
    (Cert.QkRefIdeal.Value.run m' ρ')⟩

end Cert.Proof.Qk

end
-- ==== Proof.FwdSoft.lean ====
/- The softmax of a causal row by blocks, over the reals: a running maximum and sums of powers of two that are scaled
   when the maximum grows. Nothing here is of a program. -/
module

public import proofs.«01_k».proof.Proof.AttnData

@[expose] public section

noncomputable section

namespace Cert.Proof.Fwd

open Idealize.ShloMosaic
open Cert.Proof.Attn (Data sum_coe)

/-- A row's state when the keys of `P` have been taken, `x` their logits in powers of two and `y` their lanes: nothing
    taken yet, or the lanes' sums weighted by two to the logit less some number, the one kept. -/
def Soft (P : Finset (Fin 8192)) (x : Fin 8192 → ℝ) (y : Fin 8192 → Fin 128 → ℝ) (m : EReal) (acc : Fin 128 → EReal) : Prop :=
  (P = ∅ ∧ m = ⊥ ∧ ∀ l, acc l = 0)
    ∨ ∃ M : ℝ, m = (M : EReal) ∧ ∀ l, acc l = ((∑ s ∈ P, Real.rpow 2 (x s - M) * y s l : ℝ) : EReal)

theorem rpow_sub (a b c : ℝ) : Real.rpow 2 (a - b) * Real.rpow 2 (c - a) = Real.rpow 2 (c - b) := by
  rw [mul_comm]; refine (Real.rpow_add (by norm_num) _ _).symm.trans ?_
  show (2 : ℝ) ^ (c - a + (a - b)) = (2 : ℝ) ^ (c - b)
  congr 1; ring

/-- One block: the keys `k j`, those counted where `p`, one of them at least. -/
theorem soft_step {P P' : Finset (Fin 8192)} {x : Fin 8192 → ℝ} {y : Fin 8192 → Fin 128 → ℝ} {m : EReal} {acc : Fin 128 → EReal}
    (h : Soft P x y m acc) (p : Fin 512 → Prop) [DecidablePred p] (k : Fin 512 → Fin 8192)
    (hP : ∀ f : Fin 8192 → ℝ, ∑ s ∈ P', f s = ∑ s ∈ P, f s + ∑ j, if p j then f (k j) else 0) (j₀ : Fin 512) (hj : p j₀)
    (z : Fin 512 → EReal) (hz : ∀ j, z j = if p j then ((x (k j) : ℝ) : EReal) else ⊥) :
    ∃ M : ℝ, max m (Finset.univ.fold max ⊥ z) = (M : EReal) ∧ ∀ l,
      Ideal.exp2 (m - (M : EReal)) * acc l + ∑ j, Ideal.exp2 (z j - (M : EReal)) * ((y (k j) l : ℝ) : EReal)
        = ((∑ s ∈ P', Real.rpow 2 (x s - M) * y s l : ℝ) : EReal) := by
  obtain ⟨b, hb⟩ := Attn.max_real Finset.univ z
    (fun j _ => by rw [hz]; split; exacts [EReal.coe_ne_top _, bot_ne_top]) j₀ (Finset.mem_univ _)
    (by rw [hz, if_pos hj]; exact EReal.coe_ne_bot _)
  have hsum : ∀ (M : ℝ) l, ∑ j, Ideal.exp2 (z j - (M : EReal)) * ((y (k j) l : ℝ) : EReal)
      = ((∑ j, if p j then Real.rpow 2 (x (k j) - M) * y (k j) l else 0 : ℝ) : EReal) := fun M l => by
    rw [← sum_coe]
    refine Finset.sum_congr rfl fun j _ => ?_
    rw [hz]
    split
    · rw [← EReal.coe_sub, Ideal.exp2_coe, ← EReal.coe_mul]
    · rw [EReal.bot_sub, Ideal.exp2_bot, zero_mul, EReal.coe_zero]
  rw [hb]
  rcases h with ⟨hp, hm, ha⟩ | ⟨M₀, hm, ha⟩
  · refine ⟨b, by rw [hm, max_eq_right bot_le], fun l => ?_⟩
    rw [hm, ha, mul_zero, zero_add, hsum, hP, hp, Finset.sum_empty, zero_add]
  · refine ⟨max M₀ b, by rw [hm]; exact (EReal.coe_strictMono.monotone.map_max).symm, fun l => ?_⟩
    rw [hm, ha, hsum, hP, ← EReal.coe_sub, Ideal.exp2_coe, ← EReal.coe_mul, ← EReal.coe_add, Finset.mul_sum]
    refine congrArg (fun r : ℝ => (r : EReal)) (congrArg (· + _) (Finset.sum_congr rfl fun s _ => ?_))
    rw [← mul_assoc, rpow_sub]

variable (D : Data)

/-- Two to the logit in powers of two, shifted, as a multiple of the weight. -/
theorem rpow_weight {h : Fin 8} {t s : Fin 8192} (hs : s ≤ t) (M : ℝ) :
    Real.rpow 2 (D.score h t s * (1 / Real.log 2) - M) = Real.exp (D.top h t - M * Real.log 2) * D.weight h t s := by
  have h2 : Real.log 2 ≠ 0 := (Real.log_pos (by norm_num)).ne'
  refine (Real.rpow_def_of_pos (by norm_num) _).trans ?_
  rw [D.weight_of hs, ← Real.exp_add]
  congr 1; field_simp; ring

/-- The keys up to the query. -/
def upto (t : Fin 8192) : Finset (Fin 8192) := Finset.univ.filter fun s => s ≤ t

theorem sum_upto (h : Fin 8) (t : Fin 8192) (M : ℝ) (y : Fin 8192 → ℝ) :
    ∑ s ∈ upto t, Real.rpow 2 (D.score h t s * (1 / Real.log 2) - M) * y s
      = Real.exp (D.top h t - M * Real.log 2) * ∑ s, D.weight h t s * y s := by
  rw [upto, Finset.sum_filter, Finset.mul_sum]
  refine Finset.sum_congr rfl fun s _ => ?_
  split
  · next hs => rw [rpow_weight D hs, mul_assoc]
  · next hs => rw [D.weight_zero hs, zero_mul, mul_zero]

/-- The attention's output. -/
def out (t : Fin 8192) (h : Fin 8) (d : Fin 64) : ℝ := ∑ s, D.prob h t s * D.v s h d

/-- The rows' logarithm of the sum of exponentials. -/
def lse (h : Fin 8) (t : Fin 8192) : ℝ := D.top h t + Real.log (D.mass h t)

/-- The quotient of the two sums is the output, -/
theorem quot_eq (h : Fin 8) (t : Fin 8192) (M : ℝ) (y : Fin 8192 → ℝ) :
    (Real.exp (D.top h t - M * Real.log 2) * ∑ s, D.weight h t s * y s) / (Real.exp (D.top h t - M * Real.log 2) * D.mass h t)
      = ∑ s, D.prob h t s * y s := by
  rw [mul_div_mul_left _ _ (Real.exp_pos _).ne', Finset.sum_div]
  refine Finset.sum_congr rfl fun s _ => ?_
  rw [Data.prob]; ring

/-- and the kept number with the sum's logarithm the row's. -/
theorem log_eq (h : Fin 8) (t : Fin 8192) (M : ℝ) :
    M + Real.log (Real.exp (D.top h t - M * Real.log 2) * D.mass h t) * (Real.log 2)⁻¹ = lse D h t * (1 / Real.log 2) := by
  have h2 : Real.log 2 ≠ 0 := (Real.log_pos (by norm_num)).ne'
  rw [Real.log_mul (Real.exp_pos _).ne' (D.mass_pos h t).ne', Real.log_exp, lse]
  field_simp; ring

end Cert.Proof.Fwd

end
-- ==== Proof.FwdRefVal.lean ====
/- What the reference of attention's forward pass computes at finite arguments, and that finite arguments are reals. -/
module

public import proofs.«01_k».proof.Proof.Gen.FwdRefIdeal.Read
public import proofs.«01_k».proof.Proof.FwdSoft

@[expose] public section

set_option maxRecDepth 16384

noncomputable section

namespace Cert.Proof.Fwd

open Cert.FwdRefIdeal Cert.FwdRefIdeal.Gen Cert.FwdRefIdeal.Read
open Idealize.ShloMosaic Idealize.ShloMosaic.TcCoe Idealize.ShloMosaic.ValueIdx Idealize.SL.Sem
open Cert.Proof.Attn (Data sum_coe on3 on2 div_real ofBits_bot ofBits_eighth)

/-- One array of a row for every token and head. -/
abbrev T3 : Type := (⟨S8192x8x64, .f32⟩ : BufTy).Contents (Elt Ideal)

/-- One number for every token and head. -/
abbrev T2 : Type := (⟨S8192x8, .f32⟩ : BufTy).Contents (Elt Ideal)

/-- The arguments are the reals of `D`, and so are the rows' maxima. -/
structure Reads (D : Data) (x0 x1 x2 : T3) (x3 : T2) : Prop where
  q : ∀ i, x0 i = ((on3 D.q i : ℝ) : EReal)
  k : ∀ i, x1 i = ((on3 D.k i : ℝ) : EReal)
  v : ∀ i, x2 i = ((on3 D.v i : ℝ) : EReal)
  f : ∀ i, x3 i = ((on2 D.f i : ℝ) : EReal)
  top : ∀ i, val_main_v18 (F := Ideal) x0 x1 x3 i = ((on2 D.top i : ℝ) : EReal)

/-- The mask: a key no later than the query. -/
theorem mask_apply (i : S8192x8192.Idx) : val_main_v16 (F := Ideal) i = 1#1 ↔ i 1 ≤ i 0 := by
  rw [val_main_v16_apply, IntOp.cmpi_sle, val_main_v14_apply, val_main_v15_apply,
    val_main_v12_apply, val_main_v13_apply, val_main_v11_apply, val_main_v11_apply]
  have h1 := (i 0).isLt
  have h2 := (i 1).isLt
  show (BitVec.ofNat 32 (i 1).val).toInt ≤ (BitVec.ofNat 32 (i 0).val).toInt ↔ (i 1).val ≤ (i 0).val
  have e : ∀ n : ℕ, n < 8192 → (BitVec.ofNat 32 n).toInt = n := fun n hn => by
    rw [BitVec.toInt_eq_toNat_of_lt] <;> simp only [BitVec.toNat_ofNat] <;> omega
  rw [e _ h1, e _ h2]; omega

/-- The logits behind the mask. -/
theorem masked_apply (x0 x1 : T3) (x3 : T2) (i : S8x8192x8192.Idx) :
    val_main_v17 (F := Ideal) x0 x1 x3 i = if i 2 ≤ i 1 then val_main_v10 (F := Ideal) x0 x1 x3 i else ⊥ := by
  rw [val_main_v17_apply, Scalar.select, val_main_call0_v1_apply]
  by_cases h : i 2 ≤ i 1
  · rw [if_pos h]; exact if_pos ((mask_apply _).mpr h)
  · rw [if_neg h]; refine (if_neg fun e => h ((mask_apply _).mp e)).trans ?_; rw [val_main_call0_v2_apply]
    exact ofBits_bot

theorem logit_real (D : Data) {x0 x1 : T3} {x3 : T2} (hq : ∀ i, x0 i = ((on3 D.q i : ℝ) : EReal))
    (hk : ∀ i, x1 i = ((on3 D.k i : ℝ) : EReal)) (hf : ∀ i, x3 i = ((on2 D.f i : ℝ) : EReal)) (i : S8x8192x8192.Idx) :
    val_main_v10 (F := Ideal) x0 x1 x3 i = ((on3 D.score i : ℝ) : EReal) := by
  rw [val_main_v10_apply, val_main_v2_apply, val_main_v9_apply, val_main_v0_apply, val_main_v1_apply, val_main_cst_apply,
    val_main_v7_apply, val_main_v8_apply, val_main_v4_apply, val_main_v6_apply, val_main_v5_apply, val_main_v3_apply, hf, hf]
  simp only [hq, hk, ← EReal.coe_mul, sum_coe, Ideal.ofBits_def, ofBits_eighth, Ideal.mulf_def, Ideal.addf_def, Ideal.subf_def]
  rw [← EReal.coe_sub, ← EReal.coe_add]
  rfl

theorem top_real (D : Data) {x0 x1 : T3} {x3 : T2} (hq : ∀ i, x0 i = ((on3 D.q i : ℝ) : EReal))
    (hk : ∀ i, x1 i = ((on3 D.k i : ℝ) : EReal)) (hf : ∀ i, x3 i = ((on2 D.f i : ℝ) : EReal))
    (i : S8x8192.Idx) : ∃ r : ℝ, val_main_v18 (F := Ideal) x0 x1 x3 i = r := by
  unfold val_main_v18
  rw [Host.reduce_eq_fold]
  have z : val_main_cst_1 (F := Ideal) (Shape.Idx.first h_S_) = (⊥ : EReal) := ofBits_bot
  rw [z]
  have hd : reducesTo_S8x8192x8192_S8x8192_d2.drop (ix3 (i 0) (i 1) (i 1) : S8x8192x8192.Idx) = i := by
    funext a
    match a with
    | ⟨0, _⟩ => rfl
    | ⟨1, _⟩ => rfl
  refine Attn.max_real _ _ (fun j _ => ?_) (ix3 (i 0) (i 1) (i 1)) (Finset.mem_filter.mpr ⟨Finset.mem_univ _, hd⟩) ?_
  · rw [masked_apply]
    split
    · rw [logit_real D hq hk hf]; exact EReal.coe_ne_top _
    · exact bot_ne_top
  · rw [masked_apply]; refine ne_of_eq_of_ne (if_pos (le_refl (i 1))) ?_; rw [logit_real D hq hk hf]; exact EReal.coe_ne_bot _

/-- Finite arguments are the reals of some `D`. -/
theorem exists_reads {x0 x1 x2 : T3} {x3 : T2} (h0 : ∀ i, ∃ r : ℝ, x0 i = r) (h1 : ∀ i, ∃ r : ℝ, x1 i = r)
    (h2 : ∀ i, ∃ r : ℝ, x2 i = r) (h3 : ∀ i, ∃ r : ℝ, x3 i = r) : ∃ D : Data, Reads D x0 x1 x2 x3 := by
  have e3 : ∀ i : S8192x8x64.Idx, (ix3 (i 0) (i 1) (i 2) : S8192x8x64.Idx) = i := fun i => (eq_ix3 i).symm
  have e2 : ∀ i : S8192x8.Idx, (ix2 (i 0) (i 1) : S8192x8.Idx) = i := fun i => (eq_ix2 i).symm
  have e2' : ∀ i : S8x8192.Idx, (ix2 (i 0) (i 1) : S8x8192.Idx) = i := fun i => (eq_ix2 i).symm
  choose q hq using h0
  choose k hk using h1
  choose v hv using h2
  choose f hf using h3
  let D₀ : Data := ⟨fun a b c => q (ix3 a b c), fun a b c => k (ix3 a b c), fun a b c => v (ix3 a b c), fun _ _ _ => 0,
    fun a b => f (ix2 a b), fun _ _ => 0⟩
  have Hq : ∀ i, x0 i = ((on3 D₀.q i : ℝ) : EReal) := fun i => by rw [hq]; exact congrArg (fun j => ((q j : ℝ) : EReal)) (e3 i).symm
  have Hk : ∀ i, x1 i = ((on3 D₀.k i : ℝ) : EReal) := fun i => by rw [hk]; exact congrArg (fun j => ((k j : ℝ) : EReal)) (e3 i).symm
  have Hf : ∀ i, x3 i = ((on2 D₀.f i : ℝ) : EReal) := fun i => by rw [hf]; exact congrArg (fun j => ((f j : ℝ) : EReal)) (e2 i).symm
  choose t ht using top_real D₀ Hq Hk Hf
  exact ⟨{ D₀ with top := fun a b => t (ix2 a b) }, ⟨Hq, Hk,
    fun i => by rw [hv]; exact congrArg (fun j => ((v j : ℝ) : EReal)) (e3 i).symm, Hf,
    fun i => by rw [ht]; exact congrArg (fun j => ((t j : ℝ) : EReal)) (e2' i).symm⟩⟩

theorem add_log (a : ℝ) {b : ℝ} (h : 0 < b) : (a : EReal) + Ideal.log (b : EReal) = ((a + Real.log b : ℝ) : EReal) := by
  rw [Ideal.log_coe, if_neg h.not_ge, ← EReal.coe_add]

variable {D : Data} {x0 x1 x2 : T3} {x3 : T2} (R : Reads D x0 x1 x2 x3)
include R

/-- The exponential of a masked logit less its row's maximum. -/
theorem exp_apply (i : S8x8192x8192.Idx) :
    Ideal.exp (val_main_v17 (F := Ideal) x0 x1 x3 i - ((D.top (i 0) (i 1) : ℝ) : EReal)) = ((on3 D.weight i : ℝ) : EReal) := by
  rw [masked_apply, logit_real D R.q R.k R.f]
  show Ideal.exp ((if i 2 ≤ i 1 then ((D.score (i 0) (i 1) (i 2) : ℝ) : EReal) else ⊥) - ((D.top (i 0) (i 1) : ℝ) : EReal))
    = ((D.weight (i 0) (i 1) (i 2) : ℝ) : EReal)
  by_cases h : i 2 ≤ i 1
  · have e : D.weight (i 0) (i 1) (i 2) = _ := D.weight_of h
    rw [if_pos h, e, ← EReal.coe_sub, Ideal.exp_coe]
  · have e : D.weight (i 0) (i 1) (i 2) = _ := D.weight_zero h
    rw [if_neg h, e, EReal.bot_sub, Ideal.exp_bot]; rfl

theorem weight_apply (i : S8x8192x8192.Idx) : val_main_v24 (F := Ideal) x0 x1 x3 i = ((on3 D.weight i : ℝ) : EReal) := by
  rw [val_main_v24_apply, val_main_v23_apply, val_main_v22_apply, val_main_v21_apply, val_main_v20_apply, R.top,
    val_main_v19_apply, val_main_cst_2_apply, Ideal.ofBits_def, ofBits_bot]
  show Ideal.exp (val_main_v17 (F := Ideal) x0 x1 x3 i - max ⊥ ((D.top (i 0) (i 1) : ℝ) : EReal)) = _
  rw [max_eq_right bot_le]; exact exp_apply R i

theorem weight_apply' (i : S8x8192x8192.Idx) : val_main_v36 (F := Ideal) x0 x1 x3 i = ((on3 D.weight i : ℝ) : EReal) := by
  have e : val_main_v31 (F := Ideal) x0 x1 x3 = val_main_v18 x0 x1 x3 := rfl
  rw [val_main_v36_apply, val_main_v35_apply, val_main_v34_apply, val_main_v33_apply, e, R.top]
  exact exp_apply R i

theorem mass_apply (i : S8x8192.Idx) : val_main_v25 (F := Ideal) x0 x1 x3 i = ((on2 D.mass i : ℝ) : EReal) := by
  rw [val_main_v25_apply, val_main_cst_3_apply, Ideal.ofBits_def, Ideal.ofBits_zero_f32, zero_add]
  simp only [weight_apply R, sum_coe]
  rfl

theorem mass_apply' (i : S8x8192.Idx) : val_main_v37 (F := Ideal) x0 x1 x3 i = ((on2 D.mass i : ℝ) : EReal) := by
  rw [val_main_v37_apply, val_main_cst_5_apply, Ideal.ofBits_def, Ideal.ofBits_zero_f32, zero_add]
  simp only [weight_apply' R, sum_coe]
  rfl

theorem prob_apply (i : S8x8192x8192.Idx) : val_main_v28 (F := Ideal) x0 x1 x3 i = ((on3 D.prob i : ℝ) : EReal) := by
  rw [val_main_v28_apply, val_main_v27_apply, val_main_v26_apply, mass_apply R, weight_apply R, Ideal.hostDivf_def]
  exact div_real (D.mass_pos _ _).ne' _

/-- The attention's output that the reference computes, -/
theorem out_apply (i : S8192x8x64.Idx) : @Eq EReal (val_main_v32 (F := Ideal) x0 x1 x2 x3 i) ((on3 (out D) i : ℝ) : EReal) := by
  rw [val_main_v32_apply, val_main_v30_apply]
  refine (val_main_v29_apply _ _ _ _ _).trans ?_
  simp only [R.v, prob_apply R, ← EReal.coe_mul, sum_coe]
  refine congrArg (fun r : ℝ => (r : EReal)) ?_
  unfold on3 out
  exact Finset.sum_congr rfl fun s _ => mul_comm _ _

/-- and its rows' log-sums. -/
theorem lse_apply (i : S8x8192.Idx) : @Eq EReal (val_main_v39 (F := Ideal) x0 x1 x3 i) ((on2 (lse D) i : ℝ) : EReal) := by
  have e : val_main_v31 (F := Ideal) x0 x1 x3 = val_main_v18 x0 x1 x3 := rfl
  rw [val_main_v39_apply, val_main_v38_apply, e, R.top, mass_apply' R]
  exact add_log _ (D.mass_pos _ _)

end Cert.Proof.Fwd

end
-- ==== Proof.AttnHost.lean ====
/- What the host lines before the kernel's launch put into its four arguments, at finite arguments. -/
module

public import proofs.«01_k».proof.Proof.Gen.AttnIdeal.Frame
public import proofs.«01_k».proof.Proof.AttnRefVal
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Attn

open Cert.AttnIdeal Cert.AttnIdeal.Gen
open Idealize.ShloMosaic Idealize.ShloMosaic.TcCoe Idealize.SL.Sem

variable (m : (ℓ : Loc nD τ sig) → Buf (Elt Ideal) ℓ) (c : Dev nD)

/-- The queries, keys, values, decays and cotangent. -/
abbrev X0 : T3 := m ((c.tc : Thread nD τ).loc main_arg0)
abbrev X1 : T3 := m ((c.tc : Thread nD τ).loc main_arg1)
abbrev X2 : T3 := m ((c.tc : Thread nD τ).loc main_arg2)
abbrev X3 : T2 := m ((c.tc : Thread nD τ).loc main_arg3)
abbrev X4 : T3 := m ((c.tc : Thread nD τ).loc main_arg4)

/-- The running sum, the masked logits and the rows' maxima are the reference's. -/
theorem V_v0 : V m c main_v0 = Cert.AttnRefIdeal.Read.val_main_v0 (F := Ideal) (X3 m c) := by
  unfold V; after_reads_simp; rfl

theorem V_v18 : V m c main_v18 = Cert.AttnRefIdeal.Read.val_main_v18_0 (F := Ideal) (X0 m c) (X1 m c) (X3 m c) := by
  unfold V; after_reads_simp; rfl

theorem V_v19 : V m c main_v19 = Cert.AttnRefIdeal.Read.val_main_v19 (F := Ideal) (X0 m c) (X1 m c) (X3 m c) := by
  unfold V; after_reads_simp; rfl

/-- A float array of the programs. -/
abbrev A (s : Shape) : Type := FVec Ideal s .f32

theorem V_v23 : @Eq (A S8x8192x8192) (V m c main_v23) <| Host.exp (subf (V m c main_v18) (broadcastInDim S8x8192x8192 ![0, 1, 2] bcast_S8x8192x1_S8x8192x8192_0_1_2 (broadcastInDim S8x8192x1 ![0, 1] bcast_S8x8192_S8x8192x1_0_1 (V m c main_v19)))) := by
  unfold V; after_reads_simp; try rfl

theorem V_v24 : @Eq (A S8x8192) (V m c main_v24) <| Host.reduceAdd (V m c main_v23) (constant S_ .f32 0x00000000#32) reducesTo_S8x8192x8192_S8x8192_d2 h_S_ := by
  unfold V; after_reads_simp; try rfl

theorem V_v26 : @Eq (A S_) (V m c main_v26) <| Host.log (constant S_ .f32 0x40000000#32) := by
  unfold V; after_reads_simp; try rfl

theorem V_v31 : @Eq (A S8x8192x1) (V m c main_v31) <| mulf (addf (broadcastInDim S8x8192x1 ![0, 1] bcast_S8x8192_S8x8192x1_0_1 (V m c main_v19)) (Host.log (broadcastInDim S8x8192x1 ![0, 1] bcast_S8x8192_S8x8192x1_0_1 (V m c main_v24)))) (broadcastInDim S8x8192x1 ![] bcast_S_S8x8192x1 (Host.divf (constant S_ .f32 0x3F800000#32) (V m c main_v26))) := by
  unfold V; after_reads_simp; try rfl

theorem V_v33 : @Eq (A S8x8192x8192) (V m c main_v33) <| Host.divf (V m c main_v23) (broadcastInDim S8x8192x8192 ![0, 1, 2] bcast_S8x8192x1_S8x8192x8192_0_1_2 (broadcastInDim S8x8192x1 ![0, 1] bcast_S8x8192_S8x8192x1_0_1 (V m c main_v24))) := by
  unfold V; after_reads_simp; try rfl

theorem V_v38 : @Eq (A S8x8192x1) (V m c main_v38) <| broadcastInDim S8x8192x1 ![0, 1] bcast_S8x8192_S8x8192x1_0_1 (Host.reduceAdd (mulf (transpose S8x8192x64 [1, 0, 2] (X4 m c) transposes_S8192x8x64_S8x8192x64_1_0_2) (Host.dotGeneral (φ₁ := .f32) (φ₂ := .f32) dot_S8x8192x8192_S8192x8x64_S8x8192x64_2_0_1_2_0_1 none (V m c main_v33 : A S8x8192x8192) (X2 m c)))  (constant S_ .f32 0x00000000#32) reducesTo_S8x8192x64_S8x8192_d2 h_S_) := by
  unfold V; after_reads_simp; try rfl

theorem V_v41 : @Eq (A S8x8192) (V m c main_v41) <| mulf (transpose S8x8192 [1, 0] (V m c main_v0) transposes_S8192x8_S8x8192_1_0) (broadcastInDim S8x8192 ![] bcast_S_S8x8192 (Host.divf (constant S_ .f32 0x3F800000#32) (V m c main_v26))) := by
  unfold V; after_reads_simp; try rfl

/-- The host lines before the launch. -/
abbrev lines := List.flatten [hostOps0 (F := Ideal), hostOps0_1, hostOps0_2, hostOps0_3, hostOps0_4, hostOps0_5, hostOps0_6, hostOps0_7, hostOps0_8, hostOps0_9, hostOps0_10, hostOps0_11]

/-- Over the reals rounding to sixteen bits and back changes nothing. -/
theorem wide_narrow {s : Shape} (x : A s) : extf .f32 (truncf .bf16 x bitsLt_bf16_f32) bitsLt_bf16_f32 = x := (rfl)

/-- The first of a number's three pieces is the number, the others are the differences from it. -/
theorem read_v58 : @Eq (A S8x8192x1) (StableHlo.upto lines (fun b => m (c, b)) 77 (Proc.tc.devRef main_v58)) (V m c main_v31) := by
  unfold V; after_reads_simp; simp -implicitDefEqProofs only [wide_narrow]

theorem read_v61 : @Eq (A S8x8192x1) (StableHlo.upto lines (fun b => m (c, b)) 77 (Proc.tc.devRef main_v61)) (subf (V m c main_v31 : A S8x8192x1) (V m c main_v31 : A S8x8192x1)) := by
  unfold V; after_reads_simp; simp -implicitDefEqProofs only [wide_narrow]

theorem read_v62 : @Eq (A S8x8192x1) (StableHlo.upto lines (fun b => m (c, b)) 77 (Proc.tc.devRef main_v62)) (subf (subf (V m c main_v31 : A S8x8192x1) (V m c main_v31 : A S8x8192x1)) (subf (V m c main_v31 : A S8x8192x1) (V m c main_v31 : A S8x8192x1))) := by
  unfold V; after_reads_simp; simp -implicitDefEqProofs only [wide_narrow]

theorem read_v79 : @Eq (A S8x8192x1) (StableHlo.upto lines (fun b => m (c, b)) 104 (Proc.tc.devRef main_v79)) (V m c main_v38) := by
  unfold V; after_reads_simp; simp -implicitDefEqProofs only [wide_narrow]

theorem read_v82 : @Eq (A S8x8192x1) (StableHlo.upto lines (fun b => m (c, b)) 104 (Proc.tc.devRef main_v82)) (subf (V m c main_v38 : A S8x8192x1) (V m c main_v38 : A S8x8192x1)) := by
  unfold V; after_reads_simp; simp -implicitDefEqProofs only [wide_narrow]

theorem read_v83 : @Eq (A S8x8192x1) (StableHlo.upto lines (fun b => m (c, b)) 104 (Proc.tc.devRef main_v83)) (subf (subf (V m c main_v38 : A S8x8192x1) (V m c main_v38 : A S8x8192x1)) (subf (V m c main_v38 : A S8x8192x1) (V m c main_v38 : A S8x8192x1))) := by
  unfold V; after_reads_simp; simp -implicitDefEqProofs only [wide_narrow]

theorem read_v48 : @Eq (A S8x8192x1) (StableHlo.upto lines (fun b => m (c, b)) 63 (Proc.tc.devRef main_v48)) (broadcastInDim S8x8192x1 ![0, 1] bcast_S8x8192_S8x8192x1_0_1 ((V m c main_v41) : A S8x8192)) := by
  unfold V; after_reads_simp; simp -implicitDefEqProofs only [wide_narrow]

theorem read_v49 : @Eq (A S8x8192x1) (StableHlo.upto lines (fun b => m (c, b)) 63 (Proc.tc.devRef main_v49)) (broadcastInDim S8x8192x1 ![0, 1] bcast_S8x8192_S8x8192x1_0_1 ((subf (V m c main_v41 : A S8x8192) (V m c main_v41 : A S8x8192)) : A S8x8192)) := by
  unfold V; after_reads_simp; simp -implicitDefEqProofs only [wide_narrow]

theorem read_v50 : @Eq (A S8x8192x1) (StableHlo.upto lines (fun b => m (c, b)) 63 (Proc.tc.devRef main_v50)) (broadcastInDim S8x8192x1 ![0, 1] bcast_S8x8192_S8x8192x1_0_1 ((subf (subf (V m c main_v41 : A S8x8192) (V m c main_v41 : A S8x8192)) (subf (V m c main_v41 : A S8x8192) (V m c main_v41 : A S8x8192))) : A S8x8192)) := by
  unfold V; after_reads_simp; simp -implicitDefEqProofs only [wide_narrow]

theorem read_v43 : @Eq (A S8x8192) (StableHlo.upto lines (fun b => m (c, b)) 60 (Proc.tc.devRef main_v43)) (V m c main_v41) := by
  unfold V; after_reads_simp; simp -implicitDefEqProofs only [wide_narrow]

theorem read_v46 : @Eq (A S8x8192) (StableHlo.upto lines (fun b => m (c, b)) 61 (Proc.tc.devRef main_v46)) (subf (V m c main_v41 : A S8x8192) (V m c main_v41 : A S8x8192)) := by
  unfold V; after_reads_simp; simp -implicitDefEqProofs only [wide_narrow]

theorem read_v47 : @Eq (A S8x8192) (StableHlo.upto lines (fun b => m (c, b)) 62 (Proc.tc.devRef main_v47)) (subf (subf (V m c main_v41 : A S8x8192) (V m c main_v41 : A S8x8192)) (subf (V m c main_v41 : A S8x8192) (V m c main_v41 : A S8x8192))) := by
  unfold V; after_reads_simp; simp -implicitDefEqProofs only [wide_narrow]

/-- The rows' logarithm of the sum of exponentials, in powers of two. -/
def Data.lse (D : Data) (h : Fin 8) (t : Fin 8192) : ℝ := (D.top h t + Real.log (D.mass h t)) * (1 / Real.log 2)

theorem ofBits_two : Ideal.ofBits .f32 0x40000000#32 = ((2 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem log_two_ne : Real.log 2 ≠ 0 := (Real.log_pos (by norm_num)).ne'

theorem ideal_log {x : ℝ} (h : 0 < x) : Ideal.log (x : EReal) = ((Real.log x : ℝ) : EReal) := by
  rw [Ideal.log_coe, if_neg h.not_ge]

theorem sub_self_real (x : ℝ) : ((x : ℝ) : EReal) - ((x : ℝ) : EReal) = ((0 : ℝ) : EReal) := by
  rw [← EReal.coe_sub, sub_self]

theorem ideal_one_div {x : ℝ} (h : x ≠ 0) : Ideal.div 1 (x : EReal) = ((1 / x : ℝ) : EReal) := by
  rw [← EReal.coe_one]; exact div_real h 1

/-- The row number of a broadcast maximum and sum, at an index. -/
theorem lse_at (x19 x24 : A S8x8192) (x26 : A S_) (h : Fin 8) (t : Fin 8192) (a : Fin 1) :
    (mulf (addf (broadcastInDim S8x8192x1 ![0, 1] bcast_S8x8192_S8x8192x1_0_1 x19) (Host.log (broadcastInDim S8x8192x1 ![0, 1] bcast_S8x8192_S8x8192x1_0_1 x24))) (broadcastInDim S8x8192x1 ![] bcast_S_S8x8192x1 (Host.divf (constant S_ .f32 0x3F800000#32) x26)) : A S8x8192x1) (Idealize.ShloMosaic.ix3 h t a)
      = (x19 (Idealize.ShloMosaic.ix2 h t) + Ideal.log (x24 (Idealize.ShloMosaic.ix2 h t))) * Ideal.div 1 (x26 Idealize.ShloMosaic.ix0) := by
  pointwise

theorem host_log2 (i : S_.Idx) : @Eq EReal (V m c main_v26 i) ((Real.log 2 : ℝ) : EReal) := by
  rw [V_v26]; pointwise; rw [ofBits_two, ideal_log (by norm_num)]

section
variable {m c} {D : Data} (R : D.Reads (X0 m c) (X1 m c) (X2 m c) (X3 m c) (X4 m c))
include R

theorem host_top (h : Fin 8) (t : Fin 8192) : @Eq EReal (V m c main_v19 (Idealize.ShloMosaic.ix2 h t)) ((D.top h t : ℝ) : EReal) := by
  rw [V_v19]; exact R.top _

theorem host_weight (h : Fin 8) (t s : Fin 8192) :
    @Eq EReal (V m c main_v23 (Idealize.ShloMosaic.ix3 h t s)) ((D.weight h t s : ℝ) : EReal) := by
  rw [V_v23]; pointwise
  rw [host_top R, V_v18, masked_apply, logit_real D R.q R.k R.f]
  show Ideal.exp ((if s ≤ t then ((D.score h t s : ℝ) : EReal) else ⊥) - ((D.top h t : ℝ) : EReal)) = _
  by_cases hs : s ≤ t
  · rw [if_pos hs, D.weight_of hs, ← EReal.coe_sub, Ideal.exp_coe]
  · rw [if_neg hs, D.weight_zero hs, EReal.bot_sub, Ideal.exp_bot]; rfl

theorem host_mass (h : Fin 8) (t : Fin 8192) :
    @Eq EReal (V m c main_v24 (Idealize.ShloMosaic.ix2 h t)) ((D.mass h t : ℝ) : EReal) := by
  rw [V_v24]; pointwise
  simp only [host_weight R, sum_coe]; rfl

theorem host_lse (h : Fin 8) (t : Fin 8192) (a : Fin 1) :
    @Eq EReal (V m c main_v31 (Idealize.ShloMosaic.ix3 h t a)) ((D.lse h t : ℝ) : EReal) := by
  rw [V_v31]
  refine (lse_at _ _ _ h t a).trans ?_
  rw [host_top R, host_mass R, host_log2, ideal_log (D.mass_pos h t), ideal_one_div log_two_ne, ← EReal.coe_add, ← EReal.coe_mul]
  exact congrArg _ (Data.lse.eq_1 D h t).symm

theorem host_prob (h : Fin 8) (t s : Fin 8192) :
    @Eq EReal (V m c main_v33 (Idealize.ShloMosaic.ix3 h t s)) ((D.prob h t s : ℝ) : EReal) := by
  rw [V_v33]; pointwise
  simp only [host_weight R, host_mass R, div_real (D.mass_pos h t).ne']; rfl

theorem host_delta (h : Fin 8) (t : Fin 8192) (a : Fin 1) :
    @Eq EReal (V m c main_v38 (Idealize.ShloMosaic.ix3 h t a)) ((D.delta h t : ℝ) : EReal) := by
  rw [V_v38]; pointwise
  simp only [host_prob R, R.g, R.v, ← EReal.coe_mul, sum_coe]
  exact congrArg _ (D.delta_eq h t)

theorem host_decay (h : Fin 8) (t : Fin 8192) :
    @Eq EReal (V m c main_v41 (Idealize.ShloMosaic.ix2 h t)) ((D.f t h * (1 / Real.log 2) : ℝ) : EReal) := by
  rw [V_v41]; pointwise
  rw [host_log2, ideal_one_div log_two_ne, V_v0, R.f, ← EReal.coe_mul]; rfl

end

end Cert.Proof.Attn
-- ==== Proof.AttnLanes.lean ====
/- The lanes of the kernel's four arguments at finite arguments: beside each row of 64 the host puts the numbers that
   make one product give the shifted logit, and another the agreement less its mean. -/
module

public import proofs.«01_k».proof.Proof.AttnHost

@[expose] public section

set_option maxRecDepth 16384

noncomputable section

namespace Cert.Proof.Attn

open Cert.AttnIdeal Cert.AttnIdeal.Gen
open Idealize.ShloMosaic Idealize.ShloMosaic.TcCoe Idealize.SL.Sem

variable (m : (ℓ : Loc nD τ sig) → Buf (Elt Ideal) ℓ) (c : Dev nD)

/-- A number's three pieces: the number and two zeros. -/
def piece (x : ℝ) (n : ℕ) : ℝ := if n < 1 then x else 0

/-- The lanes of a query row. -/
def Data.lq (D : Data) (h : Fin 8) (t : Fin 8192) (l : Fin 128) : ℝ :=
  if w : l.val < 64 then D.q t h ⟨l.val, w⟩ * (1 / Real.log 2 / 8) else if l.val < 67 then 1
  else if l.val < 70 then piece (D.f t h * (1 / Real.log 2)) (l.val - 67) else if l.val < 73 then -piece (D.lse h t) (l.val - 70)
  else if l.val < 74 then 1 else 0

/-- The lanes of a key row. -/
def Data.lk (D : Data) (h : Fin 8) (t : Fin 8192) (l : Fin 128) : ℝ :=
  if w : l.val < 64 then D.k t h ⟨l.val, w⟩ else if l.val < 67 then -piece (D.f t h * (1 / Real.log 2)) (l.val - 64)
  else if l.val < 73 then 1 else 0

/-- The lanes of a value row. -/
def Data.lv (D : Data) (h : Fin 8) (t : Fin 8192) (l : Fin 128) : ℝ :=
  if w : l.val < 64 then D.v t h ⟨l.val, w⟩ else if l.val < 67 then 1 else 0

/-- The lanes of a cotangent row. -/
def Data.lg (D : Data) (h : Fin 8) (t : Fin 8192) (l : Fin 128) : ℝ :=
  if w : l.val < 64 then D.g t h ⟨l.val, w⟩ else if l.val < 67 then -piece (D.delta h t) (l.val - 64) else 0

theorem zero_word : @Eq EReal (FloatOps.sitofp (F := Ideal) FTy.f32 (0#32)) ((0 : ℝ) : EReal) := by
  show (((0#32 : BitVec 32).toInt : ℝ) : EReal) = _; norm_num

/-- The difference of two arrays that hold one real at an index. -/
theorem sub_zero_at {s : Shape} {x y : A s} {i : s.Idx} {r : ℝ} (hx : x i = ((r : ℝ) : EReal)) (hy : y i = ((r : ℝ) : EReal)) :
    @Eq EReal (subf x y i) ((0 : ℝ) : EReal) := by
  refine Eq.trans ?_ (sub_self_real r)
  show (x i : EReal) - y i = _
  rw [hx, hy]

section
variable {m c} {D : Data} (R : D.Reads (X0 m c) (X1 m c) (X2 m c) (X3 m c) (X4 m c))
include R

theorem piece_v51 (h : Fin 8) (t : Fin 8192) (a : Fin 3) :
    @Eq EReal (StableHlo.upto lines (fun b => m (c, b)) 80 (Proc.tc.devRef main_v51) (Idealize.ShloMosaic.ix3 h t a))
      ((piece (D.f t h * (1 / Real.log 2)) a.val : ℝ) : EReal) := by
  after_reads_at
  by_cases h1 : a.val < 1
  · rw [piece, if_pos h1]
    refine (dif_pos h1).trans ((congrFun (StableHlo.unary_result _ _ _ _ _ _) _).trans ?_)
    rw [read_v43]; pointwise; exact host_decay R h t
  rw [piece, if_neg h1]
  refine (dif_neg h1).trans ?_
  by_cases h2 : a.val - 1 < 1
  · refine (dif_pos h2).trans ((congrFun (StableHlo.unary_result _ _ _ _ _ _) _).trans ?_)
    rw [read_v46]; pointwise; rw [host_decay R, sub_self_real]
  · refine (dif_neg h2).trans ((congrFun (StableHlo.unary_result _ _ _ _ _ _) _).trans ?_)
    rw [read_v47]; pointwise; rw [host_decay R, sub_self_real, sub_self_real]

theorem piece_v58 (h : Fin 8) (t : Fin 8192) (a : Fin 1) :
    @Eq EReal (StableHlo.upto lines (fun b => m (c, b)) 77 (Proc.tc.devRef main_v58) (Idealize.ShloMosaic.ix3 h t a)) ((D.lse h t : ℝ) : EReal) :=
  (congrFun (read_v58 m c) _).trans (host_lse R h t a)

theorem piece_v61 (h : Fin 8) (t : Fin 8192) (a : Fin 1) :
    @Eq EReal (StableHlo.upto lines (fun b => m (c, b)) 77 (Proc.tc.devRef main_v61) (Idealize.ShloMosaic.ix3 h t a)) ((0 : ℝ) : EReal) :=
  (congrFun (read_v61 m c) _).trans (sub_zero_at (host_lse R h t a) (host_lse R h t a))

theorem piece_v62 (h : Fin 8) (t : Fin 8192) (a : Fin 1) :
    @Eq EReal (StableHlo.upto lines (fun b => m (c, b)) 77 (Proc.tc.devRef main_v62) (Idealize.ShloMosaic.ix3 h t a)) ((0 : ℝ) : EReal) :=
  (congrFun (read_v62 m c) _).trans (sub_zero_at (sub_zero_at (host_lse R h t a) (host_lse R h t a)) (sub_zero_at (host_lse R h t a) (host_lse R h t a)))

theorem piece_v64 (h : Fin 8) (t : Fin 8192) (a : Fin 3) :
    @Eq EReal (StableHlo.upto lines (fun b => m (c, b)) 80 (Proc.tc.devRef main_v64) (Idealize.ShloMosaic.ix3 h t a))
      ((-piece (D.lse h t) a.val : ℝ) : EReal) := by
  after_reads_at
  rw [EReal.coe_neg]
  refine congrArg Neg.neg ?_
  by_cases h1 : a.val < 1
  · have e : piece (D.lse h t) a.val = D.lse h t := if_pos h1
    rw [e]; exact (dif_pos h1).trans (piece_v58 R h t ⟨_, h1⟩)
  have e : piece (D.lse h t) a.val = 0 := if_neg h1
  rw [e]; refine (dif_neg h1).trans ?_
  by_cases h2 : a.val - 1 < 1
  · exact (dif_pos h2).trans (piece_v61 R h t ⟨_, h2⟩)
  · exact (dif_neg h2).trans (piece_v62 R h t ⟨_, by omega⟩)

theorem lane_k (h : Fin 8) (t : Fin 8192) (l : Fin 128) :
    @Eq EReal (V m c main_v73 (Idealize.ShloMosaic.ix3 h t l)) ((D.lk h t l : ℝ) : EReal) := by
  unfold V; after_reads_at; after_reads_at
  by_cases h1 : l.val < 73
  · refine (dif_pos h1).trans ?_
    by_cases h2 : l.val < 64
    · have e : D.lk h t l = D.k t h ⟨l.val, h2⟩ := dif_pos h2
      rw [e]; exact (dif_pos h2).trans (R.k _)
    refine (dif_neg h2).trans ?_
    by_cases h3 : l.val - 64 < 3
    · have e : D.lk h t l = -piece (D.f t h * (1 / Real.log 2)) (l.val - 64) := by
        rw [Data.lk, dif_neg h2, if_pos (by omega)]
      rw [e, EReal.coe_neg]
      refine (dif_pos h3).trans (congrArg Neg.neg ?_)
      by_cases h4 : l.val - 64 < 1
      · have e : piece (D.f t h * (1 / Real.log 2)) (l.val - 64) = D.f t h * (1 / Real.log 2) := if_pos h4
        rw [e]; refine (dif_pos h4).trans ?_
        rw [read_v48]; pointwise; exact host_decay R h t
      have e : piece (D.f t h * (1 / Real.log 2)) (l.val - 64) = 0 := if_neg h4
      rw [e]; refine (dif_neg h4).trans ?_
      by_cases h5 : l.val - 64 - 1 < 1
      · refine (dif_pos h5).trans ?_
        rw [read_v49]; pointwise; rw [host_decay R, sub_self_real]
      · refine (dif_neg h5).trans ?_
        rw [read_v50]; pointwise; rw [host_decay R, sub_self_real, sub_self_real]
    have e : D.lk h t l = 1 := by rw [Data.lk, dif_neg h2, if_neg (by omega), if_pos h1]
    rw [e]; exact (dif_neg h3).trans (by rw [dite_eq_ite, ite_self]; exact EReal.coe_one.symm)
  · have e : D.lk h t l = 0 := by rw [Data.lk, dif_neg (by omega), if_neg (by omega), if_neg h1]
    rw [e]; refine (dif_neg h1).trans zero_word

theorem lane_g (h : Fin 8) (t : Fin 8192) (l : Fin 128) :
    @Eq EReal (V m c main_v88 (Idealize.ShloMosaic.ix3 h t l)) ((D.lg h t l : ℝ) : EReal) := by
  unfold V; after_reads_at; after_reads_at
  by_cases h1 : l.val < 67
  · refine (dif_pos h1).trans ?_
    by_cases h2 : l.val < 64
    · have e : D.lg h t l = D.g t h ⟨l.val, h2⟩ := dif_pos h2
      rw [e]; exact (dif_pos h2).trans (R.g _)
    have e : D.lg h t l = -piece (D.delta h t) (l.val - 64) := by rw [Data.lg, dif_neg h2, if_pos h1]
    rw [e, EReal.coe_neg]
    refine (dif_neg h2).trans (congrArg Neg.neg ?_)
    by_cases h4 : l.val - 64 < 1
    · have e : piece (D.delta h t) (l.val - 64) = D.delta h t := if_pos h4
      rw [e]; refine (dif_pos h4).trans ?_
      rw [read_v79]; exact host_delta R h t _
    have e : piece (D.delta h t) (l.val - 64) = 0 := if_neg h4
    rw [e]; refine (dif_neg h4).trans ?_
    by_cases h5 : l.val - 64 - 1 < 1
    · refine (dif_pos h5).trans ?_
      rw [read_v82]; pointwise; rw [host_delta R, sub_self_real]
    · refine (dif_neg h5).trans ?_
      rw [read_v83]; pointwise; rw [host_delta R, sub_self_real, sub_self_real]
  · have e : D.lg h t l = 0 := by rw [Data.lg, dif_neg (by omega), if_neg h1]
    rw [e]; exact (dif_neg h1).trans zero_word

theorem lane_q (h : Fin 8) (t : Fin 8192) (l : Fin 128) :
    @Eq EReal (V m c main_v68 (Idealize.ShloMosaic.ix3 h t l)) ((D.lq h t l : ℝ) : EReal) := by
  unfold V; after_reads_at
  by_cases h1 : l.val < 74
  · refine (dif_pos h1).trans ?_
    by_cases h2 : l.val < 64
    · have e : D.lq h t l = D.q t h ⟨l.val, h2⟩ * (1 / Real.log 2 / 8) := dif_pos h2
      rw [e]; refine (dif_pos h2).trans ?_
      after_reads_at
      rw [ofBits_two, ideal_log (by norm_num), ideal_one_div log_two_ne, ofBits_eight, div_real (by norm_num), EReal.coe_mul]
      exact congrArg (· * _) (R.q _)
    refine (dif_neg h2).trans ?_
    by_cases h3 : l.val - 64 < 3
    · have e : D.lq h t l = 1 := by rw [Data.lq, dif_neg h2, if_pos (by omega)]
      rw [e]; refine (dif_pos h3).trans ?_
      after_reads_at; exact EReal.coe_one.symm
    refine (dif_neg h3).trans ?_
    by_cases h4 : l.val - 64 - 3 < 3
    · have e : D.lq h t l = piece (D.f t h * (1 / Real.log 2)) (l.val - 64 - 3) := by
        rw [Data.lq, dif_neg h2, if_neg (by omega), if_pos (by omega)]; rfl
      rw [e]; exact (dif_pos h4).trans (piece_v51 R h t ⟨_, h4⟩)
    refine (dif_neg h4).trans ?_
    by_cases h5 : l.val - 64 - 3 - 3 < 3
    · have e : D.lq h t l = -piece (D.lse h t) (l.val - 64 - 3 - 3) := by
        rw [Data.lq, dif_neg h2, if_neg (by omega), if_neg (by omega), if_pos (by omega)]; rfl
      rw [e]; exact (dif_pos h5).trans (piece_v64 R h t ⟨_, h5⟩)
    have e : D.lq h t l = 1 := by
      rw [Data.lq, dif_neg h2, if_neg (by omega), if_neg (by omega), if_neg (by omega), if_pos h1]
    rw [e]; refine (dif_neg h5).trans ?_
    after_reads_at; exact EReal.coe_one.symm
  · have e : D.lq h t l = 0 := by
      rw [Data.lq, dif_neg (by omega), if_neg (by omega), if_neg (by omega), if_neg (by omega), if_neg h1]
    rw [e]; exact (dif_neg h1).trans zero_word

theorem lane_v (h : Fin 8) (t : Fin 8192) (l : Fin 128) :
    @Eq EReal (V m c main_v77 (Idealize.ShloMosaic.ix3 h t l)) ((D.lv h t l : ℝ) : EReal) := by
  unfold V; after_reads_at; after_reads_at
  by_cases h1 : l.val < 67
  · refine (dif_pos h1).trans ?_
    by_cases h2 : l.val < 64
    · have e : D.lv h t l = D.v t h ⟨l.val, h2⟩ := dif_pos h2
      rw [e]; exact (dif_pos h2).trans (R.v _)
    have e : D.lv h t l = 1 := by rw [Data.lv, dif_neg h2, if_pos h1]
    rw [e]; exact (dif_neg h2).trans EReal.coe_one.symm
  · have e : D.lv h t l = 0 := by rw [Data.lv, dif_neg (by omega), if_neg h1]
    rw [e]; exact (dif_neg h1).trans zero_word

end

end Cert.Proof.Attn
-- ==== Proof.AttnSums.lean ====
/- What the products of the lanes come to: the shifted logit in powers of two, and the agreement less its mean. -/
module

public import proofs.«01_k».proof.Proof.AttnLanes

@[expose] public section

noncomputable section

namespace Cert.Proof.Attn

/-- A sum over the lanes of which those from 74 on are zero. -/
theorem sum_lanes (x : Fin 128 → ℝ) (hz : ∀ l : Fin 128, 74 ≤ l.val → x l = 0) :
    ∑ l, x l = ∑ d : Fin 64, x ⟨d.val, by omega⟩
      + (x 64 + x 65 + x 66 + x 67 + x 68 + x 69 + x 70 + x 71 + x 72 + x 73) := by
  have e : ∑ l, x l = ∑ d : Fin 64, x (Fin.castAdd 64 d) + ∑ j : Fin 64, x (Fin.natAdd 64 j) := Fin.sum_univ_add (a := 64) (b := 64) x
  have e' : ∑ j : Fin 64, x (Fin.natAdd 64 j)
      = ∑ d : Fin 10, x (Fin.natAdd 64 (Fin.castAdd 54 d)) + ∑ j : Fin 54, x (Fin.natAdd 64 (Fin.natAdd 10 j)) :=
    Fin.sum_univ_add (a := 10) (b := 54) fun j => x (Fin.natAdd 64 j)
  have z : ∑ j : Fin 54, x (Fin.natAdd 64 (Fin.natAdd 10 j)) = 0 :=
    Finset.sum_eq_zero fun j _ => hz _ (by simp only [Fin.natAdd, Fin.val_mk]; omega)
  rw [e, e', z, add_zero]
  congr 1
  simp only [Fin.sum_univ_succ, Fin.sum_univ_zero, add_zero]
  show x 64 + (x 65 + (x 66 + (x 67 + (x 68 + (x 69 + (x 70 + (x 71 + (x 72 + x 73)))))))) = _
  ring

variable (D : Data)

/-- Key lanes against query lanes. -/
theorem Data.logit_lanes (h : Fin 8) (t s : Fin 8192) :
    ∑ l, D.lk h s l * D.lq h t l = (D.score h t s - (D.top h t + Real.log (D.mass h t))) * (1 / Real.log 2) := by
  rw [sum_lanes _ fun l hl => by rw [Data.lk, dif_neg (by omega), if_neg (by omega), if_neg (by omega), zero_mul]]
  have e : ∑ d : Fin 64, D.lk h s ⟨d.val, by omega⟩ * D.lq h t ⟨d.val, by omega⟩
      = (∑ d, D.q t h d * D.k s h d) * (1 / 8) * (1 / Real.log 2) := by
    rw [Finset.sum_mul, Finset.sum_mul]
    refine Finset.sum_congr rfl fun d _ => ?_
    have e1 : D.lk h s ⟨d.val, by omega⟩ = D.k s h d := dif_pos d.isLt
    have e2 : D.lq h t ⟨d.val, by omega⟩ = D.q t h d * (1 / Real.log 2 / 8) := dif_pos d.isLt
    rw [e1, e2]; ring
  rw [e]
  simp [Data.lk, Data.lq, piece, Data.lse, Data.score]
  ring

/-- Value lanes against cotangent lanes. -/
theorem Data.agree_lanes (h : Fin 8) (t s : Fin 8192) :
    ∑ l, D.lv h s l * D.lg h t l = D.agree h t s - D.delta h t := by
  rw [sum_lanes _ fun l hl => by rw [Data.lv, dif_neg (by omega), if_neg (by omega), zero_mul]]
  have e : ∑ d : Fin 64, D.lv h s ⟨d.val, by omega⟩ * D.lg h t ⟨d.val, by omega⟩ = D.agree h t s := by
    refine Finset.sum_congr rfl fun d _ => ?_
    have e1 : D.lv h s ⟨d.val, by omega⟩ = D.v s h d := dif_pos d.isLt
    have e2 : D.lg h t ⟨d.val, by omega⟩ = D.g t h d := dif_pos d.isLt
    rw [e1, e2]; ring
  rw [e]
  simp [Data.lv, Data.lg, piece]
  ring

/-- The probability as the kernel takes it. -/
theorem Data.prob_lanes {h : Fin 8} {t s : Fin 8192} (hs : s ≤ t) :
    Real.rpow 2 (∑ l, D.lk h s l * D.lq h t l) = D.prob h t s := by
  rw [D.logit_lanes]; exact D.rpow_eq hs

end Cert.Proof.Attn
-- ==== Proof.FwdHost.lean ====
/- The lanes of the forward kernel's three arguments at finite arguments: beside each row of 64 the host puts the numbers
   that make one product give the logit in powers of two, and beside each value a one that counts. -/
module

public import proofs.«01_k».proof.Proof.Gen.FwdIdeal.Frame
public import proofs.«01_k».proof.Proof.FwdRefVal
public import proofs.«01_k».proof.Proof.AttnSums
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Fwd

open Cert.FwdIdeal Cert.FwdIdeal.Gen
open Idealize.ShloMosaic Idealize.ShloMosaic.TcCoe Idealize.SL.Sem
open Cert.Proof.Attn (Data sum_coe on3 on2 div_real zero_word sub_self_real ofBits_two ofBits_eight ideal_log ideal_one_div log_two_ne)

variable (m : (ℓ : Loc nD τ sig) → Buf (Elt Ideal) ℓ) (c : Dev nD)

/-- The queries, keys, values and decays. -/
abbrev X0 : T3 := m ((c.tc : Thread nD τ).loc main_arg0)
abbrev X1 : T3 := m ((c.tc : Thread nD τ).loc main_arg1)
abbrev X2 : T3 := m ((c.tc : Thread nD τ).loc main_arg2)
abbrev X3 : T2 := m ((c.tc : Thread nD τ).loc main_arg3)

/-- A float array of the programs. -/
abbrev A (s : Shape) : Type := FVec Ideal s .f32

/-- The lanes of a query row. -/
def lq (D : Data) (h : Fin 8) (t : Fin 8192) (l : Fin 128) : ℝ :=
  if w : l.val < 64 then D.q t h ⟨l.val, w⟩ * (1 / Real.log 2 / 8) else if l.val < 67 then 1
  else if l.val < 70 then Attn.piece (D.f t h * (1 / Real.log 2)) (l.val - 67) else 0

theorem V_v0 (i : S_.Idx) : @Eq EReal (V m c main_v0 i) ((Real.log 2 : ℝ) : EReal) := by
  have e : @Eq (A S_) (V m c main_v0) <| Host.log (constant S_ .f32 0x40000000#32) := by
    unfold V; after_reads_simp; try rfl
  rw [e]; pointwise; rw [ofBits_two, ideal_log (by norm_num)]

theorem V_v4 : @Eq (A S8x8192) (V m c main_v4) <| mulf (transpose S8x8192 [1, 0] (X3 m c) transposes_S8192x8_S8x8192_1_0) (broadcastInDim S8x8192 ![] bcast_S_S8x8192 (Host.divf (constant S_ .f32 0x3F800000#32) (V m c main_v0 : A S_))) := by
  unfold V; after_reads_simp; try rfl

/-- The host lines before the launch. -/
abbrev lines := List.flatten [hostOps0 (F := Ideal), hostOps0_1, hostOps0_2, hostOps0_3, hostOps0_4, hostOps0_5, hostOps0_6]

theorem read_v6 : @Eq (A S8x8192) (StableHlo.upto lines (fun b => m (c, b)) 13 (Proc.tc.devRef main_v6)) (V m c main_v4) := by
  unfold V; after_reads_simp; simp -implicitDefEqProofs only [Attn.wide_narrow]

theorem read_v9 : @Eq (A S8x8192) (StableHlo.upto lines (fun b => m (c, b)) 14 (Proc.tc.devRef main_v9)) (subf (V m c main_v4 : A S8x8192) (V m c main_v4 : A S8x8192)) := by
  unfold V; after_reads_simp; simp -implicitDefEqProofs only [Attn.wide_narrow]

theorem read_v10 : @Eq (A S8x8192) (StableHlo.upto lines (fun b => m (c, b)) 15 (Proc.tc.devRef main_v10)) (subf (subf (V m c main_v4 : A S8x8192) (V m c main_v4 : A S8x8192)) (subf (V m c main_v4 : A S8x8192) (V m c main_v4 : A S8x8192))) := by
  unfold V; after_reads_simp; simp -implicitDefEqProofs only [Attn.wide_narrow]

section
variable {m c} {D : Data} (R : Reads D (X0 m c) (X1 m c) (X2 m c) (X3 m c))
include R

theorem host_decay (h : Fin 8) (t : Fin 8192) :
    @Eq EReal (V m c main_v4 (Idealize.ShloMosaic.ix2 h t)) ((D.f t h * (1 / Real.log 2) : ℝ) : EReal) := by
  rw [V_v4]; pointwise
  rw [V_v0, ideal_one_div log_two_ne, R.f, ← EReal.coe_mul]; rfl

/-- The decay's three pieces, -/
theorem piece_v14 (h : Fin 8) (t : Fin 8192) (a : Fin 3) :
    @Eq EReal (StableHlo.upto lines (fun b => m (c, b)) 24 (Proc.tc.devRef main_v14) (Idealize.ShloMosaic.ix3 h t a))
      ((Attn.piece (D.f t h * (1 / Real.log 2)) a.val : ℝ) : EReal) := by
  after_reads_at
  by_cases h1 : a.val < 1
  · rw [Attn.piece, if_pos h1]
    refine (dif_pos h1).trans ((congrFun (StableHlo.unary_result _ _ _ _ _ _) _).trans ?_)
    rw [read_v6]; pointwise; exact host_decay R h t
  rw [Attn.piece, if_neg h1]
  refine (dif_neg h1).trans ?_
  by_cases h2 : a.val - 1 < 1
  · refine (dif_pos h2).trans ((congrFun (StableHlo.unary_result _ _ _ _ _ _) _).trans ?_)
    rw [read_v9]; pointwise; rw [host_decay R, sub_self_real]
  · refine (dif_neg h2).trans ((congrFun (StableHlo.unary_result _ _ _ _ _ _) _).trans ?_)
    rw [read_v10]; pointwise; rw [host_decay R, sub_self_real, sub_self_real]

/-- and their negatives. -/
theorem piece_v24 (h : Fin 8) (t : Fin 8192) (a : Fin 3) :
    @Eq EReal (StableHlo.upto lines (fun b => m (c, b)) 31 (Proc.tc.devRef main_v24) (Idealize.ShloMosaic.ix3 h t a))
      ((-Attn.piece (D.f t h * (1 / Real.log 2)) a.val : ℝ) : EReal) := by
  rw [EReal.coe_neg]
  refine Eq.trans ?_ (congrArg Neg.neg (piece_v14 R h t a))
  after_reads_at
  try rfl

theorem lane_q (h : Fin 8) (t : Fin 8192) (l : Fin 128) :
    @Eq EReal (V m c main_v22 (Idealize.ShloMosaic.ix3 h t l)) ((lq D h t l : ℝ) : EReal) := by
  unfold V; after_reads_at
  by_cases h1 : l.val < 70
  · refine (dif_pos h1).trans ?_
    by_cases h2 : l.val < 64
    · have e : lq D h t l = D.q t h ⟨l.val, h2⟩ * (1 / Real.log 2 / 8) := dif_pos h2
      rw [e]; refine (dif_pos h2).trans ?_
      after_reads_at
      rw [ofBits_two, ideal_log (by norm_num), ideal_one_div log_two_ne, ofBits_eight, div_real (by norm_num), EReal.coe_mul]
      exact congrArg (· * _) (R.q _)
    refine (dif_neg h2).trans ?_
    by_cases h3 : l.val - 64 < 3
    · have e : lq D h t l = 1 := by rw [lq, dif_neg h2, if_pos (by omega)]
      rw [e]; refine (dif_pos h3).trans ?_
      after_reads_at; exact EReal.coe_one.symm
    refine (dif_neg h3).trans ?_
    have e : lq D h t l = Attn.piece (D.f t h * (1 / Real.log 2)) (l.val - 64 - 3) := by
      rw [lq, dif_neg h2, if_neg (by omega), if_pos (by omega)]; rfl
    rw [e]; exact piece_v14 R h t ⟨_, by omega⟩
  · have e : lq D h t l = 0 := by rw [lq, dif_neg (by omega), if_neg (by omega), if_neg (by omega)]
    rw [e]; exact (dif_neg h1).trans zero_word

theorem lane_k (h : Fin 8) (t : Fin 8192) (l : Fin 128) :
    @Eq EReal (V m c main_v27 (Idealize.ShloMosaic.ix3 h t l)) ((D.lk h t l : ℝ) : EReal) := by
  unfold V; after_reads_at
  by_cases h1 : l.val < 73
  · refine (dif_pos h1).trans ?_
    by_cases h2 : l.val < 64
    · have e : D.lk h t l = D.k t h ⟨l.val, h2⟩ := dif_pos h2
      rw [e]; refine (dif_pos h2).trans ?_
      after_reads_at; exact R.k _
    refine (dif_neg h2).trans ?_
    by_cases h3 : l.val - 64 < 3
    · have e : D.lk h t l = -Attn.piece (D.f t h * (1 / Real.log 2)) (l.val - 64) := by
        rw [Data.lk, dif_neg h2, if_pos (by omega)]
      rw [e]; exact (dif_pos h3).trans (piece_v24 R h t ⟨_, h3⟩)
    have e : D.lk h t l = 1 := by rw [Data.lk, dif_neg h2, if_neg (by omega), if_pos h1]
    rw [e]; refine (dif_neg h3).trans ?_
    after_reads_at; rw [dite_eq_ite, ite_self]; exact EReal.coe_one.symm
  · have e : D.lk h t l = 0 := by rw [Data.lk, dif_neg (by omega), if_neg (by omega), if_neg h1]
    rw [e]; exact (dif_neg h1).trans zero_word

theorem lane_v (h : Fin 8) (t : Fin 8192) (l : Fin 128) :
    @Eq EReal (V m c main_v31 (Idealize.ShloMosaic.ix3 h t l)) ((D.lv h t l : ℝ) : EReal) := by
  unfold V; after_reads_at; after_reads_at
  by_cases h1 : l.val < 67
  · refine (dif_pos h1).trans ?_
    by_cases h2 : l.val < 64
    · have e : D.lv h t l = D.v t h ⟨l.val, h2⟩ := dif_pos h2
      rw [e]; exact (dif_pos h2).trans (R.v _)
    have e : D.lv h t l = 1 := by rw [Data.lv, dif_neg h2, if_pos h1]
    rw [e]; exact (dif_neg h2).trans EReal.coe_one.symm
  · have e : D.lv h t l = 0 := by rw [Data.lv, dif_neg (by omega), if_neg h1]
    rw [e]; exact (dif_neg h1).trans zero_word

end

/-- Query lanes against key lanes: the logit in powers of two. -/
theorem logit_lanes (D : Data) (h : Fin 8) (t s : Fin 8192) :
    ∑ l, lq D h t l * D.lk h s l = D.score h t s * (1 / Real.log 2) := by
  rw [Attn.sum_lanes _ fun l hl => by rw [lq, dif_neg (by omega), if_neg (by omega), if_neg (by omega), zero_mul]]
  have e : ∑ d : Fin 64, lq D h t ⟨d.val, by omega⟩ * D.lk h s ⟨d.val, by omega⟩
      = (∑ d, D.q t h d * D.k s h d) * (1 / 8) * (1 / Real.log 2) := by
    rw [Finset.sum_mul, Finset.sum_mul]
    refine Finset.sum_congr rfl fun d _ => ?_
    have e1 : D.lk h s ⟨d.val, by omega⟩ = D.k s h d := dif_pos d.isLt
    have e2 : lq D h t ⟨d.val, by omega⟩ = D.q t h d * (1 / Real.log 2 / 8) := dif_pos d.isLt
    rw [e1, e2]; ring
  rw [e]
  simp [Data.lk, lq, Attn.piece, Data.score]
  ring

end Cert.Proof.Fwd
-- ==== Proof.FwdLoops.lean ====
/- Attention's forward kernel: one query block's sweep over the key blocks up to its own, as a recursion on pure
   values, and the kernel's counted loops by it. The state carried is the pair of the rows' running maxima and the
   accumulator. -/
module

public import proofs.«01_k».proof.Proof.Gen.FwdIdeal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Proof.Fwd

open Cert.FwdIdeal Cert.FwdIdeal.Gen
open Idealize.ShloMosaic Idealize.ShloMosaic.TcCoe Idealize.ShloMosaic.Tactic
open Idealize.SL.Sem

/-- The groups of four key blocks before query block `qi`, the pair and the one left over. -/
theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 / 2 := by decide +kernel
theorem trips4 : ∀ i : grid0.Coords, (k0_t4_loop i).trips = 0 := by decide +kernel
theorem trips5 : ∀ i : grid0.Coords, (k0_t5_loop i).trips = (i 1).val % 2 := by decide +kernel
theorem trips6 : ∀ i : grid0.Coords, (k0_t6_loop i).trips = 0 := by decide +kernel

/-- Where the loops' accesses are: the block's rows. -/
theorem off1_eq : ∀ (i : grid0.Coords) (t : Fin (k0_t1_loop i).trips) (g : Fin 4),
    k0_off1 i t (BitVec.ofNat 32 g.val) = ![0, (Fin.ofNat 16 (4 * t.val + g.val)).val * 512, 0] := by decide +kernel
theorem off3_eq : ∀ (i : grid0.Coords) (t : Fin (k0_t3_loop i).trips) (g : Fin 2),
    k0_off3 i t (BitVec.ofNat 32 g.val) = ![0, (Fin.ofNat 16 (4 * ((i 1).val / 4) + (2 * t.val + g.val))).val * 512, 0] := by decide +kernel
theorem off5_eq : ∀ (i : grid0.Coords) (t : Fin (k0_t5_loop i).trips),
    k0_off5 i t = ![0, (Fin.ofNat 16 (4 * ((i 1).val / 4) + 2 * ((i 1).val % 4 / 2) + t.val)).val * 512, 0] := by decide +kernel
theorem off7_eq : ∀ i : grid0.Coords, k0_off7 i = ![0, (i 1).val * 512, 0] := by decide +kernel

variable {F : FTy → Type} [FloatOps F] [Named F]

/-- The rows' running maxima and the accumulator. -/
abbrev State (F : FTy → Type) [FloatOps F] : Type := FVec F S512x1 .f32 × FVec F S512x128 .f32

theorem rows_inb (r : Fin 16) : ∀ a, (![0, r.val * 512, 0] : Fin 3 → ℕ) a + S1x512x128.size a ≤ S1x8192x128.size a := by
  revert r; decide +kernel

/-- Row block `r` of a head. -/
def rows (x : Vec F S1x8192x128 .bf16) (r : Fin 16) : Vec F S1x512x128 .bf16 :=
  VecWindow.window (s := S1x8192x128) x ![0, r.val * 512, 0] S1x512x128.size (rows_inb r)

/-- One key block before the query block. -/
def step (x1 x2 : Vec F S1x8192x128 .bf16) (v1 : FVec F S512x128 .bf16) (r : Fin 16) (s : State F) : State F :=
  (k0_pay3 v1 s.1 (rows x1 r), k0_pay4 v1 s.1 s.2 (rows x1 r) (rows x2 r))

/-- The first `n` key blocks from block `r0` on. -/
def steps (x1 x2 : Vec F S1x8192x128 .bf16) (v1 : FVec F S512x128 .bf16) (r0 : ℕ) (s : State F) : ℕ → State F
  | 0 => s
  | n + 1 => step x1 x2 v1 (Fin.ofNat 16 (r0 + n)) (steps x1 x2 v1 r0 s n)

theorem steps_add (x1 x2 : Vec F S1x8192x128 .bf16) (v1 : FVec F S512x128 .bf16) (r0 : ℕ) (s : State F) (a b : ℕ) :
    steps x1 x2 v1 r0 s (a + b) = steps x1 x2 v1 (r0 + a) (steps x1 x2 v1 r0 s a) b := by
  induction b with
  | zero => rfl
  | succ b ih => rw [← Nat.add_assoc, steps, ih, steps, Nat.add_assoc]

/-- A load of row block `r` through a head's memref. -/
theorem readAt_rows (m : Memref sig .tc .vmem S1x8192x128 .bf16) (f : BufTy.Contents (Elt F) m.view.ty) {off : Fin 3 → ℕ}
    (inb : ∀ a, off a + S1x512x128.size a ≤ S1x8192x128.size a) (r : Fin 16) (h : off = ![0, r.val * 512, 0]) :
    m.view.readAt (Elt F) (Rect.unit (s := S1x8192x128) off S1x512x128.size inb).toLoadRect f = rows (m.view.read (Elt F) f) r :=
  View.readAt_unit m.view f inb h (rows_inb r)

section Loops

variable (𝒱 : Variants) (c : Dev nD) (bd : Option 𝒱.V) (i : grid0.Coords)
  (arg2 : Memref sig .tc .vmem S1x512x128 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x512x128 .bf16) (harg5 : arg5.IsWhole)
  (arg6 : Memref sig .tc .vmem S1x512x128 .bf16) (harg6 : arg6.IsWhole)
  (X3 : BufTy.Contents (Elt F) arg3.view.ty) (X4 : BufTy.Contents (Elt F) arg4.view.ty)

theorem readAt_rows' (m : Memref sig .tc .vmem S1x8192x128 .bf16) (f : BufTy.Contents (Elt F) m.view.ty) {off : Fin 3 → ℕ}
    (inb : ∀ a, off a + (![1, 512, 128] : Fin 3 → ℕ) a ≤ S1x8192x128.size a) (r : Fin 16) (h : off = ![0, r.val * 512, 0]) :
    m.view.readAt (Elt F) (Rect.unit (s := S1x8192x128) off ![1, 512, 128] inb).toLoadRect f = rows (m.view.read (Elt F) f) r :=
  readAt_rows m f inb r h

theorem off1_inb (k : Fin (k0_t1_loop i).trips) (g : Fin 4) : ∀ a, k0_off1 i k (BitVec.ofNat 32 g.val) a + (![1, 512, 128] : Fin 3 → ℕ) a ≤ S1x8192x128.size a := by
  rw [off1_eq]; exact rows_inb _
theorem off3_inb (k : Fin (k0_t3_loop i).trips) (g : Fin 2) : ∀ a, k0_off3 i k (BitVec.ofNat 32 g.val) a + (![1, 512, 128] : Fin 3 → ℕ) a ≤ S1x8192x128.size a := by
  rw [off3_eq]; exact rows_inb _

section Group

variable (v0 : Vec F S1x512x128 .bf16) (k : Fin (k0_t1_loop i).trips) (s : State F)

theorem t1a : trip_k0_t1.sl.v165 (F := F) i arg3 v0 X3 k s
    = k0_pay3 (k0_pay34 v0) s.1 (rows (arg3.view.read (Elt F) X3) (Fin.ofNat 16 (4 * k.val + (0 : Fin 4).val))) := by
  rw [← readAt_rows' arg3 X3 (off1_inb i k 0) _ (off1_eq i k 0)]; rfl
theorem t1b : trip_k0_t1.sl.v178 (F := F) i arg3 arg4 v0 X3 X4 k s
    = k0_pay4 (k0_pay34 v0) s.1 s.2 (rows (arg3.view.read (Elt F) X3) (Fin.ofNat 16 (4 * k.val + (0 : Fin 4).val))) (rows (arg4.view.read (Elt F) X4) (Fin.ofNat 16 (4 * k.val + (0 : Fin 4).val))) := by
  rw [← readAt_rows' arg3 X3 (off1_inb i k 0) _ (off1_eq i k 0), ← readAt_rows' arg4 X4 (off1_inb i k 0) _ (off1_eq i k 0)]; rfl
theorem t1c : trip_k0_t1.sl.v190 (F := F) i arg3 v0 X3 k s
    = k0_pay3 (k0_pay34 v0) (trip_k0_t1.sl.v165 (F := F) i arg3 v0 X3 k s) (rows (arg3.view.read (Elt F) X3) (Fin.ofNat 16 (4 * k.val + (1 : Fin 4).val))) := by
  rw [← readAt_rows' arg3 X3 (off1_inb i k 1) _ (off1_eq i k 1)]; rfl
theorem t1d : trip_k0_t1.sl.v203 (F := F) i arg3 arg4 v0 X3 X4 k s
    = k0_pay4 (k0_pay34 v0) (trip_k0_t1.sl.v165 (F := F) i arg3 v0 X3 k s) (trip_k0_t1.sl.v178 (F := F) i arg3 arg4 v0 X3 X4 k s) (rows (arg3.view.read (Elt F) X3) (Fin.ofNat 16 (4 * k.val + (1 : Fin 4).val))) (rows (arg4.view.read (Elt F) X4) (Fin.ofNat 16 (4 * k.val + (1 : Fin 4).val))) := by
  rw [← readAt_rows' arg3 X3 (off1_inb i k 1) _ (off1_eq i k 1), ← readAt_rows' arg4 X4 (off1_inb i k 1) _ (off1_eq i k 1)]; rfl
theorem t1e : trip_k0_t1.sl.v215 (F := F) i arg3 v0 X3 k s
    = k0_pay3 (k0_pay34 v0) (trip_k0_t1.sl.v190 (F := F) i arg3 v0 X3 k s) (rows (arg3.view.read (Elt F) X3) (Fin.ofNat 16 (4 * k.val + (2 : Fin 4).val))) := by
  rw [← readAt_rows' arg3 X3 (off1_inb i k 2) _ (off1_eq i k 2)]; rfl
theorem t1f : trip_k0_t1.sl.v228 (F := F) i arg3 arg4 v0 X3 X4 k s
    = k0_pay4 (k0_pay34 v0) (trip_k0_t1.sl.v190 (F := F) i arg3 v0 X3 k s) (trip_k0_t1.sl.v203 (F := F) i arg3 arg4 v0 X3 X4 k s) (rows (arg3.view.read (Elt F) X3) (Fin.ofNat 16 (4 * k.val + (2 : Fin 4).val))) (rows (arg4.view.read (Elt F) X4) (Fin.ofNat 16 (4 * k.val + (2 : Fin 4).val))) := by
  rw [← readAt_rows' arg3 X3 (off1_inb i k 2) _ (off1_eq i k 2), ← readAt_rows' arg4 X4 (off1_inb i k 2) _ (off1_eq i k 2)]; rfl

end Group

section Pair

variable (v1 : FVec F S512x128 .bf16) (k : Fin (k0_t3_loop i).trips) (s : State F)

theorem t3a : trip_k0_t3.sl.v165 (F := F) i arg3 v1 X3 k s
    = k0_pay3 v1 s.1 (rows (arg3.view.read (Elt F) X3) (Fin.ofNat 16 (4 * ((i 1).val / 4) + (2 * k.val + (0 : Fin 2).val)))) := by
  rw [← readAt_rows' arg3 X3 (off3_inb i k 0) _ (off3_eq i k 0)]; rfl
theorem t3b : trip_k0_t3.sl.v178 (F := F) i arg3 arg4 v1 X3 X4 k s
    = k0_pay4 v1 s.1 s.2 (rows (arg3.view.read (Elt F) X3) (Fin.ofNat 16 (4 * ((i 1).val / 4) + (2 * k.val + (0 : Fin 2).val)))) (rows (arg4.view.read (Elt F) X4) (Fin.ofNat 16 (4 * ((i 1).val / 4) + (2 * k.val + (0 : Fin 2).val)))) := by
  rw [← readAt_rows' arg3 X3 (off3_inb i k 0) _ (off3_eq i k 0), ← readAt_rows' arg4 X4 (off3_inb i k 0) _ (off3_eq i k 0)]; rfl
theorem t3c : trip_k0_t3.sl.v190 (F := F) i arg3 v1 X3 k s
    = k0_pay3 v1 (trip_k0_t3.sl.v165 (F := F) i arg3 v1 X3 k s) (rows (arg3.view.read (Elt F) X3) (Fin.ofNat 16 (4 * ((i 1).val / 4) + (2 * k.val + (1 : Fin 2).val)))) := by
  rw [← readAt_rows' arg3 X3 (off3_inb i k 1) _ (off3_eq i k 1)]; rfl
theorem t3d (x : Vec F S1x512x128 .bf16) : k0_pay43 (trip_k0_t3.sl.v178 (F := F) i arg3 arg4 v1 X3 X4 k s) (trip_k0_t3.sl.v194 i arg3 v1 X3 k s) (trip_k0_t3.sl.v195 i arg3 v1 X3 k s) x
    = k0_pay4 v1 (trip_k0_t3.sl.v165 (F := F) i arg3 v1 X3 k s) (trip_k0_t3.sl.v178 (F := F) i arg3 arg4 v1 X3 X4 k s) (rows (arg3.view.read (Elt F) X3) (Fin.ofNat 16 (4 * ((i 1).val / 4) + (2 * k.val + (1 : Fin 2).val)))) x := by
  rw [← readAt_rows' arg3 X3 (off3_inb i k 1) _ (off3_eq i k 1)]; rfl

end Pair

theorem trip1 (v0 : Vec F S1x512x128 .bf16) (k : Fin (k0_t1_loop i).trips) (s : State F) :
    tripR_k0_t1 (F := F) 𝒱 c bd i arg2 harg2 arg3 harg3 arg4 harg4 arg5 harg5 arg6 harg6 v0 X3 X4 k s
      = steps (arg3.view.read (Elt F) X3) (arg4.view.read (Elt F) X4) (k0_pay34 v0) (4 * k.val) s 4 := by
  unfold tripR_k0_t1 trip_k0_t1
  dsimp only
  rw [t1e, t1f, t1c, t1d, t1a, t1b]
  have o : k0_off1 i k 3#32 = ![0, (Fin.ofNat 16 (4 * k.val + 3)).val * 512, 0] := off1_eq i k 3
  simp only [readAt_rows' arg3 X3 _ _ o, readAt_rows' arg4 X4 _ _ o]
  rfl

theorem trip3 (arg1 : BitVec 32) (v1 : FVec F S512x128 .bf16) (w0 : FVec F S512x1 .f32) (w1 : FVec F S512x128 .f32) (a b d e f : BitVec 32) (g : BitVec 1)
    (k : Fin (k0_t3_loop i).trips) (s : State F) :
    tripR_k0_t3 (F := F) 𝒱 c bd i arg2 harg2 arg3 harg3 arg4 harg4 arg5 harg5 arg6 harg6 arg1 v1 w0 w1 a b d e f g X3 X4 k s
      = steps (arg3.view.read (Elt F) X3) (arg4.view.read (Elt F) X4) v1 (4 * ((i 1).val / 4) + 2 * k.val) s 2 := by
  unfold tripR_k0_t3 trip_k0_t3
  dsimp only
  have o : k0_off3 i k 1#32 = ![0, (Fin.ofNat 16 (4 * ((i 1).val / 4) + (2 * k.val + 1))).val * 512, 0] := off3_eq i k 1
  simp only [readAt_rows' arg4 X4 _ _ o]
  rw [t3d, t3c, t3a, t3b]
  simp only [← Nat.add_assoc, steps]
  rfl

theorem trip5 (arg1 : BitVec 32) (v1 : FVec F S512x128 .bf16) (w0 : FVec F S512x1 .f32) (w1 : FVec F S512x128 .f32) (a b d e : BitVec 32)
    (k : Fin (k0_t5_loop i).trips) (s : State F) :
    tripR_k0_t5 (F := F) 𝒱 c bd i arg2 harg2 arg3 harg3 arg4 harg4 arg5 harg5 arg6 harg6 arg1 v1 w0 w1 a b d e X3 X4 k s
      = steps (arg3.view.read (Elt F) X3) (arg4.view.read (Elt F) X4) v1 (4 * ((i 1).val / 4) + 2 * ((i 1).val % 4 / 2) + k.val) s 1 := by
  unfold tripR_k0_t5 trip_k0_t5
  dsimp only
  have o := off5_eq i k
  simp only [readAt_rows' arg3 X3 _ _ o, readAt_rows' arg4 X4 _ _ o]
  rfl

/-- The loop of groups of four, -/
theorem loop1 (v0 : Vec F S1x512x128 .bf16) (s : State F) : ∀ n, n ≤ (k0_t1_loop i).trips →
    st_k0_t1 (F := F) 𝒱 c bd i arg2 harg2 arg3 harg3 arg4 harg4 arg5 harg5 arg6 harg6 v0 X3 X4 s n
      = steps (arg3.view.read (Elt F) X3) (arg4.view.read (Elt F) X4) (k0_pay34 v0) 0 s (4 * n)
  | 0, _ => rfl
  | n + 1, hn => by
    rw [st_k0_t1_succ (F := F) 𝒱 c bd i arg2 harg2 arg3 harg3 arg4 harg4 arg5 harg5 arg6 harg6 v0 X3 X4 s ⟨n, hn⟩, trip1,
      loop1 v0 s n (Nat.le_of_succ_le hn), Nat.mul_add, Nat.mul_one, steps_add, Nat.zero_add]

/-- the pair -/
theorem loop3 (arg1 : BitVec 32) (v1 : FVec F S512x128 .bf16) (w0 : FVec F S512x1 .f32) (w1 : FVec F S512x128 .f32) (a b d e f : BitVec 32) (g : BitVec 1)
    (s : State F) : ∀ n, n ≤ (k0_t3_loop i).trips →
    st_k0_t3 (F := F) 𝒱 c bd i arg2 harg2 arg3 harg3 arg4 harg4 arg5 harg5 arg6 harg6 arg1 v1 w0 w1 a b d e f g X3 X4 s n
      = steps (arg3.view.read (Elt F) X3) (arg4.view.read (Elt F) X4) v1 (4 * ((i 1).val / 4)) s (2 * n)
  | 0, _ => rfl
  | n + 1, hn => by
    rw [st_k0_t3_succ (F := F) 𝒱 c bd i arg2 harg2 arg3 harg3 arg4 harg4 arg5 harg5 arg6 harg6 arg1 v1 w0 w1 a b d e f g X3 X4 s ⟨n, hn⟩, trip3,
      loop3 arg1 v1 w0 w1 a b d e f g s n (Nat.le_of_succ_le hn), Nat.mul_add, Nat.mul_one, steps_add]

/-- and the block left over. -/
theorem loop5 (arg1 : BitVec 32) (v1 : FVec F S512x128 .bf16) (w0 : FVec F S512x1 .f32) (w1 : FVec F S512x128 .f32) (a b d e : BitVec 32)
    (s : State F) : ∀ n, n ≤ (k0_t5_loop i).trips →
    st_k0_t5 (F := F) 𝒱 c bd i arg2 harg2 arg3 harg3 arg4 harg4 arg5 harg5 arg6 harg6 arg1 v1 w0 w1 a b d e X3 X4 s n
      = steps (arg3.view.read (Elt F) X3) (arg4.view.read (Elt F) X4) v1 (4 * ((i 1).val / 4) + 2 * ((i 1).val % 4 / 2)) s n
  | 0, _ => rfl
  | n + 1, hn => by
    rw [st_k0_t5_succ (F := F) 𝒱 c bd i arg2 harg2 arg3 harg3 arg4 harg4 arg5 harg5 arg6 harg6 arg1 v1 w0 w1 a b d e X3 X4 s ⟨n, hn⟩, trip5,
      loop5 arg1 v1 w0 w1 a b d e s n (Nat.le_of_succ_le hn), steps_add]

/-- Each loop when it ends; the remainder loops never run. -/
theorem end1 (v0 : Vec F S1x512x128 .bf16) (s : State F) (n : ℕ) (hn : n = (k0_t1_loop i).trips) :
    st_k0_t1 (F := F) 𝒱 c bd i arg2 harg2 arg3 harg3 arg4 harg4 arg5 harg5 arg6 harg6 v0 X3 X4 s n = steps (arg3.view.read (Elt F) X3) (arg4.view.read (Elt F) X4) (k0_pay34 v0) 0 s (4 * ((i 1).val / 4)) := by
  subst hn; rw [loop1 _ _ _ _ _ _ _ _ _ _ _ _ _ _ _ _ _ _ _ le_rfl, trips1]
theorem end2 (v0 : Vec F S1x512x128 .bf16) (a : BitVec 32) (s : State F) (n : ℕ) (hn : n = (k0_t2_loop i).trips) : st_k0_t2 (F := F) 𝒱 c bd i arg2 harg2 arg3 harg3 arg4 harg4 arg5 harg5 arg6 harg6 v0 a X3 X4 s n = s := by
  subst hn; rw [trips2]; rfl
theorem end3 (arg1 : BitVec 32) (v1 : FVec F S512x128 .bf16) (w0 : FVec F S512x1 .f32) (w1 : FVec F S512x128 .f32) (a b d e f : BitVec 32) (g : BitVec 1) (s : State F) (n : ℕ) (hn : n = (k0_t3_loop i).trips) :
    st_k0_t3 (F := F) 𝒱 c bd i arg2 harg2 arg3 harg3 arg4 harg4 arg5 harg5 arg6 harg6 arg1 v1 w0 w1 a b d e f g X3 X4 s n = steps (arg3.view.read (Elt F) X3) (arg4.view.read (Elt F) X4) v1 (4 * ((i 1).val / 4)) s (2 * ((i 1).val % 4 / 2)) := by
  subst hn; rw [loop3 _ _ _ _ _ _ _ _ _ _ _ _ _ _ _ _ _ _ _ _ _ _ _ _ _ _ _ _ le_rfl, trips3]
theorem end4 (arg1 : BitVec 32) (v1 : FVec F S512x128 .bf16) (w0 : FVec F S512x1 .f32) (w1 : FVec F S512x128 .f32) (a b d e f : BitVec 32) (g : BitVec 1) (j : BitVec 32) (s : State F) (n : ℕ) (hn : n = (k0_t4_loop i).trips) : st_k0_t4 (F := F) 𝒱 c bd i arg2 harg2 arg3 harg3 arg4 harg4 arg5 harg5 arg6 harg6 arg1 v1 w0 w1 a b d e f g j X3 X4 s n = s := by
  subst hn; rw [trips4]; rfl
theorem end5 (arg1 : BitVec 32) (v1 : FVec F S512x128 .bf16) (w0 : FVec F S512x1 .f32) (w1 : FVec F S512x128 .f32) (a b d e : BitVec 32) (s : State F) (n : ℕ) (hn : n = (k0_t5_loop i).trips) :
    st_k0_t5 (F := F) 𝒱 c bd i arg2 harg2 arg3 harg3 arg4 harg4 arg5 harg5 arg6 harg6 arg1 v1 w0 w1 a b d e X3 X4 s n = steps (arg3.view.read (Elt F) X3) (arg4.view.read (Elt F) X4) v1 (4 * ((i 1).val / 4) + 2 * ((i 1).val % 4 / 2)) s ((i 1).val % 2) := by
  subst hn; rw [loop5 _ _ _ _ _ _ _ _ _ _ _ _ _ _ _ _ _ _ _ _ _ _ _ _ _ _ le_rfl, trips5]
theorem end6 (arg1 : BitVec 32) (v1 : FVec F S512x128 .bf16) (w0 : FVec F S512x1 .f32) (w1 : FVec F S512x128 .f32) (a b d e : BitVec 32) (s : State F) (n : ℕ) (hn : n = (k0_t6_loop i).trips) : st_k0_t6 (F := F) 𝒱 c bd i arg2 harg2 arg3 harg3 arg4 harg4 arg5 harg5 arg6 harg6 arg1 v1 w0 w1 a b d e X3 X4 s n = s := by
  subst hn; rw [trips6]; rfl

/-- The sweep over the key blocks before the query block. -/
def sweep (x1 x2 : Vec F S1x8192x128 .bf16) (v1 : FVec F S512x128 .bf16) (q : ℕ) : State F :=
  steps x1 x2 v1 0 (k0_pay35, k0_pay36) q

variable (x0 : Vec F S1x512x128 .bf16) (x1 x2 : Vec F S1x8192x128 .bf16)

/-- The three loops one after another are the sweep. -/
theorem sweep_eq (v1 : FVec F S512x128 .bf16) (q : ℕ) :
    steps x1 x2 v1 (4 * (q / 4) + 2 * (q % 4 / 2)) (steps x1 x2 v1 (4 * (q / 4)) (steps x1 x2 v1 0 (k0_pay35, k0_pay36) (4 * (q / 4))) (2 * (q % 4 / 2))) (q % 2)
      = sweep x1 x2 v1 q := by
  have h := steps_add x1 x2 v1 0 (k0_pay35, k0_pay36) (4 * (q / 4)) (2 * (q % 4 / 2))
  rw [Nat.zero_add] at h
  have h' := steps_add x1 x2 v1 0 (k0_pay35, k0_pay36) (4 * (q / 4) + 2 * (q % 4 / 2)) (q % 2)
  rw [Nat.zero_add] at h'
  rw [← h, ← h', sweep]
  exact congrArg _ (by omega)

/-- A load of the query block's own rows, as the run leaves it. -/
theorem ld_rows (x : Vec F S1x8192x128 .bf16) (inb : ∀ a, k0_off7 i a + (![1, 512, 128] : Fin 3 → ℕ) a ≤ S1x8192x128.size a) :
    View.ld (Val := Elt F) (S := S1x8192x128) (e' := .bf16) x (Rect.unit (s := S1x8192x128) (k0_off7 i) ![1, 512, 128] inb) = rows x (i 1) := by
  unfold rows VecWindow.window
  funext y
  have h := off7_eq i
  revert inb
  rw [h]
  intro inb y
  rfl

theorem out3_eq : out0_A_3 (F := F) c i arg2 harg2 arg3 harg3 arg4 harg4 arg5 harg5 arg6 harg6 x0 x1 x2
    = k0_pay55 (k0_pay34 x0) (sweep x1 x2 (k0_pay34 x0) (i 1).val).1 (sweep x1 x2 (k0_pay34 x0) (i 1).val).2 (rows x1 (i 1)) (rows x2 (i 1)) := by
  frame_out
  have r3 : arg3.view.read (Elt F) (harg3.unread x1) = x1 := harg3.read_unread x1
  have r4 : arg4.view.read (Elt F) (harg4.unread x2) = x2 := harg4.read_unread x2
  rw [end6 (hn := rfl), end5 (hn := rfl), end4 (hn := rfl), end3 (hn := rfl), end2 (hn := rfl), end1 (hn := rfl), r3, r4]
  simp only [Prod.mk.eta, sweep_eq, ld_rows]

theorem out4_eq : out0_A_4 (F := F) c i arg2 harg2 arg3 harg3 arg4 harg4 arg5 harg5 arg6 harg6 x0 x1 x2
    = k0_pay1 (k0_pay52 (k0_pay34 x0) (sweep x1 x2 (k0_pay34 x0) (i 1).val).1 (rows x1 (i 1)))
        (iota .tc S512x128 32 [1] iota_S512x128_d1_w32) (k0_pay56 (k0_pay34 x0))
        (k0_pay57 (k0_pay34 x0) (sweep x1 x2 (k0_pay34 x0) (i 1).val).1 (sweep x1 x2 (k0_pay34 x0) (i 1).val).2 (rows x1 (i 1)) (rows x2 (i 1))) := by
  frame_out
  have r3 : arg3.view.read (Elt F) (harg3.unread x1) = x1 := harg3.read_unread x1
  have r4 : arg4.view.read (Elt F) (harg4.unread x2) = x2 := harg4.read_unread x2
  rw [end6 (hn := rfl), end5 (hn := rfl), end4 (hn := rfl), end3 (hn := rfl), end2 (hn := rfl), end1 (hn := rfl), r3, r4]
  simp only [Prod.mk.eta, sweep_eq, ld_rows]

end Loops

end Cert.Proof.Fwd
-- ==== Proof.FwdTile.lean ====
/- One key block against one query block of attention's forward kernel: what its payloads hold at a row. -/
module

public import proofs.«01_k».proof.Proof.FwdLoops
public import proofs.«01_k».proof.Proof.FwdSoft
public import Idealize.ShloMosaic.Lib.Pointwise

@[expose] public section

set_option maxRecDepth 16384

noncomputable section

namespace Cert.Proof.Fwd

open Cert.FwdIdeal Cert.FwdIdeal.Gen
open Idealize.ShloMosaic Idealize.ShloMosaic.TcCoe Idealize.SL.Sem
open Cert.Proof.Attn (Data sum_coe)

/-- The token of lane `j` of row block `r`. -/
def tok (r : Fin 16) (j : Fin 512) : Fin 8192 := ⟨r.val * 512 + j.val, by omega⟩

/-- A loaded block, a block without its leading axis and a head hold reals. -/
def Tile (x : S1x512x128.Idx → EReal) (X : Fin 512 → Fin 128 → ℝ) : Prop :=
  ∀ j l, x (Idealize.ShloMosaic.ix3 0 j l) = ((X j l : ℝ) : EReal)
def Flat (x : S512x128.Idx → EReal) (X : Fin 512 → Fin 128 → ℝ) : Prop :=
  ∀ j l, x (Idealize.ShloMosaic.ix2 j l) = ((X j l : ℝ) : EReal)
def Head (x : S1x8192x128.Idx → EReal) (X : Fin 8192 → Fin 128 → ℝ) : Prop :=
  ∀ j l, x (Idealize.ShloMosaic.ix3 0 j l) = ((X j l : ℝ) : EReal)

section
variable {v1 : FVec Ideal S512x128 .bf16} {x1 x2 : FVec Ideal S1x512x128 .bf16} {Q K V : Fin 512 → Fin 128 → ℝ}
  {mx : FVec Ideal S512x1 .f32} {acc : FVec Ideal S512x128 .f32}

theorem pay34_at {x0 : FVec Ideal S1x512x128 .bf16} (hq : Tile x0 Q) : Flat (k0_pay34 (F := Ideal) x0) Q := by
  intro a l; unfold k0_pay34; pointwise; exact hq a l

theorem pay2_at (hq : Flat v1 Q) (hk : Tile x1 K) (a j : Fin 512) :
    k0_pay2 (F := Ideal) v1 x1 (Idealize.ShloMosaic.ix2 a j) = ((∑ l, Q a l * K j l : ℝ) : EReal) := by
  unfold k0_pay2
  pointwise
  simp only [hk _ _, hq _ _, ← EReal.coe_mul, sum_coe]

theorem pay3_at (a : Fin 512) :
    k0_pay3 (F := Ideal) v1 mx x1 (Idealize.ShloMosaic.ix2 a 0)
      = max (mx (Idealize.ShloMosaic.ix2 a 0)) (Finset.univ.fold max ⊥ fun j : Fin 512 => k0_pay2 (F := Ideal) v1 x1 (Idealize.ShloMosaic.ix2 a j)) := by
  unfold k0_pay3
  pointwise
  rw [Attn.ofBits_bot]

theorem pay4_at (a : Fin 512) (l : Fin 128) :
    k0_pay4 (F := Ideal) v1 mx acc x1 x2 (Idealize.ShloMosaic.ix2 a l)
      = Ideal.exp2 (mx (Idealize.ShloMosaic.ix2 a 0) - k0_pay3 (F := Ideal) v1 mx x1 (Idealize.ShloMosaic.ix2 a 0)) * acc (Idealize.ShloMosaic.ix2 a l)
        + ∑ j : Fin 512, Ideal.exp2 (k0_pay2 (F := Ideal) v1 x1 (Idealize.ShloMosaic.ix2 a j) - k0_pay3 (F := Ideal) v1 mx x1 (Idealize.ShloMosaic.ix2 a 0)) * x2 (Idealize.ShloMosaic.ix3 0 j l) := by
  unfold k0_pay4
  pointwise
  rfl

theorem pay35_at (a : Fin 512) : @Eq EReal (k0_pay35 (F := Ideal) (Idealize.ShloMosaic.ix2 a 0)) ⊥ := by
  unfold k0_pay35
  pointwise
  rfl

theorem pay36_at (a : Fin 512) (l : Fin 128) : @Eq EReal (k0_pay36 (F := Ideal) (Idealize.ShloMosaic.ix2 a l)) 0 := by
  unfold k0_pay36
  pointwise

/-- The query block's own keys: those after the query count nothing. -/
theorem pay51_at (hq : Flat v1 Q) (hk : Tile x1 K) (a j : Fin 512) :
    @Eq EReal (k0_pay51 (F := Ideal) v1 x1 (Idealize.ShloMosaic.ix2 a j)) (if j ≤ a then ((∑ l, Q a l * K j l : ℝ) : EReal) else ⊥) := by
  unfold k0_pay51
  pointwise
  simp only [hk _ _, hq _ _, ← EReal.coe_mul, sum_coe]
  have e : ∀ n : ℕ, n < 512 → (BitVec.ofNat 32 n).toInt = n := fun n hn => by
    rw [BitVec.toInt_eq_toNat_of_lt] <;> simp only [BitVec.toNat_ofNat] <;> omega
  have hc : IntOp.cmpi CmpIPredicate.sle (BitVec.ofNat 32 j.val) (BitVec.ofNat 32 a.val) = 1#1 ↔ j ≤ a := by
    rw [IntOp.cmpi_sle, e _ a.isLt, e _ j.isLt, Fin.le_def]; omega
  by_cases h : j ≤ a
  · rw [if_pos h]; exact if_pos (hc.mpr h)
  · rw [if_neg h]; exact if_neg fun w => h (hc.mp w)

theorem pay52_at (a : Fin 512) :
    k0_pay52 (F := Ideal) v1 mx x1 (Idealize.ShloMosaic.ix2 a 0)
      = max (mx (Idealize.ShloMosaic.ix2 a 0)) (Finset.univ.fold max ⊥ fun j : Fin 512 => k0_pay51 (F := Ideal) v1 x1 (Idealize.ShloMosaic.ix2 a j)) := by
  unfold k0_pay52
  pointwise
  rw [Attn.ofBits_bot]

theorem pay53_at (a : Fin 512) (l : Fin 128) :
    k0_pay53 (F := Ideal) v1 mx acc x1 x2 (Idealize.ShloMosaic.ix2 a l)
      = Ideal.exp2 (mx (Idealize.ShloMosaic.ix2 a 0) - k0_pay52 (F := Ideal) v1 mx x1 (Idealize.ShloMosaic.ix2 a 0)) * acc (Idealize.ShloMosaic.ix2 a l)
        + ∑ j : Fin 512, Ideal.exp2 (k0_pay51 (F := Ideal) v1 x1 (Idealize.ShloMosaic.ix2 a j) - k0_pay52 (F := Ideal) v1 mx x1 (Idealize.ShloMosaic.ix2 a 0)) * x2 (Idealize.ShloMosaic.ix3 0 j l) := by
  unfold k0_pay53
  pointwise
  rfl

theorem pay54_at (a : Fin 512) :
    k0_pay54 (F := Ideal) v1 mx acc x1 x2 (Idealize.ShloMosaic.ix2 a 0) = k0_pay53 (F := Ideal) v1 mx acc x1 x2 (Idealize.ShloMosaic.ix2 a 64) := by
  unfold k0_pay54
  pointwise

theorem pay55_at (a : Fin 512) (l : Fin 128) :
    k0_pay55 (F := Ideal) v1 mx acc x1 x2 (Idealize.ShloMosaic.ix3 0 a l)
      = Ideal.div (k0_pay53 (F := Ideal) v1 mx acc x1 x2 (Idealize.ShloMosaic.ix2 a l)) (k0_pay53 (F := Ideal) v1 mx acc x1 x2 (Idealize.ShloMosaic.ix2 a 64)) := by
  rw [← pay54_at]
  unfold k0_pay55
  pointwise

theorem pay57_at (a : Fin 512) :
    @Eq EReal (k0_pay57 (F := Ideal) v1 mx acc x1 x2 (Idealize.ShloMosaic.ix2 a 0))
      (Ideal.log (k0_pay53 (F := Ideal) v1 mx acc x1 x2 (Idealize.ShloMosaic.ix2 a 64)) * (((Real.log 2)⁻¹ : ℝ) : EReal)) := by
  rw [← pay54_at]
  unfold k0_pay57
  pointwise
  rfl

/-- The three lanes that carry the row's logarithm. -/
theorem pay1_at {v96 : FVec Ideal S512x1 .f32} {v118 : FVec Ideal S512x128 .f32} {v121 : FVec Ideal S512x1 .f32} (a : Fin 512) {r : ℝ}
    (h : @Eq EReal (v96 (Idealize.ShloMosaic.ix2 a 0) + v121 (Idealize.ShloMosaic.ix2 a 0)) (r : EReal)) :
    @Eq EReal (k0_pay1 (F := Ideal) v96 (iota .tc S512x128 32 [1] iota_S512x128_d1_w32) v118 v121 (Idealize.ShloMosaic.ix3 0 a 70)) ((-r : ℝ) : EReal)
    ∧ @Eq EReal (k0_pay1 (F := Ideal) v96 (iota .tc S512x128 32 [1] iota_S512x128_d1_w32) v118 v121 (Idealize.ShloMosaic.ix3 0 a 71)) ((0 : ℝ) : EReal)
    ∧ @Eq EReal (k0_pay1 (F := Ideal) v96 (iota .tc S512x128 32 [1] iota_S512x128_d1_w32) v118 v121 (Idealize.ShloMosaic.ix3 0 a 72)) ((0 : ℝ) : EReal) := by
  have e : ∀ x y : EReal, @Scalar.select EReal 0#1 x y = y := fun _ _ => rfl
  refine ⟨?_, ?_, ?_⟩ <;> unfold k0_pay1 <;> pointwise <;> rw [h]
  · show @Scalar.select EReal 0#1 _ (@Scalar.select EReal 0#1 _ _) = _
    rw [e, e, zero_sub, EReal.coe_neg]
  · show @Scalar.select EReal 0#1 _ _ = _
    rw [e, ← EReal.coe_sub, sub_self, EReal.coe_zero, sub_zero]
  · rw [← EReal.coe_sub, sub_self, EReal.coe_zero, sub_zero, sub_zero]

end

end Cert.Proof.Fwd

end
-- ==== Proof.FwdPass.lean ====
/- A query block's pass over the key blocks up to its own: the two sums of the running softmax. -/
module

public import proofs.«01_k».proof.Proof.FwdTile

@[expose] public section

set_option maxRecDepth 16384

noncomputable section

namespace Cert.Proof.Fwd

open Cert.FwdIdeal Cert.FwdIdeal.Gen
open Idealize.ShloMosaic Idealize.ShloMosaic.TcCoe Idealize.SL.Sem
open Cert.Proof.Attn (Data sum_coe)

theorem tok_at (r : Fin 16) (j : Fin 512) (l : Fin 128) :
    (Rect.unit (s := S1x8192x128) ![0, r.val * 512, 0] S1x512x128.size (rows_inb r)).emb (Idealize.ShloMosaic.ix3 (0 : Fin 1) j l)
      = Idealize.ShloMosaic.ix3 (0 : Fin 1) (tok r j) l := by
  funext a
  match a with
  | ⟨0, _⟩ => rfl
  | ⟨1, _⟩ => exact Fin.ext (by show r.val * 512 + 1 * j.val = r.val * 512 + j.val; omega)
  | ⟨2, _⟩ => exact Fin.ext (by show 0 + 1 * l.val = l.val; omega)

/-- A row block of a head. -/
theorem rows_at {x : Vec Ideal S1x8192x128 .bf16} {X : Fin 8192 → Fin 128 → ℝ} (hx : Head x X) (r : Fin 16) :
    Tile (rows (F := Ideal) x r) fun j l => X (tok r j) l :=
  fun j l => (congrArg x (tok_at r j l)).trans (hx (tok r j) l)

theorem tok_inj (r : Fin 16) : Function.Injective (tok r) := fun a b h => by
  have : r.val * 512 + a.val = r.val * 512 + b.val := congrArg Fin.val h
  exact Fin.ext (by omega)

/-- The keys before block `n`. -/
def before (n : ℕ) : Finset (Fin 8192) := Finset.univ.filter fun s => s.val < n * 512

/-- A block's keys added to those before it. -/
theorem sum_block (r : Fin 16) (P' : Finset (Fin 8192)) (p : Fin 512 → Prop) [DecidablePred p]
    (h : ∀ s, s ∈ P' ↔ s ∈ before r.val ∨ ∃ j, p j ∧ tok r j = s) (f : Fin 8192 → ℝ) :
    ∑ s ∈ P', f s = ∑ s ∈ before r.val, f s + ∑ j, if p j then f (tok r j) else 0 := by
  classical
  have e : P' = before r.val ∪ (Finset.univ.filter p).image (tok r) := by
    ext s
    rw [h, Finset.mem_union, Finset.mem_image]
    simp only [Finset.mem_filter, Finset.mem_univ, true_and]
  rw [e, Finset.sum_union, Finset.sum_image fun a _ b _ w => tok_inj r w, Finset.sum_filter p]
  rw [Finset.disjoint_left]
  intro s hs hi
  obtain ⟨j, -, rfl⟩ := Finset.mem_image.mp hi
  have := (Finset.mem_filter.mp hs).2
  change r.val * 512 + j.val < r.val * 512 at this
  omega

theorem mem_next (r : Fin 16) (s : Fin 8192) : s ∈ before (r.val + 1) ↔ s ∈ before r.val ∨ ∃ j, True ∧ tok r j = s := by
  simp only [before, Finset.mem_filter, Finset.mem_univ, true_and]
  constructor
  · intro h
    by_cases h' : s.val < r.val * 512
    · exact Or.inl h'
    · exact Or.inr ⟨⟨s.val - r.val * 512, by omega⟩, Fin.ext (by show r.val * 512 + (s.val - r.val * 512) = s.val; omega)⟩
  · rintro (h | ⟨j, rfl⟩)
    · omega
    · have := j.isLt
      show r.val * 512 + j.val < (r.val + 1) * 512
      omega

theorem mem_upto (r : Fin 16) (a : Fin 512) (s : Fin 8192) :
    s ∈ upto (tok r a) ↔ s ∈ before r.val ∨ ∃ j, j ≤ a ∧ tok r j = s := by
  simp only [upto, before, Finset.mem_filter, Finset.mem_univ, true_and]
  have ha := a.isLt
  constructor
  · intro h
    have h : s.val ≤ r.val * 512 + a.val := h
    by_cases h' : s.val < r.val * 512
    · exact Or.inl h'
    · refine Or.inr ⟨⟨s.val - r.val * 512, by omega⟩, ?_, Fin.ext (by show r.val * 512 + (s.val - r.val * 512) = s.val; omega)⟩
      show s.val - r.val * 512 ≤ a.val
      omega
  · rintro (h | ⟨j, hj, rfl⟩)
    · show s.val ≤ r.val * 512 + a.val
      omega
    · have : j.val ≤ a.val := hj
      show r.val * 512 + j.val ≤ r.val * 512 + a.val
      omega

section
variable {v1 : FVec Ideal S512x128 .bf16} {x1 x2 : Vec Ideal S1x8192x128 .bf16} {Q : Fin 512 → Fin 128 → ℝ}
  {K V : Fin 8192 → Fin 128 → ℝ} (hq : Flat v1 Q) (hk : Head x1 K) (hv : Head x2 V)
include hq hk hv

/-- The maximum and the sums after `n` blocks of keys. -/
theorem sweep_soft : ∀ (n : ℕ), n ≤ 16 → ∀ a : Fin 512,
    Soft (before n) (fun s => ∑ l, Q a l * K s l) V ((sweep (F := Ideal) x1 x2 v1 n).1 (Idealize.ShloMosaic.ix2 a 0))
      (fun l => (sweep (F := Ideal) x1 x2 v1 n).2 (Idealize.ShloMosaic.ix2 a l))
  | 0, _, a => Or.inl ⟨Finset.filter_eq_empty_iff.mpr fun s _ => by omega, pay35_at a, fun l => pay36_at a l⟩
  | n + 1, hn, a => by
    have ih := sweep_soft n (by omega) a
    let r : Fin 16 := ⟨n, by omega⟩
    have er : Fin.ofNat 16 (0 + n) = r := Fin.ext (by show (0 + n) % 16 = n; omega)
    have e : sweep (F := Ideal) x1 x2 v1 (n + 1) = step (F := Ideal) x1 x2 v1 r (sweep (F := Ideal) x1 x2 v1 n) :=
      congrArg (fun r => step (F := Ideal) x1 x2 v1 r (sweep (F := Ideal) x1 x2 v1 n)) er
    rw [e]
    obtain ⟨M, hM, hs⟩ := soft_step ih (fun _ => True) (tok r) (sum_block r (before (n + 1)) (fun _ => True) (mem_next r)) 0 trivial
      (fun j => k0_pay2 (F := Ideal) v1 (rows (F := Ideal) x1 r) (Idealize.ShloMosaic.ix2 a j))
      (fun j => (pay2_at hq (rows_at hk r) a j).trans (if_pos trivial).symm)
    have h1 : (step (F := Ideal) x1 x2 v1 r (sweep (F := Ideal) x1 x2 v1 n)).1 (Idealize.ShloMosaic.ix2 a 0) = (M : EReal) :=
      (pay3_at a).trans hM
    refine Or.inr ⟨M, h1, fun l => Eq.trans ?_ (hs l)⟩
    refine (pay4_at a l).trans ?_
    have h2 : k0_pay3 (F := Ideal) v1 (sweep (F := Ideal) x1 x2 v1 n).1 (rows (F := Ideal) x1 r) (Idealize.ShloMosaic.ix2 a 0) = (M : EReal) := h1
    rw [h2]
    simp only [rows_at hv r _ _]

/-- With the query block's own keys behind the mask: the sums over the keys up to the query. -/
theorem last_soft (r : Fin 16) (a : Fin 512) : ∃ M : ℝ,
    k0_pay52 (F := Ideal) v1 (sweep (F := Ideal) x1 x2 v1 r.val).1 (rows (F := Ideal) x1 r) (Idealize.ShloMosaic.ix2 a 0) = (M : EReal)
      ∧ ∀ l, k0_pay53 (F := Ideal) v1 (sweep (F := Ideal) x1 x2 v1 r.val).1 (sweep (F := Ideal) x1 x2 v1 r.val).2 (rows (F := Ideal) x1 r)
          (rows (F := Ideal) x2 r) (Idealize.ShloMosaic.ix2 a l)
        = ((∑ s ∈ upto (tok r a), Real.rpow 2 (∑ l, Q a l * K s l - M) * V s l : ℝ) : EReal) := by
  have ih := sweep_soft hq hk hv r.val r.isLt.le a
  obtain ⟨M, hM, hs⟩ := soft_step ih (fun j => j ≤ a) (tok r) (sum_block r (upto (tok r a)) (fun j => j ≤ a) (mem_upto r a)) a le_rfl
    (fun j => k0_pay51 (F := Ideal) v1 (rows (F := Ideal) x1 r) (Idealize.ShloMosaic.ix2 a j))
    (fun j => pay51_at hq (rows_at hk r) a j)
  have h1 := (pay52_at (v1 := v1) (x1 := rows (F := Ideal) x1 r) (mx := (sweep (F := Ideal) x1 x2 v1 r.val).1) a).trans hM
  refine ⟨M, h1, fun l => Eq.trans ?_ (hs l)⟩
  refine (pay53_at a l).trans ?_
  rw [h1]
  simp only [rows_at hv r _ _]

end

end Cert.Proof.Fwd
-- ==== Proof.FwdArrays.lean ====
/- The two arrays attention's forward kernel leaves, at finite arguments. -/
module

public import proofs.«01_k».proof.Proof.FwdHost
public import proofs.«01_k».proof.Proof.FwdPass

@[expose] public section

set_option maxRecDepth 16384

noncomputable section

namespace Cert.Proof.Fwd

open Cert.FwdIdeal Cert.FwdIdeal.Gen
open Idealize.ShloMosaic Idealize.ShloMosaic.TcCoe Idealize.SL.Sem
open Cert.Proof.Attn (Data sum_coe on3 on2 div_real ideal_log)

/-- Which block each window holds at grid point `t`. -/
theorem idx0 : ∀ t : Fin grid0.N, win0_0.index t = ![t.val / 16, t.val % 16, 0] ∧ win0_1.index t = ![t.val / 16, 0, 0]
    ∧ win0_2.index t = ![t.val / 16, 0, 0] ∧ win0_3.index t = ![t.val / 16, t.val % 16, 0]
    ∧ win0_4.index t = ![t.val / 16, t.val % 16, 0] := by
  decide +kernel

/-- A point's head and query block. -/
def head (t : Fin grid0.N) : Fin 8 := ⟨t.val / 16, by have : t.val < 128 := t.isLt; omega⟩
def row (t : Fin grid0.N) : Fin 16 := ⟨t.val % 16, by omega⟩

theorem coords_val : ∀ t : Fin grid0.N, (grid0.coords t 1).val = t.val % 16 := by decide +kernel

theorem coords_eq (t : Fin grid0.N) : grid0.coords t 1 = row t := Fin.ext (coords_val t)

section
variable {m : (ℓ : Loc nD τ sig) → Buf (Elt Ideal) ℓ} {c : Dev nD} {D : Data} (R : Reads D (X0 m c) (X1 m c) (X2 m c) (X3 m c))
include R

theorem blk_q (t : Fin cfg0.N) : Tile (iblk m c 0 t) fun a l => lq D (head t) (tok (row t) a) l := by
  intro j l
  refine Eq.trans ?_ (lane_q R (head t) (tok (row t) j) l)
  blk_ext [iblk, idx0 t] <;> rfl

theorem blk_k (t : Fin cfg0.N) : Head (iblk m c 1 t) (D.lk (head t)) := by
  intro j l
  refine Eq.trans ?_ (lane_k R (head t) j l)
  blk_ext [iblk, idx0 t] <;> rfl

theorem blk_v (t : Fin cfg0.N) : Head (iblk m c 2 t) (D.lv (head t)) := by
  intro j l
  refine Eq.trans ?_ (lane_v R (head t) j l)
  blk_ext [iblk, idx0 t] <;> rfl

/-- The kernel's query block with its lanes. -/
abbrev v1 (m : (ℓ : Loc nD τ sig) → Buf (Elt Ideal) ℓ) (c : Dev nD) (t : Fin cfg0.N) : FVec Ideal S512x128 .bf16 := k0_pay34 (F := Ideal) (iblk m c 0 t)

/-- The running softmax at a point: kept number and sums. -/
theorem point_soft (t : Fin cfg0.N) (a : Fin 512) : ∃ M : ℝ,
    k0_pay52 (F := Ideal) (v1 m c t) (sweep (F := Ideal) (iblk m c 1 t) (iblk m c 2 t) (v1 m c t) (row t).val).1 (rows (F := Ideal) (iblk m c 1 t) (row t))
        (Idealize.ShloMosaic.ix2 a 0) = (M : EReal)
      ∧ ∀ l, k0_pay53 (F := Ideal) (v1 m c t) (sweep (F := Ideal) (iblk m c 1 t) (iblk m c 2 t) (v1 m c t) (row t).val).1
            (sweep (F := Ideal) (iblk m c 1 t) (iblk m c 2 t) (v1 m c t) (row t).val).2 (rows (F := Ideal) (iblk m c 1 t) (row t))
            (rows (F := Ideal) (iblk m c 2 t) (row t)) (Idealize.ShloMosaic.ix2 a l)
          = ((Real.exp (D.top (head t) (tok (row t) a) - M * Real.log 2)
              * ∑ s, D.weight (head t) (tok (row t) a) s * D.lv (head t) s l : ℝ) : EReal) := by
  obtain ⟨M, hM, hs⟩ := last_soft (pay34_at (blk_q R t)) (blk_k R t) (blk_v R t) (row t) a
  refine ⟨M, hM, fun l => (hs l).trans (congrArg (fun r : ℝ => (r : EReal)) ?_)⟩
  simp only [logit_lanes]
  exact sum_upto D _ _ M fun s => D.lv (head t) s l

/-- The counting lane's sum. -/
theorem count_lane (h : Fin 8) (t : Fin 8192) : ∑ s, D.weight h t s * D.lv h s 64 = D.mass h t := by
  unfold Data.mass
  refine Finset.sum_congr rfl fun s _ => ?_
  have e : D.lv h s 64 = 1 := by simp [Data.lv]
  rw [e, mul_one]

/-- A point's row of output, -/
theorem point_out (t : Fin cfg0.N) (a : Fin 512) (l : Fin 128) :
    @Eq EReal ((outsAt0 m c t).1 (Idealize.ShloMosaic.ix3 0 a l))
      ((∑ s, D.prob (head t) (tok (row t) a) s * D.lv (head t) s l : ℝ) : EReal) := by
  unfold outsAt0
  dsimp only
  rw [out3_eq, coords_eq t]
  obtain ⟨M, hM, hs⟩ := point_soft R t a
  refine (pay55_at a l).trans ?_
  rw [hs l, hs 64, count_lane R, div_real (mul_pos (Real.exp_pos _) (D.mass_pos _ _)).ne', quot_eq]

/-- and the three lanes of its log-sum. -/
theorem point_lse (t : Fin cfg0.N) (a : Fin 512) :
    @Eq EReal ((outsAt0 m c t).2 (Idealize.ShloMosaic.ix3 0 a 70)) ((-(lse D (head t) (tok (row t) a) * (1 / Real.log 2)) : ℝ) : EReal)
    ∧ @Eq EReal ((outsAt0 m c t).2 (Idealize.ShloMosaic.ix3 0 a 71)) ((0 : ℝ) : EReal)
    ∧ @Eq EReal ((outsAt0 m c t).2 (Idealize.ShloMosaic.ix3 0 a 72)) ((0 : ℝ) : EReal) := by
  unfold outsAt0
  dsimp only
  rw [out4_eq, coords_eq t]
  obtain ⟨M, hM, hs⟩ := point_soft R t a
  refine pay1_at a ?_
  rw [hM, pay57_at, hs 64, count_lane R, ideal_log (mul_pos (Real.exp_pos _) (D.mass_pos _ _)), ← EReal.coe_mul, ← EReal.coe_add, log_eq]

/-- The output's array, at an index. -/
theorem arr3 : @Eq (S8x8192x128.Idx → EReal) ((dats m 0 c).arrAt 3 cfg0.N)
    fun i => ((on3 (fun h t l => ∑ s, D.prob h t s * D.lv h s l) i : ℝ) : EReal) := by
  refine (dats m 0 c).arrAt_eq_of_covers 3 _ (by decide +kernel) fun t hf y => ?_
  blk_simp
  rw [after0_3]
  idx_vars y
  have he : ((View.whole main_v32_0).slice (win0_3.rect t)).emb (Idealize.ShloMosaic.ix3 y0 y1 y2) = Idealize.ShloMosaic.ix3 (head t) (tok (row t) y1) y2 := by
    blk_ext [idx0 t] <;> first | rfl | exact congrArg (t.val / 16 + ·) (Nat.lt_one_iff.mp y0.isLt)
  rw [he, show y0 = 0 from Fin.ext (Nat.lt_one_iff.mp y0.isLt)]
  exact point_out R t y1 y2

omit R

/-- The point that computes a token's row, and the row's place in the block. -/
def pt (h : Fin 8) (t : Fin 8192) : Fin cfg0.N := ⟨h.val * 16 + t.val / 512, by
  have : cfg0.N = 128 := rfl
  omega⟩
def lane (t : Fin 8192) : Fin 512 := ⟨t.val % 512, by omega⟩

theorem head_pt (h : Fin 8) (t : Fin 8192) : head (pt h t) = h :=
  Fin.ext (by show (h.val * 16 + t.val / 512) / 16 = h.val; omega)

theorem tok_pt (h : Fin 8) (t : Fin 8192) : tok (row (pt h t)) (lane t) = t :=
  Fin.ext (by show (h.val * 16 + t.val / 512) % 16 * 512 + t.val % 512 = t.val; omega)

theorem pt_tok (t : Fin cfg0.N) (a : Fin 512) : pt (head t) (tok (row t) a) = t :=
  Fin.ext (by show t.val / 16 * 16 + (t.val % 16 * 512 + a.val) / 512 = t.val; omega)

theorem lane_tok (r : Fin 16) (a : Fin 512) : lane (tok r a) = a :=
  Fin.ext (by show (r.val * 512 + a.val) % 512 = a.val; omega)

/-- The second array, point by point. -/
theorem arr4_points : @Eq (S8x8192x128.Idx → EReal) ((dats m 0 c).arrAt 4 cfg0.N)
    fun i => (outsAt0 m c (pt (i 0) (i 1))).2 (Idealize.ShloMosaic.ix3 0 (lane (i 1)) (i 2)) := by
  refine (dats m 0 c).arrAt_eq_of_covers 4 _ (by decide +kernel) fun t hf y => ?_
  blk_simp
  rw [after0_4]
  idx_vars y
  have he : ((View.whole main_v32_1).slice (win0_4.rect t)).emb (Idealize.ShloMosaic.ix3 y0 y1 y2) = Idealize.ShloMosaic.ix3 (head t) (tok (row t) y1) y2 := by
    blk_ext [idx0 t] <;> first | rfl | exact congrArg (t.val / 16 + ·) (Nat.lt_one_iff.mp y0.isLt)
  rw [he, show y0 = 0 from Fin.ext (Nat.lt_one_iff.mp y0.isLt)]
  show _ = (outsAt0 m c (pt (head t) (tok (row t) y1))).2 (Idealize.ShloMosaic.ix3 0 (lane (tok (row t) y1)) y2)
  rw [pt_tok, lane_tok]

include R

/-- The second array's three lanes hold the log-sum in units of `log 2`, negated, and two zeros. -/
theorem arr4 (h : Fin 8) (t : Fin 8192) :
    @Eq EReal ((dats m 0 c).arrAt 4 cfg0.N (Idealize.ShloMosaic.ix3 h t 70)) ((-(lse D h t * (1 / Real.log 2)) : ℝ) : EReal)
    ∧ @Eq EReal ((dats m 0 c).arrAt 4 cfg0.N (Idealize.ShloMosaic.ix3 h t 71)) ((0 : ℝ) : EReal)
    ∧ @Eq EReal ((dats m 0 c).arrAt 4 cfg0.N (Idealize.ShloMosaic.ix3 h t 72)) ((0 : ℝ) : EReal) := by
  have w := point_lse R (pt h t) (lane t)
  rw [head_pt, tok_pt] at w
  exact ⟨(congrFun (arr4_points (m := m) (c := c)) _).trans w.1, (congrFun (arr4_points (m := m) (c := c)) _).trans w.2.1,
    (congrFun (arr4_points (m := m) (c := c)) _).trans w.2.2⟩

end

end Cert.Proof.Fwd
-- ==== Proof.FwdValue.lean ====
/- The value of attention's forward pass: at finite arguments the kernel's output and log-sums are the softmax's. -/
module

public import proofs.«01_k».proof.Proof.FwdArrays
public import proofs.«01_k».proof.Proof.Gen.FwdRefIdeal.Run

@[expose] public section

set_option maxRecDepth 16384

noncomputable section

namespace Cert.Proof.Fwd

open Cert.FwdIdeal Cert.FwdIdeal.Gen
open Idealize.ShloMosaic Idealize.ShloMosaic.TcCoe Idealize.SL.Sem
open Cert.Proof.Attn (Data on3 on2 real_of_abs_lt log_two_ne)

/-- The claim's precondition gives the reals. -/
theorem reads_of_pre [Cert.Pre_fwd_finite.Facts] (m : (ℓ : Loc nD τ sig) → Buf (Elt Ideal) ℓ) (h : Cert.Pre_FwdIdeal_fwd_finite m)
    (c : Dev nD) : ∃ D : Data, Reads D (X0 m c) (X1 m c) (X2 m c) (X3 m c) := by
  obtain ⟨p0, p1, p2, p3⟩ := h c
  exact exists_reads (fun i => real_of_abs_lt (congrFun p0 i)) (fun i => real_of_abs_lt (congrFun p1 i))
    (fun i => real_of_abs_lt (congrFun p2 i)) (fun i => real_of_abs_lt (congrFun p3 i))

section Tail

/-- The kernel's two arrays, and the logarithm of two, in the buffers `W`. -/
abbrev a0 (W : Valuation τ sig (Elt Ideal)) : S8x8192x128.Idx → EReal := W (Proc.devRef .tc main_v32_0)
abbrev a1 (W : Valuation τ sig (Elt Ideal)) : S8x8192x128.Idx → EReal := W (Proc.devRef .tc main_v32_1)
abbrev log2 (W : Valuation τ sig (Elt Ideal)) : S_.Idx → EReal := W (Proc.devRef .tc main_v0)

variable (W : Valuation τ sig (Elt Ideal))

/-- The lines after the region, each at an index of what it returns. -/
theorem tail_out (t : Fin 8192) (h : Fin 8) (d : Fin 64) :
    @Eq EReal (StableHlo.after hostOps1 W (Proc.devRef .tc main_v48) (Idealize.ShloMosaic.ix3 t h d))
      (a0 W (Idealize.ShloMosaic.ix3 h t ⟨d.val, by omega⟩)) := by
  after_reads_at; try rfl

theorem tail_lse (h : Fin 8) (t : Fin 8192) :
    @Eq EReal (StableHlo.after hostOps1 W (Proc.devRef .tc main_v46) (Idealize.ShloMosaic.ix2 h t))
      (-(a1 W (Idealize.ShloMosaic.ix3 h t 70) + a1 W (Idealize.ShloMosaic.ix3 h t 71) + a1 W (Idealize.ShloMosaic.ix3 h t 72)) * log2 W ix0) := by
  after_reads_at; try rfl

end Tail

variable (m : (ℓ : Loc nD τ sig) → Buf (Elt Ideal) ℓ) (c : Dev nD)

/-- The buffers as the region leaves them. -/
abbrev left : Valuation τ sig (Elt Ideal) :=
  Pipeline.withArrays spec0 c (V0 m c) fun w => (dats m 0 c).arrAt w cfg0.N

theorem arr_inj : Function.Injective (Pipeline.arrRef spec0) := by decide

theorem left_3 : a0 (left m c) = (dats m 0 c).arrAt 3 cfg0.N :=
  Pipeline.withArrays_arr spec0 arr_inj c _ _ 3
theorem left_4 : a1 (left m c) = (dats m 0 c).arrAt 4 cfg0.N :=
  Pipeline.withArrays_arr spec0 arr_inj c _ _ 4
theorem left_log2 : log2 (left m c) = V m c main_v0 :=
  Pipeline.withArrays_of_ne spec0 c _ _ main_v0 (by decide)

/-- What the program's two results hold at the end. -/
abbrev final (b : Ref sig .tc) : Buf (Elt Ideal) ((c.tc : Thread nD τ).loc b) :=
  Pipeline.afterTail₀ cfgs (dats m) 0 (V0 m) [hostOps1] c b

variable {m c} {D : Data} (R : Reads D (X0 m c) (X1 m c) (X2 m c) (X3 m c))
include R

theorem final_out : @Eq (S8192x8x64.Idx → EReal) (final m c main_v48) fun i => ((on3 (out D) i : ℝ) : EReal) := by
  funext i; idx_vars i
  refine (tail_out (left m c) _ _ _).trans ?_
  rw [left_3, arr3 R]
  refine congrArg (fun r : ℝ => (r : EReal)) ?_
  show ∑ s, D.prob i1 i0 s * D.lv i1 s ⟨i2.val, _⟩ = ∑ s, D.prob i1 i0 s * D.v s i1 i2
  refine Finset.sum_congr rfl fun s _ => ?_
  have e : D.lv i1 s ⟨i2.val, by omega⟩ = D.v s i1 i2 := dif_pos i2.isLt
  rw [e]

theorem final_lse : @Eq (S8x8192.Idx → EReal) (final m c main_v46) fun i => ((on2 (lse D) i : ℝ) : EReal) := by
  funext i; idx_vars i
  refine (tail_lse (left m c) _ _).trans ?_
  obtain ⟨e0, e1, e2⟩ := arr4 R i0 i1
  rw [left_4, e0, e1, e2, left_log2, V_v0, ← EReal.coe_add, ← EReal.coe_add, ← EReal.coe_neg, ← EReal.coe_mul]
  refine congrArg (fun r : ℝ => (r : EReal)) ?_
  show -(-(lse D i0 i1 * (1 / Real.log 2)) + 0 + 0) * Real.log 2 = lse D i0 i1
  have := log_two_ne
  field_simp; ring

omit R

/-- The kernel's run: its two results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v48) = final m c main_v48
      ∧ r.2.mem ((c.tc : Thread nD τ).loc main_v46) = final m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      (h.1 c).2 main_v48 (Pipeline.mem_restRefs_of main_v48 (by decide) (by decide)),
      (h.1 c).2 main_v46 (Pipeline.mem_restRefs_of main_v46 (by decide) (by decide)), h.2.1 c⟩)
    (θ_run_and (run_main m ρ) (frame m ρ))

/-- Attention's forward pass: at finite arguments kernel and reference leave the same two arrays. -/
theorem value [Cert.Pre_fwd_finite.Facts] : Cert.algebraic_FwdIdeal_FwdRefIdeal_pre_fwd_finite := fun m ρ m' ρ' hp hag =>
  ⟨_, _, run_results ρ, (θ_run _ _ _).mono (fun _ h c => by
      obtain ⟨D, R⟩ := reads_of_pre m hp c
      obtain ⟨h0, h1, hr⟩ := h c
      obtain ⟨e0, e1, e2, e3⟩ := hag c
      rw [Cert.FwdRefIdeal.Read.val_main_v32_eq, e0, e1, e2, e3] at h0
      rw [Cert.FwdRefIdeal.Read.val_main_v39_eq, e0, e1, e3] at h1
      exact ⟨h0.trans ((funext (out_apply R)).trans (final_out R).symm), h1.trans ((funext (lse_apply R)).trans (final_lse R).symm), hr⟩)
    (Cert.FwdRefIdeal.Value.run m' ρ')⟩

end Cert.Proof.Fwd
-- ==== Proof.Do.lean ====
/- The value of the attention branch's output gradient: at finite arguments the kernel leaves, head by head, the cotangent of
   attention's output and the row sums of its product with that output, negated, in three lanes beside it. -/
module

public import proofs.«01_k».proof.Proof.Gen.DoIdeal.Frame
public import proofs.«01_k».proof.Proof.Gen.DoRefIdeal.Run
public import proofs.«01_k».proof.Proof.Gen.DoRefIdeal.Read
public import proofs.«01_k».proof.Proof.AttnLanes
public import proofs.«01_k».proof.Proof.AttnData
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Do

open Cert.DoIdeal Cert.DoIdeal.Gen
open Idealize.ShloMosaic Idealize.ShloMosaic.TcCoe Idealize.SL.Sem
open Cert.Proof.Attn (sum_coe zero_word real_of_abs_lt)

/-- A float array of the programs. -/
abbrev A (s : Shape) : Type := FVec Ideal s .f32

/-- The reals the three arguments hold: attention's output, the branch's weight and the branch's cotangent. -/
structure Data where
  o : Fin 8192 → Fin 512 → ℝ
  w : Fin 512 → Fin 1024 → ℝ
  b : Fin 8192 → Fin 1024 → ℝ

structure Reads (D : Data) (x0 : A S8192x512) (x1 : A S512x1024) (x2 : A S8192x1024) : Prop where
  o : ∀ i j, @Eq EReal (x0 (Idealize.ShloMosaic.ix2 i j)) ((D.o i j : ℝ) : EReal)
  w : ∀ i j, @Eq EReal (x1 (Idealize.ShloMosaic.ix2 i j)) ((D.w i j : ℝ) : EReal)
  b : ∀ i j, @Eq EReal (x2 (Idealize.ShloMosaic.ix2 i j)) ((D.b i j : ℝ) : EReal)

/-- A head's column of a token's row. -/
def col (h : Fin 8) (d : Fin 64) : Fin 512 := ⟨h.val * 64 + d.val, by omega⟩

namespace Data
variable (D : Data)

/-- The cotangent of attention's output. -/
def g (h : Fin 8) (t : Fin 8192) (d : Fin 64) : ℝ := ∑ e, D.b t e * D.w (col h d) e
/-- Its row sum against the output. -/
def delta (h : Fin 8) (t : Fin 8192) : ℝ := ∑ d, D.g h t d * D.o t (col h d)

/-- The lanes of a head: its 64 columns and 64 zeros. -/
def wl (h : Fin 8) (l : Fin 128) (e : Fin 1024) : ℝ := if v : l.val < 64 then D.w (col h ⟨l.val, v⟩) e else 0
def ol (h : Fin 8) (t : Fin 8192) (l : Fin 128) : ℝ := if v : l.val < 64 then D.o t (col h ⟨l.val, v⟩) else 0
def gl (h : Fin 8) (t : Fin 8192) (l : Fin 128) : ℝ := ∑ e, D.b t e * D.wl h l e

theorem gl_low (h : Fin 8) (t : Fin 8192) (d : Fin 64) : D.gl h t ⟨d.val, by omega⟩ = D.g h t d := by
  unfold gl g wl
  simp only [dif_pos d.isLt]

theorem delta_lanes (h : Fin 8) (t : Fin 8192) : ∑ l, D.gl h t l * D.ol h t l = D.delta h t := by
  rw [show (∑ l : Fin 128, D.gl h t l * D.ol h t l) = ∑ l : Fin (64 + 64), D.gl h t l * D.ol h t l from rfl, Fin.sum_univ_add]
  rw [Finset.sum_eq_zero (s := Finset.univ (α := Fin 64)) (f := fun i => D.gl h t (Fin.natAdd 64 i) * D.ol h t (Fin.natAdd 64 i)), add_zero]
  · refine Finset.sum_congr rfl fun d _ => ?_
    have e : D.ol h t (Fin.castAdd 64 d) = D.o t (col h d) := dif_pos d.isLt
    rw [e]; exact congrArg (· * _) (D.gl_low h t d)
  · intro d _
    have e : D.ol h t (Fin.natAdd 64 d) = 0 := dif_neg (by show ¬ 64 + d.val < 64; omega)
    rw [e, mul_zero]

end Data

/-- One head's lanes of one row: the cotangent below lane 64, the row sum at lane 64, its remainders at the next two. -/
theorem pay8_at {g : FVec Ideal S512x128 .f32} {o : Vec Ideal S1x512x128 .bf16} (a : Fin 512) {G O : Fin 128 → ℝ}
    (hg : ∀ l, @Eq EReal (g (Idealize.ShloMosaic.ix2 a l)) ((G l : ℝ) : EReal)) (ho : ∀ l, @Eq EReal (o (Idealize.ShloMosaic.ix3 0 a l)) ((O l : ℝ) : EReal)) (l : Fin 128) :
    @Eq EReal (k0_pay8 (F := Ideal) (iota .tc S512x128 32 [1] iota_S512x128_d1_w32) g o (Idealize.ShloMosaic.ix3 0 a l))
      ((if l.val < 64 then G l else if l.val = 64 then -∑ k, G k * O k else if l.val < 67 then 0 else G l : ℝ) : EReal) := by
  have hc : ∀ n : ℕ, n < 128 → (IntOp.cmpi CmpIPredicate.eq (BitVec.ofNat 32 l.val) (BitVec.ofNat 32 n) = 1#1 ↔ l.val = n) := fun n hn => by
    rw [IntOp.cmpi_eq, ← BitVec.toNat_inj]; simp only [BitVec.toNat_ofNat]; omega
  unfold k0_pay8
  pointwise
  simp only [hg, ho, ← EReal.coe_mul, sum_coe, ← EReal.coe_sub, sub_self]
  have hs : ∀ n : ℕ, n < 128 → ∀ x y : EReal, Scalar.select (IntOp.cmpi CmpIPredicate.eq (BitVec.ofNat 32 l.val) (BitVec.ofNat 32 n)) x y
      = if l.val = n then x else y := fun n hn x y => by
    by_cases w : l.val = n
    · rw [if_pos w]; exact if_pos ((hc n hn).mpr w)
    · rw [if_neg w]; exact if_neg fun k => w ((hc n hn).mp k)
  refine (hs 66 (by omega) _ _).trans ?_
  rw [hs 65 (by omega), hs 64 (by omega)]
  split_ifs <;> first | omega | simp

/-- The eight stores of the body are one head's lanes each. -/
theorem out_eq (x0 : Vec Ideal S512x1024 .bf16) (x1 : Vec Ideal S8x512x128 .bf16) (x2 : Vec Ideal S1024x1024 .bf16) :
    out0_3 x0 x1 x2 = View.canon [
      ⟨r0_9, k0_pay8 (k0_pay35 x0 x1 x2) (k0_pay27 (k0_pay36 x0 x1 x2)) (View.ld x1 r0_9)⟩,
      ⟨r0_8, k0_pay8 (k0_pay35 x0 x1 x2) (k0_pay18 (k0_pay36 x0 x1 x2)) (View.ld x1 r0_8)⟩,
      ⟨r0_7, k0_pay8 (k0_pay35 x0 x1 x2) (k0_pay12 (k0_pay36 x0 x1 x2)) (View.ld x1 r0_7)⟩,
      ⟨r0_6, k0_pay8 (k0_pay35 x0 x1 x2) (k0_pay9 (k0_pay36 x0 x1 x2)) (View.ld x1 r0_6)⟩,
      ⟨r0_5, k0_pay8 (k0_pay35 x0 x1 x2) (k0_pay7 (k0_pay36 x0 x1 x2)) (View.ld x1 r0_5)⟩,
      ⟨r0_4, k0_pay8 (k0_pay35 x0 x1 x2) (extractStridedSlice S512x128 ![0, 256] (k0_pay36 x0 x1 x2) slices_S512x1024_o0_256_S512x128) (View.ld x1 r0_4)⟩,
      ⟨r0_3, k0_pay8 (k0_pay35 x0 x1 x2) (extractStridedSlice S512x128 ![0, 128] (k0_pay36 x0 x1 x2) slices_S512x1024_o0_128_S512x128) (View.ld x1 r0_3)⟩,
      ⟨r0_2, k0_pay8 (k0_pay35 x0 x1 x2) (extractStridedSlice S512x128 ![0, 0] (k0_pay36 x0 x1 x2) slices_S512x1024_o0_0_S512x128) (View.ld x1 r0_2)⟩] := by
  rfl

theorem zero_word16 : @Eq EReal (FloatOps.sitofp (F := Ideal) FTy.bf16 (0#32)) ((0 : ℝ) : EReal) := zero_word

variable (m : (ℓ : Loc nD τ sig) → Buf (Elt Ideal) ℓ) (c : Dev nD)

abbrev X0 : A S8192x512 := m ((c.tc : Thread nD τ).loc main_arg0)
abbrev X1 : A S512x1024 := m ((c.tc : Thread nD τ).loc main_arg1)
abbrev X2 : A S8192x1024 := m ((c.tc : Thread nD τ).loc main_arg2)

/-- Which block each window holds at grid point `t`. -/
theorem idx0 : ∀ t : Fin grid0.N, win0_0.index t = ![t.val, 0] ∧ win0_1.index t = ![0, t.val, 0]
    ∧ win0_2.index t = ![0, 0] ∧ win0_3.index t = ![0, t.val, 0] := by
  decide +kernel

section
variable {m c} {D : Data} (R : Reads D (X0 m c) (X1 m c) (X2 m c))
include R

theorem host_b (t : Fin 8192) (e : Fin 1024) : @Eq EReal (V m c main_v4 (Idealize.ShloMosaic.ix2 t e)) ((D.b t e : ℝ) : EReal) := by
  unfold V; after_reads_at
  exact R.b t e

theorem host_o (h : Fin 8) (t : Fin 8192) (l : Fin 128) :
    @Eq EReal (V m c main_v3 (Idealize.ShloMosaic.ix3 h t l)) ((D.ol h t l : ℝ) : EReal) := by
  unfold V; after_reads_at
  by_cases v : l.val < 64
  · have e : D.ol h t l = D.o t (col h ⟨l.val, v⟩) := dif_pos v
    rw [e]; exact (dif_pos v).trans (R.o _ _)
  · have e : D.ol h t l = 0 := dif_neg v
    rw [e]; exact (dif_neg v).trans zero_word

/-- A row of the padded weight. -/
def lane (h : Fin 8) (l : Fin 128) : Fin 1024 := ⟨h.val * 128 + l.val, by omega⟩

theorem host_w' (n : Fin 1024) (h : Fin 8) (l : Fin 128) (h0 : n.val / 128 = h.val) (h1 : n.val % 128 = l.val) (e : Fin 1024) :
    @Eq EReal (V m c main_v8 (Idealize.ShloMosaic.ix2 n e)) ((D.wl h l e : ℝ) : EReal) := by
  unfold V; after_reads_at
  by_cases v : l.val < 64
  · have e0 : D.wl h l e = D.w (col h ⟨l.val, v⟩) e := dif_pos v
    have hc : n.val / 128 < 8 ∧ n.val % 128 < 64 := ⟨by omega, by omega⟩
    rw [dif_pos hc]
    refine Eq.trans ?_ ((R.w _ e).trans (congrArg (fun r : ℝ => (r : EReal)) e0.symm))
    refine congrArg (fun i : Fin 512 => X1 m c (Idealize.ShloMosaic.ix2 i e)) (Fin.ext ?_)
    show n.val / 128 * 64 + n.val % 128 = h.val * 64 + l.val
    rw [h0, h1]
  · have e0 : D.wl h l e = 0 := dif_neg v
    have hc : ¬ (n.val / 128 < 8 ∧ n.val % 128 < 64) := fun k => v (by omega)
    rw [dif_neg hc]
    exact zero_word16.trans (congrArg (fun r : ℝ => (r : EReal)) e0.symm)

omit R in
theorem lane_div (h : Fin 8) (l : Fin 128) : (lane h l).val / 128 = h.val := by show (h.val * 128 + l.val) / 128 = h.val; omega
omit R in
theorem lane_mod (h : Fin 8) (l : Fin 128) : (lane h l).val % 128 = l.val := by show (h.val * 128 + l.val) % 128 = l.val; omega

theorem host_w (h : Fin 8) (l : Fin 128) (e : Fin 1024) :
    @Eq EReal (V m c main_v8 (Idealize.ShloMosaic.ix2 (lane h l) e)) ((D.wl h l e : ℝ) : EReal) :=
  host_w' R (lane h l) h l (lane_div h l) (lane_mod h l) e

/-- A block's row is a token. -/
def tok (t : Fin grid0.N) (a : Fin 512) : Fin 8192 := ⟨t.val * 512 + a.val, by have : t.val < 16 := t.isLt; omega⟩

theorem blk_b (t : Fin cfg0.N) (a : Fin 512) (e : Fin 1024) :
    @Eq EReal (iblk m c 0 t (Idealize.ShloMosaic.ix2 a e)) ((D.b (tok t a) e : ℝ) : EReal) := by
  refine Eq.trans ?_ (host_b R (tok t a) e)
  blk_ext [iblk, idx0 t] <;> rfl

theorem blk_o (t : Fin cfg0.N) (h : Fin 8) (a : Fin 512) (l : Fin 128) :
    @Eq EReal (iblk m c 1 t (Idealize.ShloMosaic.ix3 h a l)) ((D.ol h (tok t a) l : ℝ) : EReal) := by
  refine Eq.trans ?_ (host_o R h (tok t a) l)
  blk_ext [iblk, idx0 t] <;> rfl

theorem blk_w (t : Fin cfg0.N) (h : Fin 8) (l : Fin 128) (e : Fin 1024) :
    @Eq EReal (iblk m c 2 t (Idealize.ShloMosaic.ix2 (lane h l) e)) ((D.wl h l e : ℝ) : EReal) := by
  refine Eq.trans ?_ (host_w R h l e)
  blk_ext [iblk, idx0 t] <;> rfl

/-- The product of a block of rows. -/
theorem prod_at (t : Fin cfg0.N) (h : Fin 8) (a : Fin 512) (l : Fin 128) :
    @Eq EReal (k0_pay36 (F := Ideal) (iblk m c 0 t) (iblk m c 1 t) (iblk m c 2 t) (Idealize.ShloMosaic.ix2 a (lane h l)))
      ((D.gl h (tok t a) l : ℝ) : EReal) := by
  unfold k0_pay36 k0_pay2
  pointwise
  simp only [blk_b R t, blk_w R t, ← EReal.coe_mul, sum_coe]
  rfl

/-- What a head's lanes hold. -/
def out (D : Data) (h : Fin 8) (t : Fin 8192) (l : Fin 128) : ℝ :=
  if l.val < 64 then D.gl h t l else if l.val = 64 then -D.delta h t else if l.val < 67 then 0 else D.gl h t l

theorem piece (t : Fin cfg0.N) (h : Fin 8) {g : FVec Ideal S512x128 .f32} {o : Vec Ideal S1x512x128 .bf16}
    (hg : ∀ a l, g (Idealize.ShloMosaic.ix2 a l) = k0_pay36 (F := Ideal) (iblk m c 0 t) (iblk m c 1 t) (iblk m c 2 t) (Idealize.ShloMosaic.ix2 a (lane h l)))
    (ho : ∀ a l, o (Idealize.ShloMosaic.ix3 0 a l) = iblk m c 1 t (Idealize.ShloMosaic.ix3 h a l)) (a : Fin 512) (l : Fin 128) :
    @Eq EReal (k0_pay8 (F := Ideal) (iota .tc S512x128 32 [1] iota_S512x128_d1_w32) g o (Idealize.ShloMosaic.ix3 0 a l)) ((out D h (tok t a) l : ℝ) : EReal) := by
  rw [out, ← D.delta_lanes]
  exact pay8_at a (fun l => (hg a l).trans (prod_at R t h a l)) (fun l => (ho a l).trans (blk_o R t h a l)) l

omit R in
/-- A head's window at a row and lane is the head's row and lane. -/
theorem placed (n : ℕ) (inb) (h : Fin 8) (e : h.val = n) (a : Fin 512) (l : Fin 128) :
    (Rect.unit (s := S8x512x128) ![n, 0, 0] S1x512x128.size inb).idx (Idealize.ShloMosaic.ix3 0 a l) = Idealize.ShloMosaic.ix3 h a l := by
  funext b
  refine Fin.ext ((Rect.idx_unit_val _ _ _ _ _).trans ?_)
  match b with
  | ⟨0, _⟩ => exact e.symm
  | ⟨1, _⟩ => exact Nat.zero_add _
  | ⟨2, _⟩ => exact Nat.zero_add _

theorem point_out (t : Fin cfg0.N) (y : S8x512x128.Idx) :
    @Eq EReal (out0_3 (F := Ideal) (iblk m c 0 t) (iblk m c 1 t) (iblk m c 2 t) y) ((out D (y 0) (tok t (y 1)) (y 2) : ℝ) : EReal) := by
  rw [out_eq]
  refine View.canon_apply_of_pieces (Val := Elt Ideal) (e := .bf16) (fun y : S8x512x128.Idx => ((out D (y 0) (tok t (y 1)) (y 2) : ℝ) : EReal)) _ ?_ y (cover0_3 _ _ _ _ _ _ _ _ y)
  simp only [List.forall_mem_cons, List.not_mem_nil, false_imp_iff, implies_true, and_true]
  refine ⟨?_, ?_, ?_, ?_, ?_, ?_, ?_, ?_⟩ <;> intro x <;> idx_vars x <;> obtain rfl : x0 = 0 := Fin.ext (Nat.lt_one_iff.mp x0.isLt)
  · refine (piece R t 7 (fun a l => by unfold k0_pay27; pointwise; rfl) (fun a l => ?_) x1 x2).trans ?_
    · exact congrArg (iblk m c 1 t) (placed 7 _ 7 rfl a l)
    · exact congrArg (fun y : S8x512x128.Idx => ((out D (y 0) (tok t (y 1)) (y 2) : ℝ) : EReal)) (placed 7 _ 7 rfl x1 x2).symm
  · refine (piece R t 6 (fun a l => by unfold k0_pay18; pointwise; rfl) (fun a l => ?_) x1 x2).trans ?_
    · exact congrArg (iblk m c 1 t) (placed 6 _ 6 rfl a l)
    · exact congrArg (fun y : S8x512x128.Idx => ((out D (y 0) (tok t (y 1)) (y 2) : ℝ) : EReal)) (placed 6 _ 6 rfl x1 x2).symm
  · refine (piece R t 5 (fun a l => by unfold k0_pay12; pointwise; rfl) (fun a l => ?_) x1 x2).trans ?_
    · exact congrArg (iblk m c 1 t) (placed 5 _ 5 rfl a l)
    · exact congrArg (fun y : S8x512x128.Idx => ((out D (y 0) (tok t (y 1)) (y 2) : ℝ) : EReal)) (placed 5 _ 5 rfl x1 x2).symm
  · refine (piece R t 4 (fun a l => by unfold k0_pay9; pointwise; rfl) (fun a l => ?_) x1 x2).trans ?_
    · exact congrArg (iblk m c 1 t) (placed 4 _ 4 rfl a l)
    · exact congrArg (fun y : S8x512x128.Idx => ((out D (y 0) (tok t (y 1)) (y 2) : ℝ) : EReal)) (placed 4 _ 4 rfl x1 x2).symm
  · refine (piece R t 3 (fun a l => by unfold k0_pay7; pointwise; rfl) (fun a l => ?_) x1 x2).trans ?_
    · exact congrArg (iblk m c 1 t) (placed 3 _ 3 rfl a l)
    · exact congrArg (fun y : S8x512x128.Idx => ((out D (y 0) (tok t (y 1)) (y 2) : ℝ) : EReal)) (placed 3 _ 3 rfl x1 x2).symm
  · refine (piece R t 2 (fun a l => by pointwise; rfl) (fun a l => ?_) x1 x2).trans ?_
    · exact congrArg (iblk m c 1 t) (placed 2 _ 2 rfl a l)
    · exact congrArg (fun y : S8x512x128.Idx => ((out D (y 0) (tok t (y 1)) (y 2) : ℝ) : EReal)) (placed 2 _ 2 rfl x1 x2).symm
  · refine (piece R t 1 (fun a l => by pointwise; rfl) (fun a l => ?_) x1 x2).trans ?_
    · exact congrArg (iblk m c 1 t) (placed 1 _ 1 rfl a l)
    · exact congrArg (fun y : S8x512x128.Idx => ((out D (y 0) (tok t (y 1)) (y 2) : ℝ) : EReal)) (placed 1 _ 1 rfl x1 x2).symm
  · refine (piece R t 0 (fun a l => by
        pointwise
        exact congrArg (fun z => k0_pay36 (F := Ideal) (iblk m c 0 t) (iblk m c 1 t) (iblk m c 2 t) (Idealize.ShloMosaic.ix2 a z))
          (Fin.ext (by show _ = 0 * 128 + l.val; simp))) (fun a l => ?_) x1 x2).trans ?_
    · exact congrArg (iblk m c 1 t) (placed 0 _ 0 rfl a l)
    · exact congrArg (fun y : S8x512x128.Idx => ((out D (y 0) (tok t (y 1)) (y 2) : ℝ) : EReal)) (placed 0 _ 0 rfl x1 x2).symm

/-- The kernel's array, at an index. -/
theorem arr3 : @Eq (S8x8192x128.Idx → EReal) ((dats m 0 c).arrAt 3 cfg0.N) fun i => ((out D (i 0) (i 1) (i 2) : ℝ) : EReal) := by
  refine (dats m 0 c).arrAt_eq_of_covers 3 _ (by decide +kernel) fun t hf y => ?_
  blk_simp
  rw [after0_3]
  idx_vars y
  have he : ((View.whole main_v9).slice (win0_3.rect t)).emb (Idealize.ShloMosaic.ix3 y0 y1 y2) = Idealize.ShloMosaic.ix3 y0 (tok t y1) y2 := by
    blk_ext [idx0 t] <;> rfl
  rw [he]
  exact point_out R t (Idealize.ShloMosaic.ix3 y0 y1 y2)

end

end Cert.Proof.Do

end
-- ==== Proof.DoValue.lean ====
/- The value of the attention branch's output gradient: the kernel's two results are the derivative of the product with the
   branch's weight and the row sums of that derivative against attention's output. -/
module

public import proofs.«01_k».proof.Proof.Do

@[expose] public section

set_option maxRecDepth 16384

noncomputable section

namespace Cert.Proof.Do

open Cert.DoIdeal Cert.DoIdeal.Gen
open Idealize.ShloMosaic Idealize.ShloMosaic.TcCoe Idealize.SL.Sem
open Cert.Proof.Attn (sum_coe zero_word real_of_abs_lt)

/-- The claim's precondition gives the reals. -/
theorem reads_of_pre [Cert.Pre_do_finite.Facts] (m : (ℓ : Loc nD τ sig) → Buf (Elt Ideal) ℓ) (h : Cert.Pre_DoIdeal_do_finite m)
    (c : Dev nD) : ∃ D : Data, Reads D (X0 m c) (X1 m c) (X2 m c) := by
  obtain ⟨p0, p1, p2⟩ := h c
  choose o ho using fun i => real_of_abs_lt (congrFun p0 i)
  choose w hw using fun i => real_of_abs_lt (congrFun p1 i)
  choose b hb using fun i => real_of_abs_lt (congrFun p2 i)
  exact ⟨⟨fun i j => o (Idealize.ShloMosaic.ix2 i j), fun i j => w (Idealize.ShloMosaic.ix2 i j), fun i j => b (Idealize.ShloMosaic.ix2 i j)⟩,
    ⟨fun i j => ho _, fun i j => hw _, fun i j => hb _⟩⟩

/-- The head and the lane of a column. -/
def hd (j : Fin 512) : Fin 8 := ⟨j.val / 64, by omega⟩
def ln (j : Fin 512) : Fin 64 := ⟨j.val % 64, by omega⟩

theorem col_hd (j : Fin 512) : col (hd j) (ln j) = j := Fin.ext (by show j.val / 64 * 64 + j.val % 64 = j.val; omega)

section Tail

/-- The kernel's array in the buffers `W`. -/
abbrev a0 (W : Valuation τ sig (Elt Ideal)) : S8x8192x128.Idx → EReal := W (Proc.devRef .tc main_v9)

variable (W : Valuation τ sig (Elt Ideal))

/-- The lines after the region, each at an index of what it returns. -/
theorem tail_do (t : Fin 8192) (j : Fin 512) :
    @Eq EReal (StableHlo.after hostOps1 W (Proc.devRef .tc main_v12) (Idealize.ShloMosaic.ix2 t j))
      (a0 W (Idealize.ShloMosaic.ix3 (hd j) t ⟨(ln j).val, by omega⟩)) := by
  after_reads_at; try rfl

theorem tail_sum (t : Fin 8192) (h : Fin 8) :
    @Eq EReal (StableHlo.after hostOps1 W (Proc.devRef .tc main_v25) (Idealize.ShloMosaic.ix2 t h))
      (-(a0 W (Idealize.ShloMosaic.ix3 h t 64) + a0 W (Idealize.ShloMosaic.ix3 h t 65) + a0 W (Idealize.ShloMosaic.ix3 h t 66))) := by
  after_reads_at; try rfl

end Tail

variable (m : (ℓ : Loc nD τ sig) → Buf (Elt Ideal) ℓ) (c : Dev nD)

/-- The buffers as the region leaves them. -/
abbrev left : Valuation τ sig (Elt Ideal) :=
  Pipeline.withArrays spec0 c (V0 m c) fun w => (dats m 0 c).arrAt w cfg0.N

theorem arr_inj : Function.Injective (Pipeline.arrRef spec0) := by decide

theorem left_3 : a0 (left m c) = (dats m 0 c).arrAt 3 cfg0.N :=
  Pipeline.withArrays_arr spec0 arr_inj c _ _ 3

/-- What the program's two results hold at the end. -/
abbrev final (b : Ref sig .tc) : Buf (Elt Ideal) ((c.tc : Thread nD τ).loc b) :=
  Pipeline.afterTail₀ cfgs (dats m) 0 (V0 m) [hostOps1] c b

variable {m c} {D : Data} (R : Reads D (X0 m c) (X1 m c) (X2 m c))
include R

theorem final_do (t : Fin 8192) (j : Fin 512) :
    @Eq EReal (final m c main_v12 (Idealize.ShloMosaic.ix2 t j)) ((D.g (hd j) t (ln j) : ℝ) : EReal) := by
  refine (tail_do (left m c) _ _).trans ?_
  rw [left_3, arr3 R, ← D.gl_low]
  exact congrArg (fun r : ℝ => (r : EReal)) (if_pos (ln j).isLt)

theorem final_sum (t : Fin 8192) (h : Fin 8) :
    @Eq EReal (final m c main_v25 (Idealize.ShloMosaic.ix2 t h)) ((D.delta h t : ℝ) : EReal) := by
  refine (tail_sum (left m c) _ _).trans ?_
  rw [left_3, arr3 R]
  show -(((out D h t 64 : ℝ) : EReal) + ((out D h t 65 : ℝ) : EReal) + ((out D h t 66 : ℝ) : EReal)) = _
  have e0 : out D h t 64 = -D.delta h t := rfl
  have e1 : out D h t 65 = 0 := rfl
  have e2 : out D h t 66 = 0 := rfl
  rw [e0, e1, e2, ← EReal.coe_add, ← EReal.coe_add, ← EReal.coe_neg]
  refine congrArg (fun r : ℝ => (r : EReal)) ?_
  ring

/-- The reference's product, at an index. -/
theorem ref_prod (t : Fin 8192) (j : Fin 512) :
    @Eq EReal (Cert.DoRefIdeal.Read.val_main_v1 (F := Ideal) (X1 m c) (X2 m c) (Idealize.ShloMosaic.ix2 t j)) ((D.g (hd j) t (ln j) : ℝ) : EReal) := by
  refine (Cert.DoRefIdeal.Read.val_main_v1_apply _ _ _).trans ?_
  have e : ∀ k : Fin 1024, @Eq EReal (X2 m c (Cert.DoRefIdeal.Read.lidx_main_v1 (Idealize.ShloMosaic.ix2 t j) k) * X1 m c (Cert.DoRefIdeal.Read.ridx_main_v1 (Idealize.ShloMosaic.ix2 t j) k))
      ((D.b t k * D.w j k : ℝ) : EReal) := fun k => by
    have el : Cert.DoRefIdeal.Read.lidx_main_v1 (Idealize.ShloMosaic.ix2 t j) k = Idealize.ShloMosaic.ix2 t k := by
      funext b; match b with
      | ⟨0, _⟩ => rfl
      | ⟨1, _⟩ => rfl
    have er : Cert.DoRefIdeal.Read.ridx_main_v1 (Idealize.ShloMosaic.ix2 t j) k = Idealize.ShloMosaic.ix2 j k := by
      funext b; match b with
      | ⟨0, _⟩ => rfl
      | ⟨1, _⟩ => rfl
    rw [el, er, R.b, R.w, EReal.coe_mul]
  refine (Finset.sum_congr rfl fun k _ => e k).trans ?_
  rw [sum_coe, Data.g, col_hd]

/-- The reference's row sums, at an index. -/
theorem ref_sum (t : Fin 8192) (h : Fin 8) :
    @Eq EReal (Cert.DoRefIdeal.Read.val_main_v5 (F := Ideal) (X0 m c) (X1 m c) (X2 m c) (Idealize.ShloMosaic.ix2 t h)) ((D.delta h t : ℝ) : EReal) := by
  refine (Cert.DoRefIdeal.Read.val_main_v5_apply _ _ _ _).trans ?_
  have e : ∀ k : Fin 64, @Eq EReal (Cert.DoRefIdeal.Read.val_main_v4 (F := Ideal) (X0 m c) (X1 m c) (X2 m c) (Cert.DoRefIdeal.Read.idx_main_v5 (Idealize.ShloMosaic.ix2 t h) k))
      ((D.g h t k * D.o t (col h k) : ℝ) : EReal) := fun k => by
    refine (Cert.DoRefIdeal.Read.val_main_v4_apply _ _ _ _).trans ?_
    have ei : Cert.DoRefIdeal.Read.idx_main_v4 (Cert.DoRefIdeal.Read.idx_main_v5 (Idealize.ShloMosaic.ix2 t h) k) = Idealize.ShloMosaic.ix2 t (col h k) := by
      funext b
      refine Fin.ext ?_
      match b with
      | ⟨0, _⟩ => show ((t.val * 8 + h.val) * 64 + k.val) / 512 = t.val; omega
      | ⟨1, _⟩ => show ((t.val * 8 + h.val) * 64 + k.val) % 512 = h.val * 64 + k.val; omega
    rw [ei]
    refine (Cert.DoRefIdeal.Read.val_main_v3_apply _ _ _ _).trans ?_
    have eh : hd (col h k) = h := Fin.ext (by show (h.val * 64 + k.val) / 64 = h.val; omega)
    have el : ln (col h k) = k := Fin.ext (by show (h.val * 64 + k.val) % 64 = k.val; omega)
    have ep := ref_prod R t (col h k)
    rw [eh, el] at ep
    rw [EReal.coe_mul, ← R.o, ← ep]
    rfl
  rw [Finset.sum_congr rfl fun k _ => e k, sum_coe]
  rw [Cert.DoRefIdeal.Read.val_main_cst_apply, Ideal.ofBits_def, Ideal.ofBits_zero_f32, zero_add]
  rfl

omit R

/-- The kernel's run: its two results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v12) = final m c main_v12
      ∧ r.2.mem ((c.tc : Thread nD τ).loc main_v25) = final m c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      (h.1 c).2 main_v12 (Pipeline.mem_restRefs_of main_v12 (by decide) (by decide)),
      (h.1 c).2 main_v25 (Pipeline.mem_restRefs_of main_v25 (by decide) (by decide)), h.2.1 c⟩)
    (θ_run_and (run_main m ρ) (frame m ρ))

/-- The attention branch's output gradient: at finite arguments kernel and reference leave the same two arrays. -/
theorem value [Cert.Pre_do_finite.Facts] : Cert.algebraic_DoIdeal_DoRefIdeal_pre_do_finite := fun m ρ m' ρ' hp hag =>
  ⟨_, _, run_results ρ, (θ_run _ _ _).mono (fun _ h c => by
      obtain ⟨D, R⟩ := reads_of_pre m hp c
      obtain ⟨h0, h1, hr⟩ := h c
      obtain ⟨e0, e1, e2⟩ := hag c
      rw [Cert.DoRefIdeal.Read.val_main_v2_eq, e1, e2] at h0
      rw [Cert.DoRefIdeal.Read.val_main_v5_eq, e0, e1, e2] at h1
      refine ⟨h0.trans (funext fun i => ?_), h1.trans (funext fun i => ?_), hr⟩
      · idx_vars i
        exact (ref_prod R i0 i1).trans (final_do R i0 i1).symm
      · idx_vars i
        exact (ref_sum R i0 i1).trans (final_sum R i0 i1).symm)
    (Cert.DoRefIdeal.Value.run m' ρ')⟩

end Cert.Proof.Do
-- ==== Proof.Merge.lean ====
/- The value of the merge's gradient: what the kernel leaves in its four results is, at every argument, what the plain
   reference computes. The kernel takes one block of 512 rows a grid point, reads the two gates' columns out of the
   projection packed into blocks of 1024 columns, and writes the logistic function by a hyperbolic tangent. -/
module

public import proofs.«01_k».proof.Proof.Gen.MergeIdeal.Value
public import proofs.«01_k».proof.Proof.Gen.MergeRefIdeal.Read
public import proofs.«01_k».proof.Proof.Scalars
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Merge

open Cert.MergeIdeal Cert.MergeIdeal.Gen
open Idealize.ShloMosaic Idealize.ShloMosaic.TcCoe Idealize.SL.Sem

variable (m : (ℓ : Loc nD τ sig) → Buf (Elt Ideal) ℓ)

/-- Which block each window holds at grid point `t`. -/
theorem idx0 : ∀ t : Fin grid0.N, win0_0.index t = ![t.val, 0] ∧ win0_1.index t = ![0, 0] ∧ win0_2.index t = ![t.val, 0]
    ∧ win0_3.index t = ![t.val, 0] ∧ win0_4.index t = ![t.val, 3] ∧ win0_5.index t = ![t.val, 4] ∧ win0_6.index t = ![t.val, 0]
    ∧ win0_7.index t = ![t.val, 0] ∧ win0_8.index t = ![t.val, 0] ∧ win0_9.index t = ![t.val, 0] := by
  decide +kernel

/-- The packed array at column `c`: its columns 3072 to 5119 are the projection's columns from 3080 on. -/
theorem packed_gate (c : Dev nD) (a : Fin 8192) (b : Fin 2048) :
    V m c main_v8 (ix2 a ⟨3072 + b.val, by omega⟩) = m ((c : Thread nD τ).loc main_arg2) (ix2 a ⟨3080 + b.val, by omega⟩) := by
  unfold V
  after_reads_at
  after_reads_at

/-- So the first gate's block at point `t` is rows `512 t` on of the projection's columns 3080 to 4103, -/
theorem X4 (c : Dev nD) (t : Fin cfg0.N) (a : Fin 512) (b : Fin 1024) (h) :
    X0_4 m c t (ix2 a b) = m ((c : Thread nD τ).loc main_arg2) (ix2 ⟨t.val * 512 + a.val, h⟩ ⟨3080 + b.val, by omega⟩) := by
  unfold X0_4 Pipeline.Window.fill
  rw [dif_pos (moved0_4 t (ix2 a b))]
  refine Eq.trans ?_ (packed_gate m c ⟨t.val * 512 + a.val, h⟩ ⟨b.val, by omega⟩)
  blk_ext [iblk, idx0 t]

/-- and the second gate's those of columns 4104 to 5127. -/
theorem X5 (c : Dev nD) (t : Fin cfg0.N) (a : Fin 512) (b : Fin 1024) (h) :
    X0_5 m c t (ix2 a b) = m ((c : Thread nD τ).loc main_arg2) (ix2 ⟨t.val * 512 + a.val, h⟩ ⟨4104 + b.val, by omega⟩) := by
  unfold X0_5 Pipeline.Window.fill
  rw [dif_pos (moved0_5 t (ix2 a b))]
  refine Eq.trans ?_ ((packed_gate m c ⟨t.val * 512 + a.val, h⟩ ⟨1024 + b.val, by omega⟩).trans ?_)
  · blk_ext [iblk, idx0 t]
  · blk_ext [idx0 t]

/-- A row of a block is a row of the array. -/
theorem row_lt (t : Fin cfg0.N) (a : Fin 512) : t.val * 512 + a.val < 8192 := by
  have := t.isLt
  simp [cfg0, grid0, Pipeline.Grid.N] at this
  omega

/-- The gradient of the first branch: the product's gradient times the first gate. -/
theorem out6 (c : Dev nD) : (dats m 0 c).arrAt 6 cfg0.N
    = Cert.MergeRefIdeal.Read.val_main_v38 (F := Ideal) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [← Cert.MergeRefIdeal.Read.val_main_v38_eq]
  blk_simp
  rw [after0_6]
  simp only [outsAt0]
  frame_out
  idx_vars y
  have he : ((View.whole main_v9_0).slice (win0_6.rect t)).emb (ix2 y0 y1) = ix2 (⟨t.val * 512 + y0.val, row_lt t y0⟩ : Fin 8192) y1 := by
    blk_ext [idx0 t]
  rw [he]
  unfold_payloads
  pointwise
  rw [X4 m c t y0 y1 (row_lt t y0), Scalars.half_tanh, Scalars.one_div_one_add_exp, mul_comm]
  blk_point [iblk, V, idx0 t]

/-- The gradient of the second branch. -/
theorem out7 (c : Dev nD) : (dats m 0 c).arrAt 7 cfg0.N
    = Cert.MergeRefIdeal.Read.val_main_v39 (F := Ideal) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [← Cert.MergeRefIdeal.Read.val_main_v39_eq]
  blk_simp
  rw [after0_7]
  simp only [outsAt0]
  frame_out
  idx_vars y
  have he : ((View.whole main_v9_1).slice (win0_7.rect t)).emb (ix2 y0 y1) = ix2 (⟨t.val * 512 + y0.val, row_lt t y0⟩ : Fin 8192) y1 := by
    blk_ext [idx0 t]
  rw [he]
  unfold_payloads
  pointwise
  rw [X5 m c t y0 y1 (row_lt t y0), Scalars.half_tanh, Scalars.one_div_one_add_exp, mul_comm]
  blk_point [iblk, V, idx0 t]

/-- The gradient of the first gate's argument: the product's gradient times the branch times the gate's derivative. -/
theorem out8 (c : Dev nD) : (dats m 0 c).arrAt 8 cfg0.N
    = Cert.MergeRefIdeal.Read.val_main_v40 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  rw [← Cert.MergeRefIdeal.Read.val_main_v40_eq]
  blk_simp
  rw [after0_8]
  simp only [outsAt0]
  frame_out
  idx_vars y
  have he : ((View.whole main_v9_2).slice (win0_8.rect t)).emb (ix2 y0 y1) = ix2 (⟨t.val * 512 + y0.val, row_lt t y0⟩ : Fin 8192) y1 := by
    blk_ext [idx0 t]
  rw [he]
  unfold_payloads
  pointwise
  rw [X4 m c t y0 y1 (row_lt t y0), Scalars.half_tanh, Scalars.one_div_one_add_exp, mul_assoc]
  blk_point [iblk, V, idx0 t]

/-- The gradient of the second gate's argument. -/
theorem out9 (c : Dev nD) : (dats m 0 c).arrAt 9 cfg0.N
    = Cert.MergeRefIdeal.Read.val_main_v41 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  rw [← Cert.MergeRefIdeal.Read.val_main_v41_eq]
  blk_simp
  rw [after0_9]
  simp only [outsAt0]
  frame_out
  idx_vars y
  have he : ((View.whole main_v9_3).slice (win0_9.rect t)).emb (ix2 y0 y1) = ix2 (⟨t.val * 512 + y0.val, row_lt t y0⟩ : Fin 8192) y1 := by
    blk_ext [idx0 t]
  rw [he]
  unfold_payloads
  pointwise
  rw [X5 m c t y0 y1 (row_lt t y0), Scalars.half_tanh, Scalars.one_div_one_add_exp, mul_assoc]
  blk_point [iblk, V, idx0 t]

end Cert.Proof.Merge

end
-- ==== Proof.AttnClosed.lean ====
/- Attention's backward kernel: its loops' trip counts and its accesses' places, in closed form. -/
module

public import proofs.«01_k».proof.Proof.Gen.AttnIdeal
public import proofs.«01_k».proof.Proof.Gen.AttnIdeal.Skeleton
public import Idealize.ShloMosaic.Lib.Tactic

@[expose] public section

set_option maxRecDepth 16384

noncomputable section

namespace Cert.Proof.Attn

open Cert.AttnIdeal Cert.AttnIdeal.Gen
open Idealize.ShloMosaic Idealize.ShloMosaic.Tactic

/-- The pairs of query blocks after key block `ki`. -/
theorem trips1 : ∀ i : grid0.Coords, (k0_t1_loop i).trips = (15 - (i 1).val) / 2 := by decide +kernel
/-- The pairs' own remainder loop never runs. -/
theorem trips2 : ∀ i : grid0.Coords, (k0_t2_loop i).trips = 0 := by decide +kernel
/-- The query block left over, if their number is odd. -/
theorem trips3 : ∀ i : grid0.Coords, (k0_t3_loop i).trips = (15 - (i 1).val) % 2 := by decide +kernel
/-- Its remainder loop never runs. -/
theorem trips4 : ∀ i : grid0.Coords, (k0_t4_loop i).trips = 0 := by decide +kernel

theorem off1_eq : ∀ i : grid0.Coords, k0_off1 i = ![0, (i 1).val * 512, 0] := by decide +kernel
theorem off2_eq0 : ∀ (i : grid0.Coords) (t : Fin (k0_t1_loop i).trips),
    k0_off2 i t 0#32 = ![0, ((i 1).val + 1 + 2 * t.val) * 512, 0] := by decide +kernel
theorem off2_eq1 : ∀ (i : grid0.Coords) (t : Fin (k0_t1_loop i).trips),
    k0_off2 i t 1#32 = ![0, ((i 1).val + 2 + 2 * t.val) * 512, 0] := by decide +kernel
theorem off4_eq : ∀ (i : grid0.Coords) (t : Fin (k0_t3_loop i).trips),
    k0_off4 i t = ![0, 15 * 512, 0] := by decide +kernel

instance (i : grid0.Coords) (t : Fin (k0_t1_loop i).trips) : ClosedOff (k0_off2 i t 0#32) := ⟨_, off2_eq0 i t⟩
instance (i : grid0.Coords) (t : Fin (k0_t1_loop i).trips) : ClosedOff (k0_off2 i t 1#32) := ⟨_, off2_eq1 i t⟩

end Cert.Proof.Attn
-- ==== Proof.AttnLoops.lean ====
/- Attention's backward kernel: one key block's pass over the query blocks, as a recursion on pure values, and the
   kernel's counted loops by it. The state carried is the pair of the key block's accumulators (keys', values') and the
   whole head's query accumulator. -/
module

public import proofs.«01_k».proof.Proof.AttnClosed
public import proofs.«01_k».proof.Proof.Gen.AttnIdeal.Frame
public import Idealize.ShloMosaic.Lib.VecWindow
public import Idealize.ShloMosaic.Lib.Exec

@[expose] public section

set_option maxRecDepth 16384

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄A" => MT nD τ sig Unit (Elt F) ℕ (UR sig nD τ) ℕ

/-- The accumulators of a key block (keys', values') and the head's query accumulator. -/
abbrev State (F : FTy → Type) [FloatOps F] : Type :=
  (FVec F S512x128 .f32 × FVec F S512x128 .f32) × Vec F S1x8192x128 .f32

theorem rows_inb (r : Fin 16) : ∀ a, (![0, r.val * 512, 0] : Fin 3 → ℕ) a + S1x512x128.size a ≤ S1x8192x128.size a := by
  revert r; decide +kernel

/-- Row block `r` of a head. -/
def rows {e : EltTy} (x : Vec F S1x8192x128 e) (r : Fin 16) : Vec F S1x512x128 e :=
  VecWindow.window (s := S1x8192x128) x ![0, r.val * 512, 0] S1x512x128.size (rows_inb r)

/-- The head with row block `r` replaced. -/
def putRows {e : EltTy} (x : Vec F S1x8192x128 e) (r : Fin 16) (w : Vec F S1x512x128 e) : Vec F S1x8192x128 e :=
  VecWindow.put (s := S1x8192x128) x ![0, r.val * 512, 0] S1x512x128.size w

/-- One query block `r` after the key block: the three accumulators after it. -/
def step (x0 x1 : Vec F S1x8192x128 .bf16) (v4 v6 : FVec F S512x128 .bf16) (r : Fin 16) (s : State F) : State F :=
  ((k0_pay6 v4 v6 s.1.1 (rows x0 r) (rows x1 r), k0_pay4 v4 s.1.2 (rows x0 r) (rows x1 r)),
    putRows s.2 r (k0_pay7 v4 v6 (rows x0 r) (rows x1 r) (rows s.2 r)))

/-- The first `n` query blocks from block `r0` on. -/
def steps (x0 x1 : Vec F S1x8192x128 .bf16) (v4 v6 : FVec F S512x128 .bf16) (r0 : ℕ) (s : State F) : ℕ → State F
  | 0 => s
  | n + 1 => step x0 x1 v4 v6 (Fin.ofNat 16 (r0 + n)) (steps x0 x1 v4 v6 r0 s n)

theorem steps_add (x0 x1 : Vec F S1x8192x128 .bf16) (v4 v6 : FVec F S512x128 .bf16) (r0 : ℕ) (s : State F) (a b : ℕ) :
    steps x0 x1 v4 v6 r0 s (a + b) = steps x0 x1 v4 v6 (r0 + a) (steps x0 x1 v4 v6 r0 s a) b := by
  induction b with
  | zero => rfl
  | succ b ih => rw [← Nat.add_assoc, steps, ih, steps, Nat.add_assoc]

/-- Another row block is untouched. -/
theorem rows_putRows_of_ne {e : EltTy} (x : Vec F S1x8192x128 e) {r r' : Fin 16} (h : r' ≠ r) (w : Vec F S1x512x128 e) :
    rows (putRows x r w) r' = rows x r' :=
  VecWindow.window_put_of_disjoint x _ _ _ _ _ w 1 (by
    show r'.val * 512 + 512 ≤ r.val * 512 ∨ r.val * 512 + 512 ≤ r'.val * 512
    have := fun e => h (Fin.ext e)
    omega)

/-- A load of row block `r` through a head's memref. -/
theorem readAt_rows {e : EltTy} (m : Memref sig .tc .vmem S1x8192x128 e) (f : BufTy.Contents (Elt F) m.view.ty) {off : Fin 3 → ℕ}
    (inb : ∀ a, off a + S1x512x128.size a ≤ S1x8192x128.size a) (r : Fin 16) (h : off = ![0, r.val * 512, 0]) :
    m.view.readAt (Elt F) (Rect.unit (s := S1x8192x128) off S1x512x128.size inb).toLoadRect f = rows (m.view.read (Elt F) f) r :=
  View.readAt_unit m.view f inb h (rows_inb r)

/-- The same, the block's sizes written out. -/
theorem readAt_rows' {e : EltTy} (m : Memref sig .tc .vmem S1x8192x128 e) (f : BufTy.Contents (Elt F) m.view.ty) {off : Fin 3 → ℕ}
    (inb : ∀ a, off a + (![1, 512, 128] : Fin 3 → ℕ) a ≤ S1x8192x128.size a) (r : Fin 16) (h : off = ![0, r.val * 512, 0]) :
    m.view.readAt (Elt F) (Rect.unit (s := S1x8192x128) off ![1, 512, 128] inb).toLoadRect f = rows (m.view.read (Elt F) f) r :=
  readAt_rows m f inb r h

/-- A store of row block `r` through a head's memref. -/
theorem read_writes_rows {e : EltTy} (m : Memref sig .tc .vmem S1x8192x128 e) (f : BufTy.Contents (Elt F) m.view.ty) {off : Fin 3 → ℕ}
    (inb : ∀ a, off a + S1x512x128.size a ≤ S1x8192x128.size a) (w : Vec F S1x512x128 e) (L : List (View.Piece (Elt F) S1x8192x128 e))
    (r : Fin 16) (h : off = ![0, r.val * 512, 0]) :
    m.view.read (Elt F) (m.view.writes (Elt F) f (⟨Rect.unit (s := S1x8192x128) off S1x512x128.size inb, w⟩ :: L))
      = putRows (m.view.read (Elt F) (m.view.writes (Elt F) f L)) r w :=
  View.read_writes_cons_put m.view f inb w L h

theorem off2_at0 (i : grid0.Coords) (k : Fin (k0_t1_loop i).trips) :
    k0_off2 i k 0#32 = ![0, (Fin.ofNat 16 ((i 1).val + 1 + 2 * k.val)).val * 512, 0] := by
  have h := k.isLt
  have ht := trips1 i
  rw [off2_eq0, Fin.val_ofNat, Nat.mod_eq_of_lt (by omega)]

theorem off2_at1 (i : grid0.Coords) (k : Fin (k0_t1_loop i).trips) :
    k0_off2 i k 1#32 = ![0, (Fin.ofNat 16 ((i 1).val + 1 + (2 * k.val + 1))).val * 512, 0] := by
  have h := k.isLt
  have ht := trips1 i
  rw [off2_eq1, Fin.val_ofNat, Nat.mod_eq_of_lt (by omega), show (i 1).val + 2 + 2 * k.val = (i 1).val + 1 + (2 * k.val + 1) by omega]

section Loops

variable (𝒱 : Variants) (c : Dev nD) (bd : Option 𝒱.V) (E : Set ℕ) (i : grid0.Coords)
  (arg2 : Memref sig .tc .vmem S1x8192x128 .bf16) (harg2 : arg2.IsWhole) (arg3 : Memref sig .tc .vmem S1x8192x128 .bf16) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S1x8192x128 .f32) (harg6 : arg6.IsWhole) (arg7 : Memref sig .tc .vmem S1x512x128 .f32) (harg7 : arg7.IsWhole)
  (arg8 : Memref sig .tc .vmem S1x512x128 .f32) (harg8 : arg8.IsWhole)

/-- What a loop holds at a state: the queries and cotangents read, the query accumulator at the state's, the carried
    pair the state's. -/
abbrev held (X2 : BufTy.Contents (Elt F) arg2.view.ty) (X3 : BufTy.Contents (Elt F) arg3.view.ty) (s : State F)
    (acc : FVec F S512x128 .f32 × FVec F S512x128 .f32) : sProp 𝕄A :=
  iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜arg6.view.read (Elt F) f = s.2⌝) ∗ ⌜acc = s.1⌝)

/-- One trip of the single loop. -/
theorem trip3 (v4 v6 : FVec F S512x128 .bf16) (X2 : BufTy.Contents (Elt F) arg2.view.ty) (X3 : BufTy.Contents (Elt F) arg3.view.ty)
    (k : Fin (k0_t3_loop i).trips) (s : State F) (acc : FVec F S512x128 .f32 × FVec F S512x128 .f32) :
    held (F := F) c arg2 arg3 arg6 X2 X3 s acc
      ⊢ wp frame (wpE (defs₀ (F := F)) 𝒱 (c : Thread nD τ) bd) E
          (k0_t3_body (F := F) i arg2 harg2 arg3 harg3 arg4 harg4 arg5 harg5 arg6 harg6 arg7 harg7 arg8 harg8 v4 v6 k acc)
          (fun yld => held (F := F) c arg2 arg3 arg6 X2 X3 (step (arg2.view.read (Elt F) X2) (arg3.view.read (Elt F) X3) v4 v6 15 s) yld) := by
  unfold k0_t3_body
  iintro ⟨H2, H3, ⟨%f, H6, %hf⟩, %ha⟩
  subst ha
  sl_exec
  sl_step
  have o : k0_off4 i k = ![0, (15 : Fin 16).val * 512, 0] := off4_eq i k
  isplitl [H2]; · iexact H2
  isplitl [H3]; · iexact H3
  isplitl [H6]
  · iexists _; isplitl [H6]; · iexact H6
    ipureintro
    rw [read_writes_rows arg6 _ _ _ _ 15 o, readAt_rows arg2 _ _ 15 o, readAt_rows arg3 _ _ 15 o, readAt_rows arg6 _ _ 15 o, View.writes_nil, hf]
    rfl
  ipureintro
  rw [readAt_rows arg2 _ _ 15 o, readAt_rows arg3 _ _ 15 o]
  rfl

/-- One trip of the paired loop: two query blocks. -/
theorem trip1 (arg1 : BitVec 32) (v4 v6 : FVec F S512x128 .bf16) (v10 : BitVec 32) (v26 : FVec F S512x128 .f32) (v29 : FVec F S512x512 .bf16)
    (v31 v34 : FVec F S512x128 .f32) (v41 : BitVec 32) (X2 : BufTy.Contents (Elt F) arg2.view.ty) (X3 : BufTy.Contents (Elt F) arg3.view.ty)
    (k : Fin (k0_t1_loop i).trips) (s : State F) (acc : FVec F S512x128 .f32 × FVec F S512x128 .f32) :
    held (F := F) c arg2 arg3 arg6 X2 X3 s acc
      ⊢ wp frame (wpE (defs₀ (F := F)) 𝒱 (c : Thread nD τ) bd) E
          (k0_t1_body (F := F) i arg2 harg2 arg3 harg3 arg4 harg4 arg5 harg5 arg6 harg6 arg7 harg7 arg8 harg8 arg1 v4 v6 v10 v26 v29 v31 v34 v41 k acc)
          (fun yld => held (F := F) c arg2 arg3 arg6 X2 X3
            (step (arg2.view.read (Elt F) X2) (arg3.view.read (Elt F) X3) v4 v6 (Fin.ofNat 16 ((i 1).val + 1 + (2 * k.val + 1)))
              (step (arg2.view.read (Elt F) X2) (arg3.view.read (Elt F) X3) v4 v6 (Fin.ofNat 16 ((i 1).val + 1 + 2 * k.val)) s)) yld) := by
  unfold k0_t1_body
  simp only [k0_part1_eq_skeleton]
  unfold k0_part1_skel
  iintro ⟨H2, H3, ⟨%f, H6, %hf⟩, %ha⟩
  subst ha
  sl_exec
  sl_step
  have o := off2_at0 i k
  have o' := off2_at1 i k
  isplitl [H2]; · iexact H2
  isplitl [H3]; · iexact H3
  isplitl [H6]
  · iexists _; isplitl [H6]; · iexact H6
    ipureintro
    dsimp only
    rw [read_writes_rows arg6 _ _ _ _ _ o', read_writes_rows arg6 _ _ _ _ _ o]
    unfold trip1.sl.v152
    have o2 : Fin.ofNat 16 ((i 1).val + 1 + (2 * k.val + 1)) ≠ Fin.ofNat 16 ((i 1).val + 1 + 2 * k.val) := fun h => by
      have h := congrArg Fin.val h
      simp only [Fin.val_ofNat] at h
      omega
    rw [readAt_rows' arg2 _ _ _ o, readAt_rows' arg3 _ _ _ o, readAt_rows' arg6 _ _ _ o, readAt_rows' arg2 _ _ _ o', readAt_rows' arg3 _ _ _ o',
      readAt_rows' arg6 _ _ _ o']
    rw [View.writes_nil, hf]
    unfold step
    dsimp only
    rw [rows_putRows_of_ne _ o2]
    rfl
  ipureintro
  dsimp only
  rw [readAt_rows' arg2 _ _ _ o, readAt_rows' arg3 _ _ _ o, readAt_rows' arg2 _ _ _ o', readAt_rows' arg3 _ _ _ o']
  rfl

set_option warn.classDefReducibility false in
/-- The paired loop's invariant. -/
@[sl_loop] def inv1 (arg1 : BitVec 32) (v4 v6 : FVec F S512x128 .bf16) (v10 : BitVec 32) (v26 : FVec F S512x128 .f32) (v29 : FVec F S512x512 .bf16)
    (v31 v34 : FVec F S512x128 .f32) (v41 : BitVec 32) (X2 : BufTy.Contents (Elt F) arg2.view.ty) (X3 : BufTy.Contents (Elt F) arg3.view.ty)
    (f0 : BufTy.Contents (Elt F) arg6.view.ty) (init : FVec F S512x128 .f32 × FVec F S512x128 .f32) :
    Idealize.ShloMosaic.LoopInv (M := 𝕄A) Idealize.ShloMosaic.frame (wpE (defs₀ (F := F)) 𝒱 (c : Thread nD τ) bd) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg1 v4 v6 v10 v26 v29 v31 v34 v41) where
  inv k acc := held (F := F) c arg2 arg3 arg6 X2 X3
    (steps (arg2.view.read (Elt F) X2) (arg3.view.read (Elt F) X3) v4 v6 ((i 1).val + 1) (init, arg6.view.read (Elt F) f0) (2 * k)) acc
  step k acc := trip1 𝒱 c bd E i arg2 harg2 arg3 harg3 arg4 harg4 arg5 harg5 arg6 harg6 arg7 harg7 arg8 harg8 arg1 v4 v6 v10 v26 v29 v31 v34 v41 X2 X3 k _ acc

set_option warn.classDefReducibility false in
/-- The single loop's invariant. -/
@[sl_loop] def inv3 (v4 v6 : FVec F S512x128 .bf16) (X2 : BufTy.Contents (Elt F) arg2.view.ty) (X3 : BufTy.Contents (Elt F) arg3.view.ty)
    (f0 : BufTy.Contents (Elt F) arg6.view.ty) (init : FVec F S512x128 .f32 × FVec F S512x128 .f32) :
    Idealize.ShloMosaic.LoopInv (M := 𝕄A) Idealize.ShloMosaic.frame (wpE (defs₀ (F := F)) 𝒱 (c : Thread nD τ) bd) E
      (k0_t3_loop i).lb (k0_t3_loop i).ub (k0_t3_loop i).st (k0_t3_ok i) init
      (k0_t3_body (F := F) i arg2 harg2 arg3 harg3 arg4 harg4 arg5 harg5 arg6 harg6 arg7 harg7 arg8 harg8 v4 v6) where
  inv k acc := held (F := F) c arg2 arg3 arg6 X2 X3
    (steps (arg2.view.read (Elt F) X2) (arg3.view.read (Elt F) X3) v4 v6 15 (init, arg6.view.read (Elt F) f0) k) acc
  step k acc := by
    have hk : k.val = 0 := by have h : k.val < (k0_t3_loop i).trips := k.isLt; rw [trips3 i] at h; omega
    have h := trip3 𝒱 c bd E i arg2 harg2 arg3 harg3 arg4 harg4 arg5 harg5 arg6 harg6 arg7 harg7 arg8 harg8 v4 v6 X2 X3 k
      (steps (arg2.view.read (Elt F) X2) (arg3.view.read (Elt F) X3) v4 v6 15 (init, arg6.view.read (Elt F) f0) k) acc
    rw [steps, show Fin.ofNat 16 (15 + k.val) = 15 by rw [hk]; rfl]
    exact h

end Loops

end Cert.Proof.Attn
-- ==== Proof.AttnRun.lean ====
/- Attention's backward kernel: one grid point of it, run once over any values; what its three outputs hold after it. -/
module

public import proofs.«01_k».proof.Proof.AttnLoops
public import proofs.«01_k».proof.Proof.Gen.AttnIdeal.Points

@[expose] public section

set_option maxRecDepth 16384

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄A" => MT nD τ sig Unit (Elt F) ℕ (UR sig nD τ) ℕ

/-- The key block's own query block, whose scores are masked above the diagonal: the state after it. -/
def first (x0 x1 : Vec F S1x8192x128 .bf16) (x2 x3 : Vec F S1x512x128 .bf16) (D : Vec F S1x8192x128 .f32) (r : Fin 16) : State F :=
  ((k0_pay39 x2 x3 (rows x0 r) (rows x1 r), k0_pay37 x2 (rows x0 r) (rows x1 r)),
    putRows D r (k0_pay41 (k0_pay32 x2) (k0_pay38 x2 x3 (rows x0 r) (rows x1 r)) (k0_pay40 (rows D r))))

/-- All the query blocks of key block `r`, from the query accumulator `D`. -/
def pass (x0 x1 : Vec F S1x8192x128 .bf16) (x2 x3 : Vec F S1x512x128 .bf16) (D : Vec F S1x8192x128 .f32) (r : Fin 16) : State F :=
  steps x0 x1 (k0_pay32 x2) (k0_pay33 x3) (r.val + 1) (first x0 x1 x2 x3 D r) (15 - r.val)

/-- The condition of the body: the head's first key block. -/
abbrev cond (i : grid0.Coords) : Prop :=
  Scalar.cmpi .ne (Scalar.extui (Scalar.cmpi .eq (BitVec.ofNat 32 (i 1).val) 0#32) : BitVec 32) 0#32 = 1#1

/-- The query accumulator that a point starts from. -/
def start (i : grid0.Coords) (x6 : Vec F S1x8192x128 .f32) : Vec F S1x8192x128 .f32 :=
  if (i 1).val = 0 then k0_pay31 (F := F) else x6

theorem cond_iff (i : grid0.Coords) : cond i ↔ (i 1).val = 0 := by
  have h : ∀ j : Fin 16, Scalar.cmpi .ne (Scalar.extui (Scalar.cmpi .eq (BitVec.ofNat 32 j.val) 0#32) : BitVec 32) 0#32 = 1#1 ↔ j.val = 0 := by decide +kernel
  exact h (i 1)

/-- The passes of the paired loop and of the single one make one. -/
theorem pass_eq (x0 x1 : Vec F S1x8192x128 .bf16) (x2 x3 : Vec F S1x512x128 .bf16) (D : Vec F S1x8192x128 .f32) (i : grid0.Coords) :
    steps x0 x1 (k0_pay32 x2) (k0_pay33 x3) 15
        (steps x0 x1 (k0_pay32 x2) (k0_pay33 x3) ((i 1).val + 1) (first x0 x1 x2 x3 D (i 1)) (2 * (k0_t1_loop i).trips)) (k0_t3_loop i).trips
      = pass x0 x1 x2 x3 D (i 1) := by
  have h1 := trips1 i
  have h3 := trips3 i
  have hi : (i 1).val < 16 := (i 1).isLt
  unfold pass
  rcases Nat.mod_two_eq_zero_or_one (15 - (i 1).val) with h | h
  · rw [h3, h, steps, show 2 * (k0_t1_loop i).trips = 15 - (i 1).val by omega]
  · rw [h3, h, show 15 - (i 1).val = 2 * (k0_t1_loop i).trips + 1 by omega, steps_add,
      show (i 1).val + 1 + 2 * (k0_t1_loop i).trips = 15 by omega]

section Run

variable (c : Dev nD) (E : Set ℕ) (i : grid0.Coords)
  (arg2 : Memref sig .tc .vmem S1x8192x128 .bf16) (harg2 : arg2.IsWhole) (arg3 : Memref sig .tc .vmem S1x8192x128 .bf16) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S1x8192x128 .f32) (harg6 : arg6.IsWhole) (arg7 : Memref sig .tc .vmem S1x512x128 .f32) (harg7 : arg7.IsWhole)
  (arg8 : Memref sig .tc .vmem S1x512x128 .f32) (harg8 : arg8.IsWhole)

/-- The body at any point: the query accumulator `x6` it finds is overwritten by zeros at the head's first key block. -/
theorem run (x0 x1 : Vec F S1x8192x128 .bf16) (x2 x3 : Vec F S1x512x128 .bf16) (x6 : Vec F S1x8192x128 .f32) (K : PUnit → sProp 𝕄A) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x6 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (pass x0 x1 x2 x3 (start i x6) (i 1)).2
            ∗ owns (c : Thread nD τ) arg7 fullShare (k0_pay15 (pass x0 x1 x2 x3 (start i x6) (i 1)).1.1)
            ∗ owns (c : Thread nD τ) arg8 fullShare (k0_pay16 (pass x0 x1 x2 x3 (start i x6) (i 1)).1.2)) -∗ K ⟨⟩))
      ⊢ wp frame (wpE (defs₀ (F := F)) Variants.none c none) E
          (cc0_attn_bwd i arg2 harg2 arg3 harg3 arg4 harg4 arg5 harg5 arg6 harg6 arg7 harg7 arg8 harg8) K := by
  have h2 := trips2 i
  have h4 := trips4 i
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, Hk⟩
  sl_exec
  sl_step
  have hD : arg6.view.read (Elt F) (if hc : run.sl.v2 i = 1#1 then arg6.view.writes (Elt F) f6
      [⟨Rect.unit ![0, 0, 0] S1x8192x128.size inb_S1x8192x128_S1x8192x128_0_0_0, k0_pay31⟩] else f6) = start i x6 := by
    have e : run.sl.v2 i = 1#1 ↔ (i 1).val = 0 := cond_iff i
    unfold start
    by_cases hc : (i 1).val = 0
    · rw [dif_pos (e.mpr hc), if_pos hc]
      exact View.read_writes_full arg6.view f6 _ _ _
    · rw [dif_neg (fun h => hc (e.mp h)), if_neg hc, hf6]
  have o : k0_off1 i = ![0, (i 1).val * 512, 0] := off1_eq i
  have e0 : run.sl.r c arg4 f2 = k0_pay32 x2 := by unfold run.sl.r; rw [View.readAt_full, hf2]
  have e1 : run.sl.r_1 c arg5 f3 = k0_pay33 x3 := by unfold run.sl.r_1; rw [View.readAt_full, hf3]
  have e2 : run.sl.r_2 c i arg2 arg3 arg4 f0 f1 f2 = k0_pay37 x2 (rows x0 (i 1)) (rows x1 (i 1)) := by
    unfold run.sl.r_2; rw [View.readAt_full, readAt_rows arg2 _ _ (i 1) o, readAt_rows arg3 _ _ (i 1) o, hf0, hf1, hf2]
  have e3 : run.sl.r_3 c i arg2 arg3 arg4 arg5 f0 f1 f2 f3 = k0_pay38 x2 x3 (rows x0 (i 1)) (rows x1 (i 1)) := by
    unfold run.sl.r_3; rw [View.readAt_full, View.readAt_full, readAt_rows arg2 _ _ (i 1) o, readAt_rows arg3 _ _ (i 1) o, hf0, hf1, hf2, hf3]
  have e4 : run.sl.r_4 c i arg2 arg3 arg4 arg5 f0 f1 f2 f3 = k0_pay39 x2 x3 (rows x0 (i 1)) (rows x1 (i 1)) := by
    unfold run.sl.r_4; rw [View.readAt_full, View.readAt_full, readAt_rows arg2 _ _ (i 1) o, readAt_rows arg3 _ _ (i 1) o, hf0, hf1, hf2, hf3]
  have e5 : run.sl.r_5 c i arg6 f6 = k0_pay40 (rows (start i x6) (i 1)) := by
    unfold run.sl.r_5 run.sl.v33
    rw [readAt_rows arg6 _ _ (i 1) o, hD]
  have hS : (((run.sl.r_4 c i arg2 arg3 arg4 arg5 f0 f1 f2 f3, run.sl.r_2 c i arg2 arg3 arg4 f0 f1 f2),
      arg6.view.read (Elt F) (arg6.view.writes (Elt F) (if hc : run.sl.v2 i = 1#1 then arg6.view.writes (Elt F) f6
        [⟨Rect.unit ![0, 0, 0] S1x8192x128.size inb_S1x8192x128_S1x8192x128_0_0_0, k0_pay31⟩] else f6)
        [⟨Rect.unit (k0_off1 i) S1x512x128.size (k0_off1_inb i), k0_pay41 (run.sl.r c arg4 f2) (run.sl.r_3 c i arg2 arg3 arg4 arg5 f0 f1 f2 f3)
          (run.sl.r_5 c i arg6 f6)⟩])) : State F) = first x0 x1 x2 x3 (start i x6) (i 1) := by
    rw [read_writes_rows arg6 _ _ _ _ (i 1) o, View.writes_nil, hD, e0, e2, e3, e4, e5]
    rfl
  rw [hS, hf0, hf1, e0, e1] at hL3
  have e6 : run.sl.r_6 c i arg2 arg3 arg4 arg5 arg6 f0 f1 f2 f3 f6
      = (steps x0 x1 (k0_pay32 x2) (k0_pay33 x3) ((i 1).val + 1) (first x0 x1 x2 x3 (start i x6) (i 1)) (2 * (k0_t1_loop i).trips)).1.1 := by
    unfold run.sl.r_6; rw [hS, hf0, hf1, e0, e1]
  have e7 : run.sl.r_7 c i arg2 arg3 arg4 arg5 arg6 f0 f1 f2 f3 f6
      = (steps x0 x1 (k0_pay32 x2) (k0_pay33 x3) ((i 1).val + 1) (first x0 x1 x2 x3 (start i x6) (i 1)) (2 * (k0_t1_loop i).trips)).1.2 := by
    unfold run.sl.r_7; rw [hS, hf0, hf1, e0, e1]
  have hP : steps (arg2.view.read (Elt F) f0) (arg3.view.read (Elt F) f1) (run.sl.r c arg4 f2) (run.sl.r_1 c arg5 f3) 15
      ((run.sl.r_6 c i arg2 arg3 arg4 arg5 arg6 f0 f1 f2 f3 f6, run.sl.r_7 c i arg2 arg3 arg4 arg5 arg6 f0 f1 f2 f3 f6), arg6.view.read (Elt F) fL0)
      (Scf.trips (k0_t3_loop i).lb (k0_t3_loop i).ub (k0_t3_loop i).st) = pass x0 x1 x2 x3 (start i x6) (i 1) := by
    rw [hf0, hf1, e0, e1, e6, e7, hL3]
    exact pass_eq x0 x1 x2 x3 (start i x6) i
  rw [hP] at hL9
  rw [hP]
  iapply Hk
  isplitl [H0]
  · iexists _; isplitr; swap; iexact H0; ipureintro; exact hf0
  isplitl [H1]
  · iexists _; isplitr; swap; iexact H1; ipureintro; exact hf1
  isplitl [H2]
  · iexists _; isplitr; swap; iexact H2; ipureintro; exact hf2
  isplitl [H3]
  · iexists _; isplitr; swap; iexact H3; ipureintro; exact hf3
  isplitl [H6]
  · iexists _; isplitr; swap; iexact H6; ipureintro; exact hL9
  isplitl [H7]
  · iexists _; isplitr; swap; iexact H7
    ipureintro; exact View.read_writes_full arg7.view f7 _ _ _
  iexists _; isplitr; swap; iexact H8
  ipureintro; exact View.read_writes_full arg8.view f8 _ _ _

end Run

end Cert.Proof.Attn
-- ==== Proof.AttnFrame.lean ====
/- Attention's backward kernel: what its outputs hold after each grid point, the run of the whole program, its frame. -/
module

public import proofs.«01_k».proof.Proof.AttnRun
public import Idealize.ShloMosaic.Lib.Claim

@[expose] public section

set_option maxRecDepth 16384

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Point `t`'s key block within its head. -/
theorem coords_key (t : Fin grid0.N) : (grid0.coords t 1).val = t.val % 16 := by
  have h := Pipeline.Grid.coords_val (G := grid0) (S := 1) (B := 16) t 1 (by decide) rfl
  rwa [Nat.div_one] at h

/-- What point `t` computes from its four blocks and the query accumulator `x` it finds. -/
def point (c : Dev nD) (t : Fin cfg0.N) (x : Vec F S1x8192x128 .f32) : State F :=
  pass (iblk m c 0 t) (iblk m c 1 t) (iblk m c 2 t) (iblk m c 3 t) (start (grid0.coords t) x) (grid0.coords t 1)

/-- The state after the body at point `n`: over the query accumulator the point before left. -/
def after (c : Dev nD) : (n : ℕ) → n < cfg0.N → State F
  | 0, hn => point m c ⟨0, hn⟩ k0_pay31
  | n + 1, hn => point m c ⟨n + 1, hn⟩ (after c n (Nat.lt_of_succ_lt hn)).2

/-- At a head's first key block the accumulator found makes no difference. -/
theorem point_first (c : Dev nD) (t : Fin cfg0.N) (h : t.val % 16 = 0) (x y : Vec F S1x8192x128 .f32) :
    point m c t x = point m c t y := by
  unfold point start
  rw [if_pos ((coords_key t).trans h), if_pos ((coords_key t).trans h)]

theorem after_first (c : Dev nD) (t : Fin cfg0.N) (h : t.val % 16 = 0) (x : Vec F S1x8192x128 .f32) :
    after m c t.val t.isLt = point m c t x := by
  obtain ⟨n, hn⟩ := t
  cases n with
  | zero => exact point_first m c ⟨0, hn⟩ h _ _
  | succ n => exact point_first m c ⟨n + 1, hn⟩ h _ _

theorem after_next (c : Dev nD) (t : Fin cfg0.N) (h : 0 < t.val) :
    after m c t.val t.isLt = point m c t (after m c (t.val - 1) (Nat.lt_of_le_of_lt (Nat.sub_le _ _) t.isLt)).2 := by
  obtain ⟨n, hn⟩ := t
  cases n with
  | zero => exact absurd h (Nat.lt_irrefl _)
  | succ n => rfl

/-- The pipeline's proof data: inputs keep their blocks, the outputs hold what the points computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (after m c t.val t.isLt).2
    | ⟨5, _⟩ => k0_pay15 (after m c t.val t.isLt).1.1
    | ⟨6, _⟩ => k0_pay16 (after m c t.val t.isLt).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (after m c t.val t.isLt).2 := by dsimp only [dats]
theorem after0_5 (c : Dev nD) (t : Fin cfg0.N) : (dats m 0 c).after 5 t = k0_pay15 (after m c t.val t.isLt).1.1 := by dsimp only [dats]
theorem after0_6 (c : Dev nD) (t : Fin cfg0.N) : (dats m 0 c).after 6 t = k0_pay16 (after m c t.val t.isLt).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Within a head the query accumulator is found as the point before left it. -/
theorem before0_4 (c : Dev nD) (t : Fin cfg0.N) (h : t.val % 16 ≠ 0) (d) :
    (dats m 0 c).before 4 t d = (after m c (t.val - 1) (Nat.lt_of_le_of_lt (Nat.sub_le _ _) t.isLt)).2 := by
  rw [Dat.before_out_kept _ 4 rfl t (by omega) (Bool.eq_false_iff.mpr fun h => by have := (flush0_4 _).mp h; dsimp only at this; omega)
    (fun _ => rfl) (fun _ _ => rfl)]
  dsimp only [dats]

/-- Whatever the query accumulator's buffer holds before point `t`, the point leaves `after`. -/
theorem point_before (c : Dev nD) (t : Fin cfg0.N) (d) :
    point m c t ((dats m 0 c).before 4 t d) = after m c t.val t.isLt := by
  by_cases h : t.val % 16 = 0
  · exact (after_first m c t h _).symm
  · rw [before0_4 m c t h, ← after_next m c t (by omega)]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← point_before m c t d4]
  iapply (run c Set.univ (grid0.coords t) _ _ _ _ _ _ _ _ _ _ _ _ _ _ (iblk m c 0 t) (iblk m c 1 t) (iblk m c 2 t) (iblk m c 3 t)
    ((dats m 0 c).before 4 t d4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole program runs; its arrays end as the points left them, its semaphores at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose)
    (hshare := fun c => (dats m 0 c).share_full fun _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments are unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Attn
-- ==== Proof.AttnFrames.lean ====
/- The frames of attention's backward program at the floats' bits and at the reals, both from the one run. -/
module

public import proofs.«01_k».proof.Defs
public import proofs.«01_k».proof.Proof.AttnFrame
public import proofs.«01_k».proof.Proof.Gen.Attn
public import proofs.«01_k».proof.Proof.Gen.AttnRefIdeal.Run

@[expose] public section

noncomputable section

namespace Cert.Proof.Attn

open Idealize.ShloMosaic Idealize.SL.Sem

theorem frame_ideal : Cert.quiescent_AttnIdeal := fun m ρ _ => frame (F := Ideal) m ρ
theorem frame_ideal_pre [Cert.Pre_attn_finite.Facts] : Cert.quiescent_AttnIdeal_pre_attn_finite := fun m ρ _ => frame (F := Ideal) m ρ
theorem frame_bits : Cert.quiescent_Attn := fun m ρ _ => by
  refine Eq.mp ?_ (frame (F := Bits) m ρ)
  sl_kernel_rfl

/-- The reference runs and leaves its arguments and the counters alone. -/
theorem frame_ref : Cert.quiescent_AttnRefIdeal := fun m ρ _ =>
  (θ_run _ _ _).mono (fun r h => ⟨fun c => (h c).2.2.2.2, sem_eq_zero_of_no_sems (by decide) r.2⟩)
    (Cert.AttnRefIdeal.Value.run m ρ)

theorem frame_ref_pre [Cert.Pre_attn_finite.Facts] : Cert.quiescent_AttnRefIdeal_pre_attn_finite := fun m ρ _ =>
  (θ_run _ _ _).mono (fun r h => ⟨fun c => (h c).2.2.2.2, sem_eq_zero_of_no_sems (by decide) r.2⟩)
    (Cert.AttnRefIdeal.Value.run m ρ)

end Cert.Proof.Attn
-- ==== Proof.AttnTile.lean ====
/- One key block against one query block over the reals: what the kernel's payloads hold where their blocks hold reals. -/
module

public import proofs.«01_k».proof.Proof.AttnRun
public import proofs.«01_k».proof.Proof.AttnReal
public import Idealize.ShloMosaic.Lib.Pointwise

@[expose] public section

set_option maxRecDepth 16384

noncomputable section

namespace Cert.Proof.Attn

open Cert.AttnIdeal Cert.AttnIdeal.Gen
open Idealize.ShloMosaic Idealize.ShloMosaic.TcCoe Idealize.SL.Sem

/-- The token of lane `j` of row block `r`. -/
def tok (r : Fin 16) (j : Fin 512) : Fin 8192 := ⟨r.val * 512 + j.val, by omega⟩

/-- A loaded block, and a block without its leading axis, hold reals. -/
def Tile (x : S1x512x128.Idx → EReal) (X : Fin 512 → Fin 128 → ℝ) : Prop :=
  ∀ j l, x (Idealize.ShloMosaic.ix3 0 j l) = ((X j l : ℝ) : EReal)
def Flat (x : S512x128.Idx → EReal) (X : Fin 512 → Fin 128 → ℝ) : Prop :=
  ∀ j l, x (Idealize.ShloMosaic.ix2 j l) = ((X j l : ℝ) : EReal)
def Head (x : S1x8192x128.Idx → EReal) (X : Fin 8192 → Fin 128 → ℝ) : Prop :=
  ∀ j l, x (Idealize.ShloMosaic.ix3 0 j l) = ((X j l : ℝ) : EReal)

/-- The kernel's probabilities and gradients of a pair of blocks. -/
def pr (K Q : Fin 512 → Fin 128 → ℝ) (a b : Fin 512) : ℝ := Real.rpow 2 (∑ l, K a l * Q b l)
def gr (K V Q G : Fin 512 → Fin 128 → ℝ) (a b : Fin 512) : ℝ := pr K Q a b * ∑ l, V a l * G b l

section
variable {v4 v6 : FVec Ideal S512x128 .bf16} {x0 x1 x2 x3 : FVec Ideal S1x512x128 .bf16} {K V Q G : Fin 512 → Fin 128 → ℝ}

theorem pay3_at (hk : Flat v4 K) (hq : Tile x0 Q) (a b : Fin 512) :
    k0_pay3 (F := Ideal) v4 x0 (Idealize.ShloMosaic.ix2 a b) = ((pr K Q a b : ℝ) : EReal) := by
  unfold k0_pay3 k0_pay1
  pointwise
  simp only [hk _ _, hq _ _, ← EReal.coe_mul, sum_coe]
  exact Ideal.exp2_coe _

theorem pay5_at (hk : Flat v4 K) (hv : Flat v6 V) (hq : Tile x0 Q) (hg : Tile x1 G) (a b : Fin 512) :
    k0_pay5 (F := Ideal) v4 v6 x0 x1 (Idealize.ShloMosaic.ix2 a b) = ((gr K V Q G a b : ℝ) : EReal) := by
  unfold k0_pay5 k0_pay2
  pointwise
  simp only [pay3_at hk hq, hv _ _, hg _ _, ← EReal.coe_mul, sum_coe]
  rfl

theorem pay4_at (hk : Flat v4 K) (hq : Tile x0 Q) (hg : Tile x1 G) {v : FVec Ideal S512x128 .f32} {W : Fin 512 → Fin 128 → ℝ}
    (hw : Flat v W) : Flat (k0_pay4 (F := Ideal) v4 v x0 x1) fun a l => W a l + ∑ b, pr K Q a b * G b l := by
  intro a l
  unfold k0_pay4 k0_pay2
  pointwise
  simp only [pay3_at hk hq, hg _ _, hw _ _, ← EReal.coe_mul, sum_coe, ← EReal.coe_add]

theorem pay6_at (hk : Flat v4 K) (hv : Flat v6 V) (hq : Tile x0 Q) (hg : Tile x1 G) {v : FVec Ideal S512x128 .f32} {W : Fin 512 → Fin 128 → ℝ}
    (hw : Flat v W) : Flat (k0_pay6 (F := Ideal) v4 v6 v x0 x1) fun a l => W a l + ∑ b, gr K V Q G a b * Q b l := by
  intro a l
  unfold k0_pay6 k0_pay1
  pointwise
  simp only [pay5_at hk hv hq hg, hq _ _, hw _ _, ← EReal.coe_mul, sum_coe, ← EReal.coe_add]

theorem pay7_at (hk : Flat v4 K) (hv : Flat v6 V) (hq : Tile x0 Q) (hg : Tile x1 G) {v : FVec Ideal S1x512x128 .f32} {W : Fin 512 → Fin 128 → ℝ}
    (hw : Tile v W) : Tile (k0_pay7 (F := Ideal) v4 v6 x0 x1 v) fun b l => W b l + ∑ a, gr K V Q G a b * K a l := by
  intro b l
  unfold k0_pay7
  pointwise
  simp only [pay5_at hk hv hq hg, hk _ _, hw _ _, ← EReal.coe_mul, sum_coe, ← EReal.coe_add]

theorem pay32_at (hk : Tile x2 K) : Flat (k0_pay32 (F := Ideal) x2) K := by
  intro a l; unfold k0_pay32; pointwise; exact hk a l

theorem pay33_at (hv : Tile x3 V) : Flat (k0_pay33 (F := Ideal) x3) V := by
  intro a l; unfold k0_pay33; pointwise; exact hv a l

/-- The diagonal's block: keys after the query count nothing. -/
theorem pay36_at (hk : Tile x2 K) (hq : Tile x0 Q) (a b : Fin 512) :
    k0_pay36 (F := Ideal) x2 x0 (Idealize.ShloMosaic.ix2 a b) = (((if a ≤ b then pr K Q a b else 0) : ℝ) : EReal) := by
  unfold k0_pay36 k0_pay34
  pointwise
  simp only [pay32_at hk _ _, hq _ _, ← EReal.coe_mul, sum_coe]
  have e : ∀ n : ℕ, n < 512 → (BitVec.ofNat 32 n).toInt = n := fun n hn => by
    rw [BitVec.toInt_eq_toNat_of_lt] <;> simp only [BitVec.toNat_ofNat] <;> omega
  have hc : IntOp.cmpi CmpIPredicate.sge (BitVec.ofNat 32 b.val) (BitVec.ofNat 32 a.val) = 1#1 ↔ a ≤ b := by
    rw [IntOp.cmpi_sge, e _ a.isLt, e _ b.isLt, Fin.le_def]; omega
  by_cases h : a ≤ b
  · rw [if_pos h]
    exact (if_pos (hc.mpr h)).trans (Ideal.exp2_coe _)
  · rw [if_neg h]
    exact if_neg fun w => h (hc.mp w)

theorem pay38_at (hk : Tile x2 K) (hv : Tile x3 V) (hq : Tile x0 Q) (hg : Tile x1 G) (a b : Fin 512) :
    k0_pay38 (F := Ideal) x2 x3 x0 x1 (Idealize.ShloMosaic.ix2 a b) = (((if a ≤ b then gr K V Q G a b else 0) : ℝ) : EReal) := by
  unfold k0_pay38 k0_pay35
  pointwise
  simp only [pay36_at hk hq, pay33_at hv _ _, hg _ _, ← EReal.coe_mul, sum_coe]
  rw [ite_mul, zero_mul]; rfl

theorem pay37_at (hk : Tile x2 K) (hq : Tile x0 Q) (hg : Tile x1 G) :
    Flat (k0_pay37 (F := Ideal) x2 x0 x1) fun a l => ∑ b, (if a ≤ b then pr K Q a b else 0) * G b l := by
  intro a l
  unfold k0_pay37 k0_pay35
  pointwise
  simp only [pay36_at hk hq, hg _ _, ← EReal.coe_mul, sum_coe]

theorem pay39_at (hk : Tile x2 K) (hv : Tile x3 V) (hq : Tile x0 Q) (hg : Tile x1 G) :
    Flat (k0_pay39 (F := Ideal) x2 x3 x0 x1) fun a l => ∑ b, (if a ≤ b then gr K V Q G a b else 0) * Q b l := by
  intro a l
  unfold k0_pay39 k0_pay34
  pointwise
  simp only [pay38_at hk hv hq hg, hq _ _, ← EReal.coe_mul, sum_coe]

theorem pay41_at (hk : Tile x2 K) (hv : Tile x3 V) (hq : Tile x0 Q) (hg : Tile x1 G) {v : FVec Ideal S1x512x128 .f32}
    {W : Fin 512 → Fin 128 → ℝ} (hw : Tile v W) :
    Tile (k0_pay41 (F := Ideal) (k0_pay32 x2) (k0_pay38 x2 x3 x0 x1) (k0_pay40 v))
      fun b l => W b l + ∑ a, (if a ≤ b then gr K V Q G a b else 0) * K a l := by
  intro b l
  unfold k0_pay41 k0_pay40
  pointwise
  simp only [pay38_at hk hv hq hg, pay32_at hk _ _, hw _ _, ← EReal.coe_mul, sum_coe, ← EReal.coe_add]

end

theorem tok_at (r : Fin 16) (j : Fin 512) (l : Fin 128) :
    (Rect.unit (s := S1x8192x128) ![0, r.val * 512, 0] S1x512x128.size (rows_inb r)).emb (Idealize.ShloMosaic.ix3 (0 : Fin 1) j l)
      = Idealize.ShloMosaic.ix3 (0 : Fin 1) (tok r j) l := by
  funext a
  match a with
  | ⟨0, _⟩ => rfl
  | ⟨1, _⟩ => exact Fin.ext (by show r.val * 512 + 1 * j.val = r.val * 512 + j.val; omega)
  | ⟨2, _⟩ => exact Fin.ext (by show 0 + 1 * l.val = l.val; omega)

/-- A row block of a head. -/
theorem rows_at {x : Vec Ideal S1x8192x128 .bf16} {X : Fin 8192 → Fin 128 → ℝ} (hx : Head x X) (r : Fin 16) :
    Tile (rows (F := Ideal) x r) fun j l => X (tok r j) l :=
  fun j l => (congrArg x (tok_at r j l)).trans (hx (tok r j) l)

theorem rows_at' {x : Vec Ideal S1x8192x128 .f32} {X : Fin 8192 → Fin 128 → ℝ} (hx : Head x X) (r : Fin 16) :
    Tile (rows (F := Ideal) x r) fun j l => X (tok r j) l :=
  fun j l => (congrArg x (tok_at r j l)).trans (hx (tok r j) l)

/-- A head with a row block replaced. -/
theorem putRows_at {x : FVec Ideal S1x8192x128 .f32} {X : Fin 8192 → Fin 128 → ℝ} (hx : Head x X) (r : Fin 16)
    {w : FVec Ideal S1x512x128 .f32} {W : Fin 8192 → Fin 128 → ℝ} (hw : Tile w fun j l => W (tok r j) l) :
    Head (putRows (F := Ideal) (e := .f32) x r w) fun t l => if t.val / 512 = r.val then W t l else X t l := by
  intro t l
  have ht := t.isLt
  by_cases h : t.val / 512 = r.val
  · have e0 : (if t.val / 512 = r.val then W t l else X t l) = W t l := if_pos h
    show _ = (((if t.val / 512 = r.val then W t l else X t l) : ℝ) : EReal)
    rw [e0]
    have hin : ∀ a, (![0, r.val * 512, 0] : Fin 3 → ℕ) a ≤ ((Idealize.ShloMosaic.ix3 (0 : Fin 1) t l) a).val
        ∧ ((Idealize.ShloMosaic.ix3 (0 : Fin 1) t l) a).val < (![0, r.val * 512, 0] : Fin 3 → ℕ) a + S1x512x128.size a := by
      intro a
      match a with
      | ⟨0, _⟩ => exact ⟨Nat.le_refl 0, by show 0 < 0 + 1; omega⟩
      | ⟨1, _⟩ => exact ⟨by show r.val * 512 ≤ t.val; omega, by show t.val < r.val * 512 + 512; omega⟩
      | ⟨2, _⟩ => exact ⟨Nat.zero_le _, by show l.val < 0 + 128; omega⟩
    refine (dif_pos hin).trans ?_
    have e := hw ⟨t.val - r.val * 512, by omega⟩ l
    beta_reduce at e
    rw [show tok r ⟨t.val - r.val * 512, by omega⟩ = t from Fin.ext (by show r.val * 512 + (t.val - r.val * 512) = t.val; omega)] at e
    refine Eq.trans (congrArg w ?_) e
    funext a
    match a with
    | ⟨0, _⟩ => rfl
    | ⟨1, _⟩ => rfl
    | ⟨2, _⟩ => rfl
  · have e0 : (if t.val / 512 = r.val then W t l else X t l) = X t l := if_neg h
    show _ = (((if t.val / 512 = r.val then W t l else X t l) : ℝ) : EReal)
    rw [e0]
    refine (dif_neg fun hin => h ?_).trans (hx t l)
    have h1 : r.val * 512 ≤ t.val := (hin 1).1
    have h2 : t.val < r.val * 512 + 512 := (hin 1).2
    omega

end Cert.Proof.Attn
-- ==== Proof.AttnPass.lean ====
/- A key block's pass over the query blocks, at the lanes of finite arguments: the keys' and values' gradients are whole
   sums over the queries, and the query accumulator has gained the block's sum over its keys. -/
module

public import proofs.«01_k».proof.Proof.AttnTile
public import proofs.«01_k».proof.Proof.AttnSums

@[expose] public section

set_option maxRecDepth 16384

noncomputable section

namespace Cert.Proof.Attn

open Cert.AttnIdeal Cert.AttnIdeal.Gen
open Idealize.ShloMosaic Idealize.ShloMosaic.TcCoe Idealize.SL.Sem

variable (D : Data) (h : Fin 8)

/-- The pairs of key block `b` and query block `r`. -/
theorem pr_eq {b r : Fin 16} {a j : Fin 512} (hs : tok b a ≤ tok r j) :
    pr (fun a l => D.lk h (tok b a) l) (fun j l => D.lq h (tok r j) l) a j = D.prob h (tok r j) (tok b a) :=
  D.prob_lanes hs

theorem gr_eq {b r : Fin 16} {a j : Fin 512} (hs : tok b a ≤ tok r j) :
    gr (fun a l => D.lk h (tok b a) l) (fun a l => D.lv h (tok b a) l) (fun j l => D.lq h (tok r j) l)
      (fun j l => D.lg h (tok r j) l) a j = D.grad h (tok r j) (tok b a) := by
  unfold gr; rw [pr_eq D h hs, D.agree_lanes]; rfl

theorem tok_le {b r : Fin 16} (hb : b < r) (a j : Fin 512) : tok b a ≤ tok r j := by
  have := a.isLt
  show b.val * 512 + a.val ≤ r.val * 512 + j.val
  have : b.val < r.val := hb
  omega

theorem tok_le_self {b : Fin 16} {a j : Fin 512} : tok b a ≤ tok b j ↔ a ≤ j := by
  show b.val * 512 + a.val ≤ b.val * 512 + j.val ↔ a.val ≤ j.val
  omega

/-- What one query block adds to a key's gradient, to a value's, and what one key block adds to a query's. -/
def addK (r : Fin 16) (s : Fin 8192) (l : Fin 128) : ℝ := ∑ j, D.grad h (tok r j) s * D.lq h (tok r j) l
def addV (r : Fin 16) (s : Fin 8192) (l : Fin 128) : ℝ := ∑ j, D.prob h (tok r j) s * D.lg h (tok r j) l
def addQ (b : Fin 16) (t : Fin 8192) (l : Fin 128) : ℝ := ∑ a, D.grad h t (tok b a) * D.lk h (tok b a) l

/-- A block of queries before every key of the block adds nothing. -/
theorem addK_zero {r b : Fin 16} (hr : r < b) (a : Fin 512) (l : Fin 128) : addK D h r (tok b a) l = 0 :=
  Finset.sum_eq_zero fun j _ => by
    rw [D.grad_zero, zero_mul]
    have := j.isLt
    show ¬ b.val * 512 + a.val ≤ r.val * 512 + j.val
    have : r.val < b.val := hr
    omega

theorem addV_zero {r b : Fin 16} (hr : r < b) (a : Fin 512) (l : Fin 128) : addV D h r (tok b a) l = 0 :=
  Finset.sum_eq_zero fun j _ => by
    rw [D.prob_zero, zero_mul]
    have := j.isLt
    show ¬ b.val * 512 + a.val ≤ r.val * 512 + j.val
    have : r.val < b.val := hr
    omega

theorem addQ_zero {b : Fin 16} {t : Fin 8192} (ht : t.val / 512 < b.val) (l : Fin 128) : addQ D h b t l = 0 :=
  Finset.sum_eq_zero fun a _ => by
    rw [D.grad_zero, zero_mul]
    show ¬ b.val * 512 + a.val ≤ t.val
    omega

/-- The three accumulators of key block `b` when the query blocks before `n` have been taken, `Q` the query
    accumulator before the pass. -/
def Holds (b : Fin 16) (Q : Fin 8192 → Fin 128 → ℝ) (n : ℕ) (s : State Ideal) : Prop :=
  Flat s.1.1 (fun a l => ∑ r : Fin 16, if r.val < n then addK D h r (tok b a) l else 0)
    ∧ Flat s.1.2 (fun a l => ∑ r : Fin 16, if r.val < n then addV D h r (tok b a) l else 0)
    ∧ Head s.2 fun t l => if t.val / 512 < n then Q t l + addQ D h b t l else Q t l

/-- One more term of a sum over the blocks before `n`. -/
theorem sum_before (x : Fin 16 → ℝ) (r : Fin 16) :
    (∑ i : Fin 16, if i.val < r.val + 1 then x i else 0) = (∑ i : Fin 16, if i.val < r.val then x i else 0) + x r := by
  have e : ∀ i : Fin 16, (if i.val < r.val + 1 then x i else 0) = (if i.val < r.val then x i else 0) + if i = r then x r else 0 := by
    intro i
    by_cases h1 : i = r
    · subst h1; simp
    · have : i.val ≠ r.val := fun e => h1 (Fin.ext e)
      by_cases h2 : i.val < r.val
      · rw [if_pos (by omega), if_pos h2, if_neg h1, add_zero]
      · rw [if_neg (by omega), if_neg h2, if_neg h1, add_zero]
  simp only [e, Finset.sum_add_distrib, Finset.sum_ite_eq', Finset.mem_univ, if_true]

theorem sum_before_zero (x : Fin 16 → ℝ) (b : Fin 16) (hz : ∀ r, r < b → x r = 0) :
    (∑ i : Fin 16, if i.val < b.val then x i else 0) = 0 :=
  Finset.sum_eq_zero fun i _ => by
    by_cases hi : i.val < b.val
    · rw [if_pos hi, hz i hi]
    · rw [if_neg hi]

section
variable {D h} {x0 x1 : Vec Ideal S1x8192x128 .bf16} {x2 x3 : Vec Ideal S1x512x128 .bf16} {b : Fin 16}
  (h0 : Head x0 (D.lq h)) (h1 : Head x1 (D.lg h)) (h2 : Tile x2 fun a l => D.lk h (tok b a) l)
  (h3 : Tile x3 fun a l => D.lv h (tok b a) l)
include h0 h1 h2 h3

theorem step_holds {Q : Fin 8192 → Fin 128 → ℝ} {r : Fin 16} (hr : b < r) {s : State Ideal} (H : Holds D h b Q r.val s) :
    Holds D h b Q (r.val + 1) (step x0 x1 (k0_pay32 x2) (k0_pay33 x3) r s) := by
  obtain ⟨Hk, Hv, Hq⟩ := H
  have hq := rows_at h0 r
  have hg := rows_at h1 r
  refine ⟨fun a l => ?_, fun a l => ?_, ?_⟩
  · refine (pay6_at (pay32_at h2) (pay33_at h3) hq hg Hk a l).trans (congrArg (fun r : ℝ => (r : EReal)) ?_)
    beta_reduce
    rw [sum_before]
    exact congrArg (_ + ·) (Finset.sum_congr rfl fun j _ => by rw [gr_eq D h (tok_le hr a j)])
  · refine (pay4_at (pay32_at h2) hq hg Hv a l).trans (congrArg (fun r : ℝ => (r : EReal)) ?_)
    beta_reduce
    rw [sum_before]
    exact congrArg (_ + ·) (Finset.sum_congr rfl fun j _ => by rw [pr_eq D h (tok_le hr a j)])
  · have hw := pay7_at (pay32_at h2) (pay33_at h3) hq hg (rows_at' Hq r)
    have hw' : Tile (k0_pay7 (F := Ideal) (k0_pay32 x2) (k0_pay33 x3) (rows x0 r) (rows x1 r) (rows s.2 r))
        fun j l => (fun t l => Q t l + addQ D h b t l) (tok r j) l := by
      intro j l
      refine (hw j l).trans (congrArg (fun r : ℝ => (r : EReal)) ?_)
      beta_reduce
      have : ¬ (tok r j).val / 512 < r.val := by
        have := j.isLt
        show ¬ (r.val * 512 + j.val) / 512 < r.val
        omega
      rw [if_neg this]
      exact congrArg (_ + ·) (Finset.sum_congr rfl fun a _ => by rw [gr_eq D h (tok_le hr a j)])
    intro t l
    refine (putRows_at Hq r (W := fun t l => Q t l + addQ D h b t l) hw' t l).trans (congrArg (fun r : ℝ => (r : EReal)) ?_)
    beta_reduce
    by_cases e1 : t.val / 512 = r.val
    · rw [if_pos e1, if_pos (by omega)]
    · rw [if_neg e1]
      by_cases e2 : t.val / 512 < r.val
      · rw [if_pos e2, if_pos (by omega)]
      · rw [if_neg e2, if_neg (by omega)]

theorem first_holds {Q : Fin 8192 → Fin 128 → ℝ} {x6 : Vec Ideal S1x8192x128 .f32} (h6 : Head x6 Q) :
    Holds D h b Q (b.val + 1) (first x0 x1 x2 x3 x6 b) := by
  have hq := rows_at h0 b
  have hg := rows_at h1 b
  have eg : ∀ a j : Fin 512, (if a ≤ j then gr (fun a l => D.lk h (tok b a) l) (fun a l => D.lv h (tok b a) l)
      (fun j l => D.lq h (tok b j) l) (fun j l => D.lg h (tok b j) l) a j else 0) = D.grad h (tok b j) (tok b a) := by
    intro a j
    by_cases e : a ≤ j
    · rw [if_pos e, gr_eq D h (tok_le_self.mpr e)]
    · rw [if_neg e, D.grad_zero fun w => e (tok_le_self.mp w)]
  have ep : ∀ a j : Fin 512, (if a ≤ j then pr (fun a l => D.lk h (tok b a) l) (fun j l => D.lq h (tok b j) l) a j else 0)
      = D.prob h (tok b j) (tok b a) := by
    intro a j
    by_cases e : a ≤ j
    · rw [if_pos e, pr_eq D h (tok_le_self.mpr e)]
    · rw [if_neg e, D.prob_zero fun w => e (tok_le_self.mp w)]
  refine ⟨fun a l => ?_, fun a l => ?_, ?_⟩
  · refine (pay39_at h2 h3 hq hg a l).trans (congrArg (fun r : ℝ => (r : EReal)) ?_)
    beta_reduce
    rw [sum_before, sum_before_zero _ _ fun r hr => addK_zero D h hr a l, zero_add]
    exact Finset.sum_congr rfl fun j _ => by rw [eg]
  · refine (pay37_at h2 hq hg a l).trans (congrArg (fun r : ℝ => (r : EReal)) ?_)
    beta_reduce
    rw [sum_before, sum_before_zero _ _ fun r hr => addV_zero D h hr a l, zero_add]
    exact Finset.sum_congr rfl fun j _ => by rw [ep]
  · have hw' : Tile (k0_pay41 (F := Ideal) (k0_pay32 x2) (k0_pay38 x2 x3 (rows x0 b) (rows x1 b)) (k0_pay40 (rows x6 b)))
        fun j l => (fun t l => Q t l + addQ D h b t l) (tok b j) l := by
      intro j l
      refine (pay41_at h2 h3 hq hg (rows_at' h6 b) j l).trans (congrArg (fun r : ℝ => (r : EReal)) ?_)
      beta_reduce
      exact congrArg (_ + ·) (Finset.sum_congr rfl fun a _ => by rw [eg])
    intro t l
    refine (putRows_at h6 b (W := fun t l => Q t l + addQ D h b t l) hw' t l).trans (congrArg (fun r : ℝ => (r : EReal)) ?_)
    beta_reduce
    by_cases e1 : t.val / 512 = b.val
    · rw [if_pos e1, if_pos (by omega)]
    · rw [if_neg e1]
      by_cases e2 : t.val / 512 < b.val
      · rw [if_pos (by omega), addQ_zero D h e2, add_zero]
      · rw [if_neg (by omega)]

theorem steps_holds {Q : Fin 8192 → Fin 128 → ℝ} {s : State Ideal} (H : Holds D h b Q (b.val + 1) s) :
    ∀ n, b.val + 1 + n ≤ 16 → Holds D h b Q (b.val + 1 + n) (steps x0 x1 (k0_pay32 x2) (k0_pay33 x3) (b.val + 1) s n)
  | 0, _ => H
  | n + 1, hn => by
    have e : (Fin.ofNat 16 (b.val + 1 + n)).val = b.val + 1 + n := by rw [Fin.val_ofNat, Nat.mod_eq_of_lt (by omega)]
    have w := step_holds h0 h1 h2 h3 (r := Fin.ofNat 16 (b.val + 1 + n)) (by show b.val < _; omega)
      (by rw [e]; exact steps_holds H n (by omega))
    rw [e] at w
    exact w

/-- A whole pass. -/
theorem pass_holds {Q : Fin 8192 → Fin 128 → ℝ} {x6 : Vec Ideal S1x8192x128 .f32} (h6 : Head x6 Q) :
    Flat (pass x0 x1 x2 x3 x6 b).1.1 (fun a l => ∑ r, addK D h r (tok b a) l)
      ∧ Flat (pass x0 x1 x2 x3 x6 b).1.2 (fun a l => ∑ r, addV D h r (tok b a) l)
      ∧ Head (pass x0 x1 x2 x3 x6 b).2 fun t l => Q t l + addQ D h b t l := by
  have hb := b.isLt
  have H : Holds D h b Q 16 (pass x0 x1 x2 x3 x6 b) := by
    have w := steps_holds h0 h1 h2 h3 (first_holds h0 h1 h2 h3 h6) (15 - b.val) (by omega)
    rw [show b.val + 1 + (15 - b.val) = 16 by omega] at w
    exact w
  obtain ⟨Hk, Hv, Hq⟩ := H
  refine ⟨fun a l => (Hk a l).trans ?_, fun a l => (Hv a l).trans ?_, fun t l => (Hq t l).trans ?_⟩
  · exact congrArg (fun r : ℝ => (r : EReal)) (Finset.sum_congr rfl fun r _ => if_pos r.isLt)
  · exact congrArg (fun r : ℝ => (r : EReal)) (Finset.sum_congr rfl fun r _ => if_pos r.isLt)
  · exact congrArg (fun r : ℝ => (r : EReal)) (if_pos (by omega))

end

end Cert.Proof.Attn
-- ==== Proof.AttnArrays.lean ====
/- The three arrays the attention's gradient kernel leaves, at finite arguments. -/
module

public import proofs.«01_k».proof.Proof.AttnFrame
public import proofs.«01_k».proof.Proof.AttnPass

@[expose] public section

set_option maxRecDepth 16384

noncomputable section

namespace Cert.Proof.Attn

open Cert.AttnIdeal Cert.AttnIdeal.Gen
open Idealize.ShloMosaic Idealize.ShloMosaic.TcCoe Idealize.SL.Sem

/-- Which block each window holds at grid point `t`. -/
theorem idx0 : ∀ t : Fin grid0.N, win0_0.index t = ![t.val / 16, 0, 0] ∧ win0_1.index t = ![t.val / 16, 0, 0]
    ∧ win0_2.index t = ![t.val / 16, t.val % 16, 0] ∧ win0_3.index t = ![t.val / 16, t.val % 16, 0] ∧ win0_4.index t = ![t.val / 16, 0, 0]
    ∧ win0_5.index t = ![t.val / 16, t.val % 16, 0] ∧ win0_6.index t = ![t.val / 16, t.val % 16, 0] := by
  decide +kernel

/-- A point's head and key block. -/
def head (t : Fin grid0.N) : Fin 8 := ⟨t.val / 16, by have : t.val < 128 := t.isLt; omega⟩
def key (t : Fin grid0.N) : Fin 16 := ⟨t.val % 16, by omega⟩

theorem coords_eq (t : Fin grid0.N) : grid0.coords t 1 = key t := Fin.ext (coords_key t)

section
variable {m : (ℓ : Loc nD τ sig) → Buf (Elt Ideal) ℓ} {c : Dev nD} {D : Data} (R : D.Reads (X0 m c) (X1 m c) (X2 m c) (X3 m c) (X4 m c))
include R

theorem blk_q (t : Fin cfg0.N) : Head (iblk m c 0 t) (D.lq (head t)) := by
  intro j l
  refine Eq.trans ?_ (lane_q R (head t) j l)
  blk_ext [iblk, idx0 t] <;> rfl

theorem blk_g (t : Fin cfg0.N) : Head (iblk m c 1 t) (D.lg (head t)) := by
  intro j l
  refine Eq.trans ?_ (lane_g R (head t) j l)
  blk_ext [iblk, idx0 t] <;> rfl

theorem blk_k (t : Fin cfg0.N) : Tile (iblk m c 2 t) fun a l => D.lk (head t) (tok (key t) a) l := by
  intro j l
  refine Eq.trans ?_ (lane_k R (head t) (tok (key t) j) l)
  blk_ext [iblk, idx0 t] <;> rfl

theorem blk_v (t : Fin cfg0.N) : Tile (iblk m c 3 t) fun a l => D.lv (head t) (tok (key t) a) l := by
  intro j l
  refine Eq.trans ?_ (lane_v R (head t) (tok (key t) j) l)
  blk_ext [iblk, idx0 t] <;> rfl

theorem point_holds (t : Fin cfg0.N) {Q : Fin 8192 → Fin 128 → ℝ} {x : Vec Ideal S1x8192x128 .f32}
    (hx : Head (start (grid0.coords t) x) Q) :
    Flat (point m c t x).1.1 (fun a l => ∑ r, addK D (head t) r (tok (key t) a) l)
      ∧ Flat (point m c t x).1.2 (fun a l => ∑ r, addV D (head t) r (tok (key t) a) l)
      ∧ Head (point m c t x).2 fun s l => Q s l + addQ D (head t) (key t) s l := by
  unfold point
  rw [coords_eq t]
  exact pass_holds (blk_q R t) (blk_g R t) (blk_k R t) (blk_v R t) hx

omit R in
theorem start_first {t : Fin cfg0.N} (h : t.val % 16 = 0) (x : Vec Ideal S1x8192x128 .f32) :
    Head (start (grid0.coords t) x) fun _ _ => 0 := by
  unfold start
  rw [if_pos ((coords_key t).trans h)]
  intro j l
  unfold k0_pay31
  pointwise
  rfl

/-- After a point: its key block's gradients, and the head's query accumulator over the key blocks so far. -/
theorem after_holds : ∀ (n : ℕ) (hn : n < cfg0.N),
    Flat (after m c n hn).1.1 (fun a l => ∑ r, addK D (head ⟨n, hn⟩) r (tok (key ⟨n, hn⟩) a) l)
      ∧ Flat (after m c n hn).1.2 (fun a l => ∑ r, addV D (head ⟨n, hn⟩) r (tok (key ⟨n, hn⟩) a) l)
      ∧ Head (after m c n hn).2 fun s l => ∑ i : Fin 16, if i.val < n % 16 + 1 then addQ D (head ⟨n, hn⟩) i s l else 0
  | n, hn => by
    by_cases h : n % 16 = 0
    · have w := point_holds R ⟨n, hn⟩ (start_first (t := ⟨n, hn⟩) h (k0_pay31 (F := Ideal)))
      rw [← after_first m c ⟨n, hn⟩ h] at w
      refine ⟨w.1, w.2.1, fun s l => (w.2.2 s l).trans (congrArg (fun r : ℝ => (r : EReal)) ?_)⟩
      refine Eq.trans ?_ (sum_before (fun i => addQ D (head ⟨n, hn⟩) i s l) (key ⟨n, hn⟩)).symm
      rw [sum_before_zero _ _ fun r hr => absurd hr (by show ¬ r.val < n % 16; omega)]
    · have hn' : n - 1 < cfg0.N := Nat.lt_of_le_of_lt (Nat.sub_le _ _) hn
      have ih := after_holds (n - 1) hn'
      have e := after_next m c ⟨n, hn⟩ (by show 0 < n; omega)
      have hs : Head (start (grid0.coords ⟨n, hn⟩) (after m c (n - 1) hn').2)
          fun s l => ∑ i : Fin 16, if i.val < (key ⟨n, hn⟩).val then addQ D (head ⟨n, hn⟩) i s l else 0 := by
        unfold start
        rw [if_neg fun w => h ((coords_key ⟨n, hn⟩).symm.trans w)]
        have e1 : head ⟨n - 1, hn'⟩ = head ⟨n, hn⟩ := Fin.ext (by show (n - 1) / 16 = n / 16; omega)
        have e2 : (n - 1) % 16 + 1 = (key ⟨n, hn⟩).val := by show (n - 1) % 16 + 1 = n % 16; omega
        have w := ih.2.2
        rw [e1, e2] at w
        exact w
      have w := point_holds R ⟨n, hn⟩ hs
      dsimp only at e
      rw [← e] at w
      refine ⟨w.1, w.2.1, fun s l => (w.2.2 s l).trans (congrArg (fun r : ℝ => (r : EReal)) ?_)⟩
      exact (sum_before (fun i => addQ D (head ⟨n, hn⟩) i s l) (key ⟨n, hn⟩)).symm

/-- The queries' array, -/
theorem arr4 : @Eq (S8x8192x128.Idx → EReal) ((dats m 0 c).arrAt 4 cfg0.N)
    fun i => ((on3 (fun h t l => ∑ b, addQ D h b t l) i : ℝ) : EReal) := by
  refine (dats m 0 c).arrAt_eq_of_covers 4 _ (by decide +kernel) fun t hf y => ?_
  have hf' := (flush0_4 t).mp hf
  blk_simp
  rw [after0_4]
  idx_vars y
  have he : ((View.whole main_v89_0).slice (win0_4.rect t)).emb (Idealize.ShloMosaic.ix3 y0 y1 y2) = Idealize.ShloMosaic.ix3 (head t) y1 y2 := by
    blk_ext [idx0 t] <;> rfl
  rw [he, show y0 = 0 from Fin.ext (Nat.lt_one_iff.mp y0.isLt)]
  refine ((after_holds R t.val t.isLt).2.2 y1 y2).trans (congrArg (fun r : ℝ => (r : EReal)) ?_)
  exact Finset.sum_congr rfl fun b _ => if_pos (by have := b.isLt; omega)

/-- the keys' -/
theorem arr5 : @Eq (S8x8192x128.Idx → EReal) ((dats m 0 c).arrAt 5 cfg0.N)
    fun i => ((on3 (fun h s l => ∑ r, addK D h r s l) i : ℝ) : EReal) := by
  refine (dats m 0 c).arrAt_eq_of_covers 5 _ (by decide +kernel) fun t hf y => ?_
  blk_simp
  rw [after0_5]
  idx_vars y
  have he : ((View.whole main_v89_1).slice (win0_5.rect t)).emb (Idealize.ShloMosaic.ix3 y0 y1 y2) = Idealize.ShloMosaic.ix3 (head t) (tok (key t) y1) y2 := by
    blk_ext [idx0 t] <;> first | rfl | exact congrArg (t.val / 16 + ·) (Nat.lt_one_iff.mp y0.isLt)
  rw [he, show y0 = 0 from Fin.ext (Nat.lt_one_iff.mp y0.isLt)]
  unfold k0_pay15
  pointwise
  exact (after_holds R t.val t.isLt).1 y1 y2

/-- and the values'. -/
theorem arr6 : @Eq (S8x8192x128.Idx → EReal) ((dats m 0 c).arrAt 6 cfg0.N)
    fun i => ((on3 (fun h s l => ∑ r, addV D h r s l) i : ℝ) : EReal) := by
  refine (dats m 0 c).arrAt_eq_of_covers 6 _ (by decide +kernel) fun t hf y => ?_
  blk_simp
  rw [after0_6]
  idx_vars y
  have he : ((View.whole main_v89_2).slice (win0_6.rect t)).emb (Idealize.ShloMosaic.ix3 y0 y1 y2) = Idealize.ShloMosaic.ix3 (head t) (tok (key t) y1) y2 := by
    blk_ext [idx0 t] <;> first | rfl | exact congrArg (t.val / 16 + ·) (Nat.lt_one_iff.mp y0.isLt)
  rw [he, show y0 = 0 from Fin.ext (Nat.lt_one_iff.mp y0.isLt)]
  unfold k0_pay16
  pointwise
  exact (after_holds R t.val t.isLt).2.1 y1 y2

end

end Cert.Proof.Attn
-- ==== Proof.AttnValue.lean ====
/- The value of the attention's gradient: at finite arguments the kernel's four results are the derivative's. -/
module

public import proofs.«01_k».proof.Proof.AttnArrays
public import proofs.«01_k».proof.Proof.AttnData
public import proofs.«01_k».proof.Proof.Gen.AttnRefIdeal.Run

@[expose] public section

set_option maxRecDepth 16384

noncomputable section

namespace Cert.Proof.Attn

open Cert.AttnIdeal Cert.AttnIdeal.Gen
open Idealize.ShloMosaic Idealize.ShloMosaic.TcCoe Idealize.SL.Sem

/-- A sum over the blocks and their lanes is one over the tokens. -/
theorem sum_tok (f : Fin 8192 → ℝ) : ∑ b, ∑ a, f (tok b a) = ∑ s, f s := by
  rw [← Fintype.sum_prod_type' fun b a => f (tok b a)]
  refine Fintype.sum_equiv (finProdFinEquiv (m := 16) (n := 512)) _ _ fun x => congrArg f (Fin.ext ?_)
  show x.1.val * 512 + x.2.val = x.2.val + 512 * x.1.val
  omega

namespace Data

variable (D : Data) (h : Fin 8)

theorem lane_dq (t : Fin 8192) (d : Fin 64) : (∑ b, addQ D h b t ⟨d.val, by omega⟩) * (1 / 8) = D.dq t h d := by
  unfold addQ dq
  rw [sum_tok fun s => D.grad h t s * D.lk h s ⟨d.val, by omega⟩, Finset.sum_mul]
  refine Finset.sum_congr rfl fun s _ => ?_
  have e : D.lk h s ⟨d.val, by omega⟩ = D.k s h d := dif_pos d.isLt
  rw [e]; ring

theorem lane_dk (s : Fin 8192) (d : Fin 64) : (∑ r, addK D h r s ⟨d.val, by omega⟩) * Real.log 2 = D.dk s h d := by
  unfold addK dk
  rw [sum_tok fun t => D.grad h t s * D.lq h t ⟨d.val, by omega⟩, Finset.sum_mul]
  refine Finset.sum_congr rfl fun t _ => ?_
  have e : D.lq h t ⟨d.val, by omega⟩ = D.q t h d * (1 / Real.log 2 / 8) := dif_pos d.isLt
  have := log_two_ne
  rw [e]; field_simp

theorem lane_dv (s : Fin 8192) (d : Fin 64) : ∑ r, addV D h r s ⟨d.val, by omega⟩ = D.dv s h d := by
  unfold addV dv
  rw [sum_tok fun t => D.prob h t s * D.lg h t ⟨d.val, by omega⟩]
  refine Finset.sum_congr rfl fun t _ => ?_
  have e : D.lg h t ⟨d.val, by omega⟩ = D.g t h d := dif_pos d.isLt
  rw [e]; ring

theorem lane_df (t : Fin 8192) : (∑ b, addQ D h b t 67) - (∑ r, addK D h r t 73) = D.df t h := by
  unfold addQ addK df
  rw [sum_tok fun s => D.grad h t s * D.lk h s 67, sum_tok fun u => D.grad h u t * D.lq h u 73]
  have e1 : ∀ s, D.lk h s 67 = 1 := fun s => by simp [Data.lk]
  have e2 : ∀ s, D.lq h s 73 = 1 := fun s => by simp [Data.lq]
  simp only [e1, e2, mul_one]
  ring

end Data

section Tail

/-- The kernel's three arrays, and the logarithm of two, in the buffers `W`. -/
abbrev a0 (W : Valuation τ sig (Elt Ideal)) : S8x8192x128.Idx → EReal := W (Proc.devRef .tc main_v89_0)
abbrev a1 (W : Valuation τ sig (Elt Ideal)) : S8x8192x128.Idx → EReal := W (Proc.devRef .tc main_v89_1)
abbrev a2 (W : Valuation τ sig (Elt Ideal)) : S8x8192x128.Idx → EReal := W (Proc.devRef .tc main_v89_2)
abbrev log2 (W : Valuation τ sig (Elt Ideal)) : S_.Idx → EReal := W (Proc.devRef .tc main_v26)

variable (W : Valuation τ sig (Elt Ideal))

/-- The lines after the region, each at an index of what it returns. -/
theorem tail_dq (t : Fin 8192) (h : Fin 8) (d : Fin 64) :
    @Eq EReal (StableHlo.after hostOps1 W (Proc.devRef .tc main_v98) (Idealize.ShloMosaic.ix3 t h d))
      (a0 W (Idealize.ShloMosaic.ix3 h t ⟨d.val, by omega⟩) * Ideal.ofBits .f32 0x3E000000#32) := by
  after_reads_at; try rfl

theorem tail_dk (t : Fin 8192) (h : Fin 8) (d : Fin 64) :
    @Eq EReal (StableHlo.after hostOps1 W (Proc.devRef .tc main_v102) (Idealize.ShloMosaic.ix3 t h d))
      (a1 W (Idealize.ShloMosaic.ix3 h t ⟨d.val, by omega⟩) * log2 W ix0) := by
  after_reads_at; try rfl

theorem tail_dv (t : Fin 8192) (h : Fin 8) (d : Fin 64) :
    @Eq EReal (StableHlo.after hostOps1 W (Proc.devRef .tc main_v104) (Idealize.ShloMosaic.ix3 t h d))
      (a2 W (Idealize.ShloMosaic.ix3 h t ⟨d.val, by omega⟩)) := by
  after_reads_at; try rfl

theorem tail_df (t : Fin 8192) (h : Fin 8) :
    @Eq EReal (StableHlo.after hostOps1 W (Proc.devRef .tc main_v105) (Idealize.ShloMosaic.ix2 t h))
      (a0 W (Idealize.ShloMosaic.ix3 h t 67) - a1 W (Idealize.ShloMosaic.ix3 h t 73)) := by
  after_reads_at; try rfl

end Tail

variable (m : (ℓ : Loc nD τ sig) → Buf (Elt Ideal) ℓ) (c : Dev nD)

/-- The buffers as the region leaves them. -/
abbrev left : Valuation τ sig (Elt Ideal) :=
  Pipeline.withArrays spec0 c (V0 m c) fun w => (dats m 0 c).arrAt w cfg0.N

theorem arr_inj : Function.Injective (Pipeline.arrRef spec0) := by decide

theorem left_4 : a0 (left m c) = (dats m 0 c).arrAt 4 cfg0.N :=
  Pipeline.withArrays_arr spec0 arr_inj c _ _ 4
theorem left_5 : a1 (left m c) = (dats m 0 c).arrAt 5 cfg0.N :=
  Pipeline.withArrays_arr spec0 arr_inj c _ _ 5
theorem left_6 : a2 (left m c) = (dats m 0 c).arrAt 6 cfg0.N :=
  Pipeline.withArrays_arr spec0 arr_inj c _ _ 6
theorem left_log2 : log2 (left m c) = V m c main_v26 :=
  Pipeline.withArrays_of_ne spec0 c _ _ main_v26 (by decide)

/-- What the program's four results hold at the end. -/
abbrev final (b : Ref sig .tc) : Buf (Elt Ideal) ((c.tc : Thread nD τ).loc b) :=
  Pipeline.afterTail₀ cfgs (dats m) 0 (V0 m) [hostOps1] c b

variable {m c} {D : Data} (R : D.Reads (X0 m c) (X1 m c) (X2 m c) (X3 m c) (X4 m c))
include R

theorem final_dq : @Eq (S8192x8x64.Idx → EReal) (final m c main_v98) fun i => ((on3 D.dq i : ℝ) : EReal) := by
  funext i; idx_vars i
  refine (tail_dq (left m c) _ _ _).trans ?_
  rw [left_4, arr4 R, ofBits_eighth, ← EReal.coe_mul]
  exact congrArg _ (D.lane_dq _ _ _)

theorem final_dk : @Eq (S8192x8x64.Idx → EReal) (final m c main_v102) fun i => ((on3 D.dk i : ℝ) : EReal) := by
  funext i; idx_vars i
  refine (tail_dk (left m c) _ _ _).trans ?_
  rw [left_5, arr5 R, left_log2, host_log2, ← EReal.coe_mul]
  exact congrArg _ (D.lane_dk _ _ _)

theorem final_dv : @Eq (S8192x8x64.Idx → EReal) (final m c main_v104) fun i => ((on3 D.dv i : ℝ) : EReal) := by
  funext i; idx_vars i
  refine (tail_dv (left m c) _ _ _).trans ?_
  rw [left_6, arr6 R]
  exact congrArg _ (D.lane_dv _ _ _)

theorem final_df : @Eq (S8192x8.Idx → EReal) (final m c main_v105) fun i => ((on2 D.df i : ℝ) : EReal) := by
  funext i; idx_vars i
  refine (tail_df (left m c) _ _).trans ?_
  rw [left_4, left_5, arr4 R, arr5 R, ← EReal.coe_sub]
  exact congrArg _ (D.lane_df _ _)

omit R

/-- The kernel's run: its four results at the end, and the arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v98) = final m c main_v98
      ∧ r.2.mem ((c.tc : Thread nD τ).loc main_v102) = final m c main_v102
      ∧ r.2.mem ((c.tc : Thread nD τ).loc main_v104) = final m c main_v104
      ∧ r.2.mem ((c.tc : Thread nD τ).loc main_v105) = final m c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (h.1 c).2 main_v98 (Pipeline.mem_restRefs_of main_v98 (by decide) (by decide)),
      (h.1 c).2 main_v102 (Pipeline.mem_restRefs_of main_v102 (by decide) (by decide)),
      (h.1 c).2 main_v104 (Pipeline.mem_restRefs_of main_v104 (by decide) (by decide)),
      (h.1 c).2 main_v105 (Pipeline.mem_restRefs_of main_v105 (by decide) (by decide)), h.2.1 c⟩)
    (θ_run_and (run_main m ρ) (frame m ρ))

/-- The attention's gradient: at finite arguments kernel and derivative leave the same four arrays. -/
theorem value [Cert.Pre_attn_finite.Facts] : Cert.algebraic_AttnIdeal_AttnRefIdeal_pre_attn_finite := fun m ρ m' ρ' hp hag =>
  ⟨_, _, _, _, run_results ρ, (θ_run _ _ _).mono (fun _ h c => by
      obtain ⟨D, R⟩ := reads_of_pre m hp c
      obtain ⟨h0, h1, h2, h3, hr⟩ := h c
      obtain ⟨e0, e1, e2, e3, e4⟩ := hag c
      rw [Cert.AttnRefIdeal.Read.val_main_v81_eq, e0, e1, e2, e3, e4] at h0
      rw [Cert.AttnRefIdeal.Read.val_main_v79_eq, e0, e1, e2, e3, e4] at h1
      rw [Cert.AttnRefIdeal.Read.val_main_v52_eq, e0, e1, e3, e4] at h2
      rw [Cert.AttnRefIdeal.Read.val_main_v75_eq, e0, e1, e2, e3, e4] at h3
      exact ⟨h0.trans ((funext (dq_apply R)).trans (final_dq R).symm), h1.trans ((funext (dk_apply R)).trans (final_dk R).symm),
        h2.trans ((funext (dv_apply R)).trans (final_dv R).symm), h3.trans ((funext (df_apply R)).trans (final_df R).symm), hr⟩)
    (Cert.AttnRefIdeal.Value.run m' ρ')⟩

end Cert.Proof.Attn
-- ==== Proof.lean ====
module

public import proofs.«01_k».proof.Proof.Gen.Attn
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Cum
public import proofs.«01_k».proof.Proof.Ada
public import proofs.«01_k».proof.Proof.Head
public import proofs.«01_k».proof.Proof.Conv
public import proofs.«01_k».proof.Proof.Ffn
public import proofs.«01_k».proof.Proof.Norm2
public import proofs.«01_k».proof.Proof.Norm1
public import proofs.«01_k».proof.Proof.QkRef
public import proofs.«01_k».proof.Proof.FwdValue
public import proofs.«01_k».proof.Proof.DoValue
public import proofs.«01_k».proof.Proof.Gen.Cum.Frame
public import proofs.«01_k».proof.Proof.Gen.CumIdeal.Frame
public import proofs.«01_k».proof.Proof.Gen.CumRefIdeal.Run
public import proofs.«01_k».proof.Proof.Gen.CumRefIdeal.Read
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaRefIdeal.Read
public import proofs.«01_k».proof.Proof.Gen.AdaIdeal.Value
public import proofs.«01_k».proof.Proof.Gen.Head.Frame
public import proofs.«01_k».proof.Proof.Gen.HeadIdeal.Frame
public import proofs.«01_k».proof.Proof.Gen.HeadRefIdeal.Run
public import proofs.«01_k».proof.Proof.Gen.HeadRefIdeal.Read
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvRefIdeal.Read
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.Norm2.Frame
public import proofs.«01_k».proof.Proof.Gen.Norm2Ideal.Frame
public import proofs.«01_k».proof.Proof.Gen.Norm2RefIdeal.Run
public import proofs.«01_k».proof.Proof.Gen.Norm2RefIdeal.Read
public import proofs.«01_k».proof.Proof.Gen.Norm1.Frame
public import proofs.«01_k».proof.Proof.Gen.Norm1Ideal.Frame
public import proofs.«01_k».proof.Proof.Gen.Norm1RefIdeal.Run
public import proofs.«01_k».proof.Proof.Gen.Norm1RefIdeal.Read
public import proofs.«01_k».proof.Proof.Gen.Qk.Frame
public import proofs.«01_k».proof.Proof.Gen.QkIdeal.Frame
public import proofs.«01_k».proof.Proof.Gen.QkRefIdeal.Run
public import proofs.«01_k».proof.Proof.Gen.QkRefIdeal.Read
public import proofs.«01_k».proof.Proof.Gen.Fwd.Frame
public import proofs.«01_k».proof.Proof.Gen.FwdIdeal.Frame
public import proofs.«01_k».proof.Proof.Gen.FwdRefIdeal.Run
public import proofs.«01_k».proof.Proof.Gen.FwdRefIdeal.Read
public import proofs.«01_k».proof.Proof.Gen.Do.Frame
public import proofs.«01_k».proof.Proof.Gen.DoIdeal.Frame
public import proofs.«01_k».proof.Proof.Gen.DoRefIdeal.Run
public import proofs.«01_k».proof.Proof.Gen.DoRefIdeal.Read
public import proofs.«01_k».proof.Defs
public import proofs.«01_k».proof.Proof.Merge
public import proofs.«01_k».proof.Proof.AttnFrames
public import proofs.«01_k».proof.Proof.AttnValue
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import Idealize.ShloMosaic.Lib.Claim
public import Idealize.ShloMosaic.Adequacy
public import Idealize.ShloMosaic.Init

@[expose] public section

noncomputable section

namespace Cert.Proof

open Idealize.ShloMosaic Idealize.SL.Sem Cert.Merge

/-- The merge's reference runs and leaves its arguments and the counters alone. -/
theorem frame_MergeRef : Cert.quiescent_MergeRefIdeal := fun m ρ _ =>
  (θ_run _ _ _).mono (fun r h => ⟨fun c => (h c).2.2.2.2, sem_eq_zero_of_no_sems (by decide) r.2⟩)
    (Cert.MergeRefIdeal.Value.run m ρ)

/-- The merge's gradient: kernel and reference leave the same four arrays. -/
theorem value_Merge : Cert.algebraic_MergeIdeal_MergeRefIdeal := fun m ρ m' ρ' _ hag =>
  ⟨_, _, _, _, (θ_run _ _ _).mono (fun _ h c => by
      obtain ⟨h6, h7, h8, h9, hr⟩ := h c
      exact ⟨h6.trans (Merge.out6 m c), h7.trans (Merge.out7 m c), h8.trans (Merge.out8 m c), h9.trans (Merge.out9 m c), hr⟩)
      (Cert.MergeIdeal.Value.run_blocks m ρ),
    (θ_run _ _ _).mono (fun _ h c => by
      obtain ⟨h6, h7, h8, h9, hr⟩ := h c
      obtain ⟨e0, e1, e2, e3, e4⟩ := hag c
      rw [Cert.MergeRefIdeal.Read.val_main_v38_eq, e2, e3, e4] at h6
      rw [Cert.MergeRefIdeal.Read.val_main_v39_eq, e2, e3, e4] at h7
      rw [Cert.MergeRefIdeal.Read.val_main_v40_eq, e0, e2, e3, e4] at h8
      rw [Cert.MergeRefIdeal.Read.val_main_v41_eq, e1, e2, e3, e4] at h9
      exact ⟨h6, h7, h8, h9, hr⟩)
      (Cert.MergeRefIdeal.Value.run m' ρ')⟩

/-- The shapes the attention's precondition compares. -/
theorem pre_attn_finite_facts : Cert.Pre_attn_finite.Facts := ⟨by decide, by decide⟩

/-- The other references run and leave their arguments and the counters alone. -/
theorem frame_CumRef : Cert.quiescent_CumRefIdeal := fun m ρ _ =>
  (θ_run _ _ _).mono (fun r h => ⟨fun c => (h c).2, sem_eq_zero_of_no_sems (by decide) r.2⟩)
    (Cert.CumRefIdeal.Value.run m ρ)
theorem frame_AdaRef : Cert.quiescent_AdaRefIdeal := fun m ρ _ =>
  (θ_run _ _ _).mono (fun r h => ⟨fun c => (h c).2, sem_eq_zero_of_no_sems (by decide) r.2⟩)
    (Cert.AdaRefIdeal.Value.run m ρ)
theorem frame_HeadRef : Cert.quiescent_HeadRefIdeal := fun m ρ _ =>
  (θ_run _ _ _).mono (fun r h => ⟨fun c => (h c).2.2.2.2, sem_eq_zero_of_no_sems (by decide) r.2⟩)
    (Cert.HeadRefIdeal.Value.run m ρ)
theorem frame_ConvRef : Cert.quiescent_ConvRefIdeal := fun m ρ _ =>
  (θ_run _ _ _).mono (fun r h => ⟨fun c => (h c).2.2, sem_eq_zero_of_no_sems (by decide) r.2⟩)
    (Cert.ConvRefIdeal.Value.run m ρ)
theorem frame_FfnRef : Cert.quiescent_FfnRefIdeal := fun m ρ _ =>
  (θ_run _ _ _).mono (fun r h => ⟨fun c => (h c).2.2.2, sem_eq_zero_of_no_sems (by decide) r.2⟩)
    (Cert.FfnRefIdeal.Value.run m ρ)
theorem frame_Norm2Ref : Cert.quiescent_Norm2RefIdeal := fun m ρ _ =>
  (θ_run _ _ _).mono (fun r h => ⟨fun c => (h c).2.2.2.2.2.2, sem_eq_zero_of_no_sems (by decide) r.2⟩)
    (Cert.Norm2RefIdeal.Value.run m ρ)
theorem frame_Norm1Ref : Cert.quiescent_Norm1RefIdeal := fun m ρ _ =>
  (θ_run _ _ _).mono (fun r h => ⟨fun c => (h c).2.2.2.2, sem_eq_zero_of_no_sems (by decide) r.2⟩)
    (Cert.Norm1RefIdeal.Value.run m ρ)
theorem frame_QkRef : Cert.quiescent_QkRefIdeal := fun m ρ _ =>
  (θ_run _ _ _).mono (fun r h => ⟨fun c => (h c).2.2.2.2.2, sem_eq_zero_of_no_sems (by decide) r.2⟩)
    (Cert.QkRefIdeal.Value.run m ρ)
theorem frame_FwdRef : Cert.quiescent_FwdRefIdeal := fun m ρ _ =>
  (θ_run _ _ _).mono (fun r h => ⟨fun c => (h c).2.2, sem_eq_zero_of_no_sems (by decide) r.2⟩)
    (Cert.FwdRefIdeal.Value.run m ρ)
theorem frame_DoRef : Cert.quiescent_DoRefIdeal := fun m ρ _ =>
  (θ_run _ _ _).mono (fun r h => ⟨fun c => (h c).2.2, sem_eq_zero_of_no_sems (by decide) r.2⟩)
    (Cert.DoRefIdeal.Value.run m ρ)

/-- The shapes this precondition compares. -/
theorem pre_cum_finite_facts : Cert.Pre_cum_finite.Facts := ⟨by decide, by decide⟩

/-- The shapes this precondition compares. -/
theorem pre_ffn_finite_facts : Cert.Pre_ffn_finite.Facts := ⟨by decide, by decide, by decide⟩

/-- The shapes this precondition compares. -/
theorem pre_qk_finite_facts : Cert.Pre_qk_finite.Facts := ⟨by decide, by decide, by decide⟩

/-- The shapes this precondition compares. -/
theorem pre_fwd_finite_facts : Cert.Pre_fwd_finite.Facts := ⟨by decide, by decide⟩

/-- The shapes this precondition compares. -/
theorem pre_do_finite_facts : Cert.Pre_do_finite.Facts := ⟨by decide, by decide, by decide⟩

theorem claim : Cert.Claim :=
  haveI := pre_attn_finite_facts
  haveI := pre_cum_finite_facts
  haveI := pre_ffn_finite_facts
  haveI := pre_qk_finite_facts
  haveI := pre_fwd_finite_facts
  haveI := pre_do_finite_facts
  ⟨Cert.Merge.Gen.facts,
  Cert.MergeIdeal.Gen.facts,
  Cert.MergeRefIdeal.Gen.facts,
  Cert.Attn.Gen.facts,
  Cert.AttnIdeal.Gen.facts,
  Cert.AttnRefIdeal.Gen.facts,
  Cert.Cum.Gen.facts,
  Cert.CumIdeal.Gen.facts,
  Cert.CumRefIdeal.Gen.facts,
  Cert.Ada.Gen.facts,
  Cert.AdaIdeal.Gen.facts,
  Cert.AdaRefIdeal.Gen.facts,
  Cert.Head.Gen.facts,
  Cert.HeadIdeal.Gen.facts,
  Cert.HeadRefIdeal.Gen.facts,
  Cert.Conv.Gen.facts,
  Cert.ConvIdeal.Gen.facts,
  Cert.ConvRefIdeal.Gen.facts,
  Cert.Ffn.Gen.facts,
  Cert.FfnIdeal.Gen.facts,
  Cert.FfnRefIdeal.Gen.facts,
  Cert.Norm2.Gen.facts,
  Cert.Norm2Ideal.Gen.facts,
  Cert.Norm2RefIdeal.Gen.facts,
  Cert.Norm1.Gen.facts,
  Cert.Norm1Ideal.Gen.facts,
  Cert.Norm1RefIdeal.Gen.facts,
  Cert.Qk.Gen.facts,
  Cert.QkIdeal.Gen.facts,
  Cert.QkRefIdeal.Gen.facts,
  Cert.Fwd.Gen.facts,
  Cert.FwdIdeal.Gen.facts,
  Cert.FwdRefIdeal.Gen.facts,
  Cert.Do.Gen.facts,
  Cert.DoIdeal.Gen.facts,
  Cert.DoRefIdeal.Gen.facts,
  pre_attn_finite_facts,
  pre_cum_finite_facts,
  pre_ffn_finite_facts,
  pre_qk_finite_facts,
  pre_fwd_finite_facts,
  pre_do_finite_facts,
  fun m ρ _ => Cert.Merge.Gen.frame m ρ,
  fun m ρ _ => Cert.MergeIdeal.Gen.frame m ρ,
  frame_MergeRef,
  Attn.frame_bits,
  Attn.frame_ideal,
  Attn.frame_ideal_pre,
  Attn.frame_ref,
  Attn.frame_ref_pre,
  fun m ρ _ => Cert.Cum.Gen.frame m ρ,
  fun m ρ _ => Cert.CumIdeal.Gen.frame m ρ,
  fun m ρ _ => Cert.CumIdeal.Gen.frame m ρ,
  frame_CumRef,
  fun m ρ _ => frame_CumRef m ρ trivial,
  fun m ρ _ => Cert.Ada.Gen.frame m ρ,
  fun m ρ _ => Cert.AdaIdeal.Gen.frame m ρ,
  frame_AdaRef,
  fun m ρ _ => Cert.Head.Gen.frame m ρ,
  fun m ρ _ => Cert.HeadIdeal.Gen.frame m ρ,
  frame_HeadRef,
  fun m ρ _ => Cert.Conv.Gen.frame m ρ,
  fun m ρ _ => Cert.ConvIdeal.Gen.frame m ρ,
  frame_ConvRef,
  fun m ρ _ => Cert.Ffn.Gen.frame m ρ,
  fun m ρ _ => Cert.FfnIdeal.Gen.frame m ρ,
  fun m ρ _ => Cert.FfnIdeal.Gen.frame m ρ,
  frame_FfnRef,
  fun m ρ _ => frame_FfnRef m ρ trivial,
  fun m ρ _ => Cert.Norm2.Gen.frame m ρ,
  fun m ρ _ => Cert.Norm2Ideal.Gen.frame m ρ,
  frame_Norm2Ref,
  fun m ρ _ => Cert.Norm1.Gen.frame m ρ,
  fun m ρ _ => Cert.Norm1Ideal.Gen.frame m ρ,
  frame_Norm1Ref,
  fun m ρ _ => Cert.Qk.Gen.frame m ρ,
  fun m ρ _ => Cert.QkIdeal.Gen.frame m ρ,
  fun m ρ _ => Cert.QkIdeal.Gen.frame m ρ,
  frame_QkRef,
  fun m ρ _ => frame_QkRef m ρ trivial,
  fun m ρ _ => Cert.Fwd.Gen.frame m ρ,
  fun m ρ _ => Cert.FwdIdeal.Gen.frame m ρ,
  fun m ρ _ => Cert.FwdIdeal.Gen.frame m ρ,
  frame_FwdRef,
  fun m ρ _ => frame_FwdRef m ρ trivial,
  fun m ρ _ => Cert.Do.Gen.frame m ρ,
  fun m ρ _ => Cert.DoIdeal.Gen.frame m ρ,
  fun m ρ _ => Cert.DoIdeal.Gen.frame m ρ,
  frame_DoRef,
  fun m ρ _ => frame_DoRef m ρ trivial,
  trivial,
  value_Merge,
  trivial,
  Attn.value,
  trivial,
  Cum.value,
  trivial,
  Ada.value,
  trivial,
  Head.value,
  trivial,
  Conv.value,
  trivial,
  Ffn.value,
  trivial,
  Norm2.value,
  trivial,
  Norm1.value,
  IdealRules.named_const.statement Cert.QkIdeal.κ "ln2" .f32 0x3F317218#32 ((Real.log 2 : ℝ) : EReal) rfl,
  Qk.value,
  ⟨IdealRules.named_const.statement Cert.FwdIdeal.κ "mask" .f32 0xF149F2CA#32 ⊥ rfl,
    IdealRules.named_const.statement Cert.FwdIdeal.κ "log2e" .f32 0x3FB8AA3B#32 (((Real.log 2)⁻¹ : ℝ) : EReal) rfl⟩,
  Fwd.value,
  trivial,
  Do.value⟩

end Cert.Proof

end
